-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_BigDx (m : (ℓ : Loc Cert.BigDx.nD Cert.BigDx.τ Cert.BigDx.sig) → Buf (Elt Bits) ℓ) : Prop :=
  True

def Pre_BigDxIdeal (m : (ℓ : Loc Cert.BigDxIdeal.nD Cert.BigDxIdeal.τ Cert.BigDxIdeal.sig) → Buf (Elt Ideal) ℓ) : Prop :=
  True

def Pre_BigDxRefIdeal (m : (ℓ : Loc Cert.BigDxRefIdeal.nD Cert.BigDxRefIdeal.τ Cert.BigDxRefIdeal.sig) → Buf (Elt Ideal) ℓ) : Prop :=
  True

def Pre_BigDw (m : (ℓ : Loc Cert.BigDw.nD Cert.BigDw.τ Cert.BigDw.sig) → Buf (Elt Bits) ℓ) : Prop :=
  True

def Pre_BigDwIdeal (m : (ℓ : Loc Cert.BigDwIdeal.nD Cert.BigDwIdeal.τ Cert.BigDwIdeal.sig) → Buf (Elt Ideal) ℓ) : Prop :=
  True

def Pre_BigDwRefIdeal (m : (ℓ : Loc Cert.BigDwRefIdeal.nD Cert.BigDwRefIdeal.τ Cert.BigDwRefIdeal.sig) → Buf (Elt Ideal) ℓ) : Prop :=
  True

def Pre_SqDx (m : (ℓ : Loc Cert.SqDx.nD Cert.SqDx.τ Cert.SqDx.sig) → Buf (Elt Bits) ℓ) : Prop :=
  True

def Pre_SqDxIdeal (m : (ℓ : Loc Cert.SqDxIdeal.nD Cert.SqDxIdeal.τ Cert.SqDxIdeal.sig) → Buf (Elt Ideal) ℓ) : Prop :=
  True

def Pre_SqDxRefIdeal (m : (ℓ : Loc Cert.SqDxRefIdeal.nD Cert.SqDxRefIdeal.τ Cert.SqDxRefIdeal.sig) → Buf (Elt Ideal) ℓ) : Prop :=
  True

def Pre_SqDw (m : (ℓ : Loc Cert.SqDw.nD Cert.SqDw.τ Cert.SqDw.sig) → Buf (Elt Bits) ℓ) : Prop :=
  True

def Pre_SqDwIdeal (m : (ℓ : Loc Cert.SqDwIdeal.nD Cert.SqDwIdeal.τ Cert.SqDwIdeal.sig) → Buf (Elt Ideal) ℓ) : Prop :=
  True

def Pre_SqDwRefIdeal (m : (ℓ : Loc Cert.SqDwRefIdeal.nD Cert.SqDwRefIdeal.τ Cert.SqDwRefIdeal.sig) → Buf (Elt Ideal) ℓ) : Prop :=
  True

def Pre_Big (m : (ℓ : Loc Cert.Big.nD Cert.Big.τ Cert.Big.sig) → Buf (Elt Bits) ℓ) : Prop :=
  True

def Pre_BigIdeal (m : (ℓ : Loc Cert.BigIdeal.nD Cert.BigIdeal.τ Cert.BigIdeal.sig) → Buf (Elt Ideal) ℓ) : Prop :=
  True

def Pre_BigRefIdeal (m : (ℓ : Loc Cert.BigRefIdeal.nD Cert.BigRefIdeal.τ Cert.BigRefIdeal.sig) → Buf (Elt Ideal) ℓ) : Prop :=
  True

def Pre_Sq (m : (ℓ : Loc Cert.Sq.nD Cert.Sq.τ Cert.Sq.sig) → Buf (Elt Bits) ℓ) : Prop :=
  True

def Pre_SqIdeal (m : (ℓ : Loc Cert.SqIdeal.nD Cert.SqIdeal.τ Cert.SqIdeal.sig) → Buf (Elt Ideal) ℓ) : Prop :=
  True

def Pre_SqRefIdeal (m : (ℓ : Loc Cert.SqRefIdeal.nD Cert.SqRefIdeal.τ Cert.SqRefIdeal.sig) → Buf (Elt Ideal) ℓ) : Prop :=
  True

def Pre_LatDx (m : (ℓ : Loc Cert.LatDx.nD Cert.LatDx.τ Cert.LatDx.sig) → Buf (Elt Bits) ℓ) : Prop :=
  True

def Pre_LatDxIdeal (m : (ℓ : Loc Cert.LatDxIdeal.nD Cert.LatDxIdeal.τ Cert.LatDxIdeal.sig) → Buf (Elt Ideal) ℓ) : Prop :=
  True

def Pre_LatDxRefIdeal (m : (ℓ : Loc Cert.LatDxRefIdeal.nD Cert.LatDxRefIdeal.τ Cert.LatDxRefIdeal.sig) → Buf (Elt Ideal) ℓ) : Prop :=
  True

def Pre_LatDw (m : (ℓ : Loc Cert.LatDw.nD Cert.LatDw.τ Cert.LatDw.sig) → Buf (Elt Bits) ℓ) : Prop :=
  True

def Pre_LatDwIdeal (m : (ℓ : Loc Cert.LatDwIdeal.nD Cert.LatDwIdeal.τ Cert.LatDwIdeal.sig) → Buf (Elt Ideal) ℓ) : Prop :=
  True

def Pre_LatDwRefIdeal (m : (ℓ : Loc Cert.LatDwRefIdeal.nD Cert.LatDwRefIdeal.τ Cert.LatDwRefIdeal.sig) → Buf (Elt Ideal) ℓ) : Prop :=
  True

def Pre_SmallDx (m : (ℓ : Loc Cert.SmallDx.nD Cert.SmallDx.τ Cert.SmallDx.sig) → Buf (Elt Bits) ℓ) : Prop :=
  True

def Pre_SmallDxIdeal (m : (ℓ : Loc Cert.SmallDxIdeal.nD Cert.SmallDxIdeal.τ Cert.SmallDxIdeal.sig) → Buf (Elt Ideal) ℓ) : Prop :=
  True

def Pre_SmallDxRefIdeal (m : (ℓ : Loc Cert.SmallDxRefIdeal.nD Cert.SmallDxRefIdeal.τ Cert.SmallDxRefIdeal.sig) → Buf (Elt Ideal) ℓ) : Prop :=
  True

def Pre_SmallDw (m : (ℓ : Loc Cert.SmallDw.nD Cert.SmallDw.τ Cert.SmallDw.sig) → Buf (Elt Bits) ℓ) : Prop :=
  True

def Pre_SmallDwIdeal (m : (ℓ : Loc Cert.SmallDwIdeal.nD Cert.SmallDwIdeal.τ Cert.SmallDwIdeal.sig) → Buf (Elt Ideal) ℓ) : Prop :=
  True

def Pre_SmallDwRefIdeal (m : (ℓ : Loc Cert.SmallDwRefIdeal.nD Cert.SmallDwRefIdeal.τ Cert.SmallDwRefIdeal.sig) → Buf (Elt Ideal) ℓ) : Prop :=
  True

def Pre_PleDw (m : (ℓ : Loc Cert.PleDw.nD Cert.PleDw.τ Cert.PleDw.sig) → Buf (Elt Bits) ℓ) : Prop :=
  True

def Pre_PleDwIdeal (m : (ℓ : Loc Cert.PleDwIdeal.nD Cert.PleDwIdeal.τ Cert.PleDwIdeal.sig) → Buf (Elt Ideal) ℓ) : Prop :=
  True

def Pre_PleDwRefIdeal (m : (ℓ : Loc Cert.PleDwRefIdeal.nD Cert.PleDwRefIdeal.τ Cert.PleDwRefIdeal.sig) → Buf (Elt Ideal) ℓ) : Prop :=
  True

def Pre_LatQ (m : (ℓ : Loc Cert.LatQ.nD Cert.LatQ.τ Cert.LatQ.sig) → Buf (Elt Bits) ℓ) : Prop :=
  True

def Pre_LatQIdeal (m : (ℓ : Loc Cert.LatQIdeal.nD Cert.LatQIdeal.τ Cert.LatQIdeal.sig) → Buf (Elt Ideal) ℓ) : Prop :=
  True

def Pre_LatQRefIdeal (m : (ℓ : Loc Cert.LatQRefIdeal.nD Cert.LatQRefIdeal.τ Cert.LatQRefIdeal.sig) → Buf (Elt Ideal) ℓ) : Prop :=
  True

def Pre_LatKv (m : (ℓ : Loc Cert.LatKv.nD Cert.LatKv.τ Cert.LatKv.sig) → Buf (Elt Bits) ℓ) : Prop :=
  True

def Pre_LatKvIdeal (m : (ℓ : Loc Cert.LatKvIdeal.nD Cert.LatKvIdeal.τ Cert.LatKvIdeal.sig) → Buf (Elt Ideal) ℓ) : Prop :=
  True

def Pre_LatKvRefIdeal (m : (ℓ : Loc Cert.LatKvRefIdeal.nD Cert.LatKvRefIdeal.τ Cert.LatKvRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_BigDx [hBigDx : Cert.BigDx.Facts] : Prop :=
  ∀ (m : (ℓ : Loc Cert.BigDx.nD Cert.BigDx.τ Cert.BigDx.sig) → Buf (Elt Bits) ℓ) (g : Dev Cert.BigDx.nD → PrngReg), Pre_BigDx m →
    θ_run (Cert.BigDx.defs (F := Bits)) (onTc (τ := Cert.BigDx.τ) (Cert.BigDx.main (F := Bits))) ⟨m, fun _ => 0, g⟩ (fun r => (∀ c : Dev Cert.BigDx.nD,
      r.2.mem ((c.tc : Thread Cert.BigDx.nD Cert.BigDx.τ).loc Cert.BigDx.main_arg0) = m ((c.tc : Thread Cert.BigDx.nD Cert.BigDx.τ).loc Cert.BigDx.main_arg0)
      ∧ r.2.mem ((c.tc : Thread Cert.BigDx.nD Cert.BigDx.τ).loc Cert.BigDx.main_arg1) = m ((c.tc : Thread Cert.BigDx.nD Cert.BigDx.τ).loc Cert.BigDx.main_arg1))
      ∧ r.2.sem = fun _ => 0)

def quiescent_BigDxIdeal [hBigDxIdeal : Cert.BigDxIdeal.Facts] : Prop :=
  ∀ (m : (ℓ : Loc Cert.BigDxIdeal.nD Cert.BigDxIdeal.τ Cert.BigDxIdeal.sig) → Buf (Elt Ideal) ℓ) (g : Dev Cert.BigDxIdeal.nD → PrngReg), Pre_BigDxIdeal m →
    θ_run (Cert.BigDxIdeal.defs (F := Ideal)) (onTc (τ := Cert.BigDxIdeal.τ) (Cert.BigDxIdeal.main (F := Ideal))) ⟨m, fun _ => 0, g⟩ (fun r => (∀ c : Dev Cert.BigDxIdeal.nD,
      r.2.mem ((c.tc : Thread Cert.BigDxIdeal.nD Cert.BigDxIdeal.τ).loc Cert.BigDxIdeal.main_arg0) = m ((c.tc : Thread Cert.BigDxIdeal.nD Cert.BigDxIdeal.τ).loc Cert.BigDxIdeal.main_arg0)
      ∧ r.2.mem ((c.tc : Thread Cert.BigDxIdeal.nD Cert.BigDxIdeal.τ).loc Cert.BigDxIdeal.main_arg1) = m ((c.tc : Thread Cert.BigDxIdeal.nD Cert.BigDxIdeal.τ).loc Cert.BigDxIdeal.main_arg1))
      ∧ r.2.sem = fun _ => 0)

def quiescent_BigDxRefIdeal [hBigDxRefIdeal : Cert.BigDxRefIdeal.Facts] : Prop :=
  ∀ (m : (ℓ : Loc Cert.BigDxRefIdeal.nD Cert.BigDxRefIdeal.τ Cert.BigDxRefIdeal.sig) → Buf (Elt Ideal) ℓ) (g : Dev Cert.BigDxRefIdeal.nD → PrngReg), Pre_BigDxRefIdeal m →
    θ_run (Cert.BigDxRefIdeal.defs (F := Ideal)) (onTc (τ := Cert.BigDxRefIdeal.τ) (Cert.BigDxRefIdeal.main (F := Ideal))) ⟨m, fun _ => 0, g⟩ (fun r => (∀ c : Dev Cert.BigDxRefIdeal.nD,
      r.2.mem ((c.tc : Thread Cert.BigDxRefIdeal.nD Cert.BigDxRefIdeal.τ).loc Cert.BigDxRefIdeal.main_arg0) = m ((c.tc : Thread Cert.BigDxRefIdeal.nD Cert.BigDxRefIdeal.τ).loc Cert.BigDxRefIdeal.main_arg0)
      ∧ r.2.mem ((c.tc : Thread Cert.BigDxRefIdeal.nD Cert.BigDxRefIdeal.τ).loc Cert.BigDxRefIdeal.main_arg1) = m ((c.tc : Thread Cert.BigDxRefIdeal.nD Cert.BigDxRefIdeal.τ).loc Cert.BigDxRefIdeal.main_arg1))
      ∧ r.2.sem = fun _ => 0)

def quiescent_BigDw [hBigDw : Cert.BigDw.Facts] : Prop :=
  ∀ (m : (ℓ : Loc Cert.BigDw.nD Cert.BigDw.τ Cert.BigDw.sig) → Buf (Elt Bits) ℓ) (g : Dev Cert.BigDw.nD → PrngReg), Pre_BigDw m →
    θ_run (Cert.BigDw.defs (F := Bits)) (onTc (τ := Cert.BigDw.τ) (Cert.BigDw.main (F := Bits))) ⟨m, fun _ => 0, g⟩ (fun r => (∀ c : Dev Cert.BigDw.nD,
      r.2.mem ((c.tc : Thread Cert.BigDw.nD Cert.BigDw.τ).loc Cert.BigDw.main_arg0) = m ((c.tc : Thread Cert.BigDw.nD Cert.BigDw.τ).loc Cert.BigDw.main_arg0)
      ∧ r.2.mem ((c.tc : Thread Cert.BigDw.nD Cert.BigDw.τ).loc Cert.BigDw.main_arg1) = m ((c.tc : Thread Cert.BigDw.nD Cert.BigDw.τ).loc Cert.BigDw.main_arg1))
      ∧ r.2.sem = fun _ => 0)

def quiescent_BigDwIdeal [hBigDwIdeal : Cert.BigDwIdeal.Facts] : Prop :=
  ∀ (m : (ℓ : Loc Cert.BigDwIdeal.nD Cert.BigDwIdeal.τ Cert.BigDwIdeal.sig) → Buf (Elt Ideal) ℓ) (g : Dev Cert.BigDwIdeal.nD → PrngReg), Pre_BigDwIdeal m →
    θ_run (Cert.BigDwIdeal.defs (F := Ideal)) (onTc (τ := Cert.BigDwIdeal.τ) (Cert.BigDwIdeal.main (F := Ideal))) ⟨m, fun _ => 0, g⟩ (fun r => (∀ c : Dev Cert.BigDwIdeal.nD,
      r.2.mem ((c.tc : Thread Cert.BigDwIdeal.nD Cert.BigDwIdeal.τ).loc Cert.BigDwIdeal.main_arg0) = m ((c.tc : Thread Cert.BigDwIdeal.nD Cert.BigDwIdeal.τ).loc Cert.BigDwIdeal.main_arg0)
      ∧ r.2.mem ((c.tc : Thread Cert.BigDwIdeal.nD Cert.BigDwIdeal.τ).loc Cert.BigDwIdeal.main_arg1) = m ((c.tc : Thread Cert.BigDwIdeal.nD Cert.BigDwIdeal.τ).loc Cert.BigDwIdeal.main_arg1))
      ∧ r.2.sem = fun _ => 0)

def quiescent_BigDwRefIdeal [hBigDwRefIdeal : Cert.BigDwRefIdeal.Facts] : Prop :=
  ∀ (m : (ℓ : Loc Cert.BigDwRefIdeal.nD Cert.BigDwRefIdeal.τ Cert.BigDwRefIdeal.sig) → Buf (Elt Ideal) ℓ) (g : Dev Cert.BigDwRefIdeal.nD → PrngReg), Pre_BigDwRefIdeal m →
    θ_run (Cert.BigDwRefIdeal.defs (F := Ideal)) (onTc (τ := Cert.BigDwRefIdeal.τ) (Cert.BigDwRefIdeal.main (F := Ideal))) ⟨m, fun _ => 0, g⟩ (fun r => (∀ c : Dev Cert.BigDwRefIdeal.nD,
      r.2.mem ((c.tc : Thread Cert.BigDwRefIdeal.nD Cert.BigDwRefIdeal.τ).loc Cert.BigDwRefIdeal.main_arg0) = m ((c.tc : Thread Cert.BigDwRefIdeal.nD Cert.BigDwRefIdeal.τ).loc Cert.BigDwRefIdeal.main_arg0)
      ∧ r.2.mem ((c.tc : Thread Cert.BigDwRefIdeal.nD Cert.BigDwRefIdeal.τ).loc Cert.BigDwRefIdeal.main_arg1) = m ((c.tc : Thread Cert.BigDwRefIdeal.nD Cert.BigDwRefIdeal.τ).loc Cert.BigDwRefIdeal.main_arg1))
      ∧ r.2.sem = fun _ => 0)

def quiescent_SqDx [hSqDx : Cert.SqDx.Facts] : Prop :=
  ∀ (m : (ℓ : Loc Cert.SqDx.nD Cert.SqDx.τ Cert.SqDx.sig) → Buf (Elt Bits) ℓ) (g : Dev Cert.SqDx.nD → PrngReg), Pre_SqDx m →
    θ_run (Cert.SqDx.defs (F := Bits)) (onTc (τ := Cert.SqDx.τ) (Cert.SqDx.main (F := Bits))) ⟨m, fun _ => 0, g⟩ (fun r => (∀ c : Dev Cert.SqDx.nD,
      r.2.mem ((c.tc : Thread Cert.SqDx.nD Cert.SqDx.τ).loc Cert.SqDx.main_arg0) = m ((c.tc : Thread Cert.SqDx.nD Cert.SqDx.τ).loc Cert.SqDx.main_arg0)
      ∧ r.2.mem ((c.tc : Thread Cert.SqDx.nD Cert.SqDx.τ).loc Cert.SqDx.main_arg1) = m ((c.tc : Thread Cert.SqDx.nD Cert.SqDx.τ).loc Cert.SqDx.main_arg1))
      ∧ r.2.sem = fun _ => 0)

def quiescent_SqDxIdeal [hSqDxIdeal : Cert.SqDxIdeal.Facts] : Prop :=
  ∀ (m : (ℓ : Loc Cert.SqDxIdeal.nD Cert.SqDxIdeal.τ Cert.SqDxIdeal.sig) → Buf (Elt Ideal) ℓ) (g : Dev Cert.SqDxIdeal.nD → PrngReg), Pre_SqDxIdeal m →
    θ_run (Cert.SqDxIdeal.defs (F := Ideal)) (onTc (τ := Cert.SqDxIdeal.τ) (Cert.SqDxIdeal.main (F := Ideal))) ⟨m, fun _ => 0, g⟩ (fun r => (∀ c : Dev Cert.SqDxIdeal.nD,
      r.2.mem ((c.tc : Thread Cert.SqDxIdeal.nD Cert.SqDxIdeal.τ).loc Cert.SqDxIdeal.main_arg0) = m ((c.tc : Thread Cert.SqDxIdeal.nD Cert.SqDxIdeal.τ).loc Cert.SqDxIdeal.main_arg0)
      ∧ r.2.mem ((c.tc : Thread Cert.SqDxIdeal.nD Cert.SqDxIdeal.τ).loc Cert.SqDxIdeal.main_arg1) = m ((c.tc : Thread Cert.SqDxIdeal.nD Cert.SqDxIdeal.τ).loc Cert.SqDxIdeal.main_arg1))
      ∧ r.2.sem = fun _ => 0)

def quiescent_SqDxRefIdeal [hSqDxRefIdeal : Cert.SqDxRefIdeal.Facts] : Prop :=
  ∀ (m : (ℓ : Loc Cert.SqDxRefIdeal.nD Cert.SqDxRefIdeal.τ Cert.SqDxRefIdeal.sig) → Buf (Elt Ideal) ℓ) (g : Dev Cert.SqDxRefIdeal.nD → PrngReg), Pre_SqDxRefIdeal m →
    θ_run (Cert.SqDxRefIdeal.defs (F := Ideal)) (onTc (τ := Cert.SqDxRefIdeal.τ) (Cert.SqDxRefIdeal.main (F := Ideal))) ⟨m, fun _ => 0, g⟩ (fun r => (∀ c : Dev Cert.SqDxRefIdeal.nD,
      r.2.mem ((c.tc : Thread Cert.SqDxRefIdeal.nD Cert.SqDxRefIdeal.τ).loc Cert.SqDxRefIdeal.main_arg0) = m ((c.tc : Thread Cert.SqDxRefIdeal.nD Cert.SqDxRefIdeal.τ).loc Cert.SqDxRefIdeal.main_arg0)
      ∧ r.2.mem ((c.tc : Thread Cert.SqDxRefIdeal.nD Cert.SqDxRefIdeal.τ).loc Cert.SqDxRefIdeal.main_arg1) = m ((c.tc : Thread Cert.SqDxRefIdeal.nD Cert.SqDxRefIdeal.τ).loc Cert.SqDxRefIdeal.main_arg1))
      ∧ r.2.sem = fun _ => 0)

def quiescent_SqDw [hSqDw : Cert.SqDw.Facts] : Prop :=
  ∀ (m : (ℓ : Loc Cert.SqDw.nD Cert.SqDw.τ Cert.SqDw.sig) → Buf (Elt Bits) ℓ) (g : Dev Cert.SqDw.nD → PrngReg), Pre_SqDw m →
    θ_run (Cert.SqDw.defs (F := Bits)) (onTc (τ := Cert.SqDw.τ) (Cert.SqDw.main (F := Bits))) ⟨m, fun _ => 0, g⟩ (fun r => (∀ c : Dev Cert.SqDw.nD,
      r.2.mem ((c.tc : Thread Cert.SqDw.nD Cert.SqDw.τ).loc Cert.SqDw.main_arg0) = m ((c.tc : Thread Cert.SqDw.nD Cert.SqDw.τ).loc Cert.SqDw.main_arg0)
      ∧ r.2.mem ((c.tc : Thread Cert.SqDw.nD Cert.SqDw.τ).loc Cert.SqDw.main_arg1) = m ((c.tc : Thread Cert.SqDw.nD Cert.SqDw.τ).loc Cert.SqDw.main_arg1))
      ∧ r.2.sem = fun _ => 0)

def quiescent_SqDwIdeal [hSqDwIdeal : Cert.SqDwIdeal.Facts] : Prop :=
  ∀ (m : (ℓ : Loc Cert.SqDwIdeal.nD Cert.SqDwIdeal.τ Cert.SqDwIdeal.sig) → Buf (Elt Ideal) ℓ) (g : Dev Cert.SqDwIdeal.nD → PrngReg), Pre_SqDwIdeal m →
    θ_run (Cert.SqDwIdeal.defs (F := Ideal)) (onTc (τ := Cert.SqDwIdeal.τ) (Cert.SqDwIdeal.main (F := Ideal))) ⟨m, fun _ => 0, g⟩ (fun r => (∀ c : Dev Cert.SqDwIdeal.nD,
      r.2.mem ((c.tc : Thread Cert.SqDwIdeal.nD Cert.SqDwIdeal.τ).loc Cert.SqDwIdeal.main_arg0) = m ((c.tc : Thread Cert.SqDwIdeal.nD Cert.SqDwIdeal.τ).loc Cert.SqDwIdeal.main_arg0)
      ∧ r.2.mem ((c.tc : Thread Cert.SqDwIdeal.nD Cert.SqDwIdeal.τ).loc Cert.SqDwIdeal.main_arg1) = m ((c.tc : Thread Cert.SqDwIdeal.nD Cert.SqDwIdeal.τ).loc Cert.SqDwIdeal.main_arg1))
      ∧ r.2.sem = fun _ => 0)

def quiescent_SqDwRefIdeal [hSqDwRefIdeal : Cert.SqDwRefIdeal.Facts] : Prop :=
  ∀ (m : (ℓ : Loc Cert.SqDwRefIdeal.nD Cert.SqDwRefIdeal.τ Cert.SqDwRefIdeal.sig) → Buf (Elt Ideal) ℓ) (g : Dev Cert.SqDwRefIdeal.nD → PrngReg), Pre_SqDwRefIdeal m →
    θ_run (Cert.SqDwRefIdeal.defs (F := Ideal)) (onTc (τ := Cert.SqDwRefIdeal.τ) (Cert.SqDwRefIdeal.main (F := Ideal))) ⟨m, fun _ => 0, g⟩ (fun r => (∀ c : Dev Cert.SqDwRefIdeal.nD,
      r.2.mem ((c.tc : Thread Cert.SqDwRefIdeal.nD Cert.SqDwRefIdeal.τ).loc Cert.SqDwRefIdeal.main_arg0) = m ((c.tc : Thread Cert.SqDwRefIdeal.nD Cert.SqDwRefIdeal.τ).loc Cert.SqDwRefIdeal.main_arg0)
      ∧ r.2.mem ((c.tc : Thread Cert.SqDwRefIdeal.nD Cert.SqDwRefIdeal.τ).loc Cert.SqDwRefIdeal.main_arg1) = m ((c.tc : Thread Cert.SqDwRefIdeal.nD Cert.SqDwRefIdeal.τ).loc Cert.SqDwRefIdeal.main_arg1))
      ∧ r.2.sem = fun _ => 0)

def quiescent_Big [hBig : Cert.Big.Facts] : Prop :=
  ∀ (m : (ℓ : Loc Cert.Big.nD Cert.Big.τ Cert.Big.sig) → Buf (Elt Bits) ℓ) (g : Dev Cert.Big.nD → PrngReg), Pre_Big m →
    θ_run (Cert.Big.defs (F := Bits)) (onTc (τ := Cert.Big.τ) (Cert.Big.main (F := Bits))) ⟨m, fun _ => 0, g⟩ (fun r => (∀ c : Dev Cert.Big.nD,
      r.2.mem ((c.tc : Thread Cert.Big.nD Cert.Big.τ).loc Cert.Big.main_arg0) = m ((c.tc : Thread Cert.Big.nD Cert.Big.τ).loc Cert.Big.main_arg0)
      ∧ r.2.mem ((c.tc : Thread Cert.Big.nD Cert.Big.τ).loc Cert.Big.main_arg1) = m ((c.tc : Thread Cert.Big.nD Cert.Big.τ).loc Cert.Big.main_arg1))
      ∧ r.2.sem = fun _ => 0)

def quiescent_BigIdeal [hBigIdeal : Cert.BigIdeal.Facts] : Prop :=
  ∀ (m : (ℓ : Loc Cert.BigIdeal.nD Cert.BigIdeal.τ Cert.BigIdeal.sig) → Buf (Elt Ideal) ℓ) (g : Dev Cert.BigIdeal.nD → PrngReg), Pre_BigIdeal m →
    θ_run (Cert.BigIdeal.defs (F := Ideal)) (onTc (τ := Cert.BigIdeal.τ) (Cert.BigIdeal.main (F := Ideal))) ⟨m, fun _ => 0, g⟩ (fun r => (∀ c : Dev Cert.BigIdeal.nD,
      r.2.mem ((c.tc : Thread Cert.BigIdeal.nD Cert.BigIdeal.τ).loc Cert.BigIdeal.main_arg0) = m ((c.tc : Thread Cert.BigIdeal.nD Cert.BigIdeal.τ).loc Cert.BigIdeal.main_arg0)
      ∧ r.2.mem ((c.tc : Thread Cert.BigIdeal.nD Cert.BigIdeal.τ).loc Cert.BigIdeal.main_arg1) = m ((c.tc : Thread Cert.BigIdeal.nD Cert.BigIdeal.τ).loc Cert.BigIdeal.main_arg1))
      ∧ r.2.sem = fun _ => 0)

def quiescent_BigRefIdeal [hBigRefIdeal : Cert.BigRefIdeal.Facts] : Prop :=
  ∀ (m : (ℓ : Loc Cert.BigRefIdeal.nD Cert.BigRefIdeal.τ Cert.BigRefIdeal.sig) → Buf (Elt Ideal) ℓ) (g : Dev Cert.BigRefIdeal.nD → PrngReg), Pre_BigRefIdeal m →
    θ_run (Cert.BigRefIdeal.defs (F := Ideal)) (onTc (τ := Cert.BigRefIdeal.τ) (Cert.BigRefIdeal.main (F := Ideal))) ⟨m, fun _ => 0, g⟩ (fun r => (∀ c : Dev Cert.BigRefIdeal.nD,
      r.2.mem ((c.tc : Thread Cert.BigRefIdeal.nD Cert.BigRefIdeal.τ).loc Cert.BigRefIdeal.main_arg0) = m ((c.tc : Thread Cert.BigRefIdeal.nD Cert.BigRefIdeal.τ).loc Cert.BigRefIdeal.main_arg0)
      ∧ r.2.mem ((c.tc : Thread Cert.BigRefIdeal.nD Cert.BigRefIdeal.τ).loc Cert.BigRefIdeal.main_arg1) = m ((c.tc : Thread Cert.BigRefIdeal.nD Cert.BigRefIdeal.τ).loc Cert.BigRefIdeal.main_arg1))
      ∧ r.2.sem = fun _ => 0)

def quiescent_Sq [hSq : Cert.Sq.Facts] : Prop :=
  ∀ (m : (ℓ : Loc Cert.Sq.nD Cert.Sq.τ Cert.Sq.sig) → Buf (Elt Bits) ℓ) (g : Dev Cert.Sq.nD → PrngReg), Pre_Sq m →
    θ_run (Cert.Sq.defs (F := Bits)) (onTc (τ := Cert.Sq.τ) (Cert.Sq.main (F := Bits))) ⟨m, fun _ => 0, g⟩ (fun r => (∀ c : Dev Cert.Sq.nD,
      r.2.mem ((c.tc : Thread Cert.Sq.nD Cert.Sq.τ).loc Cert.Sq.main_arg0) = m ((c.tc : Thread Cert.Sq.nD Cert.Sq.τ).loc Cert.Sq.main_arg0)
      ∧ r.2.mem ((c.tc : Thread Cert.Sq.nD Cert.Sq.τ).loc Cert.Sq.main_arg1) = m ((c.tc : Thread Cert.Sq.nD Cert.Sq.τ).loc Cert.Sq.main_arg1))
      ∧ r.2.sem = fun _ => 0)

def quiescent_SqIdeal [hSqIdeal : Cert.SqIdeal.Facts] : Prop :=
  ∀ (m : (ℓ : Loc Cert.SqIdeal.nD Cert.SqIdeal.τ Cert.SqIdeal.sig) → Buf (Elt Ideal) ℓ) (g : Dev Cert.SqIdeal.nD → PrngReg), Pre_SqIdeal m →
    θ_run (Cert.SqIdeal.defs (F := Ideal)) (onTc (τ := Cert.SqIdeal.τ) (Cert.SqIdeal.main (F := Ideal))) ⟨m, fun _ => 0, g⟩ (fun r => (∀ c : Dev Cert.SqIdeal.nD,
      r.2.mem ((c.tc : Thread Cert.SqIdeal.nD Cert.SqIdeal.τ).loc Cert.SqIdeal.main_arg0) = m ((c.tc : Thread Cert.SqIdeal.nD Cert.SqIdeal.τ).loc Cert.SqIdeal.main_arg0)
      ∧ r.2.mem ((c.tc : Thread Cert.SqIdeal.nD Cert.SqIdeal.τ).loc Cert.SqIdeal.main_arg1) = m ((c.tc : Thread Cert.SqIdeal.nD Cert.SqIdeal.τ).loc Cert.SqIdeal.main_arg1))
      ∧ r.2.sem = fun _ => 0)

def quiescent_SqRefIdeal [hSqRefIdeal : Cert.SqRefIdeal.Facts] : Prop :=
  ∀ (m : (ℓ : Loc Cert.SqRefIdeal.nD Cert.SqRefIdeal.τ Cert.SqRefIdeal.sig) → Buf (Elt Ideal) ℓ) (g : Dev Cert.SqRefIdeal.nD → PrngReg), Pre_SqRefIdeal m →
    θ_run (Cert.SqRefIdeal.defs (F := Ideal)) (onTc (τ := Cert.SqRefIdeal.τ) (Cert.SqRefIdeal.main (F := Ideal))) ⟨m, fun _ => 0, g⟩ (fun r => (∀ c : Dev Cert.SqRefIdeal.nD,
      r.2.mem ((c.tc : Thread Cert.SqRefIdeal.nD Cert.SqRefIdeal.τ).loc Cert.SqRefIdeal.main_arg0) = m ((c.tc : Thread Cert.SqRefIdeal.nD Cert.SqRefIdeal.τ).loc Cert.SqRefIdeal.main_arg0)
      ∧ r.2.mem ((c.tc : Thread Cert.SqRefIdeal.nD Cert.SqRefIdeal.τ).loc Cert.SqRefIdeal.main_arg1) = m ((c.tc : Thread Cert.SqRefIdeal.nD Cert.SqRefIdeal.τ).loc Cert.SqRefIdeal.main_arg1))
      ∧ r.2.sem = fun _ => 0)

def quiescent_LatDx [hLatDx : Cert.LatDx.Facts] : Prop :=
  ∀ (m : (ℓ : Loc Cert.LatDx.nD Cert.LatDx.τ Cert.LatDx.sig) → Buf (Elt Bits) ℓ) (g : Dev Cert.LatDx.nD → PrngReg), Pre_LatDx m →
    θ_run (Cert.LatDx.defs (F := Bits)) (onTc (τ := Cert.LatDx.τ) (Cert.LatDx.main (F := Bits))) ⟨m, fun _ => 0, g⟩ (fun r => (∀ c : Dev Cert.LatDx.nD,
      r.2.mem ((c.tc : Thread Cert.LatDx.nD Cert.LatDx.τ).loc Cert.LatDx.main_arg0) = m ((c.tc : Thread Cert.LatDx.nD Cert.LatDx.τ).loc Cert.LatDx.main_arg0)
      ∧ r.2.mem ((c.tc : Thread Cert.LatDx.nD Cert.LatDx.τ).loc Cert.LatDx.main_arg1) = m ((c.tc : Thread Cert.LatDx.nD Cert.LatDx.τ).loc Cert.LatDx.main_arg1))
      ∧ r.2.sem = fun _ => 0)

def quiescent_LatDxIdeal [hLatDxIdeal : Cert.LatDxIdeal.Facts] : Prop :=
  ∀ (m : (ℓ : Loc Cert.LatDxIdeal.nD Cert.LatDxIdeal.τ Cert.LatDxIdeal.sig) → Buf (Elt Ideal) ℓ) (g : Dev Cert.LatDxIdeal.nD → PrngReg), Pre_LatDxIdeal m →
    θ_run (Cert.LatDxIdeal.defs (F := Ideal)) (onTc (τ := Cert.LatDxIdeal.τ) (Cert.LatDxIdeal.main (F := Ideal))) ⟨m, fun _ => 0, g⟩ (fun r => (∀ c : Dev Cert.LatDxIdeal.nD,
      r.2.mem ((c.tc : Thread Cert.LatDxIdeal.nD Cert.LatDxIdeal.τ).loc Cert.LatDxIdeal.main_arg0) = m ((c.tc : Thread Cert.LatDxIdeal.nD Cert.LatDxIdeal.τ).loc Cert.LatDxIdeal.main_arg0)
      ∧ r.2.mem ((c.tc : Thread Cert.LatDxIdeal.nD Cert.LatDxIdeal.τ).loc Cert.LatDxIdeal.main_arg1) = m ((c.tc : Thread Cert.LatDxIdeal.nD Cert.LatDxIdeal.τ).loc Cert.LatDxIdeal.main_arg1))
      ∧ r.2.sem = fun _ => 0)

def quiescent_LatDxRefIdeal [hLatDxRefIdeal : Cert.LatDxRefIdeal.Facts] : Prop :=
  ∀ (m : (ℓ : Loc Cert.LatDxRefIdeal.nD Cert.LatDxRefIdeal.τ Cert.LatDxRefIdeal.sig) → Buf (Elt Ideal) ℓ) (g : Dev Cert.LatDxRefIdeal.nD → PrngReg), Pre_LatDxRefIdeal m →
    θ_run (Cert.LatDxRefIdeal.defs (F := Ideal)) (onTc (τ := Cert.LatDxRefIdeal.τ) (Cert.LatDxRefIdeal.main (F := Ideal))) ⟨m, fun _ => 0, g⟩ (fun r => (∀ c : Dev Cert.LatDxRefIdeal.nD,
      r.2.mem ((c.tc : Thread Cert.LatDxRefIdeal.nD Cert.LatDxRefIdeal.τ).loc Cert.LatDxRefIdeal.main_arg0) = m ((c.tc : Thread Cert.LatDxRefIdeal.nD Cert.LatDxRefIdeal.τ).loc Cert.LatDxRefIdeal.main_arg0)
      ∧ r.2.mem ((c.tc : Thread Cert.LatDxRefIdeal.nD Cert.LatDxRefIdeal.τ).loc Cert.LatDxRefIdeal.main_arg1) = m ((c.tc : Thread Cert.LatDxRefIdeal.nD Cert.LatDxRefIdeal.τ).loc Cert.LatDxRefIdeal.main_arg1))
      ∧ r.2.sem = fun _ => 0)

def quiescent_LatDw [hLatDw : Cert.LatDw.Facts] : Prop :=
  ∀ (m : (ℓ : Loc Cert.LatDw.nD Cert.LatDw.τ Cert.LatDw.sig) → Buf (Elt Bits) ℓ) (g : Dev Cert.LatDw.nD → PrngReg), Pre_LatDw m →
    θ_run (Cert.LatDw.defs (F := Bits)) (onTc (τ := Cert.LatDw.τ) (Cert.LatDw.main (F := Bits))) ⟨m, fun _ => 0, g⟩ (fun r => (∀ c : Dev Cert.LatDw.nD,
      r.2.mem ((c.tc : Thread Cert.LatDw.nD Cert.LatDw.τ).loc Cert.LatDw.main_arg0) = m ((c.tc : Thread Cert.LatDw.nD Cert.LatDw.τ).loc Cert.LatDw.main_arg0)
      ∧ r.2.mem ((c.tc : Thread Cert.LatDw.nD Cert.LatDw.τ).loc Cert.LatDw.main_arg1) = m ((c.tc : Thread Cert.LatDw.nD Cert.LatDw.τ).loc Cert.LatDw.main_arg1))
      ∧ r.2.sem = fun _ => 0)

def quiescent_LatDwIdeal [hLatDwIdeal : Cert.LatDwIdeal.Facts] : Prop :=
  ∀ (m : (ℓ : Loc Cert.LatDwIdeal.nD Cert.LatDwIdeal.τ Cert.LatDwIdeal.sig) → Buf (Elt Ideal) ℓ) (g : Dev Cert.LatDwIdeal.nD → PrngReg), Pre_LatDwIdeal m →
    θ_run (Cert.LatDwIdeal.defs (F := Ideal)) (onTc (τ := Cert.LatDwIdeal.τ) (Cert.LatDwIdeal.main (F := Ideal))) ⟨m, fun _ => 0, g⟩ (fun r => (∀ c : Dev Cert.LatDwIdeal.nD,
      r.2.mem ((c.tc : Thread Cert.LatDwIdeal.nD Cert.LatDwIdeal.τ).loc Cert.LatDwIdeal.main_arg0) = m ((c.tc : Thread Cert.LatDwIdeal.nD Cert.LatDwIdeal.τ).loc Cert.LatDwIdeal.main_arg0)
      ∧ r.2.mem ((c.tc : Thread Cert.LatDwIdeal.nD Cert.LatDwIdeal.τ).loc Cert.LatDwIdeal.main_arg1) = m ((c.tc : Thread Cert.LatDwIdeal.nD Cert.LatDwIdeal.τ).loc Cert.LatDwIdeal.main_arg1))
      ∧ r.2.sem = fun _ => 0)

def quiescent_LatDwRefIdeal [hLatDwRefIdeal : Cert.LatDwRefIdeal.Facts] : Prop :=
  ∀ (m : (ℓ : Loc Cert.LatDwRefIdeal.nD Cert.LatDwRefIdeal.τ Cert.LatDwRefIdeal.sig) → Buf (Elt Ideal) ℓ) (g : Dev Cert.LatDwRefIdeal.nD → PrngReg), Pre_LatDwRefIdeal m →
    θ_run (Cert.LatDwRefIdeal.defs (F := Ideal)) (onTc (τ := Cert.LatDwRefIdeal.τ) (Cert.LatDwRefIdeal.main (F := Ideal))) ⟨m, fun _ => 0, g⟩ (fun r => (∀ c : Dev Cert.LatDwRefIdeal.nD,
      r.2.mem ((c.tc : Thread Cert.LatDwRefIdeal.nD Cert.LatDwRefIdeal.τ).loc Cert.LatDwRefIdeal.main_arg0) = m ((c.tc : Thread Cert.LatDwRefIdeal.nD Cert.LatDwRefIdeal.τ).loc Cert.LatDwRefIdeal.main_arg0)
      ∧ r.2.mem ((c.tc : Thread Cert.LatDwRefIdeal.nD Cert.LatDwRefIdeal.τ).loc Cert.LatDwRefIdeal.main_arg1) = m ((c.tc : Thread Cert.LatDwRefIdeal.nD Cert.LatDwRefIdeal.τ).loc Cert.LatDwRefIdeal.main_arg1))
      ∧ r.2.sem = fun _ => 0)

def quiescent_SmallDx [hSmallDx : Cert.SmallDx.Facts] : Prop :=
  ∀ (m : (ℓ : Loc Cert.SmallDx.nD Cert.SmallDx.τ Cert.SmallDx.sig) → Buf (Elt Bits) ℓ) (g : Dev Cert.SmallDx.nD → PrngReg), Pre_SmallDx m →
    θ_run (Cert.SmallDx.defs (F := Bits)) (onTc (τ := Cert.SmallDx.τ) (Cert.SmallDx.main (F := Bits))) ⟨m, fun _ => 0, g⟩ (fun r => (∀ c : Dev Cert.SmallDx.nD,
      r.2.mem ((c.tc : Thread Cert.SmallDx.nD Cert.SmallDx.τ).loc Cert.SmallDx.main_arg0) = m ((c.tc : Thread Cert.SmallDx.nD Cert.SmallDx.τ).loc Cert.SmallDx.main_arg0)
      ∧ r.2.mem ((c.tc : Thread Cert.SmallDx.nD Cert.SmallDx.τ).loc Cert.SmallDx.main_arg1) = m ((c.tc : Thread Cert.SmallDx.nD Cert.SmallDx.τ).loc Cert.SmallDx.main_arg1)
      ∧ r.2.mem ((c.tc : Thread Cert.SmallDx.nD Cert.SmallDx.τ).loc Cert.SmallDx.main_arg2) = m ((c.tc : Thread Cert.SmallDx.nD Cert.SmallDx.τ).loc Cert.SmallDx.main_arg2))
      ∧ r.2.sem = fun _ => 0)

def quiescent_SmallDxIdeal [hSmallDxIdeal : Cert.SmallDxIdeal.Facts] : Prop :=
  ∀ (m : (ℓ : Loc Cert.SmallDxIdeal.nD Cert.SmallDxIdeal.τ Cert.SmallDxIdeal.sig) → Buf (Elt Ideal) ℓ) (g : Dev Cert.SmallDxIdeal.nD → PrngReg), Pre_SmallDxIdeal m →
    θ_run (Cert.SmallDxIdeal.defs (F := Ideal)) (onTc (τ := Cert.SmallDxIdeal.τ) (Cert.SmallDxIdeal.main (F := Ideal))) ⟨m, fun _ => 0, g⟩ (fun r => (∀ c : Dev Cert.SmallDxIdeal.nD,
      r.2.mem ((c.tc : Thread Cert.SmallDxIdeal.nD Cert.SmallDxIdeal.τ).loc Cert.SmallDxIdeal.main_arg0) = m ((c.tc : Thread Cert.SmallDxIdeal.nD Cert.SmallDxIdeal.τ).loc Cert.SmallDxIdeal.main_arg0)
      ∧ r.2.mem ((c.tc : Thread Cert.SmallDxIdeal.nD Cert.SmallDxIdeal.τ).loc Cert.SmallDxIdeal.main_arg1) = m ((c.tc : Thread Cert.SmallDxIdeal.nD Cert.SmallDxIdeal.τ).loc Cert.SmallDxIdeal.main_arg1)
      ∧ r.2.mem ((c.tc : Thread Cert.SmallDxIdeal.nD Cert.SmallDxIdeal.τ).loc Cert.SmallDxIdeal.main_arg2) = m ((c.tc : Thread Cert.SmallDxIdeal.nD Cert.SmallDxIdeal.τ).loc Cert.SmallDxIdeal.main_arg2))
      ∧ r.2.sem = fun _ => 0)

def quiescent_SmallDxRefIdeal [hSmallDxRefIdeal : Cert.SmallDxRefIdeal.Facts] : Prop :=
  ∀ (m : (ℓ : Loc Cert.SmallDxRefIdeal.nD Cert.SmallDxRefIdeal.τ Cert.SmallDxRefIdeal.sig) → Buf (Elt Ideal) ℓ) (g : Dev Cert.SmallDxRefIdeal.nD → PrngReg), Pre_SmallDxRefIdeal m →
    θ_run (Cert.SmallDxRefIdeal.defs (F := Ideal)) (onTc (τ := Cert.SmallDxRefIdeal.τ) (Cert.SmallDxRefIdeal.main (F := Ideal))) ⟨m, fun _ => 0, g⟩ (fun r => (∀ c : Dev Cert.SmallDxRefIdeal.nD,
      r.2.mem ((c.tc : Thread Cert.SmallDxRefIdeal.nD Cert.SmallDxRefIdeal.τ).loc Cert.SmallDxRefIdeal.main_arg0) = m ((c.tc : Thread Cert.SmallDxRefIdeal.nD Cert.SmallDxRefIdeal.τ).loc Cert.SmallDxRefIdeal.main_arg0)
      ∧ r.2.mem ((c.tc : Thread Cert.SmallDxRefIdeal.nD Cert.SmallDxRefIdeal.τ).loc Cert.SmallDxRefIdeal.main_arg1) = m ((c.tc : Thread Cert.SmallDxRefIdeal.nD Cert.SmallDxRefIdeal.τ).loc Cert.SmallDxRefIdeal.main_arg1)
      ∧ r.2.mem ((c.tc : Thread Cert.SmallDxRefIdeal.nD Cert.SmallDxRefIdeal.τ).loc Cert.SmallDxRefIdeal.main_arg2) = m ((c.tc : Thread Cert.SmallDxRefIdeal.nD Cert.SmallDxRefIdeal.τ).loc Cert.SmallDxRefIdeal.main_arg2))
      ∧ r.2.sem = fun _ => 0)

def quiescent_SmallDw [hSmallDw : Cert.SmallDw.Facts] : Prop :=
  ∀ (m : (ℓ : Loc Cert.SmallDw.nD Cert.SmallDw.τ Cert.SmallDw.sig) → Buf (Elt Bits) ℓ) (g : Dev Cert.SmallDw.nD → PrngReg), Pre_SmallDw m →
    θ_run (Cert.SmallDw.defs (F := Bits)) (onTc (τ := Cert.SmallDw.τ) (Cert.SmallDw.main (F := Bits))) ⟨m, fun _ => 0, g⟩ (fun r => (∀ c : Dev Cert.SmallDw.nD,
      r.2.mem ((c.tc : Thread Cert.SmallDw.nD Cert.SmallDw.τ).loc Cert.SmallDw.main_arg0) = m ((c.tc : Thread Cert.SmallDw.nD Cert.SmallDw.τ).loc Cert.SmallDw.main_arg0)
      ∧ r.2.mem ((c.tc : Thread Cert.SmallDw.nD Cert.SmallDw.τ).loc Cert.SmallDw.main_arg1) = m ((c.tc : Thread Cert.SmallDw.nD Cert.SmallDw.τ).loc Cert.SmallDw.main_arg1))
      ∧ r.2.sem = fun _ => 0)

def quiescent_SmallDwIdeal [hSmallDwIdeal : Cert.SmallDwIdeal.Facts] : Prop :=
  ∀ (m : (ℓ : Loc Cert.SmallDwIdeal.nD Cert.SmallDwIdeal.τ Cert.SmallDwIdeal.sig) → Buf (Elt Ideal) ℓ) (g : Dev Cert.SmallDwIdeal.nD → PrngReg), Pre_SmallDwIdeal m →
    θ_run (Cert.SmallDwIdeal.defs (F := Ideal)) (onTc (τ := Cert.SmallDwIdeal.τ) (Cert.SmallDwIdeal.main (F := Ideal))) ⟨m, fun _ => 0, g⟩ (fun r => (∀ c : Dev Cert.SmallDwIdeal.nD,
      r.2.mem ((c.tc : Thread Cert.SmallDwIdeal.nD Cert.SmallDwIdeal.τ).loc Cert.SmallDwIdeal.main_arg0) = m ((c.tc : Thread Cert.SmallDwIdeal.nD Cert.SmallDwIdeal.τ).loc Cert.SmallDwIdeal.main_arg0)
      ∧ r.2.mem ((c.tc : Thread Cert.SmallDwIdeal.nD Cert.SmallDwIdeal.τ).loc Cert.SmallDwIdeal.main_arg1) = m ((c.tc : Thread Cert.SmallDwIdeal.nD Cert.SmallDwIdeal.τ).loc Cert.SmallDwIdeal.main_arg1))
      ∧ r.2.sem = fun _ => 0)

def quiescent_SmallDwRefIdeal [hSmallDwRefIdeal : Cert.SmallDwRefIdeal.Facts] : Prop :=
  ∀ (m : (ℓ : Loc Cert.SmallDwRefIdeal.nD Cert.SmallDwRefIdeal.τ Cert.SmallDwRefIdeal.sig) → Buf (Elt Ideal) ℓ) (g : Dev Cert.SmallDwRefIdeal.nD → PrngReg), Pre_SmallDwRefIdeal m →
    θ_run (Cert.SmallDwRefIdeal.defs (F := Ideal)) (onTc (τ := Cert.SmallDwRefIdeal.τ) (Cert.SmallDwRefIdeal.main (F := Ideal))) ⟨m, fun _ => 0, g⟩ (fun r => (∀ c : Dev Cert.SmallDwRefIdeal.nD,
      r.2.mem ((c.tc : Thread Cert.SmallDwRefIdeal.nD Cert.SmallDwRefIdeal.τ).loc Cert.SmallDwRefIdeal.main_arg0) = m ((c.tc : Thread Cert.SmallDwRefIdeal.nD Cert.SmallDwRefIdeal.τ).loc Cert.SmallDwRefIdeal.main_arg0)
      ∧ r.2.mem ((c.tc : Thread Cert.SmallDwRefIdeal.nD Cert.SmallDwRefIdeal.τ).loc Cert.SmallDwRefIdeal.main_arg1) = m ((c.tc : Thread Cert.SmallDwRefIdeal.nD Cert.SmallDwRefIdeal.τ).loc Cert.SmallDwRefIdeal.main_arg1))
      ∧ r.2.sem = fun _ => 0)

def quiescent_PleDw [hPleDw : Cert.PleDw.Facts] : Prop :=
  ∀ (m : (ℓ : Loc Cert.PleDw.nD Cert.PleDw.τ Cert.PleDw.sig) → Buf (Elt Bits) ℓ) (g : Dev Cert.PleDw.nD → PrngReg), Pre_PleDw m →
    θ_run (Cert.PleDw.defs (F := Bits)) (onTc (τ := Cert.PleDw.τ) (Cert.PleDw.main (F := Bits))) ⟨m, fun _ => 0, g⟩ (fun r => (∀ c : Dev Cert.PleDw.nD,
      r.2.mem ((c.tc : Thread Cert.PleDw.nD Cert.PleDw.τ).loc Cert.PleDw.main_arg0) = m ((c.tc : Thread Cert.PleDw.nD Cert.PleDw.τ).loc Cert.PleDw.main_arg0)
      ∧ r.2.mem ((c.tc : Thread Cert.PleDw.nD Cert.PleDw.τ).loc Cert.PleDw.main_arg1) = m ((c.tc : Thread Cert.PleDw.nD Cert.PleDw.τ).loc Cert.PleDw.main_arg1))
      ∧ r.2.sem = fun _ => 0)

def quiescent_PleDwIdeal [hPleDwIdeal : Cert.PleDwIdeal.Facts] : Prop :=
  ∀ (m : (ℓ : Loc Cert.PleDwIdeal.nD Cert.PleDwIdeal.τ Cert.PleDwIdeal.sig) → Buf (Elt Ideal) ℓ) (g : Dev Cert.PleDwIdeal.nD → PrngReg), Pre_PleDwIdeal m →
    θ_run (Cert.PleDwIdeal.defs (F := Ideal)) (onTc (τ := Cert.PleDwIdeal.τ) (Cert.PleDwIdeal.main (F := Ideal))) ⟨m, fun _ => 0, g⟩ (fun r => (∀ c : Dev Cert.PleDwIdeal.nD,
      r.2.mem ((c.tc : Thread Cert.PleDwIdeal.nD Cert.PleDwIdeal.τ).loc Cert.PleDwIdeal.main_arg0) = m ((c.tc : Thread Cert.PleDwIdeal.nD Cert.PleDwIdeal.τ).loc Cert.PleDwIdeal.main_arg0)
      ∧ r.2.mem ((c.tc : Thread Cert.PleDwIdeal.nD Cert.PleDwIdeal.τ).loc Cert.PleDwIdeal.main_arg1) = m ((c.tc : Thread Cert.PleDwIdeal.nD Cert.PleDwIdeal.τ).loc Cert.PleDwIdeal.main_arg1))
      ∧ r.2.sem = fun _ => 0)

def quiescent_PleDwRefIdeal [hPleDwRefIdeal : Cert.PleDwRefIdeal.Facts] : Prop :=
  ∀ (m : (ℓ : Loc Cert.PleDwRefIdeal.nD Cert.PleDwRefIdeal.τ Cert.PleDwRefIdeal.sig) → Buf (Elt Ideal) ℓ) (g : Dev Cert.PleDwRefIdeal.nD → PrngReg), Pre_PleDwRefIdeal m →
    θ_run (Cert.PleDwRefIdeal.defs (F := Ideal)) (onTc (τ := Cert.PleDwRefIdeal.τ) (Cert.PleDwRefIdeal.main (F := Ideal))) ⟨m, fun _ => 0, g⟩ (fun r => (∀ c : Dev Cert.PleDwRefIdeal.nD,
      r.2.mem ((c.tc : Thread Cert.PleDwRefIdeal.nD Cert.PleDwRefIdeal.τ).loc Cert.PleDwRefIdeal.main_arg0) = m ((c.tc : Thread Cert.PleDwRefIdeal.nD Cert.PleDwRefIdeal.τ).loc Cert.PleDwRefIdeal.main_arg0)
      ∧ r.2.mem ((c.tc : Thread Cert.PleDwRefIdeal.nD Cert.PleDwRefIdeal.τ).loc Cert.PleDwRefIdeal.main_arg1) = m ((c.tc : Thread Cert.PleDwRefIdeal.nD Cert.PleDwRefIdeal.τ).loc Cert.PleDwRefIdeal.main_arg1))
      ∧ r.2.sem = fun _ => 0)

def quiescent_LatQ [hLatQ : Cert.LatQ.Facts] : Prop :=
  ∀ (m : (ℓ : Loc Cert.LatQ.nD Cert.LatQ.τ Cert.LatQ.sig) → Buf (Elt Bits) ℓ) (g : Dev Cert.LatQ.nD → PrngReg), Pre_LatQ m →
    θ_run (Cert.LatQ.defs (F := Bits)) (onTc (τ := Cert.LatQ.τ) (Cert.LatQ.main (F := Bits))) ⟨m, fun _ => 0, g⟩ (fun r => (∀ c : Dev Cert.LatQ.nD,
      r.2.mem ((c.tc : Thread Cert.LatQ.nD Cert.LatQ.τ).loc Cert.LatQ.main_arg0) = m ((c.tc : Thread Cert.LatQ.nD Cert.LatQ.τ).loc Cert.LatQ.main_arg0)
      ∧ r.2.mem ((c.tc : Thread Cert.LatQ.nD Cert.LatQ.τ).loc Cert.LatQ.main_arg1) = m ((c.tc : Thread Cert.LatQ.nD Cert.LatQ.τ).loc Cert.LatQ.main_arg1))
      ∧ r.2.sem = fun _ => 0)

def quiescent_LatQIdeal [hLatQIdeal : Cert.LatQIdeal.Facts] : Prop :=
  ∀ (m : (ℓ : Loc Cert.LatQIdeal.nD Cert.LatQIdeal.τ Cert.LatQIdeal.sig) → Buf (Elt Ideal) ℓ) (g : Dev Cert.LatQIdeal.nD → PrngReg), Pre_LatQIdeal m →
    θ_run (Cert.LatQIdeal.defs (F := Ideal)) (onTc (τ := Cert.LatQIdeal.τ) (Cert.LatQIdeal.main (F := Ideal))) ⟨m, fun _ => 0, g⟩ (fun r => (∀ c : Dev Cert.LatQIdeal.nD,
      r.2.mem ((c.tc : Thread Cert.LatQIdeal.nD Cert.LatQIdeal.τ).loc Cert.LatQIdeal.main_arg0) = m ((c.tc : Thread Cert.LatQIdeal.nD Cert.LatQIdeal.τ).loc Cert.LatQIdeal.main_arg0)
      ∧ r.2.mem ((c.tc : Thread Cert.LatQIdeal.nD Cert.LatQIdeal.τ).loc Cert.LatQIdeal.main_arg1) = m ((c.tc : Thread Cert.LatQIdeal.nD Cert.LatQIdeal.τ).loc Cert.LatQIdeal.main_arg1))
      ∧ r.2.sem = fun _ => 0)

def quiescent_LatQRefIdeal [hLatQRefIdeal : Cert.LatQRefIdeal.Facts] : Prop :=
  ∀ (m : (ℓ : Loc Cert.LatQRefIdeal.nD Cert.LatQRefIdeal.τ Cert.LatQRefIdeal.sig) → Buf (Elt Ideal) ℓ) (g : Dev Cert.LatQRefIdeal.nD → PrngReg), Pre_LatQRefIdeal m →
    θ_run (Cert.LatQRefIdeal.defs (F := Ideal)) (onTc (τ := Cert.LatQRefIdeal.τ) (Cert.LatQRefIdeal.main (F := Ideal))) ⟨m, fun _ => 0, g⟩ (fun r => (∀ c : Dev Cert.LatQRefIdeal.nD,
      r.2.mem ((c.tc : Thread Cert.LatQRefIdeal.nD Cert.LatQRefIdeal.τ).loc Cert.LatQRefIdeal.main_arg0) = m ((c.tc : Thread Cert.LatQRefIdeal.nD Cert.LatQRefIdeal.τ).loc Cert.LatQRefIdeal.main_arg0)
      ∧ r.2.mem ((c.tc : Thread Cert.LatQRefIdeal.nD Cert.LatQRefIdeal.τ).loc Cert.LatQRefIdeal.main_arg1) = m ((c.tc : Thread Cert.LatQRefIdeal.nD Cert.LatQRefIdeal.τ).loc Cert.LatQRefIdeal.main_arg1))
      ∧ r.2.sem = fun _ => 0)

def quiescent_LatKv [hLatKv : Cert.LatKv.Facts] : Prop :=
  ∀ (m : (ℓ : Loc Cert.LatKv.nD Cert.LatKv.τ Cert.LatKv.sig) → Buf (Elt Bits) ℓ) (g : Dev Cert.LatKv.nD → PrngReg), Pre_LatKv m →
    θ_run (Cert.LatKv.defs (F := Bits)) (onTc (τ := Cert.LatKv.τ) (Cert.LatKv.main (F := Bits))) ⟨m, fun _ => 0, g⟩ (fun r => (∀ c : Dev Cert.LatKv.nD,
      r.2.mem ((c.tc : Thread Cert.LatKv.nD Cert.LatKv.τ).loc Cert.LatKv.main_arg0) = m ((c.tc : Thread Cert.LatKv.nD Cert.LatKv.τ).loc Cert.LatKv.main_arg0)
      ∧ r.2.mem ((c.tc : Thread Cert.LatKv.nD Cert.LatKv.τ).loc Cert.LatKv.main_arg1) = m ((c.tc : Thread Cert.LatKv.nD Cert.LatKv.τ).loc Cert.LatKv.main_arg1))
      ∧ r.2.sem = fun _ => 0)

def quiescent_LatKvIdeal [hLatKvIdeal : Cert.LatKvIdeal.Facts] : Prop :=
  ∀ (m : (ℓ : Loc Cert.LatKvIdeal.nD Cert.LatKvIdeal.τ Cert.LatKvIdeal.sig) → Buf (Elt Ideal) ℓ) (g : Dev Cert.LatKvIdeal.nD → PrngReg), Pre_LatKvIdeal m →
    θ_run (Cert.LatKvIdeal.defs (F := Ideal)) (onTc (τ := Cert.LatKvIdeal.τ) (Cert.LatKvIdeal.main (F := Ideal))) ⟨m, fun _ => 0, g⟩ (fun r => (∀ c : Dev Cert.LatKvIdeal.nD,
      r.2.mem ((c.tc : Thread Cert.LatKvIdeal.nD Cert.LatKvIdeal.τ).loc Cert.LatKvIdeal.main_arg0) = m ((c.tc : Thread Cert.LatKvIdeal.nD Cert.LatKvIdeal.τ).loc Cert.LatKvIdeal.main_arg0)
      ∧ r.2.mem ((c.tc : Thread Cert.LatKvIdeal.nD Cert.LatKvIdeal.τ).loc Cert.LatKvIdeal.main_arg1) = m ((c.tc : Thread Cert.LatKvIdeal.nD Cert.LatKvIdeal.τ).loc Cert.LatKvIdeal.main_arg1))
      ∧ r.2.sem = fun _ => 0)

def quiescent_LatKvRefIdeal [hLatKvRefIdeal : Cert.LatKvRefIdeal.Facts] : Prop :=
  ∀ (m : (ℓ : Loc Cert.LatKvRefIdeal.nD Cert.LatKvRefIdeal.τ Cert.LatKvRefIdeal.sig) → Buf (Elt Ideal) ℓ) (g : Dev Cert.LatKvRefIdeal.nD → PrngReg), Pre_LatKvRefIdeal m →
    θ_run (Cert.LatKvRefIdeal.defs (F := Ideal)) (onTc (τ := Cert.LatKvRefIdeal.τ) (Cert.LatKvRefIdeal.main (F := Ideal))) ⟨m, fun _ => 0, g⟩ (fun r => (∀ c : Dev Cert.LatKvRefIdeal.nD,
      r.2.mem ((c.tc : Thread Cert.LatKvRefIdeal.nD Cert.LatKvRefIdeal.τ).loc Cert.LatKvRefIdeal.main_arg0) = m ((c.tc : Thread Cert.LatKvRefIdeal.nD Cert.LatKvRefIdeal.τ).loc Cert.LatKvRefIdeal.main_arg0)
      ∧ r.2.mem ((c.tc : Thread Cert.LatKvRefIdeal.nD Cert.LatKvRefIdeal.τ).loc Cert.LatKvRefIdeal.main_arg1) = m ((c.tc : Thread Cert.LatKvRefIdeal.nD Cert.LatKvRefIdeal.τ).loc Cert.LatKvRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_BigDx_BigDxIdeal : Prop :=
  True

def algebraic_BigDxIdeal_BigDxRefIdeal [hBigDxIdeal : Cert.BigDxIdeal.Facts] [hBigDxRefIdeal : Cert.BigDxRefIdeal.Facts] : Prop :=
  ∀ (m : (ℓ : Loc Cert.BigDxIdeal.nD Cert.BigDxIdeal.τ Cert.BigDxIdeal.sig) → Buf (Elt Ideal) ℓ) (g : Dev Cert.BigDxIdeal.nD → PrngReg)
    (m' : (ℓ : Loc Cert.BigDxRefIdeal.nD Cert.BigDxRefIdeal.τ Cert.BigDxRefIdeal.sig) → Buf (Elt Ideal) ℓ) (g' : Dev Cert.BigDxRefIdeal.nD → PrngReg), Pre_BigDxIdeal m →
    (∀ c : Dev Cert.BigDxIdeal.nD,
      m' ((c.tc : Thread Cert.BigDxRefIdeal.nD Cert.BigDxRefIdeal.τ).loc Cert.BigDxRefIdeal.main_arg0) = m ((c.tc : Thread Cert.BigDxIdeal.nD Cert.BigDxIdeal.τ).loc Cert.BigDxIdeal.main_arg0)
      ∧ m' ((c.tc : Thread Cert.BigDxRefIdeal.nD Cert.BigDxRefIdeal.τ).loc Cert.BigDxRefIdeal.main_arg1) = m ((c.tc : Thread Cert.BigDxIdeal.nD Cert.BigDxIdeal.τ).loc Cert.BigDxIdeal.main_arg1)) →
    ∃ (v0 : (c : Dev Cert.BigDxIdeal.nD) → Buf (Elt Ideal) ((c.tc : Thread Cert.BigDxIdeal.nD Cert.BigDxIdeal.τ).loc Cert.BigDxIdeal.main_v2)),
      θ_run (Cert.BigDxIdeal.defs (F := Ideal)) (onTc (τ := Cert.BigDxIdeal.τ) (Cert.BigDxIdeal.main (F := Ideal))) ⟨m, fun _ => 0, g⟩ (fun r => ∀ c : Dev Cert.BigDxIdeal.nD,
          r.2.mem ((c.tc : Thread Cert.BigDxIdeal.nD Cert.BigDxIdeal.τ).loc Cert.BigDxIdeal.main_v2) = v0 c
          ∧ r.2.mem ((c.tc : Thread Cert.BigDxIdeal.nD Cert.BigDxIdeal.τ).loc Cert.BigDxIdeal.main_arg0) = m ((c.tc : Thread Cert.BigDxIdeal.nD Cert.BigDxIdeal.τ).loc Cert.BigDxIdeal.main_arg0)
          ∧ r.2.mem ((c.tc : Thread Cert.BigDxIdeal.nD Cert.BigDxIdeal.τ).loc Cert.BigDxIdeal.main_arg1) = m ((c.tc : Thread Cert.BigDxIdeal.nD Cert.BigDxIdeal.τ).loc Cert.BigDxIdeal.main_arg1))
      ∧ θ_run (Cert.BigDxRefIdeal.defs (F := Ideal)) (onTc (τ := Cert.BigDxRefIdeal.τ) (Cert.BigDxRefIdeal.main (F := Ideal))) ⟨m', fun _ => 0, g'⟩ (fun r => ∀ c : Dev Cert.BigDxRefIdeal.nD,
          r.2.mem ((c.tc : Thread Cert.BigDxRefIdeal.nD Cert.BigDxRefIdeal.τ).loc Cert.BigDxRefIdeal.main_v2) = v0 c
          ∧ r.2.mem ((c.tc : Thread Cert.BigDxRefIdeal.nD Cert.BigDxRefIdeal.τ).loc Cert.BigDxRefIdeal.main_arg0) = m' ((c.tc : Thread Cert.BigDxRefIdeal.nD Cert.BigDxRefIdeal.τ).loc Cert.BigDxRefIdeal.main_arg0)
          ∧ r.2.mem ((c.tc : Thread Cert.BigDxRefIdeal.nD Cert.BigDxRefIdeal.τ).loc Cert.BigDxRefIdeal.main_arg1) = m' ((c.tc : Thread Cert.BigDxRefIdeal.nD Cert.BigDxRefIdeal.τ).loc Cert.BigDxRefIdeal.main_arg1))

def preserves_BigDw_BigDwIdeal : Prop :=
  True

def algebraic_BigDwIdeal_BigDwRefIdeal [hBigDwIdeal : Cert.BigDwIdeal.Facts] [hBigDwRefIdeal : Cert.BigDwRefIdeal.Facts] : Prop :=
  ∀ (m : (ℓ : Loc Cert.BigDwIdeal.nD Cert.BigDwIdeal.τ Cert.BigDwIdeal.sig) → Buf (Elt Ideal) ℓ) (g : Dev Cert.BigDwIdeal.nD → PrngReg)
    (m' : (ℓ : Loc Cert.BigDwRefIdeal.nD Cert.BigDwRefIdeal.τ Cert.BigDwRefIdeal.sig) → Buf (Elt Ideal) ℓ) (g' : Dev Cert.BigDwRefIdeal.nD → PrngReg), Pre_BigDwIdeal m →
    (∀ c : Dev Cert.BigDwIdeal.nD,
      m' ((c.tc : Thread Cert.BigDwRefIdeal.nD Cert.BigDwRefIdeal.τ).loc Cert.BigDwRefIdeal.main_arg0) = m ((c.tc : Thread Cert.BigDwIdeal.nD Cert.BigDwIdeal.τ).loc Cert.BigDwIdeal.main_arg0)
      ∧ m' ((c.tc : Thread Cert.BigDwRefIdeal.nD Cert.BigDwRefIdeal.τ).loc Cert.BigDwRefIdeal.main_arg1) = m ((c.tc : Thread Cert.BigDwIdeal.nD Cert.BigDwIdeal.τ).loc Cert.BigDwIdeal.main_arg1)) →
    ∃ (v0 : (c : Dev Cert.BigDwIdeal.nD) → Buf (Elt Ideal) ((c.tc : Thread Cert.BigDwIdeal.nD Cert.BigDwIdeal.τ).loc Cert.BigDwIdeal.main_v2)),
      θ_run (Cert.BigDwIdeal.defs (F := Ideal)) (onTc (τ := Cert.BigDwIdeal.τ) (Cert.BigDwIdeal.main (F := Ideal))) ⟨m, fun _ => 0, g⟩ (fun r => ∀ c : Dev Cert.BigDwIdeal.nD,
          r.2.mem ((c.tc : Thread Cert.BigDwIdeal.nD Cert.BigDwIdeal.τ).loc Cert.BigDwIdeal.main_v2) = v0 c
          ∧ r.2.mem ((c.tc : Thread Cert.BigDwIdeal.nD Cert.BigDwIdeal.τ).loc Cert.BigDwIdeal.main_arg0) = m ((c.tc : Thread Cert.BigDwIdeal.nD Cert.BigDwIdeal.τ).loc Cert.BigDwIdeal.main_arg0)
          ∧ r.2.mem ((c.tc : Thread Cert.BigDwIdeal.nD Cert.BigDwIdeal.τ).loc Cert.BigDwIdeal.main_arg1) = m ((c.tc : Thread Cert.BigDwIdeal.nD Cert.BigDwIdeal.τ).loc Cert.BigDwIdeal.main_arg1))
      ∧ θ_run (Cert.BigDwRefIdeal.defs (F := Ideal)) (onTc (τ := Cert.BigDwRefIdeal.τ) (Cert.BigDwRefIdeal.main (F := Ideal))) ⟨m', fun _ => 0, g'⟩ (fun r => ∀ c : Dev Cert.BigDwRefIdeal.nD,
          r.2.mem ((c.tc : Thread Cert.BigDwRefIdeal.nD Cert.BigDwRefIdeal.τ).loc Cert.BigDwRefIdeal.main_v4) = v0 c
          ∧ r.2.mem ((c.tc : Thread Cert.BigDwRefIdeal.nD Cert.BigDwRefIdeal.τ).loc Cert.BigDwRefIdeal.main_arg0) = m' ((c.tc : Thread Cert.BigDwRefIdeal.nD Cert.BigDwRefIdeal.τ).loc Cert.BigDwRefIdeal.main_arg0)
          ∧ r.2.mem ((c.tc : Thread Cert.BigDwRefIdeal.nD Cert.BigDwRefIdeal.τ).loc Cert.BigDwRefIdeal.main_arg1) = m' ((c.tc : Thread Cert.BigDwRefIdeal.nD Cert.BigDwRefIdeal.τ).loc Cert.BigDwRefIdeal.main_arg1))

def preserves_SqDx_SqDxIdeal : Prop :=
  True

def algebraic_SqDxIdeal_SqDxRefIdeal [hSqDxIdeal : Cert.SqDxIdeal.Facts] [hSqDxRefIdeal : Cert.SqDxRefIdeal.Facts] : Prop :=
  ∀ (m : (ℓ : Loc Cert.SqDxIdeal.nD Cert.SqDxIdeal.τ Cert.SqDxIdeal.sig) → Buf (Elt Ideal) ℓ) (g : Dev Cert.SqDxIdeal.nD → PrngReg)
    (m' : (ℓ : Loc Cert.SqDxRefIdeal.nD Cert.SqDxRefIdeal.τ Cert.SqDxRefIdeal.sig) → Buf (Elt Ideal) ℓ) (g' : Dev Cert.SqDxRefIdeal.nD → PrngReg), Pre_SqDxIdeal m →
    (∀ c : Dev Cert.SqDxIdeal.nD,
      m' ((c.tc : Thread Cert.SqDxRefIdeal.nD Cert.SqDxRefIdeal.τ).loc Cert.SqDxRefIdeal.main_arg0) = m ((c.tc : Thread Cert.SqDxIdeal.nD Cert.SqDxIdeal.τ).loc Cert.SqDxIdeal.main_arg0)
      ∧ m' ((c.tc : Thread Cert.SqDxRefIdeal.nD Cert.SqDxRefIdeal.τ).loc Cert.SqDxRefIdeal.main_arg1) = m ((c.tc : Thread Cert.SqDxIdeal.nD Cert.SqDxIdeal.τ).loc Cert.SqDxIdeal.main_arg1)) →
    ∃ (v0 : (c : Dev Cert.SqDxIdeal.nD) → Buf (Elt Ideal) ((c.tc : Thread Cert.SqDxIdeal.nD Cert.SqDxIdeal.τ).loc Cert.SqDxIdeal.main_v2)),
      θ_run (Cert.SqDxIdeal.defs (F := Ideal)) (onTc (τ := Cert.SqDxIdeal.τ) (Cert.SqDxIdeal.main (F := Ideal))) ⟨m, fun _ => 0, g⟩ (fun r => ∀ c : Dev Cert.SqDxIdeal.nD,
          r.2.mem ((c.tc : Thread Cert.SqDxIdeal.nD Cert.SqDxIdeal.τ).loc Cert.SqDxIdeal.main_v2) = v0 c
          ∧ r.2.mem ((c.tc : Thread Cert.SqDxIdeal.nD Cert.SqDxIdeal.τ).loc Cert.SqDxIdeal.main_arg0) = m ((c.tc : Thread Cert.SqDxIdeal.nD Cert.SqDxIdeal.τ).loc Cert.SqDxIdeal.main_arg0)
          ∧ r.2.mem ((c.tc : Thread Cert.SqDxIdeal.nD Cert.SqDxIdeal.τ).loc Cert.SqDxIdeal.main_arg1) = m ((c.tc : Thread Cert.SqDxIdeal.nD Cert.SqDxIdeal.τ).loc Cert.SqDxIdeal.main_arg1))
      ∧ θ_run (Cert.SqDxRefIdeal.defs (F := Ideal)) (onTc (τ := Cert.SqDxRefIdeal.τ) (Cert.SqDxRefIdeal.main (F := Ideal))) ⟨m', fun _ => 0, g'⟩ (fun r => ∀ c : Dev Cert.SqDxRefIdeal.nD,
          r.2.mem ((c.tc : Thread Cert.SqDxRefIdeal.nD Cert.SqDxRefIdeal.τ).loc Cert.SqDxRefIdeal.main_v2) = v0 c
          ∧ r.2.mem ((c.tc : Thread Cert.SqDxRefIdeal.nD Cert.SqDxRefIdeal.τ).loc Cert.SqDxRefIdeal.main_arg0) = m' ((c.tc : Thread Cert.SqDxRefIdeal.nD Cert.SqDxRefIdeal.τ).loc Cert.SqDxRefIdeal.main_arg0)
          ∧ r.2.mem ((c.tc : Thread Cert.SqDxRefIdeal.nD Cert.SqDxRefIdeal.τ).loc Cert.SqDxRefIdeal.main_arg1) = m' ((c.tc : Thread Cert.SqDxRefIdeal.nD Cert.SqDxRefIdeal.τ).loc Cert.SqDxRefIdeal.main_arg1))

def preserves_SqDw_SqDwIdeal : Prop :=
  True

def algebraic_SqDwIdeal_SqDwRefIdeal [hSqDwIdeal : Cert.SqDwIdeal.Facts] [hSqDwRefIdeal : Cert.SqDwRefIdeal.Facts] : Prop :=
  ∀ (m : (ℓ : Loc Cert.SqDwIdeal.nD Cert.SqDwIdeal.τ Cert.SqDwIdeal.sig) → Buf (Elt Ideal) ℓ) (g : Dev Cert.SqDwIdeal.nD → PrngReg)
    (m' : (ℓ : Loc Cert.SqDwRefIdeal.nD Cert.SqDwRefIdeal.τ Cert.SqDwRefIdeal.sig) → Buf (Elt Ideal) ℓ) (g' : Dev Cert.SqDwRefIdeal.nD → PrngReg), Pre_SqDwIdeal m →
    (∀ c : Dev Cert.SqDwIdeal.nD,
      m' ((c.tc : Thread Cert.SqDwRefIdeal.nD Cert.SqDwRefIdeal.τ).loc Cert.SqDwRefIdeal.main_arg0) = m ((c.tc : Thread Cert.SqDwIdeal.nD Cert.SqDwIdeal.τ).loc Cert.SqDwIdeal.main_arg0)
      ∧ m' ((c.tc : Thread Cert.SqDwRefIdeal.nD Cert.SqDwRefIdeal.τ).loc Cert.SqDwRefIdeal.main_arg1) = m ((c.tc : Thread Cert.SqDwIdeal.nD Cert.SqDwIdeal.τ).loc Cert.SqDwIdeal.main_arg1)) →
    ∃ (v0 : (c : Dev Cert.SqDwIdeal.nD) → Buf (Elt Ideal) ((c.tc : Thread Cert.SqDwIdeal.nD Cert.SqDwIdeal.τ).loc Cert.SqDwIdeal.main_v2)),
      θ_run (Cert.SqDwIdeal.defs (F := Ideal)) (onTc (τ := Cert.SqDwIdeal.τ) (Cert.SqDwIdeal.main (F := Ideal))) ⟨m, fun _ => 0, g⟩ (fun r => ∀ c : Dev Cert.SqDwIdeal.nD,
          r.2.mem ((c.tc : Thread Cert.SqDwIdeal.nD Cert.SqDwIdeal.τ).loc Cert.SqDwIdeal.main_v2) = v0 c
          ∧ r.2.mem ((c.tc : Thread Cert.SqDwIdeal.nD Cert.SqDwIdeal.τ).loc Cert.SqDwIdeal.main_arg0) = m ((c.tc : Thread Cert.SqDwIdeal.nD Cert.SqDwIdeal.τ).loc Cert.SqDwIdeal.main_arg0)
          ∧ r.2.mem ((c.tc : Thread Cert.SqDwIdeal.nD Cert.SqDwIdeal.τ).loc Cert.SqDwIdeal.main_arg1) = m ((c.tc : Thread Cert.SqDwIdeal.nD Cert.SqDwIdeal.τ).loc Cert.SqDwIdeal.main_arg1))
      ∧ θ_run (Cert.SqDwRefIdeal.defs (F := Ideal)) (onTc (τ := Cert.SqDwRefIdeal.τ) (Cert.SqDwRefIdeal.main (F := Ideal))) ⟨m', fun _ => 0, g'⟩ (fun r => ∀ c : Dev Cert.SqDwRefIdeal.nD,
          r.2.mem ((c.tc : Thread Cert.SqDwRefIdeal.nD Cert.SqDwRefIdeal.τ).loc Cert.SqDwRefIdeal.main_v4) = v0 c
          ∧ r.2.mem ((c.tc : Thread Cert.SqDwRefIdeal.nD Cert.SqDwRefIdeal.τ).loc Cert.SqDwRefIdeal.main_arg0) = m' ((c.tc : Thread Cert.SqDwRefIdeal.nD Cert.SqDwRefIdeal.τ).loc Cert.SqDwRefIdeal.main_arg0)
          ∧ r.2.mem ((c.tc : Thread Cert.SqDwRefIdeal.nD Cert.SqDwRefIdeal.τ).loc Cert.SqDwRefIdeal.main_arg1) = m' ((c.tc : Thread Cert.SqDwRefIdeal.nD Cert.SqDwRefIdeal.τ).loc Cert.SqDwRefIdeal.main_arg1))

def preserves_Big_BigIdeal : Prop :=
  True

def algebraic_BigIdeal_BigRefIdeal [hBigIdeal : Cert.BigIdeal.Facts] [hBigRefIdeal : Cert.BigRefIdeal.Facts] : Prop :=
  ∀ (m : (ℓ : Loc Cert.BigIdeal.nD Cert.BigIdeal.τ Cert.BigIdeal.sig) → Buf (Elt Ideal) ℓ) (g : Dev Cert.BigIdeal.nD → PrngReg)
    (m' : (ℓ : Loc Cert.BigRefIdeal.nD Cert.BigRefIdeal.τ Cert.BigRefIdeal.sig) → Buf (Elt Ideal) ℓ) (g' : Dev Cert.BigRefIdeal.nD → PrngReg), Pre_BigIdeal m →
    (∀ c : Dev Cert.BigIdeal.nD,
      m' ((c.tc : Thread Cert.BigRefIdeal.nD Cert.BigRefIdeal.τ).loc Cert.BigRefIdeal.main_arg0) = m ((c.tc : Thread Cert.BigIdeal.nD Cert.BigIdeal.τ).loc Cert.BigIdeal.main_arg0)
      ∧ m' ((c.tc : Thread Cert.BigRefIdeal.nD Cert.BigRefIdeal.τ).loc Cert.BigRefIdeal.main_arg1) = m ((c.tc : Thread Cert.BigIdeal.nD Cert.BigIdeal.τ).loc Cert.BigIdeal.main_arg1)) →
    ∃ (v0 : (c : Dev Cert.BigIdeal.nD) → Buf (Elt Ideal) ((c.tc : Thread Cert.BigIdeal.nD Cert.BigIdeal.τ).loc Cert.BigIdeal.main_v2)),
      θ_run (Cert.BigIdeal.defs (F := Ideal)) (onTc (τ := Cert.BigIdeal.τ) (Cert.BigIdeal.main (F := Ideal))) ⟨m, fun _ => 0, g⟩ (fun r => ∀ c : Dev Cert.BigIdeal.nD,
          r.2.mem ((c.tc : Thread Cert.BigIdeal.nD Cert.BigIdeal.τ).loc Cert.BigIdeal.main_v2) = v0 c
          ∧ r.2.mem ((c.tc : Thread Cert.BigIdeal.nD Cert.BigIdeal.τ).loc Cert.BigIdeal.main_arg0) = m ((c.tc : Thread Cert.BigIdeal.nD Cert.BigIdeal.τ).loc Cert.BigIdeal.main_arg0)
          ∧ r.2.mem ((c.tc : Thread Cert.BigIdeal.nD Cert.BigIdeal.τ).loc Cert.BigIdeal.main_arg1) = m ((c.tc : Thread Cert.BigIdeal.nD Cert.BigIdeal.τ).loc Cert.BigIdeal.main_arg1))
      ∧ θ_run (Cert.BigRefIdeal.defs (F := Ideal)) (onTc (τ := Cert.BigRefIdeal.τ) (Cert.BigRefIdeal.main (F := Ideal))) ⟨m', fun _ => 0, g'⟩ (fun r => ∀ c : Dev Cert.BigRefIdeal.nD,
          r.2.mem ((c.tc : Thread Cert.BigRefIdeal.nD Cert.BigRefIdeal.τ).loc Cert.BigRefIdeal.main_v0) = v0 c
          ∧ r.2.mem ((c.tc : Thread Cert.BigRefIdeal.nD Cert.BigRefIdeal.τ).loc Cert.BigRefIdeal.main_arg0) = m' ((c.tc : Thread Cert.BigRefIdeal.nD Cert.BigRefIdeal.τ).loc Cert.BigRefIdeal.main_arg0)
          ∧ r.2.mem ((c.tc : Thread Cert.BigRefIdeal.nD Cert.BigRefIdeal.τ).loc Cert.BigRefIdeal.main_arg1) = m' ((c.tc : Thread Cert.BigRefIdeal.nD Cert.BigRefIdeal.τ).loc Cert.BigRefIdeal.main_arg1))

def preserves_Sq_SqIdeal : Prop :=
  True

def algebraic_SqIdeal_SqRefIdeal [hSqIdeal : Cert.SqIdeal.Facts] [hSqRefIdeal : Cert.SqRefIdeal.Facts] : Prop :=
  ∀ (m : (ℓ : Loc Cert.SqIdeal.nD Cert.SqIdeal.τ Cert.SqIdeal.sig) → Buf (Elt Ideal) ℓ) (g : Dev Cert.SqIdeal.nD → PrngReg)
    (m' : (ℓ : Loc Cert.SqRefIdeal.nD Cert.SqRefIdeal.τ Cert.SqRefIdeal.sig) → Buf (Elt Ideal) ℓ) (g' : Dev Cert.SqRefIdeal.nD → PrngReg), Pre_SqIdeal m →
    (∀ c : Dev Cert.SqIdeal.nD,
      m' ((c.tc : Thread Cert.SqRefIdeal.nD Cert.SqRefIdeal.τ).loc Cert.SqRefIdeal.main_arg0) = m ((c.tc : Thread Cert.SqIdeal.nD Cert.SqIdeal.τ).loc Cert.SqIdeal.main_arg0)
      ∧ m' ((c.tc : Thread Cert.SqRefIdeal.nD Cert.SqRefIdeal.τ).loc Cert.SqRefIdeal.main_arg1) = m ((c.tc : Thread Cert.SqIdeal.nD Cert.SqIdeal.τ).loc Cert.SqIdeal.main_arg1)) →
    ∃ (v0 : (c : Dev Cert.SqIdeal.nD) → Buf (Elt Ideal) ((c.tc : Thread Cert.SqIdeal.nD Cert.SqIdeal.τ).loc Cert.SqIdeal.main_v2)),
      θ_run (Cert.SqIdeal.defs (F := Ideal)) (onTc (τ := Cert.SqIdeal.τ) (Cert.SqIdeal.main (F := Ideal))) ⟨m, fun _ => 0, g⟩ (fun r => ∀ c : Dev Cert.SqIdeal.nD,
          r.2.mem ((c.tc : Thread Cert.SqIdeal.nD Cert.SqIdeal.τ).loc Cert.SqIdeal.main_v2) = v0 c
          ∧ r.2.mem ((c.tc : Thread Cert.SqIdeal.nD Cert.SqIdeal.τ).loc Cert.SqIdeal.main_arg0) = m ((c.tc : Thread Cert.SqIdeal.nD Cert.SqIdeal.τ).loc Cert.SqIdeal.main_arg0)
          ∧ r.2.mem ((c.tc : Thread Cert.SqIdeal.nD Cert.SqIdeal.τ).loc Cert.SqIdeal.main_arg1) = m ((c.tc : Thread Cert.SqIdeal.nD Cert.SqIdeal.τ).loc Cert.SqIdeal.main_arg1))
      ∧ θ_run (Cert.SqRefIdeal.defs (F := Ideal)) (onTc (τ := Cert.SqRefIdeal.τ) (Cert.SqRefIdeal.main (F := Ideal))) ⟨m', fun _ => 0, g'⟩ (fun r => ∀ c : Dev Cert.SqRefIdeal.nD,
          r.2.mem ((c.tc : Thread Cert.SqRefIdeal.nD Cert.SqRefIdeal.τ).loc Cert.SqRefIdeal.main_v0) = v0 c
          ∧ r.2.mem ((c.tc : Thread Cert.SqRefIdeal.nD Cert.SqRefIdeal.τ).loc Cert.SqRefIdeal.main_arg0) = m' ((c.tc : Thread Cert.SqRefIdeal.nD Cert.SqRefIdeal.τ).loc Cert.SqRefIdeal.main_arg0)
          ∧ r.2.mem ((c.tc : Thread Cert.SqRefIdeal.nD Cert.SqRefIdeal.τ).loc Cert.SqRefIdeal.main_arg1) = m' ((c.tc : Thread Cert.SqRefIdeal.nD Cert.SqRefIdeal.τ).loc Cert.SqRefIdeal.main_arg1))

def preserves_LatDx_LatDxIdeal : Prop :=
  True

def algebraic_LatDxIdeal_LatDxRefIdeal [hLatDxIdeal : Cert.LatDxIdeal.Facts] [hLatDxRefIdeal : Cert.LatDxRefIdeal.Facts] : Prop :=
  ∀ (m : (ℓ : Loc Cert.LatDxIdeal.nD Cert.LatDxIdeal.τ Cert.LatDxIdeal.sig) → Buf (Elt Ideal) ℓ) (g : Dev Cert.LatDxIdeal.nD → PrngReg)
    (m' : (ℓ : Loc Cert.LatDxRefIdeal.nD Cert.LatDxRefIdeal.τ Cert.LatDxRefIdeal.sig) → Buf (Elt Ideal) ℓ) (g' : Dev Cert.LatDxRefIdeal.nD → PrngReg), Pre_LatDxIdeal m →
    (∀ c : Dev Cert.LatDxIdeal.nD,
      m' ((c.tc : Thread Cert.LatDxRefIdeal.nD Cert.LatDxRefIdeal.τ).loc Cert.LatDxRefIdeal.main_arg0) = m ((c.tc : Thread Cert.LatDxIdeal.nD Cert.LatDxIdeal.τ).loc Cert.LatDxIdeal.main_arg0)
      ∧ m' ((c.tc : Thread Cert.LatDxRefIdeal.nD Cert.LatDxRefIdeal.τ).loc Cert.LatDxRefIdeal.main_arg1) = m ((c.tc : Thread Cert.LatDxIdeal.nD Cert.LatDxIdeal.τ).loc Cert.LatDxIdeal.main_arg1)) →
    ∃ (v0 : (c : Dev Cert.LatDxIdeal.nD) → Buf (Elt Ideal) ((c.tc : Thread Cert.LatDxIdeal.nD Cert.LatDxIdeal.τ).loc Cert.LatDxIdeal.main_v2)),
      θ_run (Cert.LatDxIdeal.defs (F := Ideal)) (onTc (τ := Cert.LatDxIdeal.τ) (Cert.LatDxIdeal.main (F := Ideal))) ⟨m, fun _ => 0, g⟩ (fun r => ∀ c : Dev Cert.LatDxIdeal.nD,
          r.2.mem ((c.tc : Thread Cert.LatDxIdeal.nD Cert.LatDxIdeal.τ).loc Cert.LatDxIdeal.main_v2) = v0 c
          ∧ r.2.mem ((c.tc : Thread Cert.LatDxIdeal.nD Cert.LatDxIdeal.τ).loc Cert.LatDxIdeal.main_arg0) = m ((c.tc : Thread Cert.LatDxIdeal.nD Cert.LatDxIdeal.τ).loc Cert.LatDxIdeal.main_arg0)
          ∧ r.2.mem ((c.tc : Thread Cert.LatDxIdeal.nD Cert.LatDxIdeal.τ).loc Cert.LatDxIdeal.main_arg1) = m ((c.tc : Thread Cert.LatDxIdeal.nD Cert.LatDxIdeal.τ).loc Cert.LatDxIdeal.main_arg1))
      ∧ θ_run (Cert.LatDxRefIdeal.defs (F := Ideal)) (onTc (τ := Cert.LatDxRefIdeal.τ) (Cert.LatDxRefIdeal.main (F := Ideal))) ⟨m', fun _ => 0, g'⟩ (fun r => ∀ c : Dev Cert.LatDxRefIdeal.nD,
          r.2.mem ((c.tc : Thread Cert.LatDxRefIdeal.nD Cert.LatDxRefIdeal.τ).loc Cert.LatDxRefIdeal.main_v2) = v0 c
          ∧ r.2.mem ((c.tc : Thread Cert.LatDxRefIdeal.nD Cert.LatDxRefIdeal.τ).loc Cert.LatDxRefIdeal.main_arg0) = m' ((c.tc : Thread Cert.LatDxRefIdeal.nD Cert.LatDxRefIdeal.τ).loc Cert.LatDxRefIdeal.main_arg0)
          ∧ r.2.mem ((c.tc : Thread Cert.LatDxRefIdeal.nD Cert.LatDxRefIdeal.τ).loc Cert.LatDxRefIdeal.main_arg1) = m' ((c.tc : Thread Cert.LatDxRefIdeal.nD Cert.LatDxRefIdeal.τ).loc Cert.LatDxRefIdeal.main_arg1))

def preserves_LatDw_LatDwIdeal : Prop :=
  True

def algebraic_LatDwIdeal_LatDwRefIdeal [hLatDwIdeal : Cert.LatDwIdeal.Facts] [hLatDwRefIdeal : Cert.LatDwRefIdeal.Facts] : Prop :=
  ∀ (m : (ℓ : Loc Cert.LatDwIdeal.nD Cert.LatDwIdeal.τ Cert.LatDwIdeal.sig) → Buf (Elt Ideal) ℓ) (g : Dev Cert.LatDwIdeal.nD → PrngReg)
    (m' : (ℓ : Loc Cert.LatDwRefIdeal.nD Cert.LatDwRefIdeal.τ Cert.LatDwRefIdeal.sig) → Buf (Elt Ideal) ℓ) (g' : Dev Cert.LatDwRefIdeal.nD → PrngReg), Pre_LatDwIdeal m →
    (∀ c : Dev Cert.LatDwIdeal.nD,
      m' ((c.tc : Thread Cert.LatDwRefIdeal.nD Cert.LatDwRefIdeal.τ).loc Cert.LatDwRefIdeal.main_arg0) = m ((c.tc : Thread Cert.LatDwIdeal.nD Cert.LatDwIdeal.τ).loc Cert.LatDwIdeal.main_arg0)
      ∧ m' ((c.tc : Thread Cert.LatDwRefIdeal.nD Cert.LatDwRefIdeal.τ).loc Cert.LatDwRefIdeal.main_arg1) = m ((c.tc : Thread Cert.LatDwIdeal.nD Cert.LatDwIdeal.τ).loc Cert.LatDwIdeal.main_arg1)) →
    ∃ (v0 : (c : Dev Cert.LatDwIdeal.nD) → Buf (Elt Ideal) ((c.tc : Thread Cert.LatDwIdeal.nD Cert.LatDwIdeal.τ).loc Cert.LatDwIdeal.main_v2)),
      θ_run (Cert.LatDwIdeal.defs (F := Ideal)) (onTc (τ := Cert.LatDwIdeal.τ) (Cert.LatDwIdeal.main (F := Ideal))) ⟨m, fun _ => 0, g⟩ (fun r => ∀ c : Dev Cert.LatDwIdeal.nD,
          r.2.mem ((c.tc : Thread Cert.LatDwIdeal.nD Cert.LatDwIdeal.τ).loc Cert.LatDwIdeal.main_v2) = v0 c
          ∧ r.2.mem ((c.tc : Thread Cert.LatDwIdeal.nD Cert.LatDwIdeal.τ).loc Cert.LatDwIdeal.main_arg0) = m ((c.tc : Thread Cert.LatDwIdeal.nD Cert.LatDwIdeal.τ).loc Cert.LatDwIdeal.main_arg0)
          ∧ r.2.mem ((c.tc : Thread Cert.LatDwIdeal.nD Cert.LatDwIdeal.τ).loc Cert.LatDwIdeal.main_arg1) = m ((c.tc : Thread Cert.LatDwIdeal.nD Cert.LatDwIdeal.τ).loc Cert.LatDwIdeal.main_arg1))
      ∧ θ_run (Cert.LatDwRefIdeal.defs (F := Ideal)) (onTc (τ := Cert.LatDwRefIdeal.τ) (Cert.LatDwRefIdeal.main (F := Ideal))) ⟨m', fun _ => 0, g'⟩ (fun r => ∀ c : Dev Cert.LatDwRefIdeal.nD,
          r.2.mem ((c.tc : Thread Cert.LatDwRefIdeal.nD Cert.LatDwRefIdeal.τ).loc Cert.LatDwRefIdeal.main_v4) = v0 c
          ∧ r.2.mem ((c.tc : Thread Cert.LatDwRefIdeal.nD Cert.LatDwRefIdeal.τ).loc Cert.LatDwRefIdeal.main_arg0) = m' ((c.tc : Thread Cert.LatDwRefIdeal.nD Cert.LatDwRefIdeal.τ).loc Cert.LatDwRefIdeal.main_arg0)
          ∧ r.2.mem ((c.tc : Thread Cert.LatDwRefIdeal.nD Cert.LatDwRefIdeal.τ).loc Cert.LatDwRefIdeal.main_arg1) = m' ((c.tc : Thread Cert.LatDwRefIdeal.nD Cert.LatDwRefIdeal.τ).loc Cert.LatDwRefIdeal.main_arg1))

def preserves_SmallDx_SmallDxIdeal : Prop :=
  True

def algebraic_SmallDxIdeal_SmallDxRefIdeal [hSmallDxIdeal : Cert.SmallDxIdeal.Facts] [hSmallDxRefIdeal : Cert.SmallDxRefIdeal.Facts] : Prop :=
  ∀ (m : (ℓ : Loc Cert.SmallDxIdeal.nD Cert.SmallDxIdeal.τ Cert.SmallDxIdeal.sig) → Buf (Elt Ideal) ℓ) (g : Dev Cert.SmallDxIdeal.nD → PrngReg)
    (m' : (ℓ : Loc Cert.SmallDxRefIdeal.nD Cert.SmallDxRefIdeal.τ Cert.SmallDxRefIdeal.sig) → Buf (Elt Ideal) ℓ) (g' : Dev Cert.SmallDxRefIdeal.nD → PrngReg), Pre_SmallDxIdeal m →
    (∀ c : Dev Cert.SmallDxIdeal.nD,
      m' ((c.tc : Thread Cert.SmallDxRefIdeal.nD Cert.SmallDxRefIdeal.τ).loc Cert.SmallDxRefIdeal.main_arg0) = m ((c.tc : Thread Cert.SmallDxIdeal.nD Cert.SmallDxIdeal.τ).loc Cert.SmallDxIdeal.main_arg0)
      ∧ m' ((c.tc : Thread Cert.SmallDxRefIdeal.nD Cert.SmallDxRefIdeal.τ).loc Cert.SmallDxRefIdeal.main_arg1) = m ((c.tc : Thread Cert.SmallDxIdeal.nD Cert.SmallDxIdeal.τ).loc Cert.SmallDxIdeal.main_arg1)
      ∧ m' ((c.tc : Thread Cert.SmallDxRefIdeal.nD Cert.SmallDxRefIdeal.τ).loc Cert.SmallDxRefIdeal.main_arg2) = m ((c.tc : Thread Cert.SmallDxIdeal.nD Cert.SmallDxIdeal.τ).loc Cert.SmallDxIdeal.main_arg2)) →
    ∃ (v0 : (c : Dev Cert.SmallDxIdeal.nD) → Buf (Elt Ideal) ((c.tc : Thread Cert.SmallDxIdeal.nD Cert.SmallDxIdeal.τ).loc Cert.SmallDxIdeal.main_v2)),
      θ_run (Cert.SmallDxIdeal.defs (F := Ideal)) (onTc (τ := Cert.SmallDxIdeal.τ) (Cert.SmallDxIdeal.main (F := Ideal))) ⟨m, fun _ => 0, g⟩ (fun r => ∀ c : Dev Cert.SmallDxIdeal.nD,
          r.2.mem ((c.tc : Thread Cert.SmallDxIdeal.nD Cert.SmallDxIdeal.τ).loc Cert.SmallDxIdeal.main_v2) = v0 c
          ∧ r.2.mem ((c.tc : Thread Cert.SmallDxIdeal.nD Cert.SmallDxIdeal.τ).loc Cert.SmallDxIdeal.main_arg0) = m ((c.tc : Thread Cert.SmallDxIdeal.nD Cert.SmallDxIdeal.τ).loc Cert.SmallDxIdeal.main_arg0)
          ∧ r.2.mem ((c.tc : Thread Cert.SmallDxIdeal.nD Cert.SmallDxIdeal.τ).loc Cert.SmallDxIdeal.main_arg1) = m ((c.tc : Thread Cert.SmallDxIdeal.nD Cert.SmallDxIdeal.τ).loc Cert.SmallDxIdeal.main_arg1)
          ∧ r.2.mem ((c.tc : Thread Cert.SmallDxIdeal.nD Cert.SmallDxIdeal.τ).loc Cert.SmallDxIdeal.main_arg2) = m ((c.tc : Thread Cert.SmallDxIdeal.nD Cert.SmallDxIdeal.τ).loc Cert.SmallDxIdeal.main_arg2))
      ∧ θ_run (Cert.SmallDxRefIdeal.defs (F := Ideal)) (onTc (τ := Cert.SmallDxRefIdeal.τ) (Cert.SmallDxRefIdeal.main (F := Ideal))) ⟨m', fun _ => 0, g'⟩ (fun r => ∀ c : Dev Cert.SmallDxRefIdeal.nD,
          r.2.mem ((c.tc : Thread Cert.SmallDxRefIdeal.nD Cert.SmallDxRefIdeal.τ).loc Cert.SmallDxRefIdeal.main_v3) = v0 c
          ∧ r.2.mem ((c.tc : Thread Cert.SmallDxRefIdeal.nD Cert.SmallDxRefIdeal.τ).loc Cert.SmallDxRefIdeal.main_arg0) = m' ((c.tc : Thread Cert.SmallDxRefIdeal.nD Cert.SmallDxRefIdeal.τ).loc Cert.SmallDxRefIdeal.main_arg0)
          ∧ r.2.mem ((c.tc : Thread Cert.SmallDxRefIdeal.nD Cert.SmallDxRefIdeal.τ).loc Cert.SmallDxRefIdeal.main_arg1) = m' ((c.tc : Thread Cert.SmallDxRefIdeal.nD Cert.SmallDxRefIdeal.τ).loc Cert.SmallDxRefIdeal.main_arg1)
          ∧ r.2.mem ((c.tc : Thread Cert.SmallDxRefIdeal.nD Cert.SmallDxRefIdeal.τ).loc Cert.SmallDxRefIdeal.main_arg2) = m' ((c.tc : Thread Cert.SmallDxRefIdeal.nD Cert.SmallDxRefIdeal.τ).loc Cert.SmallDxRefIdeal.main_arg2))

def preserves_SmallDw_SmallDwIdeal : Prop :=
  True

def algebraic_SmallDwIdeal_SmallDwRefIdeal [hSmallDwIdeal : Cert.SmallDwIdeal.Facts] [hSmallDwRefIdeal : Cert.SmallDwRefIdeal.Facts] : Prop :=
  ∀ (m : (ℓ : Loc Cert.SmallDwIdeal.nD Cert.SmallDwIdeal.τ Cert.SmallDwIdeal.sig) → Buf (Elt Ideal) ℓ) (g : Dev Cert.SmallDwIdeal.nD → PrngReg)
    (m' : (ℓ : Loc Cert.SmallDwRefIdeal.nD Cert.SmallDwRefIdeal.τ Cert.SmallDwRefIdeal.sig) → Buf (Elt Ideal) ℓ) (g' : Dev Cert.SmallDwRefIdeal.nD → PrngReg), Pre_SmallDwIdeal m →
    (∀ c : Dev Cert.SmallDwIdeal.nD,
      m' ((c.tc : Thread Cert.SmallDwRefIdeal.nD Cert.SmallDwRefIdeal.τ).loc Cert.SmallDwRefIdeal.main_arg0) = m ((c.tc : Thread Cert.SmallDwIdeal.nD Cert.SmallDwIdeal.τ).loc Cert.SmallDwIdeal.main_arg0)
      ∧ m' ((c.tc : Thread Cert.SmallDwRefIdeal.nD Cert.SmallDwRefIdeal.τ).loc Cert.SmallDwRefIdeal.main_arg1) = m ((c.tc : Thread Cert.SmallDwIdeal.nD Cert.SmallDwIdeal.τ).loc Cert.SmallDwIdeal.main_arg1)) →
    ∃ (v0 : (c : Dev Cert.SmallDwIdeal.nD) → Buf (Elt Ideal) ((c.tc : Thread Cert.SmallDwIdeal.nD Cert.SmallDwIdeal.τ).loc Cert.SmallDwIdeal.main_v2)),
      θ_run (Cert.SmallDwIdeal.defs (F := Ideal)) (onTc (τ := Cert.SmallDwIdeal.τ) (Cert.SmallDwIdeal.main (F := Ideal))) ⟨m, fun _ => 0, g⟩ (fun r => ∀ c : Dev Cert.SmallDwIdeal.nD,
          r.2.mem ((c.tc : Thread Cert.SmallDwIdeal.nD Cert.SmallDwIdeal.τ).loc Cert.SmallDwIdeal.main_v2) = v0 c
          ∧ r.2.mem ((c.tc : Thread Cert.SmallDwIdeal.nD Cert.SmallDwIdeal.τ).loc Cert.SmallDwIdeal.main_arg0) = m ((c.tc : Thread Cert.SmallDwIdeal.nD Cert.SmallDwIdeal.τ).loc Cert.SmallDwIdeal.main_arg0)
          ∧ r.2.mem ((c.tc : Thread Cert.SmallDwIdeal.nD Cert.SmallDwIdeal.τ).loc Cert.SmallDwIdeal.main_arg1) = m ((c.tc : Thread Cert.SmallDwIdeal.nD Cert.SmallDwIdeal.τ).loc Cert.SmallDwIdeal.main_arg1))
      ∧ θ_run (Cert.SmallDwRefIdeal.defs (F := Ideal)) (onTc (τ := Cert.SmallDwRefIdeal.τ) (Cert.SmallDwRefIdeal.main (F := Ideal))) ⟨m', fun _ => 0, g'⟩ (fun r => ∀ c : Dev Cert.SmallDwRefIdeal.nD,
          r.2.mem ((c.tc : Thread Cert.SmallDwRefIdeal.nD Cert.SmallDwRefIdeal.τ).loc Cert.SmallDwRefIdeal.main_v4) = v0 c
          ∧ r.2.mem ((c.tc : Thread Cert.SmallDwRefIdeal.nD Cert.SmallDwRefIdeal.τ).loc Cert.SmallDwRefIdeal.main_arg0) = m' ((c.tc : Thread Cert.SmallDwRefIdeal.nD Cert.SmallDwRefIdeal.τ).loc Cert.SmallDwRefIdeal.main_arg0)
          ∧ r.2.mem ((c.tc : Thread Cert.SmallDwRefIdeal.nD Cert.SmallDwRefIdeal.τ).loc Cert.SmallDwRefIdeal.main_arg1) = m' ((c.tc : Thread Cert.SmallDwRefIdeal.nD Cert.SmallDwRefIdeal.τ).loc Cert.SmallDwRefIdeal.main_arg1))

def preserves_PleDw_PleDwIdeal : Prop :=
  True

def algebraic_PleDwIdeal_PleDwRefIdeal [hPleDwIdeal : Cert.PleDwIdeal.Facts] [hPleDwRefIdeal : Cert.PleDwRefIdeal.Facts] : Prop :=
  ∀ (m : (ℓ : Loc Cert.PleDwIdeal.nD Cert.PleDwIdeal.τ Cert.PleDwIdeal.sig) → Buf (Elt Ideal) ℓ) (g : Dev Cert.PleDwIdeal.nD → PrngReg)
    (m' : (ℓ : Loc Cert.PleDwRefIdeal.nD Cert.PleDwRefIdeal.τ Cert.PleDwRefIdeal.sig) → Buf (Elt Ideal) ℓ) (g' : Dev Cert.PleDwRefIdeal.nD → PrngReg), Pre_PleDwIdeal m →
    (∀ c : Dev Cert.PleDwIdeal.nD,
      m' ((c.tc : Thread Cert.PleDwRefIdeal.nD Cert.PleDwRefIdeal.τ).loc Cert.PleDwRefIdeal.main_arg0) = m ((c.tc : Thread Cert.PleDwIdeal.nD Cert.PleDwIdeal.τ).loc Cert.PleDwIdeal.main_arg0)
      ∧ m' ((c.tc : Thread Cert.PleDwRefIdeal.nD Cert.PleDwRefIdeal.τ).loc Cert.PleDwRefIdeal.main_arg1) = m ((c.tc : Thread Cert.PleDwIdeal.nD Cert.PleDwIdeal.τ).loc Cert.PleDwIdeal.main_arg1)) →
    ∃ (v0 : (c : Dev Cert.PleDwIdeal.nD) → Buf (Elt Ideal) ((c.tc : Thread Cert.PleDwIdeal.nD Cert.PleDwIdeal.τ).loc Cert.PleDwIdeal.main_v1)),
      θ_run (Cert.PleDwIdeal.defs (F := Ideal)) (onTc (τ := Cert.PleDwIdeal.τ) (Cert.PleDwIdeal.main (F := Ideal))) ⟨m, fun _ => 0, g⟩ (fun r => ∀ c : Dev Cert.PleDwIdeal.nD,
          r.2.mem ((c.tc : Thread Cert.PleDwIdeal.nD Cert.PleDwIdeal.τ).loc Cert.PleDwIdeal.main_v1) = v0 c
          ∧ r.2.mem ((c.tc : Thread Cert.PleDwIdeal.nD Cert.PleDwIdeal.τ).loc Cert.PleDwIdeal.main_arg0) = m ((c.tc : Thread Cert.PleDwIdeal.nD Cert.PleDwIdeal.τ).loc Cert.PleDwIdeal.main_arg0)
          ∧ r.2.mem ((c.tc : Thread Cert.PleDwIdeal.nD Cert.PleDwIdeal.τ).loc Cert.PleDwIdeal.main_arg1) = m ((c.tc : Thread Cert.PleDwIdeal.nD Cert.PleDwIdeal.τ).loc Cert.PleDwIdeal.main_arg1))
      ∧ θ_run (Cert.PleDwRefIdeal.defs (F := Ideal)) (onTc (τ := Cert.PleDwRefIdeal.τ) (Cert.PleDwRefIdeal.main (F := Ideal))) ⟨m', fun _ => 0, g'⟩ (fun r => ∀ c : Dev Cert.PleDwRefIdeal.nD,
          r.2.mem ((c.tc : Thread Cert.PleDwRefIdeal.nD Cert.PleDwRefIdeal.τ).loc Cert.PleDwRefIdeal.main_v4) = v0 c
          ∧ r.2.mem ((c.tc : Thread Cert.PleDwRefIdeal.nD Cert.PleDwRefIdeal.τ).loc Cert.PleDwRefIdeal.main_arg0) = m' ((c.tc : Thread Cert.PleDwRefIdeal.nD Cert.PleDwRefIdeal.τ).loc Cert.PleDwRefIdeal.main_arg0)
          ∧ r.2.mem ((c.tc : Thread Cert.PleDwRefIdeal.nD Cert.PleDwRefIdeal.τ).loc Cert.PleDwRefIdeal.main_arg1) = m' ((c.tc : Thread Cert.PleDwRefIdeal.nD Cert.PleDwRefIdeal.τ).loc Cert.PleDwRefIdeal.main_arg1))

def preserves_LatQ_LatQIdeal : Prop :=
  True

def algebraic_LatQIdeal_LatQRefIdeal [hLatQIdeal : Cert.LatQIdeal.Facts] [hLatQRefIdeal : Cert.LatQRefIdeal.Facts] : Prop :=
  ∀ (m : (ℓ : Loc Cert.LatQIdeal.nD Cert.LatQIdeal.τ Cert.LatQIdeal.sig) → Buf (Elt Ideal) ℓ) (g : Dev Cert.LatQIdeal.nD → PrngReg)
    (m' : (ℓ : Loc Cert.LatQRefIdeal.nD Cert.LatQRefIdeal.τ Cert.LatQRefIdeal.sig) → Buf (Elt Ideal) ℓ) (g' : Dev Cert.LatQRefIdeal.nD → PrngReg), Pre_LatQIdeal m →
    (∀ c : Dev Cert.LatQIdeal.nD,
      m' ((c.tc : Thread Cert.LatQRefIdeal.nD Cert.LatQRefIdeal.τ).loc Cert.LatQRefIdeal.main_arg0) = m ((c.tc : Thread Cert.LatQIdeal.nD Cert.LatQIdeal.τ).loc Cert.LatQIdeal.main_arg0)
      ∧ m' ((c.tc : Thread Cert.LatQRefIdeal.nD Cert.LatQRefIdeal.τ).loc Cert.LatQRefIdeal.main_arg1) = m ((c.tc : Thread Cert.LatQIdeal.nD Cert.LatQIdeal.τ).loc Cert.LatQIdeal.main_arg1)) →
    ∃ (v0 : (c : Dev Cert.LatQIdeal.nD) → Buf (Elt Ideal) ((c.tc : Thread Cert.LatQIdeal.nD Cert.LatQIdeal.τ).loc Cert.LatQIdeal.main_v2)),
      θ_run (Cert.LatQIdeal.defs (F := Ideal)) (onTc (τ := Cert.LatQIdeal.τ) (Cert.LatQIdeal.main (F := Ideal))) ⟨m, fun _ => 0, g⟩ (fun r => ∀ c : Dev Cert.LatQIdeal.nD,
          r.2.mem ((c.tc : Thread Cert.LatQIdeal.nD Cert.LatQIdeal.τ).loc Cert.LatQIdeal.main_v2) = v0 c
          ∧ r.2.mem ((c.tc : Thread Cert.LatQIdeal.nD Cert.LatQIdeal.τ).loc Cert.LatQIdeal.main_arg0) = m ((c.tc : Thread Cert.LatQIdeal.nD Cert.LatQIdeal.τ).loc Cert.LatQIdeal.main_arg0)
          ∧ r.2.mem ((c.tc : Thread Cert.LatQIdeal.nD Cert.LatQIdeal.τ).loc Cert.LatQIdeal.main_arg1) = m ((c.tc : Thread Cert.LatQIdeal.nD Cert.LatQIdeal.τ).loc Cert.LatQIdeal.main_arg1))
      ∧ θ_run (Cert.LatQRefIdeal.defs (F := Ideal)) (onTc (τ := Cert.LatQRefIdeal.τ) (Cert.LatQRefIdeal.main (F := Ideal))) ⟨m', fun _ => 0, g'⟩ (fun r => ∀ c : Dev Cert.LatQRefIdeal.nD,
          r.2.mem ((c.tc : Thread Cert.LatQRefIdeal.nD Cert.LatQRefIdeal.τ).loc Cert.LatQRefIdeal.main_v0) = v0 c
          ∧ r.2.mem ((c.tc : Thread Cert.LatQRefIdeal.nD Cert.LatQRefIdeal.τ).loc Cert.LatQRefIdeal.main_arg0) = m' ((c.tc : Thread Cert.LatQRefIdeal.nD Cert.LatQRefIdeal.τ).loc Cert.LatQRefIdeal.main_arg0)
          ∧ r.2.mem ((c.tc : Thread Cert.LatQRefIdeal.nD Cert.LatQRefIdeal.τ).loc Cert.LatQRefIdeal.main_arg1) = m' ((c.tc : Thread Cert.LatQRefIdeal.nD Cert.LatQRefIdeal.τ).loc Cert.LatQRefIdeal.main_arg1))

def preserves_LatKv_LatKvIdeal : Prop :=
  True

def algebraic_LatKvIdeal_LatKvRefIdeal [hLatKvIdeal : Cert.LatKvIdeal.Facts] [hLatKvRefIdeal : Cert.LatKvRefIdeal.Facts] : Prop :=
  ∀ (m : (ℓ : Loc Cert.LatKvIdeal.nD Cert.LatKvIdeal.τ Cert.LatKvIdeal.sig) → Buf (Elt Ideal) ℓ) (g : Dev Cert.LatKvIdeal.nD → PrngReg)
    (m' : (ℓ : Loc Cert.LatKvRefIdeal.nD Cert.LatKvRefIdeal.τ Cert.LatKvRefIdeal.sig) → Buf (Elt Ideal) ℓ) (g' : Dev Cert.LatKvRefIdeal.nD → PrngReg), Pre_LatKvIdeal m →
    (∀ c : Dev Cert.LatKvIdeal.nD,
      m' ((c.tc : Thread Cert.LatKvRefIdeal.nD Cert.LatKvRefIdeal.τ).loc Cert.LatKvRefIdeal.main_arg0) = m ((c.tc : Thread Cert.LatKvIdeal.nD Cert.LatKvIdeal.τ).loc Cert.LatKvIdeal.main_arg0)
      ∧ m' ((c.tc : Thread Cert.LatKvRefIdeal.nD Cert.LatKvRefIdeal.τ).loc Cert.LatKvRefIdeal.main_arg1) = m ((c.tc : Thread Cert.LatKvIdeal.nD Cert.LatKvIdeal.τ).loc Cert.LatKvIdeal.main_arg1)) →
    ∃ (v0 : (c : Dev Cert.LatKvIdeal.nD) → Buf (Elt Ideal) ((c.tc : Thread Cert.LatKvIdeal.nD Cert.LatKvIdeal.τ).loc Cert.LatKvIdeal.main_v2)),
      θ_run (Cert.LatKvIdeal.defs (F := Ideal)) (onTc (τ := Cert.LatKvIdeal.τ) (Cert.LatKvIdeal.main (F := Ideal))) ⟨m, fun _ => 0, g⟩ (fun r => ∀ c : Dev Cert.LatKvIdeal.nD,
          r.2.mem ((c.tc : Thread Cert.LatKvIdeal.nD Cert.LatKvIdeal.τ).loc Cert.LatKvIdeal.main_v2) = v0 c
          ∧ r.2.mem ((c.tc : Thread Cert.LatKvIdeal.nD Cert.LatKvIdeal.τ).loc Cert.LatKvIdeal.main_arg0) = m ((c.tc : Thread Cert.LatKvIdeal.nD Cert.LatKvIdeal.τ).loc Cert.LatKvIdeal.main_arg0)
          ∧ r.2.mem ((c.tc : Thread Cert.LatKvIdeal.nD Cert.LatKvIdeal.τ).loc Cert.LatKvIdeal.main_arg1) = m ((c.tc : Thread Cert.LatKvIdeal.nD Cert.LatKvIdeal.τ).loc Cert.LatKvIdeal.main_arg1))
      ∧ θ_run (Cert.LatKvRefIdeal.defs (F := Ideal)) (onTc (τ := Cert.LatKvRefIdeal.τ) (Cert.LatKvRefIdeal.main (F := Ideal))) ⟨m', fun _ => 0, g'⟩ (fun r => ∀ c : Dev Cert.LatKvRefIdeal.nD,
          r.2.mem ((c.tc : Thread Cert.LatKvRefIdeal.nD Cert.LatKvRefIdeal.τ).loc Cert.LatKvRefIdeal.main_v1) = v0 c
          ∧ r.2.mem ((c.tc : Thread Cert.LatKvRefIdeal.nD Cert.LatKvRefIdeal.τ).loc Cert.LatKvRefIdeal.main_arg0) = m' ((c.tc : Thread Cert.LatKvRefIdeal.nD Cert.LatKvRefIdeal.τ).loc Cert.LatKvRefIdeal.main_arg0)
          ∧ r.2.mem ((c.tc : Thread Cert.LatKvRefIdeal.nD Cert.LatKvRefIdeal.τ).loc Cert.LatKvRefIdeal.main_arg1) = m' ((c.tc : Thread Cert.LatKvRefIdeal.nD Cert.LatKvRefIdeal.τ).loc Cert.LatKvRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)) →
    ∃ (v0 : (c : Dev Cert.SmallIdeal.nD) → Buf (Elt Ideal) ((c.tc : Thread Cert.SmallIdeal.nD Cert.SmallIdeal.τ).loc Cert.SmallIdeal.main_v2)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v2) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)) →
    ∃ (v0 : (c : Dev Cert.PleIdeal.nD) → Buf (Elt Ideal) ((c.tc : Thread Cert.PleIdeal.nD Cert.PleIdeal.τ).loc Cert.PleIdeal.main_v1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v1) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v0) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1))

def preserves_Attn_AttnIdeal : Prop :=
  IdealRules.named_const.Statement Cert.AttnIdeal.κ "mask" .f32 0xF149F2CA#32 ⊥
  ∧ IdealRules.named_const.Statement Cert.AttnIdeal.κ "log2e" .f32 0x3FB8AA3B#32 (((Real.log 2)⁻¹ : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v14_0)) (v1 : (c : Dev Cert.AttnIdeal.nD) → Buf (Elt Ideal) ((c.tc : Thread Cert.AttnIdeal.nD Cert.AttnIdeal.τ).loc Cert.AttnIdeal.main_v14_1)) (v2 : (c : Dev Cert.AttnIdeal.nD) → Buf (Elt Ideal) ((c.tc : Thread Cert.AttnIdeal.nD Cert.AttnIdeal.τ).loc Cert.AttnIdeal.main_v14_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v14_0) = v0 c
          ∧ r.2.mem ((c.tc : Thread Cert.AttnIdeal.nD Cert.AttnIdeal.τ).loc Cert.AttnIdeal.main_v14_1) = v1 c
          ∧ r.2.mem ((c.tc : Thread Cert.AttnIdeal.nD Cert.AttnIdeal.τ).loc Cert.AttnIdeal.main_v14_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v31) = v0 c
          ∧ r.2.mem ((c.tc : Thread Cert.AttnRefIdeal.nD Cert.AttnRefIdeal.τ).loc Cert.AttnRefIdeal.main_v47) = v1 c
          ∧ r.2.mem ((c.tc : Thread Cert.AttnRefIdeal.nD Cert.AttnRefIdeal.τ).loc Cert.AttnRefIdeal.main_v48) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hKernel : Cert.Kernel.Facts) (hKernelIdeal : Cert.KernelIdeal.Facts) (hReferenceIdeal : Cert.ReferenceIdeal.Facts) (hBigDx : Cert.BigDx.Facts) (hBigDxIdeal : Cert.BigDxIdeal.Facts) (hBigDxRefIdeal : Cert.BigDxRefIdeal.Facts) (hBigDw : Cert.BigDw.Facts) (hBigDwIdeal : Cert.BigDwIdeal.Facts) (hBigDwRefIdeal : Cert.BigDwRefIdeal.Facts) (hSqDx : Cert.SqDx.Facts) (hSqDxIdeal : Cert.SqDxIdeal.Facts) (hSqDxRefIdeal : Cert.SqDxRefIdeal.Facts) (hSqDw : Cert.SqDw.Facts) (hSqDwIdeal : Cert.SqDwIdeal.Facts) (hSqDwRefIdeal : Cert.SqDwRefIdeal.Facts) (hBig : Cert.Big.Facts) (hBigIdeal : Cert.BigIdeal.Facts) (hBigRefIdeal : Cert.BigRefIdeal.Facts) (hSq : Cert.Sq.Facts) (hSqIdeal : Cert.SqIdeal.Facts) (hSqRefIdeal : Cert.SqRefIdeal.Facts) (hLatDx : Cert.LatDx.Facts) (hLatDxIdeal : Cert.LatDxIdeal.Facts) (hLatDxRefIdeal : Cert.LatDxRefIdeal.Facts) (hLatDw : Cert.LatDw.Facts) (hLatDwIdeal : Cert.LatDwIdeal.Facts) (hLatDwRefIdeal : Cert.LatDwRefIdeal.Facts) (hSmallDx : Cert.SmallDx.Facts) (hSmallDxIdeal : Cert.SmallDxIdeal.Facts) (hSmallDxRefIdeal : Cert.SmallDxRefIdeal.Facts) (hSmallDw : Cert.SmallDw.Facts) (hSmallDwIdeal : Cert.SmallDwIdeal.Facts) (hSmallDwRefIdeal : Cert.SmallDwRefIdeal.Facts) (hPleDw : Cert.PleDw.Facts) (hPleDwIdeal : Cert.PleDwIdeal.Facts) (hPleDwRefIdeal : Cert.PleDwRefIdeal.Facts) (hLatQ : Cert.LatQ.Facts) (hLatQIdeal : Cert.LatQIdeal.Facts) (hLatQRefIdeal : Cert.LatQRefIdeal.Facts) (hLatKv : Cert.LatKv.Facts) (hLatKvIdeal : Cert.LatKvIdeal.Facts) (hLatKvRefIdeal : Cert.LatKvRefIdeal.Facts) (hSmall : Cert.Small.Facts) (hSmallIdeal : Cert.SmallIdeal.Facts) (hSmallRefIdeal : Cert.SmallRefIdeal.Facts) (hOut : Cert.Out.Facts) (hOutIdeal : Cert.OutIdeal.Facts) (hOutRefIdeal : Cert.OutRefIdeal.Facts) (hPle : Cert.Ple.Facts) (hPleIdeal : Cert.PleIdeal.Facts) (hPleRefIdeal : Cert.PleRefIdeal.Facts) (hAttn : Cert.Attn.Facts) (hAttnIdeal : Cert.AttnIdeal.Facts) (hAttnRefIdeal : Cert.AttnRefIdeal.Facts) (hPre_finite : Cert.Pre_finite.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_BigDx (hBigDx := hBigDx)
    ∧ quiescent_BigDxIdeal (hBigDxIdeal := hBigDxIdeal)
    ∧ quiescent_BigDxRefIdeal (hBigDxRefIdeal := hBigDxRefIdeal)
    ∧ quiescent_BigDw (hBigDw := hBigDw)
    ∧ quiescent_BigDwIdeal (hBigDwIdeal := hBigDwIdeal)
    ∧ quiescent_BigDwRefIdeal (hBigDwRefIdeal := hBigDwRefIdeal)
    ∧ quiescent_SqDx (hSqDx := hSqDx)
    ∧ quiescent_SqDxIdeal (hSqDxIdeal := hSqDxIdeal)
    ∧ quiescent_SqDxRefIdeal (hSqDxRefIdeal := hSqDxRefIdeal)
    ∧ quiescent_SqDw (hSqDw := hSqDw)
    ∧ quiescent_SqDwIdeal (hSqDwIdeal := hSqDwIdeal)
    ∧ quiescent_SqDwRefIdeal (hSqDwRefIdeal := hSqDwRefIdeal)
    ∧ quiescent_Big (hBig := hBig)
    ∧ quiescent_BigIdeal (hBigIdeal := hBigIdeal)
    ∧ quiescent_BigRefIdeal (hBigRefIdeal := hBigRefIdeal)
    ∧ quiescent_Sq (hSq := hSq)
    ∧ quiescent_SqIdeal (hSqIdeal := hSqIdeal)
    ∧ quiescent_SqRefIdeal (hSqRefIdeal := hSqRefIdeal)
    ∧ quiescent_LatDx (hLatDx := hLatDx)
    ∧ quiescent_LatDxIdeal (hLatDxIdeal := hLatDxIdeal)
    ∧ quiescent_LatDxRefIdeal (hLatDxRefIdeal := hLatDxRefIdeal)
    ∧ quiescent_LatDw (hLatDw := hLatDw)
    ∧ quiescent_LatDwIdeal (hLatDwIdeal := hLatDwIdeal)
    ∧ quiescent_LatDwRefIdeal (hLatDwRefIdeal := hLatDwRefIdeal)
    ∧ quiescent_SmallDx (hSmallDx := hSmallDx)
    ∧ quiescent_SmallDxIdeal (hSmallDxIdeal := hSmallDxIdeal)
    ∧ quiescent_SmallDxRefIdeal (hSmallDxRefIdeal := hSmallDxRefIdeal)
    ∧ quiescent_SmallDw (hSmallDw := hSmallDw)
    ∧ quiescent_SmallDwIdeal (hSmallDwIdeal := hSmallDwIdeal)
    ∧ quiescent_SmallDwRefIdeal (hSmallDwRefIdeal := hSmallDwRefIdeal)
    ∧ quiescent_PleDw (hPleDw := hPleDw)
    ∧ quiescent_PleDwIdeal (hPleDwIdeal := hPleDwIdeal)
    ∧ quiescent_PleDwRefIdeal (hPleDwRefIdeal := hPleDwRefIdeal)
    ∧ quiescent_LatQ (hLatQ := hLatQ)
    ∧ quiescent_LatQIdeal (hLatQIdeal := hLatQIdeal)
    ∧ quiescent_LatQRefIdeal (hLatQRefIdeal := hLatQRefIdeal)
    ∧ quiescent_LatKv (hLatKv := hLatKv)
    ∧ quiescent_LatKvIdeal (hLatKvIdeal := hLatKvIdeal)
    ∧ quiescent_LatKvRefIdeal (hLatKvRefIdeal := hLatKvRefIdeal)
    ∧ quiescent_Small (hSmall := hSmall)
    ∧ quiescent_SmallIdeal (hSmallIdeal := hSmallIdeal)
    ∧ quiescent_SmallRefIdeal (hSmallRefIdeal := hSmallRefIdeal)
    ∧ quiescent_Out (hOut := hOut)
    ∧ quiescent_OutIdeal (hOutIdeal := hOutIdeal)
    ∧ quiescent_OutRefIdeal (hOutRefIdeal := hOutRefIdeal)
    ∧ quiescent_Ple (hPle := hPle)
    ∧ quiescent_PleIdeal (hPleIdeal := hPleIdeal)
    ∧ quiescent_PleRefIdeal (hPleRefIdeal := hPleRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ preserves_Kernel_KernelIdeal
    ∧ algebraic_KernelIdeal_ReferenceIdeal_pre_finite (hKernelIdeal := hKernelIdeal) (hReferenceIdeal := hReferenceIdeal) (hPre_finite := hPre_finite)
    ∧ preserves_BigDx_BigDxIdeal
    ∧ algebraic_BigDxIdeal_BigDxRefIdeal (hBigDxIdeal := hBigDxIdeal) (hBigDxRefIdeal := hBigDxRefIdeal)
    ∧ preserves_BigDw_BigDwIdeal
    ∧ algebraic_BigDwIdeal_BigDwRefIdeal (hBigDwIdeal := hBigDwIdeal) (hBigDwRefIdeal := hBigDwRefIdeal)
    ∧ preserves_SqDx_SqDxIdeal
    ∧ algebraic_SqDxIdeal_SqDxRefIdeal (hSqDxIdeal := hSqDxIdeal) (hSqDxRefIdeal := hSqDxRefIdeal)
    ∧ preserves_SqDw_SqDwIdeal
    ∧ algebraic_SqDwIdeal_SqDwRefIdeal (hSqDwIdeal := hSqDwIdeal) (hSqDwRefIdeal := hSqDwRefIdeal)
    ∧ preserves_Big_BigIdeal
    ∧ algebraic_BigIdeal_BigRefIdeal (hBigIdeal := hBigIdeal) (hBigRefIdeal := hBigRefIdeal)
    ∧ preserves_Sq_SqIdeal
    ∧ algebraic_SqIdeal_SqRefIdeal (hSqIdeal := hSqIdeal) (hSqRefIdeal := hSqRefIdeal)
    ∧ preserves_LatDx_LatDxIdeal
    ∧ algebraic_LatDxIdeal_LatDxRefIdeal (hLatDxIdeal := hLatDxIdeal) (hLatDxRefIdeal := hLatDxRefIdeal)
    ∧ preserves_LatDw_LatDwIdeal
    ∧ algebraic_LatDwIdeal_LatDwRefIdeal (hLatDwIdeal := hLatDwIdeal) (hLatDwRefIdeal := hLatDwRefIdeal)
    ∧ preserves_SmallDx_SmallDxIdeal
    ∧ algebraic_SmallDxIdeal_SmallDxRefIdeal (hSmallDxIdeal := hSmallDxIdeal) (hSmallDxRefIdeal := hSmallDxRefIdeal)
    ∧ preserves_SmallDw_SmallDwIdeal
    ∧ algebraic_SmallDwIdeal_SmallDwRefIdeal (hSmallDwIdeal := hSmallDwIdeal) (hSmallDwRefIdeal := hSmallDwRefIdeal)
    ∧ preserves_PleDw_PleDwIdeal
    ∧ algebraic_PleDwIdeal_PleDwRefIdeal (hPleDwIdeal := hPleDwIdeal) (hPleDwRefIdeal := hPleDwRefIdeal)
    ∧ preserves_LatQ_LatQIdeal
    ∧ algebraic_LatQIdeal_LatQRefIdeal (hLatQIdeal := hLatQIdeal) (hLatQRefIdeal := hLatQRefIdeal)
    ∧ preserves_LatKv_LatKvIdeal
    ∧ algebraic_LatKvIdeal_LatKvRefIdeal (hLatKvIdeal := hLatKvIdeal) (hLatKvRefIdeal := hLatKvRefIdeal)
    ∧ preserves_Small_SmallIdeal
    ∧ algebraic_SmallIdeal_SmallRefIdeal (hSmallIdeal := hSmallIdeal) (hSmallRefIdeal := hSmallRefIdeal)
    ∧ preserves_Out_OutIdeal
    ∧ algebraic_OutIdeal_OutRefIdeal (hOutIdeal := hOutIdeal) (hOutRefIdeal := hOutRefIdeal)
    ∧ preserves_Ple_PleIdeal
    ∧ algebraic_PleIdeal_PleRefIdeal (hPleIdeal := hPleIdeal) (hPleRefIdeal := hPleRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
-- ==== Pre_finite.lean ====
abbrev S16x8192x192 : Shape := ⟨3, ![16, 8192, 192]⟩
abbrev S16x8192x256 : Shape := ⟨3, ![16, 8192, 256]⟩
abbrev S8192x64 : Shape := ⟨2, ![8192, 64]⟩
abbrev S16x8192x128 : Shape := ⟨3, ![16, 8192, 128]⟩
abbrev S_ : Shape := ⟨0, ![]⟩

class Facts : Prop where
  bcast_S_S16x8192x192 : S_.BroadcastsInDim S16x8192x192 (![] : Fin 0 → Fin S16x8192x192.rank)
  bcast_S_S16x8192x256 : S_.BroadcastsInDim S16x8192x256 (![] : Fin 0 → Fin S16x8192x256.rank)
  bcast_S_S8192x64 : S_.BroadcastsInDim S8192x64 (![] : Fin 0 → Fin S8192x64.rank)
  bcast_S_S16x8192x128 : S_.BroadcastsInDim S16x8192x128 (![] : Fin 0 → Fin S16x8192x128.rank)

variable [Facts]

def fn {F : FTy → Type} [FloatOps F] (main_arg0 : FVec F S16x8192x192 .f32) (main_arg1 : FVec F S16x8192x256 .f32) (main_arg2 : FVec F S8192x64 .f32) (main_arg3 : FVec F S16x8192x128 .f32) : IVec S16x8192x192 1 × IVec S16x8192x256 1 × IVec S8192x64 1 × IVec S16x8192x128 1 :=
  let main_v0 : FVec F S16x8192x192 .f32 := Host.absf main_arg0
  let main_cst : FVec F S_ .f32 := constant S_ .f32 0x7F800000#32
  let main_v1 : FVec F S16x8192x192 .f32 := broadcastInDim S16x8192x192 ![] bcast_S_S16x8192x192 main_cst
  let main_v2 : IVec S16x8192x192 1 := cmpf .olt main_v0 main_v1
  let main_v3 : FVec F S16x8192x256 .f32 := Host.absf main_arg1
  let main_cst_0 : FVec F S_ .f32 := constant S_ .f32 0x7F800000#32
  let main_v4 : FVec F S16x8192x256 .f32 := broadcastInDim S16x8192x256 ![] bcast_S_S16x8192x256 main_cst_0
  let main_v5 : IVec S16x8192x256 1 := cmpf .olt main_v3 main_v4
  let main_v6 : FVec F S8192x64 .f32 := Host.absf main_arg2
  let main_cst_1 : FVec F S_ .f32 := constant S_ .f32 0x7F800000#32
  let main_v7 : FVec F S8192x64 .f32 := broadcastInDim S8192x64 ![] bcast_S_S8192x64 main_cst_1
  let main_v8 : IVec S8192x64 1 := cmpf .olt main_v6 main_v7
  let main_v9 : FVec F S16x8192x128 .f32 := Host.absf main_arg3
  let main_cst_2 : FVec F S_ .f32 := constant S_ .f32 0x7F800000#32
  let main_v10 : FVec F S16x8192x128 .f32 := broadcastInDim S16x8192x128 ![] bcast_S_S16x8192x128 main_cst_2
  let main_v11 : IVec S16x8192x128 1 := cmpf .olt main_v9 main_v10
  (main_v2, main_v5, main_v8, main_v11)
-- ==== Pre_finite_attn.lean ====
abbrev S16x8192x192 : Shape := ⟨3, ![16, 8192, 192]⟩
abbrev S16x8192x256 : Shape := ⟨3, ![16, 8192, 256]⟩
abbrev S8192x64 : Shape := ⟨2, ![8192, 64]⟩
abbrev S8192x10240 : Shape := ⟨2, ![8192, 10240]⟩
abbrev S_ : Shape := ⟨0, ![]⟩

class Facts : Prop where
  bcast_S_S16x8192x192 : S_.BroadcastsInDim S16x8192x192 (![] : Fin 0 → Fin S16x8192x192.rank)
  bcast_S_S16x8192x256 : S_.BroadcastsInDim S16x8192x256 (![] : Fin 0 → Fin S16x8192x256.rank)
  bcast_S_S8192x64 : S_.BroadcastsInDim S8192x64 (![] : Fin 0 → Fin S8192x64.rank)

variable [Facts]

def fn {F : FTy → Type} [FloatOps F] (main_arg0 : FVec F S16x8192x192 .f32) (main_arg1 : FVec F S16x8192x256 .f32) (main_arg2 : FVec F S8192x64 .f32) (main_arg3 : FVec F S8192x10240 .f32) : IVec S16x8192x192 1 × IVec S16x8192x256 1 × IVec S8192x64 1 :=
  let main_v0 : FVec F S16x8192x192 .f32 := Host.absf main_arg0
  let main_cst : FVec F S_ .f32 := constant S_ .f32 0x7F800000#32
  let main_v1 : FVec F S16x8192x192 .f32 := broadcastInDim S16x8192x192 ![] bcast_S_S16x8192x192 main_cst
  let main_v2 : IVec S16x8192x192 1 := cmpf .olt main_v0 main_v1
  let main_v3 : FVec F S16x8192x256 .f32 := Host.absf main_arg1
  let main_cst_0 : FVec F S_ .f32 := constant S_ .f32 0x7F800000#32
  let main_v4 : FVec F S16x8192x256 .f32 := broadcastInDim S16x8192x256 ![] bcast_S_S16x8192x256 main_cst_0
  let main_v5 : IVec S16x8192x256 1 := cmpf .olt main_v3 main_v4
  let main_v6 : FVec F S8192x64 .f32 := Host.absf main_arg2
  let main_cst_1 : FVec F S_ .f32 := constant S_ .f32 0x7F800000#32
  let main_v7 : FVec F S8192x64 .f32 := broadcastInDim S8192x64 ![] bcast_S_S8192x64 main_cst_1
  let main_v8 : IVec S8192x64 1 := cmpf .olt main_v6 main_v7
  (main_v2, main_v5, main_v8)
-- ==== Kernel.lean ====
abbrev S16x8192x192 : Shape := ⟨3, ![16, 8192, 192]⟩
abbrev S16x8192x256 : Shape := ⟨3, ![16, 8192, 256]⟩
abbrev S8192x64 : Shape := ⟨2, ![8192, 64]⟩
abbrev S16x8192x128 : Shape := ⟨3, ![16, 8192, 128]⟩
abbrev S_ : Shape := ⟨0, ![]⟩
abbrev S16x8192x8192 : Shape := ⟨3, ![16, 8192, 8192]⟩
abbrev S16x8192x64 : Shape := ⟨3, ![16, 8192, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S8192x128 : Shape := ⟨2, ![8192, 128]⟩
abbrev S8192x16x256 : Shape := ⟨3, ![8192, 16, 256]⟩
abbrev S8192x4096 : Shape := ⟨2, ![8192, 4096]⟩
abbrev S8192x16x128 : Shape := ⟨3, ![8192, 16, 128]⟩
abbrev S8192x2048 : Shape := ⟨2, ![8192, 2048]⟩
abbrev S16x1x8192 : Shape := ⟨3, ![16, 1, 8192]⟩
abbrev S512x128 : Shape := ⟨2, ![512, 128]⟩
abbrev S8192x256 : Shape := ⟨2, ![8192, 256]⟩
abbrev S1x1x8192 : Shape := ⟨3, ![1, 1, 8192]⟩
abbrev S512x256 : Shape := ⟨2, ![512, 256]⟩
abbrev S1x512x128 : Shape := ⟨3, ![1, 512, 128]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 90
  | .vmem => 26
  | .smem => 0
  | _ => 0

abbrev bufTy : (tb : Table) → Fin (tcTables nBuf tb) → BufTy
  | .hbm, ⟨0, _⟩ => ⟨S16x8192x192, .f32⟩
  | .hbm, ⟨1, _⟩ => ⟨S16x8192x256, .f32⟩
  | .hbm, ⟨2, _⟩ => ⟨S8192x64, .f32⟩
  | .hbm, ⟨3, _⟩ => ⟨S16x8192x128, .f32⟩
  | .hbm, ⟨4, _⟩ => ⟨S_, .f32⟩
  | .hbm, ⟨5, _⟩ => ⟨S16x8192x192, .f32⟩
  | .hbm, ⟨6, _⟩ => ⟨S16x8192x192, .f32⟩
  | .hbm, ⟨7, _⟩ => ⟨S16x8192x128, .f32⟩
  | .hbm, ⟨8, _⟩ => ⟨S16x8192x128, .f32⟩
  | .hbm, ⟨9, _⟩ => ⟨S16x8192x8192, .f32⟩
  | .hbm, ⟨10, _⟩ => ⟨S16x8192x64, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S1x8192x8192, .i1⟩
  | .hbm, ⟨38, _⟩ => ⟨S_, .f32⟩
  | .hbm, ⟨39, _⟩ => ⟨S_, .f32⟩
  | .hbm, ⟨40, _⟩ => ⟨S16x8192x8192, .i1⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S16x8192, .f32⟩
  | .hbm, ⟨45, _⟩ => ⟨S16x8192x1, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S_, .f32⟩
  | .hbm, ⟨50, _⟩ => ⟨S16x8192, .f32⟩
  | .hbm, ⟨51, _⟩ => ⟨S16x8192x1, .f32⟩
  | .hbm, ⟨52, _⟩ => ⟨S16x8192x8192, .f32⟩
  | .hbm, ⟨53, _⟩ => ⟨S16x8192x8192, .f32⟩
  | .hbm, ⟨54, _⟩ => ⟨S16x8192x128, .f32⟩
  | .hbm, ⟨55, _⟩ => ⟨S16x8192x128, .f32⟩
  | .hbm, ⟨56, _⟩ => ⟨S16x8192x1, .f32⟩
  | .hbm, ⟨57, _⟩ => ⟨S16x8192x1, .f32⟩
  | .hbm, ⟨58, _⟩ => ⟨S_, .f32⟩
  | .hbm, ⟨59, _⟩ => ⟨S_, .f32⟩
  | .hbm, ⟨60, _⟩ => ⟨S16x8192x1, .f32⟩
  | .hbm, ⟨61, _⟩ => ⟨S16x8192x1, .f32⟩
  | .hbm, ⟨62, _⟩ => ⟨S16x8192x128, .f32⟩
  | .hbm, ⟨63, _⟩ => ⟨S_, .f32⟩
  | .hbm, ⟨64, _⟩ => ⟨S16x8192, .f32⟩
  | .hbm, ⟨65, _⟩ => ⟨S_, .f32⟩
  | .hbm, ⟨66, _⟩ => ⟨S_, .f32⟩
  | .hbm, ⟨67, _⟩ => ⟨S16x8192x192, .f32⟩
  | .hbm, ⟨68, _⟩ => ⟨S16x8192x192, .f32⟩
  | .hbm, ⟨69, _⟩ => ⟨S_, .i32⟩
  | .hbm, ⟨70, _⟩ => ⟨S_, .f32⟩
  | .hbm, ⟨71, _⟩ => ⟨S16x8192x256, .f32⟩
  | .hbm, ⟨72, _⟩ => ⟨S_, .i32⟩
  | .hbm, ⟨73, _⟩ => ⟨S_, .f32⟩
  | .hbm, ⟨74, _⟩ => ⟨S8192x128, .f32⟩
  | .hbm, ⟨75, _⟩ => ⟨S8192x16x256, .f32⟩
  | .hbm, ⟨76, _⟩ => ⟨S8192x4096, .f32⟩
  | .hbm, ⟨77, _⟩ => ⟨S8192x4096, .bf16⟩
  | .hbm, ⟨78, _⟩ => ⟨S8192x16x256, .f32⟩
  | .hbm, ⟨79, _⟩ => ⟨S8192x4096, .f32⟩
  | .hbm, ⟨80, _⟩ => ⟨S8192x4096, .bf16⟩
  | .hbm, ⟨81, _⟩ => ⟨S8192x128, .bf16⟩
  | .hbm, ⟨82, _⟩ => ⟨S8192x16x128, .f32⟩
  | .hbm, ⟨83, _⟩ => ⟨S8192x2048, .f32⟩
  | .hbm, ⟨84, _⟩ => ⟨S8192x2048, .bf16⟩
  | .hbm, ⟨85, _⟩ => ⟨S16x1x8192, .f32⟩
  | .hbm, ⟨86, _⟩ => ⟨S16x1x8192, .f32⟩
  | .hbm, ⟨87, _⟩ => ⟨S8192x4096, .f32⟩
  | .hbm, ⟨88, _⟩ => ⟨S8192x4096, .bf16⟩
  | .hbm, ⟨89, _⟩ => ⟨S16x8192x128, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S8192x256, .bf16⟩
  | .local _ .vmem, ⟨7, _⟩ => ⟨S8192x256, .bf16⟩
  | .local _ .vmem, ⟨8, _⟩ => ⟨S8192x128, .bf16⟩
  | .local _ .vmem, ⟨9, _⟩ => ⟨S8192x128, .bf16⟩
  | .local _ .vmem, ⟨10, _⟩ => ⟨S1x1x8192, .f32⟩
  | .local _ .vmem, ⟨11, _⟩ => ⟨S1x1x8192, .f32⟩
  | .local _ .vmem, ⟨12, _⟩ => ⟨S1x1x8192, .f32⟩
  | .local _ .vmem, ⟨13, _⟩ => ⟨S1x1x8192, .f32⟩
  | .local _ .vmem, ⟨14, _⟩ => ⟨S8192x256, .f32⟩
  | .local _ .vmem, ⟨15, _⟩ => ⟨S8192x256, .f32⟩
  | .local _ .vmem, ⟨16, _⟩ => ⟨S512x256, .bf16⟩
  | .local _ .vmem, ⟨17, _⟩ => ⟨S512x256, .bf16⟩
  | .local _ .vmem, ⟨18, _⟩ => ⟨S1x512x128, .f32⟩
  | .local _ .vmem, ⟨19, _⟩ => ⟨S1x512x128, .f32⟩
  | .local _ .vmem, ⟨20, _⟩ => ⟨S512x256, .f32⟩
  | .local _ .vmem, ⟨21, _⟩ => ⟨S512x128, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | _, _ => ⟨S16x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_2 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_4 : Ref sig .tc := ⟨.hbm, 63, rfl⟩
abbrev main_v34 : Ref sig .tc := ⟨.hbm, 64, rfl⟩
abbrev main_cst_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_6 : Ref sig .tc := ⟨.hbm, 69, rfl⟩
abbrev main_call2_v0 : Ref sig .tc := ⟨.hbm, 70, rfl⟩
abbrev main_v38 : Ref sig .tc := ⟨.hbm, 71, rfl⟩
abbrev main_c_7 : Ref sig .tc := ⟨.hbm, 72, rfl⟩
abbrev main_call3_v0 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52_0 : Ref sig .tc := ⟨.hbm, 87, rfl⟩
abbrev main_v52_1 : Ref sig .tc := ⟨.hbm, 88, rfl⟩
abbrev main_v52_2 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c15_i32 : BitVec 32 := 15#32
  let v17 : BitVec 32 := Scalar.minsi arg1 c15_i32
  let c512_i32 : BitVec 32 := 512#32
  let v18 : BitVec 32 := Scalar.muli v17 c512_i32
  v18
def k0_off1 (i : grid0.Coords) : Fin 2 → Nat :=
  let arg1 : BitVec 32 := BitVec.ofNat 32 (i 1).val
  let c15_i32 : BitVec 32 := 15#32
  let v17 : BitVec 32 := Scalar.minsi arg1 c15_i32
  let c512_i32 : BitVec 32 := 512#32
  let v18 : BitVec 32 := Scalar.muli v17 c512_i32
  let v19 : BitVec 32 := v18
  let v20 : Index := Scalar.indexCast v19
  let c0_9 : Index := 0#32
  ![v20.toNat, 0]
def k0_mult2 (i : grid0.Coords) : BitVec 32 :=
  let arg1 : BitVec 32 := BitVec.ofNat 32 (i 1).val
  let c15_i32_15 : BitVec 32 := 15#32
  let v29 : BitVec 32 := Scalar.minsi arg1 c15_i32_15
  let c512_i32_16 : BitVec 32 := 512#32
  let v30 : BitVec 32 := Scalar.muli v29 c512_i32_16
  v30
def k0_off2 (i : grid0.Coords) : Fin 2 → Nat :=
  let arg1 : BitVec 32 := BitVec.ofNat 32 (i 1).val
  let c15_i32_15 : BitVec 32 := 15#32
  let v29 : BitVec 32 := Scalar.minsi arg1 c15_i32_15
  let c512_i32_16 : BitVec 32 := 512#32
  let v30 : BitVec 32 := Scalar.muli v29 c512_i32_16
  let v31 : BitVec 32 := v30
  let v32 : Index := Scalar.indexCast v31
  let c0_17 : Index := 0#32
  ![v32.toNat, 0]
def k0_mult3 (i : grid0.Coords) : BitVec 32 :=
  let arg1 : BitVec 32 := BitVec.ofNat 32 (i 1).val
  let c0_i32_21 : BitVec 32 := 0#32
  let v39 : BitVec 32 := Scalar.addi arg1 c0_i32_21
  let c1_i32 : BitVec 32 := 1#32
  let v40 : BitVec 32 := Scalar.addi v39 c1_i32
  let c15_i32_26 : BitVec 32 := 15#32
  let v46 : BitVec 32 := Scalar.minsi v40 c15_i32_26
  let c512_i32_27 : BitVec 32 := 512#32
  let v47 : BitVec 32 := Scalar.muli v46 c512_i32_27
  v47
def k0_off3 (i : grid0.Coords) : Fin 2 → Nat :=
  let arg1 : BitVec 32 := BitVec.ofNat 32 (i 1).val
  let c0_i32_21 : BitVec 32 := 0#32
  let v39 : BitVec 32 := Scalar.addi arg1 c0_i32_21
  let c1_i32 : BitVec 32 := 1#32
  let v40 : BitVec 32 := Scalar.addi v39 c1_i32
  let c15_i32_26 : BitVec 32 := 15#32
  let v46 : BitVec 32 := Scalar.minsi v40 c15_i32_26
  let c512_i32_27 : BitVec 32 := 512#32
  let v47 : BitVec 32 := Scalar.muli v46 c512_i32_27
  let v48 : BitVec 32 := v47
  let v49 : Index := Scalar.indexCast v48
  let c0_28 : Index := 0#32
  ![v49.toNat, 0]
def k0_mult4 (i : grid0.Coords) : BitVec 32 :=
  let arg1 : BitVec 32 := BitVec.ofNat 32 (i 1).val
  let c0_i32_21 : BitVec 32 := 0#32
  let v39 : BitVec 32 := Scalar.addi arg1 c0_i32_21
  let c1_i32 : BitVec 32 := 1#32
  let v40 : BitVec 32 := Scalar.addi v39 c1_i32
  let c15_i32_34 : BitVec 32 := 15#32
  let v58 : BitVec 32 := Scalar.minsi v40 c15_i32_34
  let c512_i32_35 : BitVec 32 := 512#32
  let v59 : BitVec 32 := Scalar.muli v58 c512_i32_35
  v59
def k0_off4 (i : grid0.Coords) : Fin 2 → Nat :=
  let arg1 : BitVec 32 := BitVec.ofNat 32 (i 1).val
  let c0_i32_21 : BitVec 32 := 0#32
  let v39 : BitVec 32 := Scalar.addi arg1 c0_i32_21
  let c1_i32 : BitVec 32 := 1#32
  let v40 : BitVec 32 := Scalar.addi v39 c1_i32
  let c15_i32_34 : BitVec 32 := 15#32
  let v58 : BitVec 32 := Scalar.minsi v40 c15_i32_34
  let c512_i32_35 : BitVec 32 := 512#32
  let v59 : BitVec 32 := Scalar.muli v58 c512_i32_35
  let v60 : BitVec 32 := v59
  let v61 : Index := Scalar.indexCast v60
  let c0_36 : Index := 0#32
  ![v61.toNat, 0]
def k0_mult5 (i : grid0.Coords) : BitVec 32 :=
  let arg1 : BitVec 32 := BitVec.ofNat 32 (i 1).val
  let c0_i32_21 : BitVec 32 := 0#32
  let v39 : BitVec 32 := Scalar.addi arg1 c0_i32_21
  let c15_i32_42 : BitVec 32 := 15#32
  let v69 : BitVec 32 := Scalar.minsi v39 c15_i32_42
  let c512_i32_43 : BitVec 32 := 512#32
  let v70 : BitVec 32 := Scalar.muli v69 c512_i32_43
  v70
def k0_off5 (i : grid0.Coords) : Fin 3 → Nat :=
  let c0_44 : Index := 0#32
  let c0_45 : Index := 0#32
  let arg1 : BitVec 32 := BitVec.ofNat 32 (i 1).val
  let c0_i32_21 : BitVec 32 := 0#32
  let v39 : BitVec 32 := Scalar.addi arg1 c0_i32_21
  let c15_i32_42 : BitVec 32 := 15#32
  let v69 : BitVec 32 := Scalar.minsi v39 c15_i32_42
  let c512_i32_43 : BitVec 32 := 512#32
  let v70 : BitVec 32 := Scalar.muli v69 c512_i32_43
  let v71 : BitVec 32 := v70
  let v72 : Index := Scalar.indexCast v71
  ![0, 0, v72.toNat]
def k0_mult6 (i : grid0.Coords) : BitVec 32 :=
  let arg1 : BitVec 32 := BitVec.ofNat 32 (i 1).val
  let c0_i32_21 : BitVec 32 := 0#32
  let v39 : BitVec 32 := Scalar.addi arg1 c0_i32_21
  let c15_i32_63 : BitVec 32 := 15#32
  let v134 : BitVec 32 := Scalar.minsi v39 c15_i32_63
  let c512_i32_64 : BitVec 32 := 512#32
  let v135 : BitVec 32 := Scalar.muli v134 c512_i32_64
  v135
def k0_mult7 (i : grid0.Coords) : BitVec 32 :=
  let arg1 : BitVec 32 := BitVec.ofNat 32 (i 1).val
  let c0_i32_21 : BitVec 32 := 0#32
  let v39 : BitVec 32 := Scalar.addi arg1 c0_i32_21
  let c15_i32_69 : BitVec 32 := 15#32
  let v146 : BitVec 32 := Scalar.minsi v39 c15_i32_69
  let c512_i32_70 : BitVec 32 := 512#32
  let v147 : BitVec 32 := Scalar.muli v146 c512_i32_70
  v147
def k0_off6 (i : grid0.Coords) : Fin 2 → Nat :=
  let arg1 : BitVec 32 := BitVec.ofNat 32 (i 1).val
  let c0_i32_21 : BitVec 32 := 0#32
  let v39 : BitVec 32 := Scalar.addi arg1 c0_i32_21
  let c15_i32_69 : BitVec 32 := 15#32
  let v146 : BitVec 32 := Scalar.minsi v39 c15_i32_69
  let c512_i32_70 : BitVec 32 := 512#32
  let v147 : BitVec 32 := Scalar.muli v146 c512_i32_70
  let v148 : BitVec 32 := v147
  let v149 : Index := Scalar.indexCast v148
  let c0_71 : Index := 0#32
  ![v149.toNat, 0]
def k0_mult8 (i : grid0.Coords) : BitVec 32 :=
  let arg1 : BitVec 32 := BitVec.ofNat 32 (i 1).val
  let c0_i32_21 : BitVec 32 := 0#32
  let v39 : BitVec 32 := Scalar.addi arg1 c0_i32_21
  let c15_i32_77 : BitVec 32 := 15#32
  let v158 : BitVec 32 := Scalar.minsi v39 c15_i32_77
  let c512_i32_78 : BitVec 32 := 512#32
  let v159 : BitVec 32 := Scalar.muli v158 c512_i32_78
  v159
def k0_off7 (i : grid0.Coords) : Fin 2 → Nat :=
  let arg1 : BitVec 32 := BitVec.ofNat 32 (i 1).val
  let c0_i32_21 : BitVec 32 := 0#32
  let v39 : BitVec 32 := Scalar.addi arg1 c0_i32_21
  let c15_i32_77 : BitVec 32 := 15#32
  let v158 : BitVec 32 := Scalar.minsi v39 c15_i32_77
  let c512_i32_78 : BitVec 32 := 512#32
  let v159 : BitVec 32 := Scalar.muli v158 c512_i32_78
  let v160 : BitVec 32 := v159
  let v161 : Index := Scalar.indexCast v160
  let c0_79 : Index := 0#32
  ![v161.toNat, 0]
def k0_mult9 (i : grid0.Coords) : BitVec 32 :=
  let arg1 : BitVec 32 := BitVec.ofNat 32 (i 1).val
  let c0_i32_21 : BitVec 32 := 0#32
  let v39 : BitVec 32 := Scalar.addi arg1 c0_i32_21
  let c15_i32_83 : BitVec 32 := 15#32
  let v169 : BitVec 32 := Scalar.minsi v39 c15_i32_83
  let c512_i32_84 : BitVec 32 := 512#32
  let v170 : BitVec 32 := Scalar.muli v169 c512_i32_84
  v170
@[reducible] def k0_t1_loop (i : grid0.Coords) : Scf.Loop 32 :=
  let c0_i32_100 : BitVec 32 := 0#32
  let c16_i32 : BitVec 32 := 16#32
  let arg1 : BitVec 32 := BitVec.ofNat 32 (i 1).val
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_102 : BitVec 32 := 1#32
  ⟨c0_i32_100, v206, c1_i32_102⟩
def k0_mult10 (i : grid0.Coords) (k0_t1 : Fin (k0_t1_loop i).trips) : BitVec 32 :=
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let c1_i32_125 : BitVec 32 := 1#32
  let v235 : BitVec 32 := Scalar.addi v234 c1_i32_125
  let v236 : BitVec 32 := Scalar.addi arg1 v235
  let c1_i32_126 : BitVec 32 := 1#32
  let v237 : BitVec 32 := Scalar.addi v236 c1_i32_126
  let c15_i32_131 : BitVec 32 := 15#32
  let v243 : BitVec 32 := Scalar.minsi v237 c15_i32_131
  let c512_i32_132 : BitVec 32 := 512#32
  let v244 : BitVec 32 := Scalar.muli v243 c512_i32_132
  v244
def k0_off8 (i : grid0.Coords) (k0_t1 : Fin (k0_t1_loop i).trips) (c1_i32_125 : BitVec 32) : Fin 2 → Nat :=
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let v235 : BitVec 32 := Scalar.addi v234 c1_i32_125
  let v236 : BitVec 32 := Scalar.addi arg1 v235
  let c1_i32_126 : BitVec 32 := 1#32
  let v237 : BitVec 32 := Scalar.addi v236 c1_i32_126
  let c15_i32_131 : BitVec 32 := 15#32
  let v243 : BitVec 32 := Scalar.minsi v237 c15_i32_131
  let c512_i32_132 : BitVec 32 := 512#32
  let v244 : BitVec 32 := Scalar.muli v243 c512_i32_132
  let v245 : BitVec 32 := v244
  let v246 : Index := Scalar.indexCast v245
  let c0_133 : Index := 0#32
  ![v246.toNat, 0]
def k0_mult11 (i : grid0.Coords) (k0_t1 : Fin (k0_t1_loop i).trips) : BitVec 32 :=
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let c1_i32_125 : BitVec 32 := 1#32
  let v235 : BitVec 32 := Scalar.addi v234 c1_i32_125
  let v236 : BitVec 32 := Scalar.addi arg1 v235
  let c1_i32_126 : BitVec 32 := 1#32
  let v237 : BitVec 32 := Scalar.addi v236 c1_i32_126
  let c15_i32_139 : BitVec 32 := 15#32
  let v255 : BitVec 32 := Scalar.minsi v237 c15_i32_139
  let c512_i32_140 : BitVec 32 := 512#32
  let v256 : BitVec 32 := Scalar.muli v255 c512_i32_140
  v256
def k0_off9 (i : grid0.Coords) (k0_t1 : Fin (k0_t1_loop i).trips) (c1_i32_125 : BitVec 32) : Fin 2 → Nat :=
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let v235 : BitVec 32 := Scalar.addi v234 c1_i32_125
  let v236 : BitVec 32 := Scalar.addi arg1 v235
  let c1_i32_126 : BitVec 32 := 1#32
  let v237 : BitVec 32 := Scalar.addi v236 c1_i32_126
  let c15_i32_139 : BitVec 32 := 15#32
  let v255 : BitVec 32 := Scalar.minsi v237 c15_i32_139
  let c512_i32_140 : BitVec 32 := 512#32
  let v256 : BitVec 32 := Scalar.muli v255 c512_i32_140
  let v257 : BitVec 32 := v256
  let v258 : Index := Scalar.indexCast v257
  let c0_141 : Index := 0#32
  ![v258.toNat, 0]
def k0_mult12 (i : grid0.Coords) (k0_t1 : Fin (k0_t1_loop i).trips) : BitVec 32 :=
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let c1_i32_125 : BitVec 32 := 1#32
  let v235 : BitVec 32 := Scalar.addi v234 c1_i32_125
  let v236 : BitVec 32 := Scalar.addi arg1 v235
  let c15_i32_147 : BitVec 32 := 15#32
  let v266 : BitVec 32 := Scalar.minsi v236 c15_i32_147
  let c512_i32_148 : BitVec 32 := 512#32
  let v267 : BitVec 32 := Scalar.muli v266 c512_i32_148
  v267
def k0_off10 (i : grid0.Coords) (k0_t1 : Fin (k0_t1_loop i).trips) (c1_i32_125 : BitVec 32) : Fin 3 → Nat :=
  let c0_149 : Index := 0#32
  let c0_150 : Index := 0#32
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let v235 : BitVec 32 := Scalar.addi v234 c1_i32_125
  let v236 : BitVec 32 := Scalar.addi arg1 v235
  let c15_i32_147 : BitVec 32 := 15#32
  let v266 : BitVec 32 := Scalar.minsi v236 c15_i32_147
  let c512_i32_148 : BitVec 32 := 512#32
  let v267 : BitVec 32 := Scalar.muli v266 c512_i32_148
  let v268 : BitVec 32 := v267
  let v269 : Index := Scalar.indexCast v268
  ![0, 0, v269.toNat]
def k0_mult13 (i : grid0.Coords) (k0_t1 : Fin (k0_t1_loop i).trips) : BitVec 32 :=
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let c1_i32_125 : BitVec 32 := 1#32
  let v235 : BitVec 32 := Scalar.addi v234 c1_i32_125
  let v236 : BitVec 32 := Scalar.addi arg1 v235
  let c15_i32_153 : BitVec 32 := 15#32
  let v276 : BitVec 32 := Scalar.minsi v236 c15_i32_153
  let c512_i32_154 : BitVec 32 := 512#32
  let v277 : BitVec 32 := Scalar.muli v276 c512_i32_154
  v277
def k0_mult14 (i : grid0.Coords) (k0_t1 : Fin (k0_t1_loop i).trips) : BitVec 32 :=
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let c1_i32_125 : BitVec 32 := 1#32
  let v235 : BitVec 32 := Scalar.addi v234 c1_i32_125
  let v236 : BitVec 32 := Scalar.addi arg1 v235
  let c15_i32_159 : BitVec 32 := 15#32
  let v288 : BitVec 32 := Scalar.minsi v236 c15_i32_159
  let c512_i32_160 : BitVec 32 := 512#32
  let v289 : BitVec 32 := Scalar.muli v288 c512_i32_160
  v289
def k0_off11 (i : grid0.Coords) (k0_t1 : Fin (k0_t1_loop i).trips) (c1_i32_125 : BitVec 32) : Fin 2 → Nat :=
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let v235 : BitVec 32 := Scalar.addi v234 c1_i32_125
  let v236 : BitVec 32 := Scalar.addi arg1 v235
  let c15_i32_159 : BitVec 32 := 15#32
  let v288 : BitVec 32 := Scalar.minsi v236 c15_i32_159
  let c512_i32_160 : BitVec 32 := 512#32
  let v289 : BitVec 32 := Scalar.muli v288 c512_i32_160
  let v290 : BitVec 32 := v289
  let v291 : Index := Scalar.indexCast v290
  let c0_161 : Index := 0#32
  ![v291.toNat, 0]
def k0_mult15 (i : grid0.Coords) (k0_t1 : Fin (k0_t1_loop i).trips) : BitVec 32 :=
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let c1_i32_125 : BitVec 32 := 1#32
  let v235 : BitVec 32 := Scalar.addi v234 c1_i32_125
  let v236 : BitVec 32 := Scalar.addi arg1 v235
  let c15_i32_167 : BitVec 32 := 15#32
  let v300 : BitVec 32 := Scalar.minsi v236 c15_i32_167
  let c512_i32_168 : BitVec 32 := 512#32
  let v301 : BitVec 32 := Scalar.muli v300 c512_i32_168
  v301
def k0_off12 (i : grid0.Coords) (k0_t1 : Fin (k0_t1_loop i).trips) (c1_i32_125 : BitVec 32) : Fin 2 → Nat :=
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let v235 : BitVec 32 := Scalar.addi v234 c1_i32_125
  let v236 : BitVec 32 := Scalar.addi arg1 v235
  let c15_i32_167 : BitVec 32 := 15#32
  let v300 : BitVec 32 := Scalar.minsi v236 c15_i32_167
  let c512_i32_168 : BitVec 32 := 512#32
  let v301 : BitVec 32 := Scalar.muli v300 c512_i32_168
  let v302 : BitVec 32 := v301
  let v303 : Index := Scalar.indexCast v302
  let c0_169 : Index := 0#32
  ![v303.toNat, 0]
def k0_mult16 (i : grid0.Coords) (k0_t1 : Fin (k0_t1_loop i).trips) : BitVec 32 :=
  let arg1 : BitVec 32 := BitVec.ofNat 32 (i 1).val
  let c2_i32_124 : BitVec 32 := 2#32
  let c0_i32_100 : BitVec 32 := 0#32
  let c1_i32_102 : BitVec 32 := 1#32
  let arg18 : BitVec 32 := Scf.iv c0_i32_100 c1_i32_102 k0_t1
  let v234 : BitVec 32 := Scalar.muli c2_i32_124 arg18
  let c1_i32_125 : BitVec 32 := 1#32
  let v235 : BitVec 32 := Scalar.addi v234 c1_i32_125
  let v236 : BitVec 32 := Scalar.addi arg1 v235
  let c15_i32_173 : BitVec 32 := 15#32
  let v311 : BitVec 32 := Scalar.minsi v236 c15_i32_173
  let c512_i32_174 : BitVec 32 := 512#32
  let v312 : BitVec 32 := Scalar.muli v311 c512_i32_174
  v312
def k0_mult17 (i : grid0.Coords) (k0_t1 : Fin (k0_t1_loop i).trips) : BitVec 32 :=
  let arg1 : BitVec 32 := BitVec.ofNat 32 (i 1).val
  let c2_i32_182 : BitVec 32 := 2#32
  let c0_i32_100 : BitVec 32 := 0#32
  let c1_i32_102 : BitVec 32 := 1#32
  let arg18 : BitVec 32 := Scf.iv c0_i32_100 c1_i32_102 k0_t1
  let v326 : BitVec 32 := Scalar.muli c2_i32_182 arg18
  let c2_i32_183 : BitVec 32 := 2#32
  let v327 : BitVec 32 := Scalar.addi v326 c2_i32_183
  let v328 : BitVec 32 := Scalar.addi arg1 v327
  let c1_i32_184 : BitVec 32 := 1#32
  let v329 : BitVec 32 := Scalar.addi v328 c1_i32_184
  let c15_i32_189 : BitVec 32 := 15#32
  let v335 : BitVec 32 := Scalar.minsi v329 c15_i32_189
  let c512_i32_190 : BitVec 32 := 512#32
  let v336 : BitVec 32 := Scalar.muli v335 c512_i32_190
  v336
def k0_mult18 (i : grid0.Coords) (k0_t1 : Fin (k0_t1_loop i).trips) : BitVec 32 :=
  let arg1 : BitVec 32 := BitVec.ofNat 32 (i 1).val
  let c2_i32_182 : BitVec 32 := 2#32
  let c0_i32_100 : BitVec 32 := 0#32
  let c1_i32_102 : BitVec 32 := 1#32
  let arg18 : BitVec 32 := Scf.iv c0_i32_100 c1_i32_102 k0_t1
  let v326 : BitVec 32 := Scalar.muli c2_i32_182 arg18
  let c2_i32_183 : BitVec 32 := 2#32
  let v327 : BitVec 32 := Scalar.addi v326 c2_i32_183
  let v328 : BitVec 32 := Scalar.addi arg1 v327
  let c1_i32_184 : BitVec 32 := 1#32
  let v329 : BitVec 32 := Scalar.addi v328 c1_i32_184
  let c15_i32_197 : BitVec 32 := 15#32
  let v347 : BitVec 32 := Scalar.minsi v329 c15_i32_197
  let c512_i32_198 : BitVec 32 := 512#32
  let v348 : BitVec 32 := Scalar.muli v347 c512_i32_198
  v348
def k0_mult19 (i : grid0.Coords) (k0_t1 : Fin (k0_t1_loop i).trips) : BitVec 32 :=
  let arg1 : BitVec 32 := BitVec.ofNat 32 (i 1).val
  let c2_i32_182 : BitVec 32 := 2#32
  let c0_i32_100 : BitVec 32 := 0#32
  let c1_i32_102 : BitVec 32 := 1#32
  let arg18 : BitVec 32 := Scf.iv c0_i32_100 c1_i32_102 k0_t1
  let v326 : BitVec 32 := Scalar.muli c2_i32_182 arg18
  let c2_i32_183 : BitVec 32 := 2#32
  let v327 : BitVec 32 := Scalar.addi v326 c2_i32_183
  let v328 : BitVec 32 := Scalar.addi arg1 v327
  let c15_i32_205 : BitVec 32 := 15#32
  let v358 : BitVec 32 := Scalar.minsi v328 c15_i32_205
  let c512_i32_206 : BitVec 32 := 512#32
  let v359 : BitVec 32 := Scalar.muli v358 c512_i32_206
  v359
def k0_mult20 (i : grid0.Coords) (k0_t1 : Fin (k0_t1_loop i).trips) : BitVec 32 :=
  let arg1 : BitVec 32 := BitVec.ofNat 32 (i 1).val
  let c2_i32_182 : BitVec 32 := 2#32
  let c0_i32_100 : BitVec 32 := 0#32
  let c1_i32_102 : BitVec 32 := 1#32
  let arg18 : BitVec 32 := Scf.iv c0_i32_100 c1_i32_102 k0_t1
  let v326 : BitVec 32 := Scalar.muli c2_i32_182 arg18
  let c2_i32_183 : BitVec 32 := 2#32
  let v327 : BitVec 32 := Scalar.addi v326 c2_i32_183
  let v328 : BitVec 32 := Scalar.addi arg1 v327
  let c15_i32_211 : BitVec 32 := 15#32
  let v368 : BitVec 32 := Scalar.minsi v328 c15_i32_211
  let c512_i32_212 : BitVec 32 := 512#32
  let v369 : BitVec 32 := Scalar.muli v368 c512_i32_212
  v369
def k0_mult21 (i : grid0.Coords) (k0_t1 : Fin (k0_t1_loop i).trips) : BitVec 32 :=
  let arg1 : BitVec 32 := BitVec.ofNat 32 (i 1).val
  let c2_i32_182 : BitVec 32 := 2#32
  let c0_i32_100 : BitVec 32 := 0#32
  let c1_i32_102 : BitVec 32 := 1#32
  let arg18 : BitVec 32 := Scf.iv c0_i32_100 c1_i32_102 k0_t1
  let v326 : BitVec 32 := Scalar.muli c2_i32_182 arg18
  let c2_i32_183 : BitVec 32 := 2#32
  let v327 : BitVec 32 := Scalar.addi v326 c2_i32_183
  let v328 : BitVec 32 := Scalar.addi arg1 v327
  let c15_i32_217 : BitVec 32 := 15#32
  let v380 : BitVec 32 := Scalar.minsi v328 c15_i32_217
  let c512_i32_218 : BitVec 32 := 512#32
  let v381 : BitVec 32 := Scalar.muli v380 c512_i32_218
  v381
def k0_mult22 (i : grid0.Coords) (k0_t1 : Fin (k0_t1_loop i).trips) : BitVec 32 :=
  let arg1 : BitVec 32 := BitVec.ofNat 32 (i 1).val
  let c2_i32_182 : BitVec 32 := 2#32
  let c0_i32_100 : BitVec 32 := 0#32
  let c1_i32_102 : BitVec 32 := 1#32
  let arg18 : BitVec 32 := Scf.iv c0_i32_100 c1_i32_102 k0_t1
  let v326 : BitVec 32 := Scalar.muli c2_i32_182 arg18
  let c2_i32_183 : BitVec 32 := 2#32
  let v327 : BitVec 32 := Scalar.addi v326 c2_i32_183
  let v328 : BitVec 32 := Scalar.addi arg1 v327
  let c15_i32_225 : BitVec 32 := 15#32
  let v392 : BitVec 32 := Scalar.minsi v328 c15_i32_225
  let c512_i32_226 : BitVec 32 := 512#32
  let v393 : BitVec 32 := Scalar.muli v392 c512_i32_226
  v393
def k0_mult23 (i : grid0.Coords) (k0_t1 : Fin (k0_t1_loop i).trips) : BitVec 32 :=
  let arg1 : BitVec 32 := BitVec.ofNat 32 (i 1).val
  let c2_i32_182 : BitVec 32 := 2#32
  let c0_i32_100 : BitVec 32 := 0#32
  let c1_i32_102 : BitVec 32 := 1#32
  let arg18 : BitVec 32 := Scf.iv c0_i32_100 c1_i32_102 k0_t1
  let v326 : BitVec 32 := Scalar.muli c2_i32_182 arg18
  let c2_i32_183 : BitVec 32 := 2#32
  let v327 : BitVec 32 := Scalar.addi v326 c2_i32_183
  let v328 : BitVec 32 := Scalar.addi arg1 v327
  let c15_i32_231 : BitVec 32 := 15#32
  let v403 : BitVec 32 := Scalar.minsi v328 c15_i32_231
  let c512_i32_232 : BitVec 32 := 512#32
  let v404 : BitVec 32 := Scalar.muli v403 c512_i32_232
  v404
@[reducible] def k0_t2_loop (i : grid0.Coords) : Scf.Loop 32 :=
  let c0_i32_100 : BitVec 32 := 0#32
  let c16_i32 : BitVec 32 := 16#32
  let arg1 : BitVec 32 := BitVec.ofNat 32 (i 1).val
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let v203 : BitVec 32 := Scalar.addi c0_i32_100 v202
  let c1_i32_103 : BitVec 32 := 1#32
  ⟨v206, v203, c1_i32_103⟩
def k0_mult24 (i : grid0.Coords) (k0_t2 : Fin (k0_t2_loop i).trips) : BitVec 32 :=
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let c1_i32_125 : BitVec 32 := 1#32
  let v235 : BitVec 32 := Scalar.addi v234 c1_i32_125
  let v236 : BitVec 32 := Scalar.addi arg1 v235
  let c1_i32_126 : BitVec 32 := 1#32
  let v237 : BitVec 32 := Scalar.addi v236 c1_i32_126
  let c15_i32_131 : BitVec 32 := 15#32
  let v243 : BitVec 32 := Scalar.minsi v237 c15_i32_131
  let c512_i32_132 : BitVec 32 := 512#32
  let v244 : BitVec 32 := Scalar.muli v243 c512_i32_132
  v244
def k0_off13 (i : grid0.Coords) (k0_t2 : Fin (k0_t2_loop i).trips) (c1_i32_125 : BitVec 32) : Fin 2 → Nat :=
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let v235 : BitVec 32 := Scalar.addi v234 c1_i32_125
  let v236 : BitVec 32 := Scalar.addi arg1 v235
  let c1_i32_126 : BitVec 32 := 1#32
  let v237 : BitVec 32 := Scalar.addi v236 c1_i32_126
  let c15_i32_131 : BitVec 32 := 15#32
  let v243 : BitVec 32 := Scalar.minsi v237 c15_i32_131
  let c512_i32_132 : BitVec 32 := 512#32
  let v244 : BitVec 32 := Scalar.muli v243 c512_i32_132
  let v245 : BitVec 32 := v244
  let v246 : Index := Scalar.indexCast v245
  let c0_133 : Index := 0#32
  ![v246.toNat, 0]
def k0_mult25 (i : grid0.Coords) (k0_t2 : Fin (k0_t2_loop i).trips) : BitVec 32 :=
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let c1_i32_125 : BitVec 32 := 1#32
  let v235 : BitVec 32 := Scalar.addi v234 c1_i32_125
  let v236 : BitVec 32 := Scalar.addi arg1 v235
  let c1_i32_126 : BitVec 32 := 1#32
  let v237 : BitVec 32 := Scalar.addi v236 c1_i32_126
  let c15_i32_139 : BitVec 32 := 15#32
  let v255 : BitVec 32 := Scalar.minsi v237 c15_i32_139
  let c512_i32_140 : BitVec 32 := 512#32
  let v256 : BitVec 32 := Scalar.muli v255 c512_i32_140
  v256
def k0_off14 (i : grid0.Coords) (k0_t2 : Fin (k0_t2_loop i).trips) (c1_i32_125 : BitVec 32) : Fin 2 → Nat :=
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let v235 : BitVec 32 := Scalar.addi v234 c1_i32_125
  let v236 : BitVec 32 := Scalar.addi arg1 v235
  let c1_i32_126 : BitVec 32 := 1#32
  let v237 : BitVec 32 := Scalar.addi v236 c1_i32_126
  let c15_i32_139 : BitVec 32 := 15#32
  let v255 : BitVec 32 := Scalar.minsi v237 c15_i32_139
  let c512_i32_140 : BitVec 32 := 512#32
  let v256 : BitVec 32 := Scalar.muli v255 c512_i32_140
  let v257 : BitVec 32 := v256
  let v258 : Index := Scalar.indexCast v257
  let c0_141 : Index := 0#32
  ![v258.toNat, 0]
def k0_mult26 (i : grid0.Coords) (k0_t2 : Fin (k0_t2_loop i).trips) : BitVec 32 :=
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let c1_i32_125 : BitVec 32 := 1#32
  let v235 : BitVec 32 := Scalar.addi v234 c1_i32_125
  let v236 : BitVec 32 := Scalar.addi arg1 v235
  let c15_i32_147 : BitVec 32 := 15#32
  let v266 : BitVec 32 := Scalar.minsi v236 c15_i32_147
  let c512_i32_148 : BitVec 32 := 512#32
  let v267 : BitVec 32 := Scalar.muli v266 c512_i32_148
  v267
def k0_off15 (i : grid0.Coords) (k0_t2 : Fin (k0_t2_loop i).trips) (c1_i32_125 : BitVec 32) : Fin 3 → Nat :=
  let c0_149 : Index := 0#32
  let c0_150 : Index := 0#32
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let v235 : BitVec 32 := Scalar.addi v234 c1_i32_125
  let v236 : BitVec 32 := Scalar.addi arg1 v235
  let c15_i32_147 : BitVec 32 := 15#32
  let v266 : BitVec 32 := Scalar.minsi v236 c15_i32_147
  let c512_i32_148 : BitVec 32 := 512#32
  let v267 : BitVec 32 := Scalar.muli v266 c512_i32_148
  let v268 : BitVec 32 := v267
  let v269 : Index := Scalar.indexCast v268
  ![0, 0, v269.toNat]
def k0_mult27 (i : grid0.Coords) (k0_t2 : Fin (k0_t2_loop i).trips) : BitVec 32 :=
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let c1_i32_125 : BitVec 32 := 1#32
  let v235 : BitVec 32 := Scalar.addi v234 c1_i32_125
  let v236 : BitVec 32 := Scalar.addi arg1 v235
  let c15_i32_153 : BitVec 32 := 15#32
  let v276 : BitVec 32 := Scalar.minsi v236 c15_i32_153
  let c512_i32_154 : BitVec 32 := 512#32
  let v277 : BitVec 32 := Scalar.muli v276 c512_i32_154
  v277
def k0_mult28 (i : grid0.Coords) (k0_t2 : Fin (k0_t2_loop i).trips) : BitVec 32 :=
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let c1_i32_125 : BitVec 32 := 1#32
  let v235 : BitVec 32 := Scalar.addi v234 c1_i32_125
  let v236 : BitVec 32 := Scalar.addi arg1 v235
  let c15_i32_159 : BitVec 32 := 15#32
  let v288 : BitVec 32 := Scalar.minsi v236 c15_i32_159
  let c512_i32_160 : BitVec 32 := 512#32
  let v289 : BitVec 32 := Scalar.muli v288 c512_i32_160
  v289
def k0_off16 (i : grid0.Coords) (k0_t2 : Fin (k0_t2_loop i).trips) (c1_i32_125 : BitVec 32) : Fin 2 → Nat :=
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let v235 : BitVec 32 := Scalar.addi v234 c1_i32_125
  let v236 : BitVec 32 := Scalar.addi arg1 v235
  let c15_i32_159 : BitVec 32 := 15#32
  let v288 : BitVec 32 := Scalar.minsi v236 c15_i32_159
  let c512_i32_160 : BitVec 32 := 512#32
  let v289 : BitVec 32 := Scalar.muli v288 c512_i32_160
  let v290 : BitVec 32 := v289
  let v291 : Index := Scalar.indexCast v290
  let c0_161 : Index := 0#32
  ![v291.toNat, 0]
def k0_mult29 (i : grid0.Coords) (k0_t2 : Fin (k0_t2_loop i).trips) : BitVec 32 :=
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let c1_i32_125 : BitVec 32 := 1#32
  let v235 : BitVec 32 := Scalar.addi v234 c1_i32_125
  let v236 : BitVec 32 := Scalar.addi arg1 v235
  let c15_i32_167 : BitVec 32 := 15#32
  let v300 : BitVec 32 := Scalar.minsi v236 c15_i32_167
  let c512_i32_168 : BitVec 32 := 512#32
  let v301 : BitVec 32 := Scalar.muli v300 c512_i32_168
  v301
def k0_off17 (i : grid0.Coords) (k0_t2 : Fin (k0_t2_loop i).trips) (c1_i32_125 : BitVec 32) : Fin 2 → Nat :=
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let v235 : BitVec 32 := Scalar.addi v234 c1_i32_125
  let v236 : BitVec 32 := Scalar.addi arg1 v235
  let c15_i32_167 : BitVec 32 := 15#32
  let v300 : BitVec 32 := Scalar.minsi v236 c15_i32_167
  let c512_i32_168 : BitVec 32 := 512#32
  let v301 : BitVec 32 := Scalar.muli v300 c512_i32_168
  let v302 : BitVec 32 := v301
  let v303 : Index := Scalar.indexCast v302
  let c0_169 : Index := 0#32
  ![v303.toNat, 0]
def k0_mult30 (i : grid0.Coords) (k0_t2 : Fin (k0_t2_loop i).trips) : BitVec 32 :=
  let arg1 : BitVec 32 := BitVec.ofNat 32 (i 1).val
  let c2_i32_124 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v234 : BitVec 32 := Scalar.muli c2_i32_124 arg18
  let c1_i32_125 : BitVec 32 := 1#32
  let v235 : BitVec 32 := Scalar.addi v234 c1_i32_125
  let v236 : BitVec 32 := Scalar.addi arg1 v235
  let c15_i32_173 : BitVec 32 := 15#32
  let v311 : BitVec 32 := Scalar.minsi v236 c15_i32_173
  let c512_i32_174 : BitVec 32 := 512#32
  let v312 : BitVec 32 := Scalar.muli v311 c512_i32_174
  v312
def k0_mult31 (i : grid0.Coords) (k0_t2 : Fin (k0_t2_loop i).trips) : BitVec 32 :=
  let arg1 : BitVec 32 := BitVec.ofNat 32 (i 1).val
  let c2_i32_182 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v326 : BitVec 32 := Scalar.muli c2_i32_182 arg18
  let c2_i32_183 : BitVec 32 := 2#32
  let v327 : BitVec 32 := Scalar.addi v326 c2_i32_183
  let v328 : BitVec 32 := Scalar.addi arg1 v327
  let c1_i32_184 : BitVec 32 := 1#32
  let v329 : BitVec 32 := Scalar.addi v328 c1_i32_184
  let c15_i32_189 : BitVec 32 := 15#32
  let v335 : BitVec 32 := Scalar.minsi v329 c15_i32_189
  let c512_i32_190 : BitVec 32 := 512#32
  let v336 : BitVec 32 := Scalar.muli v335 c512_i32_190
  v336
def k0_mult32 (i : grid0.Coords) (k0_t2 : Fin (k0_t2_loop i).trips) : BitVec 32 :=
  let arg1 : BitVec 32 := BitVec.ofNat 32 (i 1).val
  let c2_i32_182 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v326 : BitVec 32 := Scalar.muli c2_i32_182 arg18
  let c2_i32_183 : BitVec 32 := 2#32
  let v327 : BitVec 32 := Scalar.addi v326 c2_i32_183
  let v328 : BitVec 32 := Scalar.addi arg1 v327
  let c1_i32_184 : BitVec 32 := 1#32
  let v329 : BitVec 32 := Scalar.addi v328 c1_i32_184
  let c15_i32_197 : BitVec 32 := 15#32
  let v347 : BitVec 32 := Scalar.minsi v329 c15_i32_197
  let c512_i32_198 : BitVec 32 := 512#32
  let v348 : BitVec 32 := Scalar.muli v347 c512_i32_198
  v348
def k0_mult33 (i : grid0.Coords) (k0_t2 : Fin (k0_t2_loop i).trips) : BitVec 32 :=
  let arg1 : BitVec 32 := BitVec.ofNat 32 (i 1).val
  let c2_i32_182 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v326 : BitVec 32 := Scalar.muli c2_i32_182 arg18
  let c2_i32_183 : BitVec 32 := 2#32
  let v327 : BitVec 32 := Scalar.addi v326 c2_i32_183
  let v328 : BitVec 32 := Scalar.addi arg1 v327
  let c15_i32_205 : BitVec 32 := 15#32
  let v358 : BitVec 32 := Scalar.minsi v328 c15_i32_205
  let c512_i32_206 : BitVec 32 := 512#32
  let v359 : BitVec 32 := Scalar.muli v358 c512_i32_206
  v359
def k0_mult34 (i : grid0.Coords) (k0_t2 : Fin (k0_t2_loop i).trips) : BitVec 32 :=
  let arg1 : BitVec 32 := BitVec.ofNat 32 (i 1).val
  let c2_i32_182 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v326 : BitVec 32 := Scalar.muli c2_i32_182 arg18
  let c2_i32_183 : BitVec 32 := 2#32
  let v327 : BitVec 32 := Scalar.addi v326 c2_i32_183
  let v328 : BitVec 32 := Scalar.addi arg1 v327
  let c15_i32_211 : BitVec 32 := 15#32
  let v368 : BitVec 32 := Scalar.minsi v328 c15_i32_211
  let c512_i32_212 : BitVec 32 := 512#32
  let v369 : BitVec 32 := Scalar.muli v368 c512_i32_212
  v369
def k0_mult35 (i : grid0.Coords) (k0_t2 : Fin (k0_t2_loop i).trips) : BitVec 32 :=
  let arg1 : BitVec 32 := BitVec.ofNat 32 (i 1).val
  let c2_i32_182 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v326 : BitVec 32 := Scalar.muli c2_i32_182 arg18
  let c2_i32_183 : BitVec 32 := 2#32
  let v327 : BitVec 32 := Scalar.addi v326 c2_i32_183
  let v328 : BitVec 32 := Scalar.addi arg1 v327
  let c15_i32_217 : BitVec 32 := 15#32
  let v380 : BitVec 32 := Scalar.minsi v328 c15_i32_217
  let c512_i32_218 : BitVec 32 := 512#32
  let v381 : BitVec 32 := Scalar.muli v380 c512_i32_218
  v381
def k0_mult36 (i : grid0.Coords) (k0_t2 : Fin (k0_t2_loop i).trips) : BitVec 32 :=
  let arg1 : BitVec 32 := BitVec.ofNat 32 (i 1).val
  let c2_i32_182 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v326 : BitVec 32 := Scalar.muli c2_i32_182 arg18
  let c2_i32_183 : BitVec 32 := 2#32
  let v327 : BitVec 32 := Scalar.addi v326 c2_i32_183
  let v328 : BitVec 32 := Scalar.addi arg1 v327
  let c15_i32_225 : BitVec 32 := 15#32
  let v392 : BitVec 32 := Scalar.minsi v328 c15_i32_225
  let c512_i32_226 : BitVec 32 := 512#32
  let v393 : BitVec 32 := Scalar.muli v392 c512_i32_226
  v393
def k0_mult37 (i : grid0.Coords) (k0_t2 : Fin (k0_t2_loop i).trips) : BitVec 32 :=
  let arg1 : BitVec 32 := BitVec.ofNat 32 (i 1).val
  let c2_i32_182 : BitVec 32 := 2#32
  let c0_i32_100 : BitVec 32 := 0#32
  let c16_i32 : BitVec 32 := 16#32
  let v11 : BitVec 32 := Scalar.subi c16_i32 arg1
  let c1_i32_92 : BitVec 32 := 1#32
  let v184 : BitVec 32 := Scalar.subi v11 c1_i32_92
  let c0_i32_93 : BitVec 32 := 0#32
  let v186 : BitVec 1 := Scalar.cmpi .sgt v184 c0_i32_93
  let v187 : BitVec 32 := Scalar.extui v186
  let c0_i32_94 : BitVec 32 := 0#32
  let v188 : BitVec 1 := Scalar.cmpi .slt v184 c0_i32_94
  let v189 : BitVec 32 := Scalar.extui v188
  let v190 : BitVec 32 := Scalar.subi v187 v189
  let c2_i32 : BitVec 32 := 2#32
  let c0_i32_95 : BitVec 32 := 0#32
  let v191 : BitVec 1 := Scalar.cmpi .sgt c2_i32 c0_i32_95
  let v192 : BitVec 32 := Scalar.extui v191
  let c0_i32_96 : BitVec 32 := 0#32
  let v193 : BitVec 1 := Scalar.cmpi .slt c2_i32 c0_i32_96
  let v194 : BitVec 32 := Scalar.extui v193
  let v195 : BitVec 32 := Scalar.subi v192 v194
  let v196 : BitVec 1 := Scalar.cmpi .ne v190 v195
  let v197 : BitVec 32 := Scalar.remsi v184 c2_i32
  let c0_i32_97 : BitVec 32 := 0#32
  let v198 : BitVec 1 := Scalar.cmpi .ne v197 c0_i32_97
  let v199 : BitVec 1 := Scalar.andi v196 v198
  let v185 : BitVec 32 := Scalar.divsi v184 c2_i32
  let c1_i32_98 : BitVec 32 := 1#32
  let v200 : BitVec 32 := Scalar.subi v185 c1_i32_98
  let v201 : BitVec 32 := Scalar.select v199 v200 v185
  let v202 : BitVec 32 := Scalar.subi v201 c0_i32_100
  let c1_i32_101 : BitVec 32 := 1#32
  let v204 : BitVec 32 := Scalar.divsi v202 c1_i32_101
  let v205 : BitVec 32 := Scalar.muli v204 c1_i32_101
  let v206 : BitVec 32 := Scalar.addi c0_i32_100 v205
  let c1_i32_103 : BitVec 32 := 1#32
  let arg18 : BitVec 32 := Scf.iv v206 c1_i32_103 k0_t2
  let v326 : BitVec 32 := Scalar.muli c2_i32_182 arg18
  let c2_i32_183 : BitVec 32 := 2#32
  let v327 : BitVec 32 := Scalar.addi v326 c2_i32_183
  let v328 : BitVec 32 := Scalar.addi arg1 v327
  let c15_i32_231 : BitVec 32 := 15#32
  let v403 : BitVec 32 := Scalar.minsi v328 c15_i32_231
  let c512_i32_232 : BitVec 32 := 512#32
  let v404 : BitVec 32 := Scalar.muli v403 c512_i32_232
  v404
def k0_cond2 (i : grid0.Coords) : BitVec 1 :=
  let c16_i32 : BitVec 32 := 16#32
  let arg1 : BitVec 32 := BitVec.ofNat 32 (i 1).val
  let v11 : BitVec 32 := Scalar.subi c16_i32 arg1
  let c1_i32_104 : BitVec 32 := 1#32
  let v207 : BitVec 32 := Scalar.subi v11 c1_i32_104
  let c2_i32_105 : BitVec 32 := 2#32
  let c0_i32_106 : BitVec 32 := 0#32
  let v208 : BitVec 1 := Scalar.cmpi .eq c2_i32_105 c0_i32_106
  let c1_i32_107 : BitVec 32 := 1#32
  let v209 : BitVec 32 := Scalar.select v208 c1_i32_107 c2_i32_105
  let v210 : BitVec 32 := Scalar.remsi v207 v209
  let c0_i32_109 : BitVec 32 := 0#32
  let v212 : BitVec 1 := Scalar.cmpi .slt v210 c0_i32_109
  let c0_i32_110 : BitVec 32 := 0#32
  let v213 : BitVec 1 := Scalar.cmpi .slt v209 c0_i32_110
  let v214 : BitVec 1 := Scalar.xori v212 v213
  let c0_i32_108 : BitVec 32 := 0#32
  let v211 : BitVec 1 := Scalar.cmpi .ne v210 c0_i32_108
  let v215 : BitVec 1 := Scalar.andi v214 v211
  let v216 : BitVec 32 := Scalar.addi v210 v209
  let v217 : BitVec 32 := Scalar.select v215 v216 v210
  let c1_i32_111 : BitVec 32 := 1#32
  let v218 : BitVec 1 := Scalar.cmpi .eq v217 c1_i32_111
  let v219 : BitVec 32 := Scalar.extui v218
  let c0_i32_112 : BitVec 32 := 0#32
  let v220 : BitVec 1 := Scalar.cmpi .ne v219 c0_i32_112
  v220

def k0_mult38 (i : grid0.Coords) : BitVec 32 :=
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c1_i32_125 : BitVec 32 := 1#32
  let v236 : BitVec 32 := Scalar.addi v235 c1_i32_125
  let c15_i32_130 : BitVec 32 := 15#32
  let v242 : BitVec 32 := Scalar.minsi v236 c15_i32_130
  let c512_i32_131 : BitVec 32 := 512#32
  let v243 : BitVec 32 := Scalar.muli v242 c512_i32_131
  v243
def k0_off18 (i : grid0.Coords) : Fin 2 → Nat :=
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c1_i32_125 : BitVec 32 := 1#32
  let v236 : BitVec 32 := Scalar.addi v235 c1_i32_125
  let c15_i32_130 : BitVec 32 := 15#32
  let v242 : BitVec 32 := Scalar.minsi v236 c15_i32_130
  let c512_i32_131 : BitVec 32 := 512#32
  let v243 : BitVec 32 := Scalar.muli v242 c512_i32_131
  let v244 : BitVec 32 := v243
  let v245 : Index := Scalar.indexCast v244
  let c0_132 : Index := 0#32
  ![v245.toNat, 0]
def k0_mult39 (i : grid0.Coords) : BitVec 32 :=
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c1_i32_125 : BitVec 32 := 1#32
  let v236 : BitVec 32 := Scalar.addi v235 c1_i32_125
  let c15_i32_138 : BitVec 32 := 15#32
  let v254 : BitVec 32 := Scalar.minsi v236 c15_i32_138
  let c512_i32_139 : BitVec 32 := 512#32
  let v255 : BitVec 32 := Scalar.muli v254 c512_i32_139
  v255
def k0_off19 (i : grid0.Coords) : Fin 2 → Nat :=
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c1_i32_125 : BitVec 32 := 1#32
  let v236 : BitVec 32 := Scalar.addi v235 c1_i32_125
  let c15_i32_138 : BitVec 32 := 15#32
  let v254 : BitVec 32 := Scalar.minsi v236 c15_i32_138
  let c512_i32_139 : BitVec 32 := 512#32
  let v255 : BitVec 32 := Scalar.muli v254 c512_i32_139
  let v256 : BitVec 32 := v255
  let v257 : Index := Scalar.indexCast v256
  let c0_140 : Index := 0#32
  ![v257.toNat, 0]
def k0_mult40 (i : grid0.Coords) : BitVec 32 :=
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c15_i32_146 : BitVec 32 := 15#32
  let v265 : BitVec 32 := Scalar.minsi v235 c15_i32_146
  let c512_i32_147 : BitVec 32 := 512#32
  let v266 : BitVec 32 := Scalar.muli v265 c512_i32_147
  v266
def k0_off20 (i : grid0.Coords) : Fin 3 → Nat :=
  let c0_148 : Index := 0#32
  let c0_149 : Index := 0#32
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c15_i32_146 : BitVec 32 := 15#32
  let v265 : BitVec 32 := Scalar.minsi v235 c15_i32_146
  let c512_i32_147 : BitVec 32 := 512#32
  let v266 : BitVec 32 := Scalar.muli v265 c512_i32_147
  let v267 : BitVec 32 := v266
  let v268 : Index := Scalar.indexCast v267
  ![0, 0, v268.toNat]
def k0_mult41 (i : grid0.Coords) : BitVec 32 :=
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c15_i32_152 : BitVec 32 := 15#32
  let v275 : BitVec 32 := Scalar.minsi v235 c15_i32_152
  let c512_i32_153 : BitVec 32 := 512#32
  let v276 : BitVec 32 := Scalar.muli v275 c512_i32_153
  v276
def k0_mult42 (i : grid0.Coords) : BitVec 32 :=
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c15_i32_158 : BitVec 32 := 15#32
  let v287 : BitVec 32 := Scalar.minsi v235 c15_i32_158
  let c512_i32_159 : BitVec 32 := 512#32
  let v288 : BitVec 32 := Scalar.muli v287 c512_i32_159
  v288
def k0_off21 (i : grid0.Coords) : Fin 2 → Nat :=
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c15_i32_158 : BitVec 32 := 15#32
  let v287 : BitVec 32 := Scalar.minsi v235 c15_i32_158
  let c512_i32_159 : BitVec 32 := 512#32
  let v288 : BitVec 32 := Scalar.muli v287 c512_i32_159
  let v289 : BitVec 32 := v288
  let v290 : Index := Scalar.indexCast v289
  let c0_160 : Index := 0#32
  ![v290.toNat, 0]
def k0_mult43 (i : grid0.Coords) : BitVec 32 :=
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c15_i32_166 : BitVec 32 := 15#32
  let v299 : BitVec 32 := Scalar.minsi v235 c15_i32_166
  let c512_i32_167 : BitVec 32 := 512#32
  let v300 : BitVec 32 := Scalar.muli v299 c512_i32_167
  v300
def k0_off22 (i : grid0.Coords) : Fin 2 → Nat :=
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c15_i32_166 : BitVec 32 := 15#32
  let v299 : BitVec 32 := Scalar.minsi v235 c15_i32_166
  let c512_i32_167 : BitVec 32 := 512#32
  let v300 : BitVec 32 := Scalar.muli v299 c512_i32_167
  let v301 : BitVec 32 := v300
  let v302 : Index := Scalar.indexCast v301
  let c0_168 : Index := 0#32
  ![v302.toNat, 0]
def k0_mult44 (i : grid0.Coords) : BitVec 32 :=
  let arg1 : BitVec 32 := BitVec.ofNat 32 (i 1).val
  let c16_i32 : BitVec 32 := 16#32
  let v11 : BitVec 32 := Scalar.subi c16_i32 arg1
  let c1_i32_124 : BitVec 32 := 1#32
  let v234 : BitVec 32 := Scalar.subi v11 c1_i32_124
  let v235 : BitVec 32 := Scalar.addi arg1 v234
  let c15_i32_172 : BitVec 32 := 15#32
  let v310 : BitVec 32 := Scalar.minsi v235 c15_i32_172
  let c512_i32_173 : BitVec 32 := 512#32
  let v311 : BitVec 32 := Scalar.muli v310 c512_i32_173
  v311
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S16x8192x192 : Shape := ⟨3, ![16, 8192, 192]⟩
abbrev S16x8192x256 : Shape := ⟨3, ![16, 8192, 256]⟩
abbrev S8192x64 : Shape := ⟨2, ![8192, 64]⟩
abbrev S16x8192x128 : Shape := ⟨3, ![16, 8192, 128]⟩
abbrev S1x8192x64 : Shape := ⟨3, ![1, 8192, 64]⟩
abbrev S16x8192x64 : Shape := ⟨3, ![16, 8192, 64]⟩
abbrev S_ : Shape := ⟨0, ![]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x16x256 : Shape := ⟨3, ![8192, 16, 256]⟩
abbrev S8192x4096 : Shape := ⟨2, ![8192, 4096]⟩

abbrev nBuf : Space → Nat
  | .hbm => 132
  | .vmem => 0
  | .smem => 0
  | _ => 0

abbrev hbmTy0_0 (i : Nat) : BufTy := match i % 128 with
  | 0 => ⟨S16x8192x192, .f32⟩
  | 1 => ⟨S16x8192x256, .f32⟩
  | 2 => ⟨S8192x64, .f32⟩
  | 3 => ⟨S16x8192x128, .f32⟩
  | 4 => ⟨S1x8192x64, .f32⟩
  | 5 => ⟨S16x8192x64, .f32⟩
  | 6 => ⟨S_, .f32⟩
  | 7 => ⟨S16x8192x192, .f32⟩
  | 8 => ⟨S16x8192x192, .f32⟩
  | 9 => ⟨S16x8192x128, .f32⟩
  | 10 => ⟨S16x8192x128, .f32⟩
  | 11 => ⟨S16x8192x8192, .f32⟩
  | 12 => ⟨S16x8192x64, .f32⟩
  | 13 => ⟨S16x8192x8192, .f32⟩
  | 14 => ⟨S16x8192x8192, .f32⟩
  | 15 => ⟨S8192, .i32⟩
  | 16 => ⟨S_, .i32⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i1⟩
  | 24 => ⟨S8192, .i32⟩
  | 25 => ⟨S8192, .i32⟩
  | 26 => ⟨S_, .i32⟩
  | 27 => ⟨S8192, .i32⟩
  | 28 => ⟨S8192, .i1⟩
  | 29 => ⟨S8192, .i1⟩
  | 30 => ⟨S_, .i32⟩
  | 31 => ⟨S8192, .i32⟩
  | 32 => ⟨S8192, .i32⟩
  | 33 => ⟨S8192, .i32⟩
  | 34 => ⟨S1x8192, .i32⟩
  | 35 => ⟨S8192x1, .i32⟩
  | 36 => ⟨S8192x8192, .i32⟩
  | 37 => ⟨S8192x8192, .i32⟩
  | 38 => ⟨S8192x8192, .i1⟩
  | 39 => ⟨S1x8192x8192, .i1⟩
  | 40 => ⟨S_, .f32⟩
  | 41 => ⟨S_, .f32⟩
  | 42 => ⟨S16x8192x8192, .i1⟩
  | 43 => ⟨S16x8192x8192, .f32⟩
  | 44 => ⟨S16x8192x8192, .f32⟩
  | 45 => ⟨S_, .f32⟩
  | 46 => ⟨S16x8192x8192, .f32⟩
  | 47 => ⟨S_, .f32⟩
  | 48 => ⟨S16x8192, .f32⟩
  | 49 => ⟨S16x8192x1, .f32⟩
  | 50 => ⟨S16x8192x8192, .f32⟩
  | 51 => ⟨S16x8192x8192, .i1⟩
  | 52 => ⟨S16x8192x8192, .f32⟩
  | 53 => ⟨S_, .f32⟩
  | 54 => ⟨S16x8192, .f32⟩
  | 55 => ⟨S_, .f32⟩
  | 56 => ⟨S16x8192, .f32⟩
  | 57 => ⟨S16x8192, .f32⟩
  | 58 => ⟨S_, .f32⟩
  | 59 => ⟨S16x8192, .f32⟩
  | 60 => ⟨S16x8192, .i1⟩
  | 61 => ⟨S_, .f32⟩
  | 62 => ⟨S16x8192, .f32⟩
  | 63 => ⟨S16x8192, .i1⟩
  | 64 => ⟨S_, .f32⟩
  | 65 => ⟨S16x8192, .f32⟩
  | 66 => ⟨S_, .f32⟩
  | 67 => ⟨S16x8192, .f32⟩
  | 68 => ⟨S_, .f32⟩
  | 69 => ⟨S16x8192, .f32⟩
  | 70 => ⟨S16x8192, .f32⟩
  | 71 => ⟨S16x8192, .f32⟩
  | 72 => ⟨S16x8192x1, .f32⟩
  | 73 => ⟨S16x8192x8192, .f32⟩
  | 74 => ⟨S16x8192x8192, .f32⟩
  | 75 => ⟨S16x8192x8192, .f32⟩
  | 76 => ⟨S_, .f32⟩
  | 77 => ⟨S16x8192, .f32⟩
  | 78 => ⟨S16x8192x1, .f32⟩
  | 79 => ⟨S16x8192x8192, .f32⟩
  | 80 => ⟨S16x8192x8192, .f32⟩
  | 81 => ⟨S16x8192x1, .f32⟩
  | 82 => ⟨S_, .f32⟩
  | 83 => ⟨S16x8192x1, .f32⟩
  | 84 => ⟨S16x8192x1, .f32⟩
  | 85 => ⟨S16x8192x128, .f32⟩
  | 86 => ⟨S16x8192x128, .f32⟩
  | 87 => ⟨S16x128x8192, .f32⟩
  | 88 => ⟨S16x8192x128, .f32⟩
  | 89 => ⟨S16x8192x8192, .f32⟩
  | 90 => ⟨S_, .f32⟩
  | 91 => ⟨S16x8192x256, .f32⟩
  | 92 => ⟨S16x8192x8192, .f32⟩
  | 93 => ⟨S16x8192x8192, .f32⟩
  | 94 => ⟨S16x8192x8192, .f32⟩
  | 95 => ⟨S_, .f32⟩
  | 96 => ⟨S16x8192, .f32⟩
  | 97 => ⟨S16x8192x1, .f32⟩
  | 98 => ⟨S16x8192x1, .f32⟩
  | 99 => ⟨S16x8192x8192, .f32⟩
  | 100 => ⟨S16x8192x8192, .f32⟩
  | 101 => ⟨S_, .f32⟩
  | 102 => ⟨S16x8192, .f32⟩
  | 103 => ⟨S16x8192x8192, .f32⟩
  | 104 => ⟨S16x8192x8192, .f32⟩
  | 105 => ⟨S16x8192x8192, .f32⟩
  | 106 => ⟨S_, .f32⟩
  | 107 => ⟨S16x8192x8192, .f32⟩
  | 108 => ⟨S16x8192x8192, .f32⟩
  | 109 => ⟨S16x8192x64, .f32⟩
  | 110 => ⟨S16x8192x64, .f32⟩
  | 111 => ⟨S_, .f32⟩
  | 112 => ⟨S16x8192x192, .f32⟩
  | 113 => ⟨S16x8192x128, .f32⟩
  | 114 => ⟨S16x8192x128, .f32⟩
  | 115 => ⟨S_, .f32⟩
  | 116 => ⟨S16x8192x256, .f32⟩
  | 117 => ⟨S16x8192x256, .f32⟩
  | 118 => ⟨S_, .f32⟩
  | 119 => ⟨S16x8192x192, .f32⟩
  | 120 => ⟨S16x8192x192, .f32⟩
  | 121 => ⟨S_, .i32⟩
  | 122 => ⟨S_, .f32⟩
  | 123 => ⟨S16x8192x256, .f32⟩
  | 124 => ⟨S_, .i32⟩
  | 125 => ⟨S_, .f32⟩
  | 126 => ⟨S16x8192x128, .f32⟩
  | 127 => ⟨S8192x16x256, .f32⟩
  | _ => ⟨S16x8192x192, .f32⟩

abbrev hbmTy0_1 (i : Nat) : BufTy := match i % 128 with
  | 0 => ⟨S8192x4096, .f32⟩
  | 1 => ⟨S8192x16x256, .f32⟩
  | 2 => ⟨S8192x4096, .f32⟩
  | 3 => ⟨S8192x4096, .bf16⟩
  | _ => ⟨S16x8192x192, .f32⟩

abbrev hbmTy (i : Nat) : BufTy := match i / 128 with
  | 0 => hbmTy0_0 i
  | 1 => hbmTy0_1 i
  | _ => ⟨S16x8192x192, .f32⟩

abbrev bufTy : (tb : Table) → Fin (tcTables nBuf tb) → BufTy
  | .hbm, ⟨i, _⟩ => hbmTy i
  | _, _ => ⟨S16x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_0 : Ref sig .tc := ⟨.hbm, 40, rfl⟩
abbrev main_call1_v0 : Ref sig .tc := ⟨.hbm, 41, rfl⟩
abbrev main_v18_1 : Ref sig .tc := ⟨.hbm, 42, rfl⟩
abbrev main_call1_v2 : Ref sig .tc := ⟨.hbm, 43, rfl⟩
abbrev main_v18_0 : Ref sig .tc := ⟨.hbm, 44, rfl⟩
abbrev main_call1_cst : Ref sig .tc := ⟨.hbm, 45, rfl⟩
abbrev main_v18_2 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_2 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_cst_7 : Ref sig .tc := ⟨.hbm, 66, rfl⟩
abbrev main_v32 : Ref sig .tc := ⟨.hbm, 67, rfl⟩
abbrev main_cst_8 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_9 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_10 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_12 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_13 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call2_cst : Ref sig .tc := ⟨.hbm, 106, rfl⟩
abbrev main_call2_v0 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_14 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_15 : Ref sig .tc := ⟨.hbm, 115, rfl⟩
abbrev main_v71 : Ref sig .tc := ⟨.hbm, 116, rfl⟩
abbrev main_v72 : Ref sig .tc := ⟨.hbm, 117, rfl⟩
abbrev main_cst_16 : Ref sig .tc := ⟨.hbm, 118, rfl⟩
abbrev main_v73 : Ref sig .tc := ⟨.hbm, 119, rfl⟩
abbrev main_v74 : Ref sig .tc := ⟨.hbm, 120, rfl⟩
abbrev main_c_17 : Ref sig .tc := ⟨.hbm, 121, rfl⟩
abbrev main_call3_v0 : Ref sig .tc := ⟨.hbm, 122, rfl⟩
abbrev main_v75 : Ref sig .tc := ⟨.hbm, 123, rfl⟩
abbrev main_c_18 : Ref sig .tc := ⟨.hbm, 124, rfl⟩
abbrev main_call4_v0 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩

abbrev nD : Nat := 1
abbrev τ : Topo := Topo.v7x

variable {F : FTy → Type} [FloatOps F]
-- ==== BigDx.lean ====
abbrev S2048x10240 : Shape := ⟨2, ![2048, 10240]⟩
abbrev S8192x10240 : Shape := ⟨2, ![8192, 10240]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x10240, .f32⟩
  | .hbm, ⟨1, _⟩ => ⟨S8192x10240, .f32⟩
  | .hbm, ⟨2, _⟩ => ⟨S8192x10240, .bf16⟩
  | .hbm, ⟨3, _⟩ => ⟨S2048x10240, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 5], ![false, false, false]⟩

def k0_cond3 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BigDxRefIdeal.lean ====
abbrev S2048x10240 : Shape := ⟨2, ![2048, 10240]⟩
abbrev S8192x10240 : Shape := ⟨2, ![8192, 10240]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S8192x10240, .f32⟩
  | .hbm, ⟨2, _⟩ => ⟨S_, .f32⟩
  | .hbm, ⟨3, _⟩ => ⟨S8192x2048, .f32⟩
  | .hbm, ⟨4, _⟩ => ⟨S8192x10240, .f32⟩
  | .hbm, ⟨5, _⟩ => ⟨S8192x2048, .f32⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BigDw.lean ====
abbrev S8192x2048 : Shape := ⟨2, ![8192, 2048]⟩
abbrev S8192x10240 : Shape := ⟨2, ![8192, 10240]⟩
abbrev S2048x10240 : Shape := ⟨2, ![2048, 10240]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x10240, .f32⟩
  | .hbm, ⟨2, _⟩ => ⟨S8192x2048, .bf16⟩
  | .hbm, ⟨3, _⟩ => ⟨S8192x10240, .bf16⟩
  | .hbm, ⟨4, _⟩ => ⟨S2048x10240, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BigDwRefIdeal.lean ====
abbrev S8192x2048 : Shape := ⟨2, ![8192, 2048]⟩
abbrev S8192x10240 : Shape := ⟨2, ![8192, 10240]⟩
abbrev S_ : Shape := ⟨0, ![]⟩
abbrev S2048x10240 : Shape := ⟨2, ![2048, 10240]⟩
abbrev S10240x2048 : Shape := ⟨2, ![10240, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x10240, .f32⟩
  | .hbm, ⟨2, _⟩ => ⟨S_, .f32⟩
  | .hbm, ⟨3, _⟩ => ⟨S2048x10240, .f32⟩
  | .hbm, ⟨4, _⟩ => ⟨S8192x10240, .f32⟩
  | .hbm, ⟨5, _⟩ => ⟨S10240x2048, .f32⟩
  | .hbm, ⟨6, _⟩ => ⟨S2048x10240, .f32⟩
  | .hbm, ⟨7, _⟩ => ⟨S2048x10240, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SqDx.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqDxRefIdeal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SqDw.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Big.lean ====
abbrev S8192x2048 : Shape := ⟨2, ![8192, 2048]⟩
abbrev S2048x10240 : Shape := ⟨2, ![2048, 10240]⟩
abbrev S8192x10240 : Shape := ⟨2, ![8192, 10240]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x10240, .f32⟩
  | .hbm, ⟨2, _⟩ => ⟨S8192x2048, .bf16⟩
  | .hbm, ⟨3, _⟩ => ⟨S2048x10240, .bf16⟩
  | .hbm, ⟨4, _⟩ => ⟨S8192x10240, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BigRefIdeal.lean ====
abbrev S8192x2048 : Shape := ⟨2, ![8192, 2048]⟩
abbrev S2048x10240 : Shape := ⟨2, ![2048, 10240]⟩
abbrev S8192x10240 : Shape := ⟨2, ![8192, 10240]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x10240, .f32⟩
  | .hbm, ⟨2, _⟩ => ⟨S8192x10240, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Sq.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LatDx.lean ====
abbrev S512x4096 : Shape := ⟨2, ![512, 4096]⟩
abbrev S8192x4096 : Shape := ⟨2, ![8192, 4096]⟩
abbrev S8192x512 : Shape := ⟨2, ![8192, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S8192x4096, .f32⟩
  | .hbm, ⟨2, _⟩ => ⟨S8192x4096, .bf16⟩
  | .hbm, ⟨3, _⟩ => ⟨S512x4096, .bf16⟩
  | .hbm, ⟨4, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatDxRefIdeal.lean ====
abbrev S512x4096 : Shape := ⟨2, ![512, 4096]⟩
abbrev S8192x4096 : Shape := ⟨2, ![8192, 4096]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S8192x4096, .f32⟩
  | .hbm, ⟨2, _⟩ => ⟨S_, .f32⟩
  | .hbm, ⟨3, _⟩ => ⟨S8192x512, .f32⟩
  | .hbm, ⟨4, _⟩ => ⟨S8192x4096, .f32⟩
  | .hbm, ⟨5, _⟩ => ⟨S8192x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LatDw.lean ====
abbrev S8192x512 : Shape := ⟨2, ![8192, 512]⟩
abbrev S8192x4096 : Shape := ⟨2, ![8192, 4096]⟩
abbrev S512x4096 : Shape := ⟨2, ![512, 4096]⟩
abbrev S2048x512 : Shape := ⟨2, ![2048, 512]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S8192x512, .bf16⟩
  | .hbm, ⟨3, _⟩ => ⟨S8192x4096, .bf16⟩
  | .hbm, ⟨4, _⟩ => ⟨S512x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatDwRefIdeal.lean ====
abbrev S8192x512 : Shape := ⟨2, ![8192, 512]⟩
abbrev S8192x4096 : Shape := ⟨2, ![8192, 4096]⟩
abbrev S_ : Shape := ⟨0, ![]⟩
abbrev S512x4096 : Shape := ⟨2, ![512, 4096]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S_, .f32⟩
  | .hbm, ⟨3, _⟩ => ⟨S512x4096, .f32⟩
  | .hbm, ⟨4, _⟩ => ⟨S8192x4096, .f32⟩
  | .hbm, ⟨5, _⟩ => ⟨S4096x512, .f32⟩
  | .hbm, ⟨6, _⟩ => ⟨S512x4096, .f32⟩
  | .hbm, ⟨7, _⟩ => ⟨S512x4096, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SmallDx.lean ====
abbrev S2048x1152 : Shape := ⟨2, ![2048, 1152]⟩
abbrev S8192x1152 : Shape := ⟨2, ![8192, 1152]⟩
abbrev S8192x2048 : Shape := ⟨2, ![8192, 2048]⟩
abbrev S1024x1152 : Shape := ⟨2, ![1024, 1152]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x1152, .f32⟩
  | .hbm, ⟨1, _⟩ => ⟨S8192x1152, .f32⟩
  | .hbm, ⟨2, _⟩ => ⟨S8192x2048, .f32⟩
  | .hbm, ⟨3, _⟩ => ⟨S8192x1152, .bf16⟩
  | .hbm, ⟨4, _⟩ => ⟨S2048x1152, .bf16⟩
  | .hbm, ⟨5, _⟩ => ⟨S8192x2048, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SmallDxRefIdeal.lean ====
abbrev S2048x1152 : Shape := ⟨2, ![2048, 1152]⟩
abbrev S8192x1152 : Shape := ⟨2, ![8192, 1152]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1152, .f32⟩
  | .hbm, ⟨1, _⟩ => ⟨S8192x1152, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x1152, .f32⟩
  | .hbm, ⟨6, _⟩ => ⟨S8192x2048, .f32⟩
  | .hbm, ⟨7, _⟩ => ⟨S8192x2048, .f32⟩
  | _, _ => ⟨S2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== SmallDw.lean ====
abbrev S8192x2048 : Shape := ⟨2, ![8192, 2048]⟩
abbrev S8192x1152 : Shape := ⟨2, ![8192, 1152]⟩
abbrev S2048x1152 : Shape := ⟨2, ![2048, 1152]⟩
abbrev S2048x1024 : Shape := ⟨2, ![2048, 1024]⟩
abbrev S2048x384 : Shape := ⟨2, ![2048, 384]⟩
abbrev S1024x384 : Shape := ⟨2, ![1024, 384]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1152, .f32⟩
  | .hbm, ⟨2, _⟩ => ⟨S8192x2048, .bf16⟩
  | .hbm, ⟨3, _⟩ => ⟨S8192x1152, .bf16⟩
  | .hbm, ⟨4, _⟩ => ⟨S2048x1152, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SmallDwRefIdeal.lean ====
abbrev S8192x2048 : Shape := ⟨2, ![8192, 2048]⟩
abbrev S8192x1152 : Shape := ⟨2, ![8192, 1152]⟩
abbrev S_ : Shape := ⟨0, ![]⟩
abbrev S2048x1152 : Shape := ⟨2, ![2048, 1152]⟩
abbrev S1152x2048 : Shape := ⟨2, ![1152, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1152, .f32⟩
  | .hbm, ⟨2, _⟩ => ⟨S_, .f32⟩
  | .hbm, ⟨3, _⟩ => ⟨S2048x1152, .f32⟩
  | .hbm, ⟨4, _⟩ => ⟨S8192x1152, .f32⟩
  | .hbm, ⟨5, _⟩ => ⟨S1152x2048, .f32⟩
  | .hbm, ⟨6, _⟩ => ⟨S2048x1152, .f32⟩
  | .hbm, ⟨7, _⟩ => ⟨S2048x1152, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleDw.lean ====
abbrev S8192x256 : Shape := ⟨2, ![8192, 256]⟩
abbrev S8192x2048 : Shape := ⟨2, ![8192, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S8192x2048, .bf16⟩
  | .hbm, ⟨3, _⟩ => ⟨S256x2048, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleDwRefIdeal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LatQ.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x512, .bf16⟩
  | .hbm, ⟨3, _⟩ => ⟨S512x4096, .bf16⟩
  | .hbm, ⟨4, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatQRefIdeal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x4096, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LatKv.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x512, .bf16⟩
  | .hbm, ⟨3, _⟩ => ⟨S512x4096, .bf16⟩
  | .hbm, ⟨4, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatKvRefIdeal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x4096, .f32⟩
  | .hbm, ⟨3, _⟩ => ⟨S8192x4096, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Small.lean ====
abbrev S8192x2048 : Shape := ⟨2, ![8192, 2048]⟩
abbrev S2048x1152 : Shape := ⟨2, ![2048, 1152]⟩
abbrev S8192x1152 : Shape := ⟨2, ![8192, 1152]⟩
abbrev S1024x2048 : Shape := ⟨2, ![1024, 2048]⟩
abbrev S2048x384 : Shape := ⟨2, ![2048, 384]⟩
abbrev S1024x384 : Shape := ⟨2, ![1024, 384]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x1152, .f32⟩
  | .hbm, ⟨2, _⟩ => ⟨S8192x2048, .bf16⟩
  | .hbm, ⟨3, _⟩ => ⟨S2048x1152, .bf16⟩
  | .hbm, ⟨4, _⟩ => ⟨S8192x1152, .f32⟩
  | .local _ .vmem, ⟨0, _⟩ => ⟨S1024x2048, .bf16⟩
  | .local _ .vmem, ⟨1, _⟩ => ⟨S1024x2048, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .f32⟩
  | .local _ .vmem, ⟨5, _⟩ => ⟨S1024x384, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SmallRefIdeal.lean ====
abbrev S8192x2048 : Shape := ⟨2, ![8192, 2048]⟩
abbrev S2048x1152 : Shape := ⟨2, ![2048, 1152]⟩
abbrev S8192x1152 : Shape := ⟨2, ![8192, 1152]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1152, .f32⟩
  | .hbm, ⟨2, _⟩ => ⟨S8192x1152, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Ple.lean ====
abbrev S8192x256 : Shape := ⟨2, ![8192, 256]⟩
abbrev S256x2048 : Shape := ⟨2, ![256, 2048]⟩
abbrev S8192x2048 : Shape := ⟨2, ![8192, 2048]⟩
abbrev S512x256 : Shape := ⟨2, ![512, 256]⟩
abbrev S256x1024 : Shape := ⟨2, ![256, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S256x2048, .bf16⟩
  | .hbm, ⟨3, _⟩ => ⟨S8192x2048, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleRefIdeal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Attn.lean ====
abbrev S16x8192x192 : Shape := ⟨3, ![16, 8192, 192]⟩
abbrev S16x8192x256 : Shape := ⟨3, ![16, 8192, 256]⟩
abbrev S8192x64 : Shape := ⟨2, ![8192, 64]⟩
abbrev S8192x10240 : Shape := ⟨2, ![8192, 10240]⟩
abbrev S_ : Shape := ⟨0, ![]⟩
abbrev S8192x128 : Shape := ⟨2, ![8192, 128]⟩
abbrev S8192x16x256 : Shape := ⟨3, ![8192, 16, 256]⟩
abbrev S8192x4096 : Shape := ⟨2, ![8192, 4096]⟩
abbrev S8192x2048 : Shape := ⟨2, ![8192, 2048]⟩
abbrev S16x8192x128 : Shape := ⟨3, ![16, 8192, 128]⟩
abbrev S1024x256 : Shape := ⟨2, ![1024, 256]⟩
abbrev S1024x128 : Shape := ⟨2, ![1024, 128]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 27
  | .vmem => 22
  | .smem => 0
  | _ => 0

abbrev bufTy : (tb : Table) → Fin (tcTables nBuf tb) → BufTy
  | .hbm, ⟨0, _⟩ => ⟨S16x8192x192, .f32⟩
  | .hbm, ⟨1, _⟩ => ⟨S16x8192x256, .f32⟩
  | .hbm, ⟨2, _⟩ => ⟨S8192x64, .f32⟩
  | .hbm, ⟨3, _⟩ => ⟨S8192x10240, .f32⟩
  | .hbm, ⟨4, _⟩ => ⟨S_, .f32⟩
  | .hbm, ⟨5, _⟩ => ⟨S16x8192x192, .f32⟩
  | .hbm, ⟨6, _⟩ => ⟨S16x8192x192, .f32⟩
  | .hbm, ⟨7, _⟩ => ⟨S_, .f32⟩
  | .hbm, ⟨8, _⟩ => ⟨S_, .f32⟩
  | .hbm, ⟨9, _⟩ => ⟨S16x8192x192, .f32⟩
  | .hbm, ⟨10, _⟩ => ⟨S16x8192x192, .f32⟩
  | .hbm, ⟨11, _⟩ => ⟨S_, .i32⟩
  | .hbm, ⟨12, _⟩ => ⟨S_, .f32⟩
  | .hbm, ⟨13, _⟩ => ⟨S16x8192x256, .f32⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S8192x16x256, .f32⟩
  | .hbm, ⟨18, _⟩ => ⟨S8192x4096, .f32⟩
  | .hbm, ⟨19, _⟩ => ⟨S8192x4096, .bf16⟩
  | .hbm, ⟨20, _⟩ => ⟨S8192x16x256, .f32⟩
  | .hbm, ⟨21, _⟩ => ⟨S8192x4096, .f32⟩
  | .hbm, ⟨22, _⟩ => ⟨S8192x4096, .bf16⟩
  | .hbm, ⟨23, _⟩ => ⟨S8192x128, .bf16⟩
  | .hbm, ⟨24, _⟩ => ⟨S8192x2048, .f32⟩
  | .hbm, ⟨25, _⟩ => ⟨S8192x2048, .bf16⟩
  | .hbm, ⟨26, _⟩ => ⟨S16x8192x128, .f32⟩
  | .local _ .vmem, ⟨0, _⟩ => ⟨S1024x256, .bf16⟩
  | .local _ .vmem, ⟨1, _⟩ => ⟨S1024x256, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .bf16⟩
  | .local _ .vmem, ⟨12, _⟩ => ⟨S1024x128, .bf16⟩
  | .local _ .vmem, ⟨13, _⟩ => ⟨S1x1024x128, .f32⟩
  | .local _ .vmem, ⟨14, _⟩ => ⟨S1x1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | _, _ => ⟨S16x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_c_1 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

def k0_mult1 : BitVec 32 :=
  let c0_i32 : BitVec 32 := 0#32
  c0_i32
@[reducible] def k0_t1_loop (i : grid0.Coords) : Scf.Loop 32 :=
  let c0_i32_23 : BitVec 32 := 0#32
  let arg1 : BitVec 32 := BitVec.ofNat 32 (i 1).val
  let c0_i32_17 : BitVec 32 := 0#32
  let v31 : BitVec 1 := Scalar.cmpi .sgt arg1 c0_i32_17
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c2_i32 : BitVec 32 := 2#32
  let c0_i32_19 : BitVec 32 := 0#32
  let v36 : BitVec 1 := Scalar.cmpi .sgt c2_i32 c0_i32_19
  let v37 : BitVec 32 := Scalar.extui v36
  let c0_i32_20 : BitVec 32 := 0#32
  let v38 : BitVec 1 := Scalar.cmpi .slt c2_i32 c0_i32_20
  let v39 : BitVec 32 := Scalar.extui v38
  let v40 : BitVec 32 := Scalar.subi v37 v39
  let v41 : BitVec 1 := Scalar.cmpi .ne v35 v40
  let v42 : BitVec 32 := Scalar.remsi arg1 c2_i32
  let c0_i32_21 : BitVec 32 := 0#32
  let v43 : BitVec 1 := Scalar.cmpi .ne v42 c0_i32_21
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_25 : BitVec 32 := 1#32
  ⟨c0_i32_23, v51, c1_i32_25⟩
def k0_mult2 (i : grid0.Coords) (k0_t1 : Fin (k0_t1_loop i).trips) : BitVec 32 :=
  let c2_i32_62 : BitVec 32 := 2#32
  let c0_i32_23 : BitVec 32 := 0#32
  let c1_i32_25 : BitVec 32 := 1#32
  let arg17 : BitVec 32 := Scf.iv c0_i32_23 c1_i32_25 k0_t1
  let v102 : BitVec 32 := Scalar.muli c2_i32_62 arg17
  let c1_i32_63 : BitVec 32 := 1#32
  let v103 : BitVec 32 := Scalar.addi v102 c1_i32_63
  let c1024_i32 : BitVec 32 := 1024#32
  let v104 : BitVec 32 := Scalar.muli v103 c1024_i32
  v104
def k0_off1 (i : grid0.Coords) (k0_t1 : Fin (k0_t1_loop i).trips) : Fin 2 → Nat :=
  let c2_i32_62 : BitVec 32 := 2#32
  let c0_i32_23 : BitVec 32 := 0#32
  let c1_i32_25 : BitVec 32 := 1#32
  let arg17 : BitVec 32 := Scf.iv c0_i32_23 c1_i32_25 k0_t1
  let v102 : BitVec 32 := Scalar.muli c2_i32_62 arg17
  let c1_i32_63 : BitVec 32 := 1#32
  let v103 : BitVec 32 := Scalar.addi v102 c1_i32_63
  let c1024_i32 : BitVec 32 := 1024#32
  let v104 : BitVec 32 := Scalar.muli v103 c1024_i32
  let v105 : BitVec 32 := v104
  let v106 : Index := Scalar.indexCast v105
  let c0_64 : Index := 0#32
  ![v106.toNat, 0]
def k0_mult3 (i : grid0.Coords) (k0_t1 : Fin (k0_t1_loop i).trips) : BitVec 32 :=
  let c2_i32_62 : BitVec 32 := 2#32
  let c0_i32_23 : BitVec 32 := 0#32
  let c1_i32_25 : BitVec 32 := 1#32
  let arg17 : BitVec 32 := Scf.iv c0_i32_23 c1_i32_25 k0_t1
  let v102 : BitVec 32 := Scalar.muli c2_i32_62 arg17
  let c1_i32_71 : BitVec 32 := 1#32
  let v119 : BitVec 32 := Scalar.subi v102 c1_i32_71
  let c0_i32_72 : BitVec 32 := 0#32
  let v120 : BitVec 32 := Scalar.maxsi v119 c0_i32_72
  let c1024_i32_73 : BitVec 32 := 1024#32
  let v121 : BitVec 32 := Scalar.muli v120 c1024_i32_73
  v121
def k0_off2 (i : grid0.Coords) (k0_t1 : Fin (k0_t1_loop i).trips) : Fin 2 → Nat :=
  let c2_i32_62 : BitVec 32 := 2#32
  let c0_i32_23 : BitVec 32 := 0#32
  let c1_i32_25 : BitVec 32 := 1#32
  let arg17 : BitVec 32 := Scf.iv c0_i32_23 c1_i32_25 k0_t1
  let v102 : BitVec 32 := Scalar.muli c2_i32_62 arg17
  let c1_i32_71 : BitVec 32 := 1#32
  let v119 : BitVec 32 := Scalar.subi v102 c1_i32_71
  let c0_i32_72 : BitVec 32 := 0#32
  let v120 : BitVec 32 := Scalar.maxsi v119 c0_i32_72
  let c1024_i32_73 : BitVec 32 := 1024#32
  let v121 : BitVec 32 := Scalar.muli v120 c1024_i32_73
  let v122 : BitVec 32 := v121
  let v125 : Index := Scalar.indexCast v122
  let c0_78 : Index := 0#32
  ![v125.toNat, 0]
def k0_mult4 (i : grid0.Coords) (k0_t1 : Fin (k0_t1_loop i).trips) : BitVec 32 :=
  let c2_i32_100 : BitVec 32 := 2#32
  let c0_i32_23 : BitVec 32 := 0#32
  let c1_i32_25 : BitVec 32 := 1#32
  let arg17 : BitVec 32 := Scf.iv c0_i32_23 c1_i32_25 k0_t1
  let v165 : BitVec 32 := Scalar.muli c2_i32_100 arg17
  let c1_i32_101 : BitVec 32 := 1#32
  let v166 : BitVec 32 := Scalar.addi v165 c1_i32_101
  let c1_i32_102 : BitVec 32 := 1#32
  let v167 : BitVec 32 := Scalar.addi v166 c1_i32_102
  let c1024_i32_103 : BitVec 32 := 1024#32
  let v168 : BitVec 32 := Scalar.muli v167 c1024_i32_103
  v168
def k0_off3 (i : grid0.Coords) (k0_t1 : Fin (k0_t1_loop i).trips) : Fin 2 → Nat :=
  let c2_i32_100 : BitVec 32 := 2#32
  let c0_i32_23 : BitVec 32 := 0#32
  let c1_i32_25 : BitVec 32 := 1#32
  let arg17 : BitVec 32 := Scf.iv c0_i32_23 c1_i32_25 k0_t1
  let v165 : BitVec 32 := Scalar.muli c2_i32_100 arg17
  let c1_i32_101 : BitVec 32 := 1#32
  let v166 : BitVec 32 := Scalar.addi v165 c1_i32_101
  let c1_i32_102 : BitVec 32 := 1#32
  let v167 : BitVec 32 := Scalar.addi v166 c1_i32_102
  let c1024_i32_103 : BitVec 32 := 1024#32
  let v168 : BitVec 32 := Scalar.muli v167 c1024_i32_103
  let v169 : BitVec 32 := v168
  let v170 : Index := Scalar.indexCast v169
  let c0_104 : Index := 0#32
  ![v170.toNat, 0]
def k0_mult5 (i : grid0.Coords) (k0_t1 : Fin (k0_t1_loop i).trips) : BitVec 32 :=
  let c2_i32_100 : BitVec 32 := 2#32
  let c0_i32_23 : BitVec 32 := 0#32
  let c1_i32_25 : BitVec 32 := 1#32
  let arg17 : BitVec 32 := Scf.iv c0_i32_23 c1_i32_25 k0_t1
  let v165 : BitVec 32 := Scalar.muli c2_i32_100 arg17
  let c1_i32_101 : BitVec 32 := 1#32
  let v166 : BitVec 32 := Scalar.addi v165 c1_i32_101
  let c1_i32_111 : BitVec 32 := 1#32
  let v183 : BitVec 32 := Scalar.subi v166 c1_i32_111
  let c0_i32_112 : BitVec 32 := 0#32
  let v184 : BitVec 32 := Scalar.maxsi v183 c0_i32_112
  let c1024_i32_113 : BitVec 32 := 1024#32
  let v185 : BitVec 32 := Scalar.muli v184 c1024_i32_113
  v185
def k0_off4 (i : grid0.Coords) (k0_t1 : Fin (k0_t1_loop i).trips) : Fin 2 → Nat :=
  let c2_i32_100 : BitVec 32 := 2#32
  let c0_i32_23 : BitVec 32 := 0#32
  let c1_i32_25 : BitVec 32 := 1#32
  let arg17 : BitVec 32 := Scf.iv c0_i32_23 c1_i32_25 k0_t1
  let v165 : BitVec 32 := Scalar.muli c2_i32_100 arg17
  let c1_i32_101 : BitVec 32 := 1#32
  let v166 : BitVec 32 := Scalar.addi v165 c1_i32_101
  let c1_i32_111 : BitVec 32 := 1#32
  let v183 : BitVec 32 := Scalar.subi v166 c1_i32_111
  let c0_i32_112 : BitVec 32 := 0#32
  let v184 : BitVec 32 := Scalar.maxsi v183 c0_i32_112
  let c1024_i32_113 : BitVec 32 := 1024#32
  let v185 : BitVec 32 := Scalar.muli v184 c1024_i32_113
  let v186 : BitVec 32 := v185
  let v189 : Index := Scalar.indexCast v186
  let c0_118 : Index := 0#32
  ![v189.toNat, 0]
@[reducible] def k0_t2_loop (i : grid0.Coords) : Scf.Loop 32 :=
  let c0_i32_23 : BitVec 32 := 0#32
  let arg1 : BitVec 32 := BitVec.ofNat 32 (i 1).val
  let c0_i32_17 : BitVec 32 := 0#32
  let v31 : BitVec 1 := Scalar.cmpi .sgt arg1 c0_i32_17
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c2_i32 : BitVec 32 := 2#32
  let c0_i32_19 : BitVec 32 := 0#32
  let v36 : BitVec 1 := Scalar.cmpi .sgt c2_i32 c0_i32_19
  let v37 : BitVec 32 := Scalar.extui v36
  let c0_i32_20 : BitVec 32 := 0#32
  let v38 : BitVec 1 := Scalar.cmpi .slt c2_i32 c0_i32_20
  let v39 : BitVec 32 := Scalar.extui v38
  let v40 : BitVec 32 := Scalar.subi v37 v39
  let v41 : BitVec 1 := Scalar.cmpi .ne v35 v40
  let v42 : BitVec 32 := Scalar.remsi arg1 c2_i32
  let c0_i32_21 : BitVec 32 := 0#32
  let v43 : BitVec 1 := Scalar.cmpi .ne v42 c0_i32_21
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let v48 : BitVec 32 := Scalar.addi c0_i32_23 v47
  let c1_i32_26 : BitVec 32 := 1#32
  ⟨v51, v48, c1_i32_26⟩
def k0_mult6 (i : grid0.Coords) (k0_t2 : Fin (k0_t2_loop i).trips) : BitVec 32 :=
  let c2_i32_62 : BitVec 32 := 2#32
  let c0_i32_23 : BitVec 32 := 0#32
  let arg1 : BitVec 32 := BitVec.ofNat 32 (i 1).val
  let c0_i32_17 : BitVec 32 := 0#32
  let v31 : BitVec 1 := Scalar.cmpi .sgt arg1 c0_i32_17
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c2_i32 : BitVec 32 := 2#32
  let c0_i32_19 : BitVec 32 := 0#32
  let v36 : BitVec 1 := Scalar.cmpi .sgt c2_i32 c0_i32_19
  let v37 : BitVec 32 := Scalar.extui v36
  let c0_i32_20 : BitVec 32 := 0#32
  let v38 : BitVec 1 := Scalar.cmpi .slt c2_i32 c0_i32_20
  let v39 : BitVec 32 := Scalar.extui v38
  let v40 : BitVec 32 := Scalar.subi v37 v39
  let v41 : BitVec 1 := Scalar.cmpi .ne v35 v40
  let v42 : BitVec 32 := Scalar.remsi arg1 c2_i32
  let c0_i32_21 : BitVec 32 := 0#32
  let v43 : BitVec 1 := Scalar.cmpi .ne v42 c0_i32_21
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg17 : BitVec 32 := Scf.iv v51 c1_i32_26 k0_t2
  let v102 : BitVec 32 := Scalar.muli c2_i32_62 arg17
  let c1_i32_63 : BitVec 32 := 1#32
  let v103 : BitVec 32 := Scalar.addi v102 c1_i32_63
  let c1024_i32 : BitVec 32 := 1024#32
  let v104 : BitVec 32 := Scalar.muli v103 c1024_i32
  v104
def k0_off5 (i : grid0.Coords) (k0_t2 : Fin (k0_t2_loop i).trips) : Fin 2 → Nat :=
  let c2_i32_62 : BitVec 32 := 2#32
  let c0_i32_23 : BitVec 32 := 0#32
  let arg1 : BitVec 32 := BitVec.ofNat 32 (i 1).val
  let c0_i32_17 : BitVec 32 := 0#32
  let v31 : BitVec 1 := Scalar.cmpi .sgt arg1 c0_i32_17
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c2_i32 : BitVec 32 := 2#32
  let c0_i32_19 : BitVec 32 := 0#32
  let v36 : BitVec 1 := Scalar.cmpi .sgt c2_i32 c0_i32_19
  let v37 : BitVec 32 := Scalar.extui v36
  let c0_i32_20 : BitVec 32 := 0#32
  let v38 : BitVec 1 := Scalar.cmpi .slt c2_i32 c0_i32_20
  let v39 : BitVec 32 := Scalar.extui v38
  let v40 : BitVec 32 := Scalar.subi v37 v39
  let v41 : BitVec 1 := Scalar.cmpi .ne v35 v40
  let v42 : BitVec 32 := Scalar.remsi arg1 c2_i32
  let c0_i32_21 : BitVec 32 := 0#32
  let v43 : BitVec 1 := Scalar.cmpi .ne v42 c0_i32_21
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg17 : BitVec 32 := Scf.iv v51 c1_i32_26 k0_t2
  let v102 : BitVec 32 := Scalar.muli c2_i32_62 arg17
  let c1_i32_63 : BitVec 32 := 1#32
  let v103 : BitVec 32 := Scalar.addi v102 c1_i32_63
  let c1024_i32 : BitVec 32 := 1024#32
  let v104 : BitVec 32 := Scalar.muli v103 c1024_i32
  let v105 : BitVec 32 := v104
  let v106 : Index := Scalar.indexCast v105
  let c0_64 : Index := 0#32
  ![v106.toNat, 0]
def k0_mult7 (i : grid0.Coords) (k0_t2 : Fin (k0_t2_loop i).trips) : BitVec 32 :=
  let c2_i32_62 : BitVec 32 := 2#32
  let c0_i32_23 : BitVec 32 := 0#32
  let arg1 : BitVec 32 := BitVec.ofNat 32 (i 1).val
  let c0_i32_17 : BitVec 32 := 0#32
  let v31 : BitVec 1 := Scalar.cmpi .sgt arg1 c0_i32_17
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c2_i32 : BitVec 32 := 2#32
  let c0_i32_19 : BitVec 32 := 0#32
  let v36 : BitVec 1 := Scalar.cmpi .sgt c2_i32 c0_i32_19
  let v37 : BitVec 32 := Scalar.extui v36
  let c0_i32_20 : BitVec 32 := 0#32
  let v38 : BitVec 1 := Scalar.cmpi .slt c2_i32 c0_i32_20
  let v39 : BitVec 32 := Scalar.extui v38
  let v40 : BitVec 32 := Scalar.subi v37 v39
  let v41 : BitVec 1 := Scalar.cmpi .ne v35 v40
  let v42 : BitVec 32 := Scalar.remsi arg1 c2_i32
  let c0_i32_21 : BitVec 32 := 0#32
  let v43 : BitVec 1 := Scalar.cmpi .ne v42 c0_i32_21
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg17 : BitVec 32 := Scf.iv v51 c1_i32_26 k0_t2
  let v102 : BitVec 32 := Scalar.muli c2_i32_62 arg17
  let c1_i32_71 : BitVec 32 := 1#32
  let v119 : BitVec 32 := Scalar.subi v102 c1_i32_71
  let c0_i32_72 : BitVec 32 := 0#32
  let v120 : BitVec 32 := Scalar.maxsi v119 c0_i32_72
  let c1024_i32_73 : BitVec 32 := 1024#32
  let v121 : BitVec 32 := Scalar.muli v120 c1024_i32_73
  v121
def k0_off6 (i : grid0.Coords) (k0_t2 : Fin (k0_t2_loop i).trips) : Fin 2 → Nat :=
  let c2_i32_62 : BitVec 32 := 2#32
  let c0_i32_23 : BitVec 32 := 0#32
  let arg1 : BitVec 32 := BitVec.ofNat 32 (i 1).val
  let c0_i32_17 : BitVec 32 := 0#32
  let v31 : BitVec 1 := Scalar.cmpi .sgt arg1 c0_i32_17
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c2_i32 : BitVec 32 := 2#32
  let c0_i32_19 : BitVec 32 := 0#32
  let v36 : BitVec 1 := Scalar.cmpi .sgt c2_i32 c0_i32_19
  let v37 : BitVec 32 := Scalar.extui v36
  let c0_i32_20 : BitVec 32 := 0#32
  let v38 : BitVec 1 := Scalar.cmpi .slt c2_i32 c0_i32_20
  let v39 : BitVec 32 := Scalar.extui v38
  let v40 : BitVec 32 := Scalar.subi v37 v39
  let v41 : BitVec 1 := Scalar.cmpi .ne v35 v40
  let v42 : BitVec 32 := Scalar.remsi arg1 c2_i32
  let c0_i32_21 : BitVec 32 := 0#32
  let v43 : BitVec 1 := Scalar.cmpi .ne v42 c0_i32_21
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg17 : BitVec 32 := Scf.iv v51 c1_i32_26 k0_t2
  let v102 : BitVec 32 := Scalar.muli c2_i32_62 arg17
  let c1_i32_71 : BitVec 32 := 1#32
  let v119 : BitVec 32 := Scalar.subi v102 c1_i32_71
  let c0_i32_72 : BitVec 32 := 0#32
  let v120 : BitVec 32 := Scalar.maxsi v119 c0_i32_72
  let c1024_i32_73 : BitVec 32 := 1024#32
  let v121 : BitVec 32 := Scalar.muli v120 c1024_i32_73
  let v122 : BitVec 32 := v121
  let v125 : Index := Scalar.indexCast v122
  let c0_78 : Index := 0#32
  ![v125.toNat, 0]
def k0_mult8 (i : grid0.Coords) (k0_t2 : Fin (k0_t2_loop i).trips) : BitVec 32 :=
  let c2_i32_100 : BitVec 32 := 2#32
  let c0_i32_23 : BitVec 32 := 0#32
  let arg1 : BitVec 32 := BitVec.ofNat 32 (i 1).val
  let c0_i32_17 : BitVec 32 := 0#32
  let v31 : BitVec 1 := Scalar.cmpi .sgt arg1 c0_i32_17
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c2_i32 : BitVec 32 := 2#32
  let c0_i32_19 : BitVec 32 := 0#32
  let v36 : BitVec 1 := Scalar.cmpi .sgt c2_i32 c0_i32_19
  let v37 : BitVec 32 := Scalar.extui v36
  let c0_i32_20 : BitVec 32 := 0#32
  let v38 : BitVec 1 := Scalar.cmpi .slt c2_i32 c0_i32_20
  let v39 : BitVec 32 := Scalar.extui v38
  let v40 : BitVec 32 := Scalar.subi v37 v39
  let v41 : BitVec 1 := Scalar.cmpi .ne v35 v40
  let v42 : BitVec 32 := Scalar.remsi arg1 c2_i32
  let c0_i32_21 : BitVec 32 := 0#32
  let v43 : BitVec 1 := Scalar.cmpi .ne v42 c0_i32_21
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg17 : BitVec 32 := Scf.iv v51 c1_i32_26 k0_t2
  let v165 : BitVec 32 := Scalar.muli c2_i32_100 arg17
  let c1_i32_101 : BitVec 32 := 1#32
  let v166 : BitVec 32 := Scalar.addi v165 c1_i32_101
  let c1_i32_102 : BitVec 32 := 1#32
  let v167 : BitVec 32 := Scalar.addi v166 c1_i32_102
  let c1024_i32_103 : BitVec 32 := 1024#32
  let v168 : BitVec 32 := Scalar.muli v167 c1024_i32_103
  v168
def k0_off7 (i : grid0.Coords) (k0_t2 : Fin (k0_t2_loop i).trips) : Fin 2 → Nat :=
  let c2_i32_100 : BitVec 32 := 2#32
  let c0_i32_23 : BitVec 32 := 0#32
  let arg1 : BitVec 32 := BitVec.ofNat 32 (i 1).val
  let c0_i32_17 : BitVec 32 := 0#32
  let v31 : BitVec 1 := Scalar.cmpi .sgt arg1 c0_i32_17
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c2_i32 : BitVec 32 := 2#32
  let c0_i32_19 : BitVec 32 := 0#32
  let v36 : BitVec 1 := Scalar.cmpi .sgt c2_i32 c0_i32_19
  let v37 : BitVec 32 := Scalar.extui v36
  let c0_i32_20 : BitVec 32 := 0#32
  let v38 : BitVec 1 := Scalar.cmpi .slt c2_i32 c0_i32_20
  let v39 : BitVec 32 := Scalar.extui v38
  let v40 : BitVec 32 := Scalar.subi v37 v39
  let v41 : BitVec 1 := Scalar.cmpi .ne v35 v40
  let v42 : BitVec 32 := Scalar.remsi arg1 c2_i32
  let c0_i32_21 : BitVec 32 := 0#32
  let v43 : BitVec 1 := Scalar.cmpi .ne v42 c0_i32_21
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg17 : BitVec 32 := Scf.iv v51 c1_i32_26 k0_t2
  let v165 : BitVec 32 := Scalar.muli c2_i32_100 arg17
  let c1_i32_101 : BitVec 32 := 1#32
  let v166 : BitVec 32 := Scalar.addi v165 c1_i32_101
  let c1_i32_102 : BitVec 32 := 1#32
  let v167 : BitVec 32 := Scalar.addi v166 c1_i32_102
  let c1024_i32_103 : BitVec 32 := 1024#32
  let v168 : BitVec 32 := Scalar.muli v167 c1024_i32_103
  let v169 : BitVec 32 := v168
  let v170 : Index := Scalar.indexCast v169
  let c0_104 : Index := 0#32
  ![v170.toNat, 0]
def k0_mult9 (i : grid0.Coords) (k0_t2 : Fin (k0_t2_loop i).trips) : BitVec 32 :=
  let c2_i32_100 : BitVec 32 := 2#32
  let c0_i32_23 : BitVec 32 := 0#32
  let arg1 : BitVec 32 := BitVec.ofNat 32 (i 1).val
  let c0_i32_17 : BitVec 32 := 0#32
  let v31 : BitVec 1 := Scalar.cmpi .sgt arg1 c0_i32_17
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c2_i32 : BitVec 32 := 2#32
  let c0_i32_19 : BitVec 32 := 0#32
  let v36 : BitVec 1 := Scalar.cmpi .sgt c2_i32 c0_i32_19
  let v37 : BitVec 32 := Scalar.extui v36
  let c0_i32_20 : BitVec 32 := 0#32
  let v38 : BitVec 1 := Scalar.cmpi .slt c2_i32 c0_i32_20
  let v39 : BitVec 32 := Scalar.extui v38
  let v40 : BitVec 32 := Scalar.subi v37 v39
  let v41 : BitVec 1 := Scalar.cmpi .ne v35 v40
  let v42 : BitVec 32 := Scalar.remsi arg1 c2_i32
  let c0_i32_21 : BitVec 32 := 0#32
  let v43 : BitVec 1 := Scalar.cmpi .ne v42 c0_i32_21
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg17 : BitVec 32 := Scf.iv v51 c1_i32_26 k0_t2
  let v165 : BitVec 32 := Scalar.muli c2_i32_100 arg17
  let c1_i32_101 : BitVec 32 := 1#32
  let v166 : BitVec 32 := Scalar.addi v165 c1_i32_101
  let c1_i32_111 : BitVec 32 := 1#32
  let v183 : BitVec 32 := Scalar.subi v166 c1_i32_111
  let c0_i32_112 : BitVec 32 := 0#32
  let v184 : BitVec 32 := Scalar.maxsi v183 c0_i32_112
  let c1024_i32_113 : BitVec 32 := 1024#32
  let v185 : BitVec 32 := Scalar.muli v184 c1024_i32_113
  v185
def k0_off8 (i : grid0.Coords) (k0_t2 : Fin (k0_t2_loop i).trips) : Fin 2 → Nat :=
  let c2_i32_100 : BitVec 32 := 2#32
  let c0_i32_23 : BitVec 32 := 0#32
  let arg1 : BitVec 32 := BitVec.ofNat 32 (i 1).val
  let c0_i32_17 : BitVec 32 := 0#32
  let v31 : BitVec 1 := Scalar.cmpi .sgt arg1 c0_i32_17
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c2_i32 : BitVec 32 := 2#32
  let c0_i32_19 : BitVec 32 := 0#32
  let v36 : BitVec 1 := Scalar.cmpi .sgt c2_i32 c0_i32_19
  let v37 : BitVec 32 := Scalar.extui v36
  let c0_i32_20 : BitVec 32 := 0#32
  let v38 : BitVec 1 := Scalar.cmpi .slt c2_i32 c0_i32_20
  let v39 : BitVec 32 := Scalar.extui v38
  let v40 : BitVec 32 := Scalar.subi v37 v39
  let v41 : BitVec 1 := Scalar.cmpi .ne v35 v40
  let v42 : BitVec 32 := Scalar.remsi arg1 c2_i32
  let c0_i32_21 : BitVec 32 := 0#32
  let v43 : BitVec 1 := Scalar.cmpi .ne v42 c0_i32_21
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg17 : BitVec 32 := Scf.iv v51 c1_i32_26 k0_t2
  let v165 : BitVec 32 := Scalar.muli c2_i32_100 arg17
  let c1_i32_101 : BitVec 32 := 1#32
  let v166 : BitVec 32 := Scalar.addi v165 c1_i32_101
  let c1_i32_111 : BitVec 32 := 1#32
  let v183 : BitVec 32 := Scalar.subi v166 c1_i32_111
  let c0_i32_112 : BitVec 32 := 0#32
  let v184 : BitVec 32 := Scalar.maxsi v183 c0_i32_112
  let c1024_i32_113 : BitVec 32 := 1024#32
  let v185 : BitVec 32 := Scalar.muli v184 c1024_i32_113
  let v186 : BitVec 32 := v185
  let v189 : Index := Scalar.indexCast v186
  let c0_118 : Index := 0#32
  ![v189.toNat, 0]
def k0_cond1 (i : grid0.Coords) : BitVec 1 :=
  let arg1 : BitVec 32 := BitVec.ofNat 32 (i 1).val
  let c2_i32_27 : BitVec 32 := 2#32
  let c0_i32_28 : BitVec 32 := 0#32
  let v52 : BitVec 1 := Scalar.cmpi .eq c2_i32_27 c0_i32_28
  let c1_i32_29 : BitVec 32 := 1#32
  let v53 : BitVec 32 := Scalar.select v52 c1_i32_29 c2_i32_27
  let v54 : BitVec 32 := Scalar.remsi arg1 v53
  let c0_i32_31 : BitVec 32 := 0#32
  let v56 : BitVec 1 := Scalar.cmpi .slt v54 c0_i32_31
  let c0_i32_32 : BitVec 32 := 0#32
  let v57 : BitVec 1 := Scalar.cmpi .slt v53 c0_i32_32
  let v58 : BitVec 1 := Scalar.xori v56 v57
  let c0_i32_30 : BitVec 32 := 0#32
  let v55 : BitVec 1 := Scalar.cmpi .ne v54 c0_i32_30
  let v59 : BitVec 1 := Scalar.andi v58 v55
  let v60 : BitVec 32 := Scalar.addi v54 v53
  let v61 : BitVec 32 := Scalar.select v59 v60 v54
  let c0_i32_33 : BitVec 32 := 0#32
  let v62 : BitVec 1 := Scalar.cmpi .eq v61 c0_i32_33
  let v63 : BitVec 32 := Scalar.extui v62
  let c0_i32_34 : BitVec 32 := 0#32
  let v64 : BitVec 1 := Scalar.cmpi .ne v63 c0_i32_34
  v64

def k0_mult10 (i : grid0.Coords) : BitVec 32 :=
  let arg1 : BitVec 32 := BitVec.ofNat 32 (i 1).val
  let c1_i32_62 : BitVec 32 := 1#32
  let v102 : BitVec 32 := Scalar.subi arg1 c1_i32_62
  let c0_i32_63 : BitVec 32 := 0#32
  let v103 : BitVec 32 := Scalar.maxsi v102 c0_i32_63
  let c1024_i32 : BitVec 32 := 1024#32
  let v104 : BitVec 32 := Scalar.muli v103 c1024_i32
  v104
def k0_off9 (i : grid0.Coords) : Fin 2 → Nat :=
  let arg1 : BitVec 32 := BitVec.ofNat 32 (i 1).val
  let c1_i32_62 : BitVec 32 := 1#32
  let v102 : BitVec 32 := Scalar.subi arg1 c1_i32_62
  let c0_i32_63 : BitVec 32 := 0#32
  let v103 : BitVec 32 := Scalar.maxsi v102 c0_i32_63
  let c1024_i32 : BitVec 32 := 1024#32
  let v104 : BitVec 32 := Scalar.muli v103 c1024_i32
  let v105 : BitVec 32 := v104
  let v108 : Index := Scalar.indexCast v105
  let c0_68 : Index := 0#32
  ![v108.toNat, 0]
def k0_mult11 (i : grid0.Coords) : BitVec 32 :=
  let arg1 : BitVec 32 := BitVec.ofNat 32 (i 1).val
  let c0_i32_105 : BitVec 32 := 0#32
  let v203 : BitVec 32 := Scalar.maxsi arg1 c0_i32_105
  let c1024_i32_106 : BitVec 32 := 1024#32
  let v204 : BitVec 32 := Scalar.muli v203 c1024_i32_106
  v204
def k0_off10 (i : grid0.Coords) : Fin 2 → Nat :=
  let arg1 : BitVec 32 := BitVec.ofNat 32 (i 1).val
  let c0_i32_105 : BitVec 32 := 0#32
  let v203 : BitVec 32 := Scalar.maxsi arg1 c0_i32_105
  let c1024_i32_106 : BitVec 32 := 1024#32
  let v204 : BitVec 32 := Scalar.muli v203 c1024_i32_106
  let v205 : BitVec 32 := v204
  let v208 : Index := Scalar.indexCast v205
  let c0_111 : Index := 0#32
  ![v208.toNat, 0]
def k0_cond2 (i : grid0.Coords) : BitVec 1 :=
  let arg1 : BitVec 32 := BitVec.ofNat 32 (i 1).val
  let c2_i32_35 : BitVec 32 := 2#32
  let c0_i32_36 : BitVec 32 := 0#32
  let v65 : BitVec 1 := Scalar.cmpi .eq c2_i32_35 c0_i32_36
  let c1_i32_37 : BitVec 32 := 1#32
  let v66 : BitVec 32 := Scalar.select v65 c1_i32_37 c2_i32_35
  let v67 : BitVec 32 := Scalar.remsi arg1 v66
  let c0_i32_39 : BitVec 32 := 0#32
  let v69 : BitVec 1 := Scalar.cmpi .slt v67 c0_i32_39
  let c0_i32_40 : BitVec 32 := 0#32
  let v70 : BitVec 1 := Scalar.cmpi .slt v66 c0_i32_40
  let v71 : BitVec 1 := Scalar.xori v69 v70
  let c0_i32_38 : BitVec 32 := 0#32
  let v68 : BitVec 1 := Scalar.cmpi .ne v67 c0_i32_38
  let v72 : BitVec 1 := Scalar.andi v71 v68
  let v73 : BitVec 32 := Scalar.addi v67 v66
  let v74 : BitVec 32 := Scalar.select v72 v73 v67
  let c1_i32_41 : BitVec 32 := 1#32
  let v75 : BitVec 1 := Scalar.cmpi .eq v74 c1_i32_41
  let v76 : BitVec 32 := Scalar.extui v75
  let c0_i32_42 : BitVec 32 := 0#32
  let v77 : BitVec 1 := Scalar.cmpi .ne v76 c0_i32_42
  v77

def k0_mult12 (i : grid0.Coords) : BitVec 32 :=
  let arg1 : BitVec 32 := BitVec.ofNat 32 (i 1).val
  let c1_i32_62 : BitVec 32 := 1#32
  let v102 : BitVec 32 := Scalar.subi arg1 c1_i32_62
  let c1_i32_63 : BitVec 32 := 1#32
  let v103 : BitVec 32 := Scalar.addi v102 c1_i32_63
  let c1024_i32 : BitVec 32 := 1024#32
  let v104 : BitVec 32 := Scalar.muli v103 c1024_i32
  v104
def k0_off11 (i : grid0.Coords) : Fin 2 → Nat :=
  let arg1 : BitVec 32 := BitVec.ofNat 32 (i 1).val
  let c1_i32_62 : BitVec 32 := 1#32
  let v102 : BitVec 32 := Scalar.subi arg1 c1_i32_62
  let c1_i32_63 : BitVec 32 := 1#32
  let v103 : BitVec 32 := Scalar.addi v102 c1_i32_63
  let c1024_i32 : BitVec 32 := 1024#32
  let v104 : BitVec 32 := Scalar.muli v103 c1024_i32
  let v105 : BitVec 32 := v104
  let v106 : Index := Scalar.indexCast v105
  let c0_64 : Index := 0#32
  ![v106.toNat, 0]
def k0_mult13 (i : grid0.Coords) : BitVec 32 :=
  let arg1 : BitVec 32 := BitVec.ofNat 32 (i 1).val
  let c1_i32_62 : BitVec 32 := 1#32
  let v102 : BitVec 32 := Scalar.subi arg1 c1_i32_62
  let c1_i32_71 : BitVec 32 := 1#32
  let v119 : BitVec 32 := Scalar.subi v102 c1_i32_71
  let c0_i32_72 : BitVec 32 := 0#32
  let v120 : BitVec 32 := Scalar.maxsi v119 c0_i32_72
  let c1024_i32_73 : BitVec 32 := 1024#32
  let v121 : BitVec 32 := Scalar.muli v120 c1024_i32_73
  v121
def k0_off12 (i : grid0.Coords) : Fin 2 → Nat :=
  let arg1 : BitVec 32 := BitVec.ofNat 32 (i 1).val
  let c1_i32_62 : BitVec 32 := 1#32
  let v102 : BitVec 32 := Scalar.subi arg1 c1_i32_62
  let c1_i32_71 : BitVec 32 := 1#32
  let v119 : BitVec 32 := Scalar.subi v102 c1_i32_71
  let c0_i32_72 : BitVec 32 := 0#32
  let v120 : BitVec 32 := Scalar.maxsi v119 c0_i32_72
  let c1024_i32_73 : BitVec 32 := 1024#32
  let v121 : BitVec 32 := Scalar.muli v120 c1024_i32_73
  let v122 : BitVec 32 := v121
  let v125 : Index := Scalar.indexCast v122
  let c0_78 : Index := 0#32
  ![v125.toNat, 0]
def k0_mult14 (i : grid0.Coords) : BitVec 32 :=
  let arg1 : BitVec 32 := BitVec.ofNat 32 (i 1).val
  let c1_i32_100 : BitVec 32 := 1#32
  let v165 : BitVec 32 := Scalar.subi arg1 c1_i32_100
  let c0_i32_101 : BitVec 32 := 0#32
  let v166 : BitVec 32 := Scalar.maxsi v165 c0_i32_101
  let c1024_i32_102 : BitVec 32 := 1024#32
  let v167 : BitVec 32 := Scalar.muli v166 c1024_i32_102
  v167
def k0_off13 (i : grid0.Coords) : Fin 2 → Nat :=
  let arg1 : BitVec 32 := BitVec.ofNat 32 (i 1).val
  let c1_i32_100 : BitVec 32 := 1#32
  let v165 : BitVec 32 := Scalar.subi arg1 c1_i32_100
  let c0_i32_101 : BitVec 32 := 0#32
  let v166 : BitVec 32 := Scalar.maxsi v165 c0_i32_101
  let c1024_i32_102 : BitVec 32 := 1024#32
  let v167 : BitVec 32 := Scalar.muli v166 c1024_i32_102
  let v168 : BitVec 32 := v167
  let v171 : Index := Scalar.indexCast v168
  let c0_107 : Index := 0#32
  ![v171.toNat, 0]
def k0_mult15 (i : grid0.Coords) : BitVec 32 :=
  let arg1 : BitVec 32 := BitVec.ofNat 32 (i 1).val
  let c0_i32_144 : BitVec 32 := 0#32
  let v266 : BitVec 32 := Scalar.maxsi arg1 c0_i32_144
  let c1024_i32_145 : BitVec 32 := 1024#32
  let v267 : BitVec 32 := Scalar.muli v266 c1024_i32_145
  v267
def k0_off14 (i : grid0.Coords) : Fin 2 → Nat :=
  let arg1 : BitVec 32 := BitVec.ofNat 32 (i 1).val
  let c0_i32_144 : BitVec 32 := 0#32
  let v266 : BitVec 32 := Scalar.maxsi arg1 c0_i32_144
  let c1024_i32_145 : BitVec 32 := 1024#32
  let v267 : BitVec 32 := Scalar.muli v266 c1024_i32_145
  let v268 : BitVec 32 := v267
  let v271 : Index := Scalar.indexCast v268
  let c0_150 : Index := 0#32
  ![v271.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "log2e" => some (((Real.log 2)⁻¹ : ℝ) : EReal)
  | "mask" => some ⊥
  | _ => none
-- ==== AttnRefIdeal.lean ====
abbrev S16x8192x192 : Shape := ⟨3, ![16, 8192, 192]⟩
abbrev S16x8192x256 : Shape := ⟨3, ![16, 8192, 256]⟩
abbrev S8192x64 : Shape := ⟨2, ![8192, 64]⟩
abbrev S8192x10240 : Shape := ⟨2, ![8192, 10240]⟩
abbrev S_ : Shape := ⟨0, ![]⟩
abbrev S16x8192x128 : Shape := ⟨3, ![16, 8192, 128]⟩
abbrev S16x8192x8192 : Shape := ⟨3, ![16, 8192, 8192]⟩
abbrev S16x8192x64 : Shape := ⟨3, ![16, 8192, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S8192x16x128 : Shape := ⟨3, ![8192, 16, 128]⟩
abbrev S8192x2048 : Shape := ⟨2, ![8192, 2048]⟩

abbrev nBuf : Space → Nat
  | .hbm => 89
  | .vmem => 0
  | .smem => 0
  | _ => 0

abbrev bufTy : (tb : Table) → Fin (tcTables nBuf tb) → BufTy
  | .hbm, ⟨0, _⟩ => ⟨S16x8192x192, .f32⟩
  | .hbm, ⟨1, _⟩ => ⟨S16x8192x256, .f32⟩
  | .hbm, ⟨2, _⟩ => ⟨S8192x64, .f32⟩
  | .hbm, ⟨3, _⟩ => ⟨S8192x10240, .f32⟩
  | .hbm, ⟨4, _⟩ => ⟨S_, .f32⟩
  | .hbm, ⟨5, _⟩ => ⟨S16x8192x192, .f32⟩
  | .hbm, ⟨6, _⟩ => ⟨S16x8192x192, .f32⟩
  | .hbm, ⟨7, _⟩ => ⟨S16x8192x128, .f32⟩
  | .hbm, ⟨8, _⟩ => ⟨S16x8192x128, .f32⟩
  | .hbm, ⟨9, _⟩ => ⟨S16x8192x8192, .f32⟩
  | .hbm, ⟨10, _⟩ => ⟨S16x8192x64, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S1x8192x8192, .i1⟩
  | .hbm, ⟨38, _⟩ => ⟨S_, .f32⟩
  | .hbm, ⟨39, _⟩ => ⟨S_, .f32⟩
  | .hbm, ⟨40, _⟩ => ⟨S16x8192x8192, .i1⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S16x8192, .f32⟩
  | .hbm, ⟨45, _⟩ => ⟨S_, .f32⟩
  | .hbm, ⟨46, _⟩ => ⟨S16x8192, .f32⟩
  | .hbm, ⟨47, _⟩ => ⟨S16x8192, .f32⟩
  | .hbm, ⟨48, _⟩ => ⟨S16x8192x1, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S_, .f32⟩
  | .hbm, ⟨53, _⟩ => ⟨S16x8192, .f32⟩
  | .hbm, ⟨54, _⟩ => ⟨S16x8192x1, .f32⟩
  | .hbm, ⟨55, _⟩ => ⟨S16x8192x8192, .f32⟩
  | .hbm, ⟨56, _⟩ => ⟨S16x8192x8192, .f32⟩
  | .hbm, ⟨57, _⟩ => ⟨S16x8192x128, .f32⟩
  | .hbm, ⟨58, _⟩ => ⟨S16x8192x128, .f32⟩
  | .hbm, ⟨59, _⟩ => ⟨S8192x16x128, .f32⟩
  | .hbm, ⟨60, _⟩ => ⟨S8192x2048, .f32⟩
  | .hbm, ⟨61, _⟩ => ⟨S_, .f32⟩
  | .hbm, ⟨62, _⟩ => ⟨S16x8192, .f32⟩
  | .hbm, ⟨63, _⟩ => ⟨S16x8192x1, .f32⟩
  | .hbm, ⟨64, _⟩ => ⟨S16x8192x8192, .f32⟩
  | .hbm, ⟨65, _⟩ => ⟨S16x8192x8192, .f32⟩
  | .hbm, ⟨66, _⟩ => ⟨S16x8192x8192, .f32⟩
  | .hbm, ⟨67, _⟩ => ⟨S_, .f32⟩
  | .hbm, ⟨68, _⟩ => ⟨S16x8192, .f32⟩
  | .hbm, ⟨69, _⟩ => ⟨S16x8192x1, .f32⟩
  | .hbm, ⟨70, _⟩ => ⟨S16x8192x1, .f32⟩
  | .hbm, ⟨71, _⟩ => ⟨S16x8192x1, .f32⟩
  | .hbm, ⟨72, _⟩ => ⟨S_, .f32⟩
  | .hbm, ⟨73, _⟩ => ⟨S_, .f32⟩
  | .hbm, ⟨74, _⟩ => ⟨S16x8192x1, .f32⟩
  | .hbm, ⟨75, _⟩ => ⟨S16x8192x1, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x2048, .bf16⟩
  | .hbm, ⟨88, _⟩ => ⟨S16x8192x128, .f32⟩
  | _, _ => ⟨S16x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_call2_v0 : Ref sig .tc := ⟨.hbm, 77, rfl⟩
abbrev main_call2_v1 : Ref sig .tc := ⟨.hbm, 78, rfl⟩
abbrev main_call2_cst : Ref sig .tc := ⟨.hbm, 79, rfl⟩
abbrev main_call2_v2 : Ref sig .tc := ⟨.hbm, 80, rfl⟩
abbrev main_call2_v3 : Ref sig .tc := ⟨.hbm, 81, rfl⟩
abbrev main_call2_cst_0 : Ref sig .tc := ⟨.hbm, 82, rfl⟩
abbrev main_call2_v4 : Ref sig .tc := ⟨.hbm, 83, rfl⟩
abbrev main_call2_v5 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩

abbrev nD : Nat := 1
abbrev τ : Topo := Topo.v7x

variable {F : FTy → Type} [FloatOps F]
-- ==== Proof.Bwd.Model.lean ====
/-
  What one grid point of the attention gradient computes, as plain functions of the blocks it is given. A grid point is a
  head and a tile `j` of 512 keys; `Inp` holds the blocks it reads (the tile's keys, values and rope keys; the head's queries,
  cotangent, logarithms of the softmax's denominators and row sums), `Acc` what it accumulates into (the head's query gradient,
  the tile's key and value gradients). The point takes the query tiles `j, j + 1, …, 15` in turn: the first under the chunk
  mask (`step0`), the others unmasked (`step`), each adding to the three accumulators.
-/
module

public import proofs.«01_k».proof.Proof.Gen.KernelIdeal
public import proofs.«01_k».proof.Proof.Gen.KernelIdeal.Skeleton
public import Idealize.ShloMosaic.Lib.VecWindow

@[expose] public section

noncomputable section

namespace Cert.KernelIdeal.Bwd

open Cert.KernelIdeal Cert.KernelIdeal.Gen
open Idealize.ShloMosaic Idealize.ShloMosaic.TcCoe

variable {F : FTy → Type} [FloatOps F] [Named F]

/-! ### Tiles of 512 rows -/

/-- The rows of tile `i` (the last tile where `i` is past it) lie within the 8192 rows of width 256; -/
theorem inb256 (i : ℕ) : ∀ a, (![512 * min i 15, 0] : Fin 2 → ℕ) a + S512x256.size a ≤ S8192x256.size a :=
  Fin.forall_fin_two.mpr ⟨by show 512 * min i 15 + 512 ≤ 8192; omega, by show 0 + 256 ≤ 256; omega⟩

/-- of width 128; -/
theorem inb128 (i : ℕ) : ∀ a, (![512 * min i 15, 0] : Fin 2 → ℕ) a + S512x128.size a ≤ S8192x128.size a :=
  Fin.forall_fin_two.mpr ⟨by show 512 * min i 15 + 512 ≤ 8192; omega, by show 0 + 128 ≤ 128; omega⟩

/-- and its entries within a row of 8192. -/
theorem inbRow (i : ℕ) : ∀ a, (![0, 0, 512 * min i 15] : Fin 3 → ℕ) a + S1x1x512.size a ≤ S1x1x8192.size a := by
  intro a
  fin_cases a
  · show 0 + 1 ≤ 1; omega
  · show 0 + 1 ≤ 1; omega
  · show 512 * min i 15 + 512 ≤ 8192; omega

/-- Tile `i` of an array of 8192 rows of width 256, -/
def t256 {e : EltTy} (x : Vec F S8192x256 e) (i : ℕ) : Vec F S512x256 e :=
  VecWindow.window x ![512 * min i 15, 0] S512x256.size (inb256 i)

/-- of width 128, -/
def t128 {e : EltTy} (x : Vec F S8192x128 e) (i : ℕ) : Vec F S512x128 e :=
  VecWindow.window x ![512 * min i 15, 0] S512x128.size (inb128 i)

/-- and of a row of 8192 entries. -/
def tRow {e : EltTy} (x : Vec F S1x1x8192 e) (i : ℕ) : Vec F S1x1x512 e :=
  VecWindow.window x ![0, 0, 512 * min i 15] S1x1x512.size (inbRow i)

/-- An array of 8192 rows with tile `i` replaced by `w`. -/
def put256 {e : EltTy} (x : Vec F S8192x256 e) (i : ℕ) (w : Vec F S512x256 e) : Vec F S8192x256 e :=
  VecWindow.put x ![512 * min i 15, 0] S512x256.size w

/-! ### A grid point -/

variable (F) in
/-- The blocks a grid point reads: the tile's keys, values and rope keys, the head's queries and cotangent, and per query the
logarithm of the softmax's denominator and the row sum. -/
structure Inp where
  kn : Vec F S512x128 .bf16
  v : Vec F S512x128 .bf16
  kr : Vec F S512x128 .bf16
  q : Vec F S8192x256 .bf16
  ct : Vec F S8192x128 .bf16
  lse : Vec F S1x1x8192 .f32
  dl : Vec F S1x1x8192 .f32

variable (F) in
/-- What a grid point accumulates into: the head's query gradient, the tile's key gradient (before its factor) and value
gradient. -/
structure Acc where
  dq : Vec F S8192x256 .f32
  dk : Vec F S512x256 .f32
  dv : Vec F S512x128 .f32

/-- The tile's keys against query tile `i`, keys by queries; -/
def st (I : Inp F) (i : ℕ) : Vec F S512x512 .f32 := k0_pay5 I.kn I.kr (t256 I.q i)

/-- the tile's values against the cotangent's tile `i`. -/
def dp (I : Inp F) (i : ℕ) : Vec F S512x512 .f32 := k0_pay6 I.v (t128 I.ct i)

/-- The gradient of the scores at query tile `i`, unmasked. -/
def ds (I : Inp F) (i : ℕ) : Vec F S512x512 .bf16 := k0_pay8 (st I i) (tRow I.lse i) (dp I i) (tRow I.dl i)

/-- Query tile `i` taken unmasked. -/
def step (I : Inp F) (i : ℕ) (A : Acc F) : Acc F where
  dq := put256 A.dq i (k0_pay11 (ds I i) (t256 A.dq i) I.kn I.kr)
  dk := k0_pay10 (ds I i) A.dk (t256 I.q i)
  dv := k0_pay9 (st I i) (tRow I.lse i) A.dv (t128 I.ct i)

/-- The column number of every entry of a 512 by 512 tile. -/
def colIota : IVec S512x512 32 := iota .tc S512x512 32 [1] iota_S512x512_d1_w32

/-- The gradient of the scores at query tile `i` under the chunk mask; -/
def ds0 (I : Inp F) (i : ℕ) : Vec F S512x512 .bf16 :=
  k0_pay58 (k0_pay54 (st I i) (tRow I.lse i)) k0_pay55 colIota 64#32 k0_pay56 0#32 (dp I i) (tRow I.dl i)

/-- the softmax's entries there. -/
def p0 (I : Inp F) (i : ℕ) : Vec F S512x512 .bf16 :=
  k0_pay59 (k0_pay54 (st I i) (tRow I.lse i)) k0_pay55 colIota 64#32 k0_pay56 0#32

/-- Query tile `i` taken under the chunk mask. -/
def step0 (I : Inp F) (i : ℕ) (A : Acc F) : Acc F where
  dq := put256 A.dq i (k0_pay62 (ds0 I i) (t256 A.dq i) I.kn I.kr)
  dk := k0_pay61 (ds0 I i) A.dk (t256 I.q i)
  dv := k0_pay60 A.dv (p0 I i) (t128 I.ct i)

/-- The accumulators before a point's first query tile, `dq` being the head's query gradient so far. -/
def start (dq : Vec F S8192x256 .f32) : Acc F := ⟨dq, k0_pay45, k0_pay46⟩

/-- The accumulators of the point of key tile `j` after its masked query tile and `n` unmasked ones. -/
def acc (I : Inp F) (j : ℕ) (dq : Vec F S8192x256 .f32) : ℕ → Acc F
  | 0 => step0 I j (start dq)
  | n + 1 => step I (j + (n + 1)) (acc I j dq n)

/-- The accumulators of the point of key tile `j` after all its query tiles. -/
def fin (I : Inp F) (j : ℕ) (dq : Vec F S8192x256 .f32) : Acc F := acc I j dq (15 - j)

/-- What the point leaves in the result block of key and value gradients: the key gradient in columns 0–127, the value
gradient in columns 128–255. -/
def outKV (A : Acc F) : Vec F S512x256 .bf16 := fun y =>
  if h : (y 1).val < 128 then k0_pay2 A.dk (ix2 (y 0) ⟨(y 1).val, h⟩)
  else k0_pay3 A.dv (ix2 (y 0) ⟨(y 1).val - 128, by have := (y 1).isLt; have h2 : (y 1).val < 256 := this; omega⟩)
where ix2 (a : Fin 512) (b : Fin 128) : S512x128.Idx := fun | 0 => a | 1 => b

/-- What it leaves in the result block of rope-key gradients. -/
def outKR (A : Acc F) : Vec F S1x512x128 .f32 := k0_pay4 A.dk

end Cert.KernelIdeal.Bwd
-- ==== Proof.Bwd.Offsets.lean ====
/-
  Where the loop over pairs of query tiles reads and writes: every offset of trip `k` at key tile `j = i 1` in closed form, and
  the number of trips, each decided over the grid and the trips.
-/
module

public import proofs.«01_k».proof.Proof.Gen.KernelIdeal
public import Idealize.ShloMosaic.Lib.Decide
public import Idealize.ShloMosaic.Lib.Exec

@[expose] public section

set_option maxRecDepth 16384
set_option Elab.async false

namespace Cert.KernelIdeal.Bwd

open Cert.KernelIdeal Cert.KernelIdeal.Gen
open Idealize.ShloMosaic Idealize.ShloMosaic.TcCoe

/-- The loop over pairs of query tiles makes `(15 - j) / 2` trips, -/
theorem trips1 : ∀ i : grid0.Coords, (k0_t1_loop i).trips = (15 - (i 1).val) / 2 := by decide +kernel

/-- the loop after it none, -/
theorem trips2 : ∀ i : grid0.Coords, (k0_t2_loop i).trips = 0 := by decide +kernel

/-- and one more query tile is taken where an odd number is left. -/
theorem cond2 : ∀ i : grid0.Coords, k0_cond2 i = 1#1 ↔ (15 - (i 1).val) % 2 = 1 := by decide +kernel

theorem j_lt (i : grid0.Coords) : (i 1).val < 16 := (i 1).isLt

theorem off8_1 : ∀ (i : grid0.Coords) (k : Fin (k0_t1_loop i).trips), k0_off8 i k 1#32 = ![512 * min ((i 1).val + (2 * k.val + 2)) 15, 0] := by
  decide +kernel
theorem off8_2 : ∀ (i : grid0.Coords) (k : Fin (k0_t1_loop i).trips), k0_off8 i k 2#32 = ![512 * min ((i 1).val + (2 * k.val + 3)) 15, 0] := by
  decide +kernel
theorem off9_1 : ∀ (i : grid0.Coords) (k : Fin (k0_t1_loop i).trips), k0_off9 i k 1#32 = ![512 * min ((i 1).val + (2 * k.val + 2)) 15, 0] := by
  decide +kernel
theorem off9_2 : ∀ (i : grid0.Coords) (k : Fin (k0_t1_loop i).trips), k0_off9 i k 2#32 = ![512 * min ((i 1).val + (2 * k.val + 3)) 15, 0] := by
  decide +kernel
theorem off10_1 : ∀ (i : grid0.Coords) (k : Fin (k0_t1_loop i).trips), k0_off10 i k 1#32 = ![0, 0, 512 * min ((i 1).val + (2 * k.val + 1)) 15] := by
  decide +kernel
theorem off10_2 : ∀ (i : grid0.Coords) (k : Fin (k0_t1_loop i).trips), k0_off10 i k 2#32 = ![0, 0, 512 * min ((i 1).val + (2 * k.val + 2)) 15] := by
  decide +kernel
theorem off11_1 : ∀ (i : grid0.Coords) (k : Fin (k0_t1_loop i).trips), k0_off11 i k 1#32 = ![512 * min ((i 1).val + (2 * k.val + 1)) 15, 0] := by
  decide +kernel
theorem off11_2 : ∀ (i : grid0.Coords) (k : Fin (k0_t1_loop i).trips), k0_off11 i k 2#32 = ![512 * min ((i 1).val + (2 * k.val + 2)) 15, 0] := by
  decide +kernel
theorem off12_1 : ∀ (i : grid0.Coords) (k : Fin (k0_t1_loop i).trips), k0_off12 i k 1#32 = ![512 * min ((i 1).val + (2 * k.val + 1)) 15, 0] := by
  decide +kernel
theorem off12_2 : ∀ (i : grid0.Coords) (k : Fin (k0_t1_loop i).trips), k0_off12 i k 2#32 = ![512 * min ((i 1).val + (2 * k.val + 2)) 15, 0] := by
  decide +kernel

instance (i : grid0.Coords) (k : Fin (k0_t1_loop i).trips) : ClosedOff (k0_off8 i k 1#32) := ⟨_, off8_1 i k⟩
instance (i : grid0.Coords) (k : Fin (k0_t1_loop i).trips) : ClosedOff (k0_off8 i k 2#32) := ⟨_, off8_2 i k⟩
instance (i : grid0.Coords) (k : Fin (k0_t1_loop i).trips) : ClosedOff (k0_off9 i k 1#32) := ⟨_, off9_1 i k⟩
instance (i : grid0.Coords) (k : Fin (k0_t1_loop i).trips) : ClosedOff (k0_off9 i k 2#32) := ⟨_, off9_2 i k⟩
instance (i : grid0.Coords) (k : Fin (k0_t1_loop i).trips) : ClosedOff (k0_off10 i k 1#32) := ⟨_, off10_1 i k⟩
instance (i : grid0.Coords) (k : Fin (k0_t1_loop i).trips) : ClosedOff (k0_off10 i k 2#32) := ⟨_, off10_2 i k⟩
instance (i : grid0.Coords) (k : Fin (k0_t1_loop i).trips) : ClosedOff (k0_off11 i k 1#32) := ⟨_, off11_1 i k⟩
instance (i : grid0.Coords) (k : Fin (k0_t1_loop i).trips) : ClosedOff (k0_off11 i k 2#32) := ⟨_, off11_2 i k⟩
instance (i : grid0.Coords) (k : Fin (k0_t1_loop i).trips) : ClosedOff (k0_off12 i k 1#32) := ⟨_, off12_1 i k⟩
instance (i : grid0.Coords) (k : Fin (k0_t1_loop i).trips) : ClosedOff (k0_off12 i k 2#32) := ⟨_, off12_2 i k⟩

end Cert.KernelIdeal.Bwd
-- ==== Proof.Bwd.Loop.lean ====
/-
  The loop over pairs of query tiles: before trip `k` the accumulators hold what the masked query tile and the first `2 k`
  unmasked ones leave, and the products of the next query tile are ready in the second pair of scratch buffers.
-/
module

public import proofs.«01_k».proof.Proof.Bwd.Model
public import proofs.«01_k».proof.Proof.Bwd.Offsets
public import proofs.«01_k».proof.Proof.Gen.KernelIdeal.Loops

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The core holds the memref, with contents `x`. -/
abbrev at' (c : Dev nD) {sp : Space} {s : Shape} {e : EltTy} (m : Memref sig .tc sp s e) (x : s.Idx → Elt F e) : sProp 𝕄 :=
  (m.view.loc (c : Thread nD τ) ↦[m.view.set]{fullShare} m.view.rep x)

/-! ### Whole-buffer loads and stores -/

/-- A load of all of a buffer of shape `S512x128` reads its contents, -/
theorem ld_S512x128 {e : EltTy} (m : Memref sig .tc .vmem S512x128 e) (x : Vec F S512x128 e) (inb) :
    m.view.readAt (Elt F) (Rect.unit (s := S512x128) ![0, 0] S512x128.size inb).toLoadRect (m.view.rep x) = x := View.readAt_rep_full _ _ _

/-- a load of all of it after a store of all of it what was stored, -/
theorem cov_S512x128 {e : EltTy} (m : Memref sig .tc .vmem S512x128 e) (inb inb') (w : Vec F S512x128 e) (L) :
    m.view.readCov (⟨Rect.unit (s := S512x128) ![0, 0] S512x128.size inb', w⟩ :: L) (Rect.unit (s := S512x128) ![0, 0] S512x128.size inb).toLoadRect = w :=
  View.readCov_full _ _ _ _ _

/-- and after such a store it holds what was stored. -/
theorem sto_S512x128 {e : EltTy} (m : Memref sig .tc .vmem S512x128 e) (f) (inb) (w : Vec F S512x128 e) (L) :
    m.view.read (Elt F) (m.view.writes (Elt F) f (⟨Rect.unit (s := S512x128) ![0, 0] S512x128.size inb, w⟩ :: L)) = w := View.read_writes_full _ _ _ _ _

/-- A load of all of a buffer of shape `S512x256` reads its contents, -/
theorem ld_S512x256 {e : EltTy} (m : Memref sig .tc .vmem S512x256 e) (x : Vec F S512x256 e) (inb) :
    m.view.readAt (Elt F) (Rect.unit (s := S512x256) ![0, 0] S512x256.size inb).toLoadRect (m.view.rep x) = x := View.readAt_rep_full _ _ _

/-- a load of all of it after a store of all of it what was stored, -/
theorem cov_S512x256 {e : EltTy} (m : Memref sig .tc .vmem S512x256 e) (inb inb') (w : Vec F S512x256 e) (L) :
    m.view.readCov (⟨Rect.unit (s := S512x256) ![0, 0] S512x256.size inb', w⟩ :: L) (Rect.unit (s := S512x256) ![0, 0] S512x256.size inb).toLoadRect = w :=
  View.readCov_full _ _ _ _ _

/-- and after such a store it holds what was stored. -/
theorem sto_S512x256 {e : EltTy} (m : Memref sig .tc .vmem S512x256 e) (f) (inb) (w : Vec F S512x256 e) (L) :
    m.view.read (Elt F) (m.view.writes (Elt F) f (⟨Rect.unit (s := S512x256) ![0, 0] S512x256.size inb, w⟩ :: L)) = w := View.read_writes_full _ _ _ _ _

/-- A load of all of a buffer of shape `S512x512` reads its contents, -/
theorem ld_S512x512 {e : EltTy} (m : Memref sig .tc .vmem S512x512 e) (x : Vec F S512x512 e) (inb) :
    m.view.readAt (Elt F) (Rect.unit (s := S512x512) ![0, 0] S512x512.size inb).toLoadRect (m.view.rep x) = x := View.readAt_rep_full _ _ _

/-- a load of all of it after a store of all of it what was stored, -/
theorem cov_S512x512 {e : EltTy} (m : Memref sig .tc .vmem S512x512 e) (inb inb') (w : Vec F S512x512 e) (L) :
    m.view.readCov (⟨Rect.unit (s := S512x512) ![0, 0] S512x512.size inb', w⟩ :: L) (Rect.unit (s := S512x512) ![0, 0] S512x512.size inb).toLoadRect = w :=
  View.readCov_full _ _ _ _ _

/-- and after such a store it holds what was stored. -/
theorem sto_S512x512 {e : EltTy} (m : Memref sig .tc .vmem S512x512 e) (f) (inb) (w : Vec F S512x512 e) (L) :
    m.view.read (Elt F) (m.view.writes (Elt F) f (⟨Rect.unit (s := S512x512) ![0, 0] S512x512.size inb, w⟩ :: L)) = w := View.read_writes_full _ _ _ _ _

/-- A memref held at contents that read `x` is held with contents `x`. -/
theorem at'_of_read (c : Dev nD) {sp : Space} {s : Shape} {e : EltTy} (m : Memref sig .tc sp s e) (g : Buf (Elt F) (m.view.loc (c : Thread nD τ)))
    (x : s.Idx → Elt F e) (h : m.view.read (Elt F) g = x) :
    (m.view.loc (c : Thread nD τ) ↦[m.view.set]{fullShare} g : sProp 𝕄) ⊢ at' c m x :=
  pointsTo_rep_of_read (c : Thread nD τ) m g fullShare x h

/-! ### A trip -/

set_option maxHeartbeats 1600000 in
theorem trip (c : Dev nD) (I : Inp F) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1x1x8192 .f32) (harg8 : arg8.IsWhole) (arg9 : Memref sig .tc .vmem S8192x256 .f32) (harg9 : arg9.IsWhole) (arg10 : Memref sig .tc .vmem S512x256 .bf16) (harg10 : arg10.IsWhole) (arg11 : Memref sig .tc .vmem S1x512x128 .f32) (harg11 : arg11.IsWhole) (arg12 : Memref sig .tc .vmem S512x256 .f32) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg1 v11 v184 c2_i32 v185 : BitVec 32)
    (k : Fin (k0_t1_loop i).trips) (u : Unit) (A : Acc F) (x14 x16 : Vec F S512x512 .f32)  :
    (iprop(at' c arg2 I.kn ∗ at' c arg3 I.v ∗ at' c arg4 I.kr ∗ at' c arg5 I.q ∗ at' c arg6 I.ct ∗ at' c arg7 I.lse ∗ at' c arg8 I.dl
      ∗ at' c arg9 A.dq ∗ at' c arg12 A.dk ∗ at' c arg13 A.dv
      ∗ at' c arg14 x14 ∗ at' c arg15 (st I ((i 1).val + (2 * k.val + 1)))
      ∗ at' c arg16 x16 ∗ at' c arg17 (dp I ((i 1).val + (2 * k.val + 1)))) : sProp 𝕄)
    ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v11 v184 c2_i32 v185 k u)
        (fun _ => iprop(at' c arg2 I.kn ∗ at' c arg3 I.v ∗ at' c arg4 I.kr ∗ at' c arg5 I.q ∗ at' c arg6 I.ct ∗ at' c arg7 I.lse ∗ at' c arg8 I.dl
      ∗ at' c arg9 (step I ((i 1).val + (2 * k.val + 2)) (step I ((i 1).val + (2 * k.val + 1)) A)).dq
      ∗ at' c arg12 (step I ((i 1).val + (2 * k.val + 2)) (step I ((i 1).val + (2 * k.val + 1)) A)).dk
      ∗ at' c arg13 (step I ((i 1).val + (2 * k.val + 2)) (step I ((i 1).val + (2 * k.val + 1)) A)).dv
      ∗ (∃ x, at' c arg14 x) ∗ at' c arg15 (st I ((i 1).val + (2 * k.val + 3)))
      ∗ (∃ x, at' c arg16 x) ∗ at' c arg17 (dp I ((i 1).val + (2 * k.val + 3))))) := by
  unfold Gen.k0_t1_body
  have hk : (i 1).val + (2 * k.val + 2) ≤ 15 := by
    have h1 := k.isLt
    have h2 := trips1 i
    have h3 := j_lt i
    omega
  iintro ⟨H2, H3, H4, H5, H6, H7, H8, H9, H12, H13, H14, H15, H16, H17⟩
  sl_exec
  sl_step
  -- what the loads read
  have a2 : ∀ inb, arg2.view.readAt (Elt F) (Rect.unit (s := S512x128) ![0, 0] S512x128.size inb).toLoadRect (arg2.view.rep I.kn) = I.kn := ld_S512x128 _ _
  have a3 : ∀ inb, arg3.view.readAt (Elt F) (Rect.unit (s := S512x128) ![0, 0] S512x128.size inb).toLoadRect (arg3.view.rep I.v) = I.v := ld_S512x128 _ _
  have a4 : ∀ inb, arg4.view.readAt (Elt F) (Rect.unit (s := S512x128) ![0, 0] S512x128.size inb).toLoadRect (arg4.view.rep I.kr) = I.kr := ld_S512x128 _ _
  have a12 : ∀ inb, arg12.view.readAt (Elt F) (Rect.unit (s := S512x256) ![0, 0] S512x256.size inb).toLoadRect (arg12.view.rep A.dk) = A.dk := ld_S512x256 _ _
  have a13 : ∀ inb, arg13.view.readAt (Elt F) (Rect.unit (s := S512x128) ![0, 0] S512x128.size inb).toLoadRect (arg13.view.rep A.dv) = A.dv := ld_S512x128 _ _
  have a15 : ∀ inb, arg15.view.readAt (Elt F) (Rect.unit (s := S512x512) ![0, 0] S512x512.size inb).toLoadRect (arg15.view.rep (st I ((i 1).val + (2 * k.val + 1)))) = (st I ((i 1).val + (2 * k.val + 1))) := ld_S512x512 _ _
  have a17 : ∀ inb, arg17.view.readAt (Elt F) (Rect.unit (s := S512x512) ![0, 0] S512x512.size inb).toLoadRect (arg17.view.rep (dp I ((i 1).val + (2 * k.val + 1)))) = (dp I ((i 1).val + (2 * k.val + 1))) := ld_S512x512 _ _
  have r12 : ∀ inb inb' w L, arg12.view.readCov (⟨Rect.unit (s := S512x256) ![0, 0] S512x256.size inb', w⟩ :: L) (Rect.unit (s := S512x256) ![0, 0] S512x256.size inb).toLoadRect = w := cov_S512x256 (F := F) _
  have r13 : ∀ inb inb' w L, arg13.view.readCov (⟨Rect.unit (s := S512x128) ![0, 0] S512x128.size inb', w⟩ :: L) (Rect.unit (s := S512x128) ![0, 0] S512x128.size inb).toLoadRect = w := cov_S512x128 (F := F) _
  have r14 : ∀ inb inb' w L, arg14.view.readCov (⟨Rect.unit (s := S512x512) ![0, 0] S512x512.size inb', w⟩ :: L) (Rect.unit (s := S512x512) ![0, 0] S512x512.size inb).toLoadRect = w := cov_S512x512 (F := F) _
  have r16 : ∀ inb inb' w L, arg16.view.readCov (⟨Rect.unit (s := S512x512) ![0, 0] S512x512.size inb', w⟩ :: L) (Rect.unit (s := S512x512) ![0, 0] S512x512.size inb).toLoadRect = w := cov_S512x512 (F := F) _
  have q1 : ∀ inb, arg5.view.readAt (Elt F) (Rect.unit (s := S8192x256) (k0_off8 i k 1#32) S512x256.size inb).toLoadRect (arg5.view.rep I.q) = t256 I.q ((i 1).val + (2 * k.val + 2)) := fun _ => View.readAt_rep_unit _ _ _ (off8_1 i k) _
  have q2 : ∀ inb, arg5.view.readAt (Elt F) (Rect.unit (s := S8192x256) (k0_off8 i k 2#32) S512x256.size inb).toLoadRect (arg5.view.rep I.q) = t256 I.q ((i 1).val + (2 * k.val + 3)) := fun _ => View.readAt_rep_unit _ _ _ (off8_2 i k) _
  have q3 : ∀ inb, arg5.view.readAt (Elt F) (Rect.unit (s := S8192x256) (k0_off12 i k 1#32) S512x256.size inb).toLoadRect (arg5.view.rep I.q) = t256 I.q ((i 1).val + (2 * k.val + 1)) := fun _ => View.readAt_rep_unit _ _ _ (off12_1 i k) _
  have q4 : ∀ inb, arg5.view.readAt (Elt F) (Rect.unit (s := S8192x256) (k0_off12 i k 2#32) S512x256.size inb).toLoadRect (arg5.view.rep I.q) = t256 I.q ((i 1).val + (2 * k.val + 2)) := fun _ => View.readAt_rep_unit _ _ _ (off12_2 i k) _
  have c1 : ∀ inb, arg6.view.readAt (Elt F) (Rect.unit (s := S8192x128) (k0_off9 i k 1#32) S512x128.size inb).toLoadRect (arg6.view.rep I.ct) = t128 I.ct ((i 1).val + (2 * k.val + 2)) := fun _ => View.readAt_rep_unit _ _ _ (off9_1 i k) _
  have c2 : ∀ inb, arg6.view.readAt (Elt F) (Rect.unit (s := S8192x128) (k0_off9 i k 2#32) S512x128.size inb).toLoadRect (arg6.view.rep I.ct) = t128 I.ct ((i 1).val + (2 * k.val + 3)) := fun _ => View.readAt_rep_unit _ _ _ (off9_2 i k) _
  have c3 : ∀ inb, arg6.view.readAt (Elt F) (Rect.unit (s := S8192x128) (k0_off11 i k 1#32) S512x128.size inb).toLoadRect (arg6.view.rep I.ct) = t128 I.ct ((i 1).val + (2 * k.val + 1)) := fun _ => View.readAt_rep_unit _ _ _ (off11_1 i k) _
  have c4 : ∀ inb, arg6.view.readAt (Elt F) (Rect.unit (s := S8192x128) (k0_off11 i k 2#32) S512x128.size inb).toLoadRect (arg6.view.rep I.ct) = t128 I.ct ((i 1).val + (2 * k.val + 2)) := fun _ => View.readAt_rep_unit _ _ _ (off11_2 i k) _
  have l1 : ∀ inb, arg7.view.readAt (Elt F) (Rect.unit (s := S1x1x8192) (k0_off10 i k 1#32) S1x1x512.size inb).toLoadRect (arg7.view.rep I.lse) = tRow I.lse ((i 1).val + (2 * k.val + 1)) := fun _ => View.readAt_rep_unit _ _ _ (off10_1 i k) _
  have l2 : ∀ inb, arg7.view.readAt (Elt F) (Rect.unit (s := S1x1x8192) (k0_off10 i k 2#32) S1x1x512.size inb).toLoadRect (arg7.view.rep I.lse) = tRow I.lse ((i 1).val + (2 * k.val + 2)) := fun _ => View.readAt_rep_unit _ _ _ (off10_2 i k) _
  have d1 : ∀ inb, arg8.view.readAt (Elt F) (Rect.unit (s := S1x1x8192) (k0_off10 i k 1#32) S1x1x512.size inb).toLoadRect (arg8.view.rep I.dl) = tRow I.dl ((i 1).val + (2 * k.val + 1)) := fun _ => View.readAt_rep_unit _ _ _ (off10_1 i k) _
  have d2 : ∀ inb, arg8.view.readAt (Elt F) (Rect.unit (s := S1x1x8192) (k0_off10 i k 2#32) S1x1x512.size inb).toLoadRect (arg8.view.rep I.dl) = tRow I.dl ((i 1).val + (2 * k.val + 2)) := fun _ => View.readAt_rep_unit _ _ _ (off10_2 i k) _
  have g1 : ∀ inb, arg9.view.readAt (Elt F) (Rect.unit (s := S8192x256) (k0_off12 i k 1#32) S512x256.size inb).toLoadRect (arg9.view.rep A.dq) = t256 A.dq ((i 1).val + (2 * k.val + 1)) := fun _ => View.readAt_rep_unit _ _ _ (off12_1 i k) _
  have g2 : ∀ inb inb' w, arg9.view.readAt (Elt F) (Rect.unit (s := S8192x256) (k0_off12 i k 2#32) S512x256.size inb).toLoadRect (arg9.view.writes (Elt F) (arg9.view.rep A.dq) [⟨Rect.unit (s := S8192x256) (k0_off12 i k 1#32) S512x256.size inb', w⟩]) = t256 (put256 A.dq ((i 1).val + (2 * k.val + 1)) w) ((i 1).val + (2 * k.val + 2)) := fun _ _ _ => by
    rw [View.readAt_unit _ _ _ (off12_2 i k) (inb256 _), View.read_writes_rep_unit _ _ _ _ (off12_1 i k)]; rfl
  have f9 : ∀ inb inb' w w', arg9.view.read (Elt F) (arg9.view.writes (Elt F) (arg9.view.rep A.dq) [⟨Rect.unit (s := S8192x256) (k0_off12 i k 2#32) S512x256.size inb, w'⟩, ⟨Rect.unit (s := S8192x256) (k0_off12 i k 1#32) S512x256.size inb', w⟩]) = put256 (put256 A.dq ((i 1).val + (2 * k.val + 1)) w) ((i 1).val + (2 * k.val + 2)) w' := fun _ _ _ _ => by
    rw [View.read_writes_cons_put _ _ _ _ _ (off12_2 i k), View.read_writes_rep_unit _ _ _ _ (off12_1 i k)]; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (at'_of_read c arg9 _ _ ?e9) $$ H9
    case e9 =>
      delta trip.sl.H12_1 trip.sl.H13_1 trip.sl.H14_1 trip.sl.H16_1 trip.sl.H9_1 trip.sl.cst_134 trip.sl.cst_162 trip.sl.cst_170 trip.sl.r trip.sl.r_1 trip.sl.v239 trip.sl.v241 trip.sl.v242 trip.sl.v243 trip.sl.v244 trip.sl.v246 trip.sl.v248 trip.sl.v249 trip.sl.v251 trip.sl.v252 trip.sl.v254 trip.sl.v260 trip.sl.v261 trip.sl.v263 trip.sl.v264 trip.sl.v265 trip.sl.v266 trip.sl.v267 trip.sl.v269 trip.sl.v271 trip.sl.v272 trip.sl.v273 trip.sl.v274 trip.sl.v275 trip.sl.v281 trip.sl.v282 trip.sl.v283 trip.sl.v284 trip.sl.v285 trip.sl.v287 trip.sl.v293 trip.sl.v294 trip.sl.v295 trip.sl.v297 trip.sl.v298 trip.sl.v305 trip.sl.v306 trip.sl.v307 trip.sl.v309 trip.sl.v310 trip.sl.v316 trip.sl.v322 trip.sl.v323 trip.sl.v340 trip.sl.v341 trip.sl.v343 trip.sl.v344 trip.sl.v352 trip.sl.v353 trip.sl.v355 trip.sl.v356 trip.sl.v357 trip.sl.v363 trip.sl.v364 trip.sl.v365 trip.sl.v366 trip.sl.v367 trip.sl.v373 trip.sl.v374 trip.sl.v375 trip.sl.v376 trip.sl.v377 trip.sl.v378 trip.sl.v379 trip.sl.v385 trip.sl.v386 trip.sl.v387 trip.sl.v389 trip.sl.v390 trip.sl.v391 trip.sl.v397 trip.sl.v398 trip.sl.v399 trip.sl.v401 trip.sl.v402 trip.sl.v408
      rw [f9, g2, g1, r14, r16, a15, a17, a2, a3, a4, q1, c1, l1, l2, d1, d2]
      rfl
  isplitl [H12]
  · iapply (at'_of_read c arg12 _ _ ?e12) $$ H12
    case e12 =>
      refine (sto_S512x256 _ _ _ _ _).trans ?_
      delta trip.sl.H12_1 trip.sl.H13_1 trip.sl.H14_1 trip.sl.H16_1 trip.sl.H9_1 trip.sl.cst_134 trip.sl.cst_162 trip.sl.cst_170 trip.sl.r trip.sl.r_1 trip.sl.v239 trip.sl.v241 trip.sl.v242 trip.sl.v243 trip.sl.v244 trip.sl.v246 trip.sl.v248 trip.sl.v249 trip.sl.v251 trip.sl.v252 trip.sl.v254 trip.sl.v260 trip.sl.v261 trip.sl.v263 trip.sl.v264 trip.sl.v265 trip.sl.v266 trip.sl.v267 trip.sl.v269 trip.sl.v271 trip.sl.v272 trip.sl.v273 trip.sl.v274 trip.sl.v275 trip.sl.v281 trip.sl.v282 trip.sl.v283 trip.sl.v284 trip.sl.v285 trip.sl.v287 trip.sl.v293 trip.sl.v294 trip.sl.v295 trip.sl.v297 trip.sl.v298 trip.sl.v305 trip.sl.v306 trip.sl.v307 trip.sl.v309 trip.sl.v310 trip.sl.v316 trip.sl.v322 trip.sl.v323 trip.sl.v340 trip.sl.v341 trip.sl.v343 trip.sl.v344 trip.sl.v352 trip.sl.v353 trip.sl.v355 trip.sl.v356 trip.sl.v357 trip.sl.v363 trip.sl.v364 trip.sl.v365 trip.sl.v366 trip.sl.v367 trip.sl.v373 trip.sl.v374 trip.sl.v375 trip.sl.v376 trip.sl.v377 trip.sl.v378 trip.sl.v379 trip.sl.v385 trip.sl.v386 trip.sl.v387 trip.sl.v389 trip.sl.v390 trip.sl.v391 trip.sl.v397 trip.sl.v398 trip.sl.v399 trip.sl.v401 trip.sl.v402 trip.sl.v408
      rw [r12, a12, r14, r16, a15, a17, a2, a3, a4, q1, q3, q4, c1, l1, l2, d1, d2]
      rfl
  isplitl [H13]
  · iapply (at'_of_read c arg13 _ _ ?e13) $$ H13
    case e13 =>
      refine (sto_S512x128 _ _ _ _ _).trans ?_
      delta trip.sl.H12_1 trip.sl.H13_1 trip.sl.H14_1 trip.sl.H16_1 trip.sl.H9_1 trip.sl.cst_134 trip.sl.cst_162 trip.sl.cst_170 trip.sl.r trip.sl.r_1 trip.sl.v239 trip.sl.v241 trip.sl.v242 trip.sl.v243 trip.sl.v244 trip.sl.v246 trip.sl.v248 trip.sl.v249 trip.sl.v251 trip.sl.v252 trip.sl.v254 trip.sl.v260 trip.sl.v261 trip.sl.v263 trip.sl.v264 trip.sl.v265 trip.sl.v266 trip.sl.v267 trip.sl.v269 trip.sl.v271 trip.sl.v272 trip.sl.v273 trip.sl.v274 trip.sl.v275 trip.sl.v281 trip.sl.v282 trip.sl.v283 trip.sl.v284 trip.sl.v285 trip.sl.v287 trip.sl.v293 trip.sl.v294 trip.sl.v295 trip.sl.v297 trip.sl.v298 trip.sl.v305 trip.sl.v306 trip.sl.v307 trip.sl.v309 trip.sl.v310 trip.sl.v316 trip.sl.v322 trip.sl.v323 trip.sl.v340 trip.sl.v341 trip.sl.v343 trip.sl.v344 trip.sl.v352 trip.sl.v353 trip.sl.v355 trip.sl.v356 trip.sl.v357 trip.sl.v363 trip.sl.v364 trip.sl.v365 trip.sl.v366 trip.sl.v367 trip.sl.v373 trip.sl.v374 trip.sl.v375 trip.sl.v376 trip.sl.v377 trip.sl.v378 trip.sl.v379 trip.sl.v385 trip.sl.v386 trip.sl.v387 trip.sl.v389 trip.sl.v390 trip.sl.v391 trip.sl.v397 trip.sl.v398 trip.sl.v399 trip.sl.v401 trip.sl.v402 trip.sl.v408
      rw [r13, a13, r14, a15, a2, a4, q1, c3, c4, l1, l2]
      rfl
  isplitl [H14]
  · iexists _; iapply (at'_of_read c arg14 _ _ rfl) $$ H14
  isplitl [H15]
  · iapply (at'_of_read c arg15 _ _ ?e15) $$ H15
    case e15 =>
      refine (sto_S512x512 _ _ _ _ _).trans ?_
      delta trip.sl.H12_1 trip.sl.H13_1 trip.sl.H14_1 trip.sl.H16_1 trip.sl.H9_1 trip.sl.cst_134 trip.sl.cst_162 trip.sl.cst_170 trip.sl.r trip.sl.r_1 trip.sl.v239 trip.sl.v241 trip.sl.v242 trip.sl.v243 trip.sl.v244 trip.sl.v246 trip.sl.v248 trip.sl.v249 trip.sl.v251 trip.sl.v252 trip.sl.v254 trip.sl.v260 trip.sl.v261 trip.sl.v263 trip.sl.v264 trip.sl.v265 trip.sl.v266 trip.sl.v267 trip.sl.v269 trip.sl.v271 trip.sl.v272 trip.sl.v273 trip.sl.v274 trip.sl.v275 trip.sl.v281 trip.sl.v282 trip.sl.v283 trip.sl.v284 trip.sl.v285 trip.sl.v287 trip.sl.v293 trip.sl.v294 trip.sl.v295 trip.sl.v297 trip.sl.v298 trip.sl.v305 trip.sl.v306 trip.sl.v307 trip.sl.v309 trip.sl.v310 trip.sl.v316 trip.sl.v322 trip.sl.v323 trip.sl.v340 trip.sl.v341 trip.sl.v343 trip.sl.v344 trip.sl.v352 trip.sl.v353 trip.sl.v355 trip.sl.v356 trip.sl.v357 trip.sl.v363 trip.sl.v364 trip.sl.v365 trip.sl.v366 trip.sl.v367 trip.sl.v373 trip.sl.v374 trip.sl.v375 trip.sl.v376 trip.sl.v377 trip.sl.v378 trip.sl.v379 trip.sl.v385 trip.sl.v386 trip.sl.v387 trip.sl.v389 trip.sl.v390 trip.sl.v391 trip.sl.v397 trip.sl.v398 trip.sl.v399 trip.sl.v401 trip.sl.v402 trip.sl.v408
      rw [a2, a4, q2]
      rfl
  isplitl [H16]
  · iexists _; iapply (at'_of_read c arg16 _ _ rfl) $$ H16
  iapply (at'_of_read c arg17 _ _ ?e17) $$ H17
  case e17 =>
    refine (sto_S512x512 _ _ _ _ _).trans ?_
    delta trip.sl.H12_1 trip.sl.H13_1 trip.sl.H14_1 trip.sl.H16_1 trip.sl.H9_1 trip.sl.cst_134 trip.sl.cst_162 trip.sl.cst_170 trip.sl.r trip.sl.r_1 trip.sl.v239 trip.sl.v241 trip.sl.v242 trip.sl.v243 trip.sl.v244 trip.sl.v246 trip.sl.v248 trip.sl.v249 trip.sl.v251 trip.sl.v252 trip.sl.v254 trip.sl.v260 trip.sl.v261 trip.sl.v263 trip.sl.v264 trip.sl.v265 trip.sl.v266 trip.sl.v267 trip.sl.v269 trip.sl.v271 trip.sl.v272 trip.sl.v273 trip.sl.v274 trip.sl.v275 trip.sl.v281 trip.sl.v282 trip.sl.v283 trip.sl.v284 trip.sl.v285 trip.sl.v287 trip.sl.v293 trip.sl.v294 trip.sl.v295 trip.sl.v297 trip.sl.v298 trip.sl.v305 trip.sl.v306 trip.sl.v307 trip.sl.v309 trip.sl.v310 trip.sl.v316 trip.sl.v322 trip.sl.v323 trip.sl.v340 trip.sl.v341 trip.sl.v343 trip.sl.v344 trip.sl.v352 trip.sl.v353 trip.sl.v355 trip.sl.v356 trip.sl.v357 trip.sl.v363 trip.sl.v364 trip.sl.v365 trip.sl.v366 trip.sl.v367 trip.sl.v373 trip.sl.v374 trip.sl.v375 trip.sl.v376 trip.sl.v377 trip.sl.v378 trip.sl.v379 trip.sl.v385 trip.sl.v386 trip.sl.v387 trip.sl.v389 trip.sl.v390 trip.sl.v391 trip.sl.v397 trip.sl.v398 trip.sl.v399 trip.sl.v401 trip.sl.v402 trip.sl.v408
    rw [a3, c2]
    rfl

end Cert.KernelIdeal.Bwd
-- ==== Proof.Bwd.Tail.lean ====
/-
  After the masked query tile: the loop over pairs of query tiles, and the one more that is left where their number is odd.
-/
module

public import proofs.«01_k».proof.Proof.Bwd.Loop

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the loop keeps: before trip `k` the accumulators hold what the masked query tile and `2 k` further ones leave, the next
query tile's products are ready, and the other pair of scratch buffers holds anything. -/
def inv (c : Dev nD) (I : Inp F) (dq : Vec F S8192x256 .f32) (j : ℕ) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1x1x8192 .f32) (harg8 : arg8.IsWhole) (arg9 : Memref sig .tc .vmem S8192x256 .f32) (harg9 : arg9.IsWhole) (arg10 : Memref sig .tc .vmem S512x256 .bf16) (harg10 : arg10.IsWhole) (arg11 : Memref sig .tc .vmem S1x512x128 .f32) (harg11 : arg11.IsWhole) (arg12 : Memref sig .tc .vmem S512x256 .f32) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (k : ℕ) (_ : Unit) : sProp 𝕄 :=
  iprop(at' c arg2 I.kn ∗ at' c arg3 I.v ∗ at' c arg4 I.kr ∗ at' c arg5 I.q ∗ at' c arg6 I.ct ∗ at' c arg7 I.lse ∗ at' c arg8 I.dl
    ∗ at' c arg9 (acc I j dq (2 * k)).dq ∗ at' c arg12 (acc I j dq (2 * k)).dk ∗ at' c arg13 (acc I j dq (2 * k)).dv
    ∗ (∃ x, at' c arg14 x) ∗ at' c arg15 (st I (j + (2 * k + 1)))
    ∗ (∃ x, at' c arg16 x) ∗ at' c arg17 (dp I (j + (2 * k + 1))))

/-- The query tiles after the masked one, all taken. -/
theorem rest (c : Dev nD) (I : Inp F) (dq : Vec F S8192x256 .f32) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1x1x8192 .f32) (harg8 : arg8.IsWhole) (arg9 : Memref sig .tc .vmem S8192x256 .f32) (harg9 : arg9.IsWhole) (arg10 : Memref sig .tc .vmem S512x256 .bf16) (harg10 : arg10.IsWhole) (arg11 : Memref sig .tc .vmem S1x512x128 .f32) (harg11 : arg11.IsWhole) (arg12 : Memref sig .tc .vmem S512x256 .f32) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg1 v11 v184 c2_i32 v185 : BitVec 32) :
    inv c I dq (i 1).val arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0 ()
    ⊢ wp frame (wpE (defs₀ (F := F)) Variants.none (c : Thread nD τ) none) Set.univ
        (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v11 v184 c2_i32 v185)
        (fun _ => iprop(at' c arg2 I.kn ∗ at' c arg3 I.v ∗ at' c arg4 I.kr ∗ at' c arg5 I.q ∗ at' c arg6 I.ct ∗ at' c arg7 I.lse ∗ at' c arg8 I.dl
          ∗ at' c arg9 (fin I (i 1).val dq).dq ∗ at' c arg12 (fin I (i 1).val dq).dk ∗ at' c arg13 (fin I (i 1).val dq).dv
          ∗ (∃ x, at' c arg14 x) ∗ (∃ x, at' c arg15 x) ∗ (∃ x, at' c arg16 x) ∗ (∃ x, at' c arg17 x))) := by
  simp only [k0_part18_eq_skeleton]; unfold k0_part18_skel
  have ht2 := trips2 i
  iintro H
  sl_exec
  sl_for (inv c I dq (i 1).val arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) $$ [H]
  case region =>
    intro k u
    unfold inv
    iintro ⟨H2, H3, H4, H5, H6, H7, H8, H9, H12, H13, ⟨%x14, H14⟩, H15, ⟨%x16, H16⟩, H17⟩
    have e : acc I (i 1).val dq (2 * (k.val + 1))
        = step I ((i 1).val + (2 * k.val + 2)) (step I ((i 1).val + (2 * k.val + 1)) (acc I (i 1).val dq (2 * k.val))) := rfl
    rw [e, show 2 * (k.val + 1) + 1 = 2 * k.val + 3 by omega]
    iapply (trip c I i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v11 v184 c2_i32 v185 k u (acc I (i 1).val dq (2 * k.val)) x14 x16)
    iframe H2 H3 H4 H5 H6 H7 H8 H9 H12 H13 H14 H15 H16 H17
  · iexact H
  iintro %u H
  sl_for (fun _ _ => inv c I dq (i 1).val arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_t1_loop i).trips ()) $$ [H]
  case region => exact fun k _ => (k.cast ht2).elim0
  · iexact H
  iintro %u' H
  have hj := j_lt i
  have h1 := trips1 i
  unfold inv
  icases H with ⟨H2, H3, H4, H5, H6, H7, H8, H9, H12, H13, ⟨%x14, H14⟩, H15, ⟨%x16, H16⟩, H17⟩
  by_cases hc : k0_cond2 i = 1#1
  · have hodd := (cond2 i).mp hc
    have hn : (i 1).val + (2 * (k0_t1_loop i).trips + 1) = 15 := by omega
    have hfin : fin I (i 1).val dq = step I 15 (acc I (i 1).val dq (2 * (k0_t1_loop i).trips)) := by
      unfold fin
      rw [show 15 - (i 1).val = 2 * (k0_t1_loop i).trips + 1 by omega]
      show step I ((i 1).val + (2 * (k0_t1_loop i).trips + 1)) _ = _
      rw [hn]
    rw [hn, hfin]
    generalize acc I (i 1).val dq (2 * (k0_t1_loop i).trips) = A
    sl_exec
    sl_step
    have a2 : ∀ inb, arg2.view.readAt (Elt F) (Rect.unit (s := S512x128) ![0, 0] S512x128.size inb).toLoadRect (arg2.view.rep (I.kn)) = I.kn := ld_S512x128 _ _
    have a3 : ∀ inb, arg3.view.readAt (Elt F) (Rect.unit (s := S512x128) ![0, 0] S512x128.size inb).toLoadRect (arg3.view.rep (I.v)) = I.v := ld_S512x128 _ _
    have a4 : ∀ inb, arg4.view.readAt (Elt F) (Rect.unit (s := S512x128) ![0, 0] S512x128.size inb).toLoadRect (arg4.view.rep (I.kr)) = I.kr := ld_S512x128 _ _
    have a12 : ∀ inb, arg12.view.readAt (Elt F) (Rect.unit (s := S512x256) ![0, 0] S512x256.size inb).toLoadRect (arg12.view.rep (A.dk)) = A.dk := ld_S512x256 _ _
    have a13 : ∀ inb, arg13.view.readAt (Elt F) (Rect.unit (s := S512x128) ![0, 0] S512x128.size inb).toLoadRect (arg13.view.rep (A.dv)) = A.dv := ld_S512x128 _ _
    have a15 : ∀ inb, arg15.view.readAt (Elt F) (Rect.unit (s := S512x512) ![0, 0] S512x512.size inb).toLoadRect (arg15.view.rep (st I 15)) = st I 15 := ld_S512x512 _ _
    have a17 : ∀ inb, arg17.view.readAt (Elt F) (Rect.unit (s := S512x512) ![0, 0] S512x512.size inb).toLoadRect (arg17.view.rep (dp I 15)) = dp I 15 := ld_S512x512 _ _
    have q1 : ∀ inb, arg5.view.readAt (Elt F) (Rect.unit (s := S8192x256) (k0_off22 i) S512x256.size inb).toLoadRect (arg5.view.rep I.q) = t256 I.q 15 := fun _ => View.readAt_rep_unit _ _ _ (k0_off22_eq i) _
    have c1 : ∀ inb, arg6.view.readAt (Elt F) (Rect.unit (s := S8192x128) (k0_off21 i) S512x128.size inb).toLoadRect (arg6.view.rep I.ct) = t128 I.ct 15 := fun _ => View.readAt_rep_unit _ _ _ (k0_off21_eq i) _
    have l1 : ∀ inb, arg7.view.readAt (Elt F) (Rect.unit (s := S1x1x8192) (k0_off20 i) S1x1x512.size inb).toLoadRect (arg7.view.rep I.lse) = tRow I.lse 15 := fun _ => View.readAt_rep_unit _ _ _ (k0_off20_eq i) _
    have d1 : ∀ inb, arg8.view.readAt (Elt F) (Rect.unit (s := S1x1x8192) (k0_off20 i) S1x1x512.size inb).toLoadRect (arg8.view.rep I.dl) = tRow I.dl 15 := fun _ => View.readAt_rep_unit _ _ _ (k0_off20_eq i) _
    have g1 : ∀ inb, arg9.view.readAt (Elt F) (Rect.unit (s := S8192x256) (k0_off22 i) S512x256.size inb).toLoadRect (arg9.view.rep A.dq) = t256 A.dq 15 := fun _ => View.readAt_rep_unit _ _ _ (k0_off22_eq i) _
    have f9 : ∀ inb w, arg9.view.read (Elt F) (arg9.view.writes (Elt F) (arg9.view.rep A.dq) [⟨Rect.unit (s := S8192x256) (k0_off22 i) S512x256.size inb, w⟩]) = put256 A.dq 15 w := fun _ _ => View.read_writes_rep_unit _ _ _ _ (k0_off22_eq i)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iapply (at'_of_read c arg9 _ _ ?e9) $$ H9
      case e9 =>
        delta rest.sl.cst_133 rest.sl.cst_161 rest.sl.cst_169 rest.sl.r rest.sl.r_1 rest.sl.v234 rest.sl.v235 rest.sl.v236 rest.sl.v238 rest.sl.v240 rest.sl.v241 rest.sl.v242 rest.sl.v243 rest.sl.v245 rest.sl.v247 rest.sl.v248 rest.sl.v250 rest.sl.v251 rest.sl.v253 rest.sl.v259 rest.sl.v260 rest.sl.v262 rest.sl.v263 rest.sl.v265 rest.sl.v266 rest.sl.v268 rest.sl.v270 rest.sl.v271 rest.sl.v272 rest.sl.v273 rest.sl.v280 rest.sl.v281 rest.sl.v282 rest.sl.v283 rest.sl.v284 rest.sl.v286 rest.sl.v292 rest.sl.v293 rest.sl.v294 rest.sl.v296 rest.sl.v297 rest.sl.v304
        rw [f9, g1, a15, a17, a2, a4, l1, d1]
        rfl
    isplitl [H12]
    · iapply (at'_of_read c arg12 _ _ ?e12) $$ H12
      case e12 =>
        refine (sto_S512x256 _ _ _ _ _).trans ?_
        delta rest.sl.cst_133 rest.sl.cst_161 rest.sl.cst_169 rest.sl.r rest.sl.r_1 rest.sl.v234 rest.sl.v235 rest.sl.v236 rest.sl.v238 rest.sl.v240 rest.sl.v241 rest.sl.v242 rest.sl.v243 rest.sl.v245 rest.sl.v247 rest.sl.v248 rest.sl.v250 rest.sl.v251 rest.sl.v253 rest.sl.v259 rest.sl.v260 rest.sl.v262 rest.sl.v263 rest.sl.v265 rest.sl.v266 rest.sl.v268 rest.sl.v270 rest.sl.v271 rest.sl.v272 rest.sl.v273 rest.sl.v280 rest.sl.v281 rest.sl.v282 rest.sl.v283 rest.sl.v284 rest.sl.v286 rest.sl.v292 rest.sl.v293 rest.sl.v294 rest.sl.v296 rest.sl.v297 rest.sl.v304
        rw [a12, a15, a17, q1, l1, d1]
        rfl
    isplitl [H13]
    · iapply (at'_of_read c arg13 _ _ ?e13) $$ H13
      case e13 =>
        refine (sto_S512x128 _ _ _ _ _).trans ?_
        delta rest.sl.cst_133 rest.sl.cst_161 rest.sl.cst_169 rest.sl.r rest.sl.r_1 rest.sl.v234 rest.sl.v235 rest.sl.v236 rest.sl.v238 rest.sl.v240 rest.sl.v241 rest.sl.v242 rest.sl.v243 rest.sl.v245 rest.sl.v247 rest.sl.v248 rest.sl.v250 rest.sl.v251 rest.sl.v253 rest.sl.v259 rest.sl.v260 rest.sl.v262 rest.sl.v263 rest.sl.v265 rest.sl.v266 rest.sl.v268 rest.sl.v270 rest.sl.v271 rest.sl.v272 rest.sl.v273 rest.sl.v280 rest.sl.v281 rest.sl.v282 rest.sl.v283 rest.sl.v284 rest.sl.v286 rest.sl.v292 rest.sl.v293 rest.sl.v294 rest.sl.v296 rest.sl.v297 rest.sl.v304
        rw [a13, a15, c1, l1]
        rfl
    isplitl [H14]; · iexists _; iapply (at'_of_read c arg14 _ _ rfl) $$ H14
    isplitl [H15]; · iexists _; iexact H15
    isplitl [H16]; · iexists _; iapply (at'_of_read c arg16 _ _ rfl) $$ H16
    iexists _; iexact H17
  · have heven : ¬ (15 - (i 1).val) % 2 = 1 := fun h => hc ((cond2 i).mpr h)
    have hfin : fin I (i 1).val dq = acc I (i 1).val dq (2 * (k0_t1_loop i).trips) := by
      unfold fin
      rw [show 15 - (i 1).val = 2 * (k0_t1_loop i).trips by omega]
    rw [hfin]
    sl_exec
    sl_step
    iframe H2 H3 H4 H5 H6 H7 H8 H9 H12 H13
    isplitl [H14]; · iexists _; iexact H14
    isplitl [H15]; · iexists _; iexact H15
    isplitl [H16]; · iexists _; iexact H16
    iexists _; iexact H17

end Cert.KernelIdeal.Bwd
-- ==== Proof.Bwd.Body.lean ====
/-
  One grid point, run: the masked query tile, the others, and what the point leaves in its result blocks.
-/
module

public import proofs.«01_k».proof.Proof.Bwd.Tail

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ### Where the first query tile lies -/

section

variable (i : grid0.Coords)

theorem o1 : k0_off1 i = ![512 * min (i 1).val 15, 0] := by rw [k0_off1_eq, show min (i 1).val 15 = (i 1).val from min_eq_left (by have := j_lt i; omega)]

theorem o2 : k0_off2 i = ![512 * min (i 1).val 15, 0] := by rw [k0_off2_eq, show min (i 1).val 15 = (i 1).val from min_eq_left (by have := j_lt i; omega)]

theorem o6 : k0_off6 i = ![512 * min (i 1).val 15, 0] := by rw [k0_off6_eq, show min (i 1).val 15 = (i 1).val from min_eq_left (by have := j_lt i; omega)]

theorem o7 : k0_off7 i = ![512 * min (i 1).val 15, 0] := by rw [k0_off7_eq, show min (i 1).val 15 = (i 1).val from min_eq_left (by have := j_lt i; omega)]

theorem o5 : k0_off5 i = ![0, 0, 512 * min (i 1).val 15] := by rw [k0_off5_eq, show min (i 1).val 15 = (i 1).val from min_eq_left (by have := j_lt i; omega)]

end

/-- The two halves of the result block, put in turn. -/
theorem put_outKV (A : Acc F) (x10 : Vec F S512x256 .bf16) :
    VecWindow.put (VecWindow.put x10 ![0, 0] S512x128.size (k0_pay2 A.dk)) ![0, 128] S512x128.size (k0_pay3 A.dv) = outKV A := by
  funext y
  have h0 : (y 0).val < 512 := (y 0).isLt
  have h1 : (y 1).val < 256 := (y 1).isLt
  unfold VecWindow.put outKV
  by_cases h : (y 1).val < 128
  · rw [dif_neg (fun h' => by have : 128 ≤ (y 1).val := (h' 1).1; omega), dif_pos h,
      dif_pos (Fin.forall_fin_two.mpr ⟨⟨Nat.zero_le _, by show (y 0).val < 0 + 512; omega⟩, ⟨Nat.zero_le _, by show (y 1).val < 0 + 128; omega⟩⟩)]
    refine congrArg (k0_pay2 A.dk) (funext fun a => ?_)
    match a with
    | 0 => rfl
    | 1 => rfl
  · rw [dif_neg h,
      dif_pos (Fin.forall_fin_two.mpr ⟨⟨Nat.zero_le _, by show (y 0).val < 0 + 512; omega⟩, ⟨by show 128 ≤ (y 1).val; omega, by show (y 1).val < 128 + 128; omega⟩⟩)]
    refine congrArg (k0_pay3 A.dv) (funext fun a => ?_)
    match a with
    | 0 => rfl
    | 1 => rfl

/-- The head's query gradient as a point finds it: zero at the first key tile, which begins it. -/
def start9 (i : grid0.Coords) (x9 : Vec F S8192x256 .f32) : Vec F S8192x256 .f32 := if (i 1).val = 0 then k0_pay47 else x9

/-- The point's test for the first key tile holds there alone. -/
theorem isFirst (i : grid0.Coords) :
    (Scalar.cmpi .ne (Scalar.extui (Scalar.cmpi .eq (BitVec.ofNat 32 (i 1).val) 0#32) : BitVec 32) 0#32 = 1#1) ↔ (i 1).val = 0 := by
  have h : ∀ n : Fin 16, (Scalar.cmpi .ne (Scalar.extui (Scalar.cmpi .eq (BitVec.ofNat 32 n.val) 0#32) : BitVec 32) 0#32 = 1#1) ↔ n.val = 0 := by
    decide +kernel
  exact h ⟨(i 1).val, j_lt i⟩

/-- The head's query gradient after that test's branches. -/
theorem start_read (i : grid0.Coords) (x9 : Vec F S8192x256 .f32) (arg9 : Memref sig .tc .vmem S8192x256 .f32) (inb) :
    arg9.view.read (Elt F)
      (if _hc : Scalar.cmpi .ne (Scalar.extui (Scalar.cmpi .eq (BitVec.ofNat 32 (i 1).val) 0#32) : BitVec 32) 0#32 = 1#1 then
        arg9.view.writes (Elt F) (arg9.view.rep x9) [⟨Rect.unit (s := S8192x256) ![0, 0] S8192x256.size inb, k0_pay47⟩]
      else arg9.view.rep x9) = start9 i x9 := by
  unfold start9
  by_cases h : (i 1).val = 0
  · rw [dif_pos ((isFirst i).mpr h), if_pos h]
    exact View.read_writes_full _ _ _ _ _
  · rw [dif_neg (fun h' => h ((isFirst i).mp h')), if_neg h]
    exact View.read_rep _ _

set_option maxHeartbeats 1600000 in
/-- A grid point, run: it adds to the head's query gradient and writes its two result blocks, and leaves anything in the scratch
buffers. -/
theorem point (c : Dev nD) (I : Inp F) (x9 : Vec F S8192x256 .f32) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S1x1x8192 .f32) (harg7 : arg7.IsWhole) (arg8 : Memref sig .tc .vmem S1x1x8192 .f32) (harg8 : arg8.IsWhole) (arg9 : Memref sig .tc .vmem S8192x256 .f32) (harg9 : arg9.IsWhole) (arg10 : Memref sig .tc .vmem S512x256 .bf16) (harg10 : arg10.IsWhole) (arg11 : Memref sig .tc .vmem S1x512x128 .f32) (harg11 : arg11.IsWhole) (arg12 : Memref sig .tc .vmem S512x256 .f32) (harg12 : arg12.IsWhole) (arg13 : Memref sig .tc .vmem S512x128 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole)
    (x10 : Vec F S512x256 .bf16) (x11 : Vec F S1x512x128 .f32) (x12 : Vec F S512x256 .f32) (x13 : Vec F S512x128 .f32) (x14 x15 x16 x17 : Vec F S512x512 .f32) :
    (iprop(at' c arg2 I.kn ∗ at' c arg3 I.v ∗ at' c arg4 I.kr ∗ at' c arg5 I.q ∗ at' c arg6 I.ct ∗ at' c arg7 I.lse ∗ at' c arg8 I.dl
      ∗ at' c arg9 x9 ∗ at' c arg10 x10 ∗ at' c arg11 x11 ∗ at' c arg12 x12 ∗ at' c arg13 x13 ∗ at' c arg14 x14 ∗ at' c arg15 x15
      ∗ at' c arg16 x16 ∗ at' c arg17 x17) : sProp 𝕄)
    ⊢ wp frame (wpE (defs₀ (F := F)) Variants.none (c : Thread nD τ) none) Set.univ
        (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(at' c arg2 I.kn ∗ at' c arg3 I.v ∗ at' c arg4 I.kr ∗ at' c arg5 I.q ∗ at' c arg6 I.ct ∗ at' c arg7 I.lse ∗ at' c arg8 I.dl
          ∗ at' c arg9 (fin I (i 1).val (start9 i x9)).dq ∗ at' c arg10 (outKV (fin I (i 1).val (start9 i x9))) ∗ at' c arg11 (outKR (fin I (i 1).val (start9 i x9)))
          ∗ (∃ x, at' c arg12 x) ∗ (∃ x, at' c arg13 x)
          ∗ (∃ x, at' c arg14 x) ∗ (∃ x, at' c arg15 x) ∗ (∃ x, at' c arg16 x) ∗ (∃ x, at' c arg17 x))) := by
  simp only [cc0_attn_bwd_eq_skeleton]
  unfold cc0_attn_bwd_skel
  have hb := j_lt i
  iintro ⟨H2, H3, H4, H5, H6, H7, H8, H9, H10, H11, H12, H13, H14, H15, H16, H17⟩
  set_option sl_exec.stopBefore "k0_part18" in sl_exec
  have a2 : ∀ inb, arg2.view.readAt (Elt F) (Rect.unit (s := S512x128) ![0, 0] S512x128.size inb).toLoadRect (arg2.view.rep (I.kn)) = I.kn := ld_S512x128 _ _
  have a3 : ∀ inb, arg3.view.readAt (Elt F) (Rect.unit (s := S512x128) ![0, 0] S512x128.size inb).toLoadRect (arg3.view.rep (I.v)) = I.v := ld_S512x128 _ _
  have a4 : ∀ inb, arg4.view.readAt (Elt F) (Rect.unit (s := S512x128) ![0, 0] S512x128.size inb).toLoadRect (arg4.view.rep (I.kr)) = I.kr := ld_S512x128 _ _
  have r12 : ∀ inb inb' w L, arg12.view.readCov (⟨Rect.unit (s := S512x256) ![0, 0] S512x256.size inb', w⟩ :: L) (Rect.unit (s := S512x256) ![0, 0] S512x256.size inb).toLoadRect = w := cov_S512x256 (F := F) _
  have r13 : ∀ inb inb' w L, arg13.view.readCov (⟨Rect.unit (s := S512x128) ![0, 0] S512x128.size inb', w⟩ :: L) (Rect.unit (s := S512x128) ![0, 0] S512x128.size inb).toLoadRect = w := cov_S512x128 (F := F) _
  have r14 : ∀ inb inb' w L, arg14.view.readCov (⟨Rect.unit (s := S512x512) ![0, 0] S512x512.size inb', w⟩ :: L) (Rect.unit (s := S512x512) ![0, 0] S512x512.size inb).toLoadRect = w := cov_S512x512 (F := F) _
  have r16 : ∀ inb inb' w L, arg16.view.readCov (⟨Rect.unit (s := S512x512) ![0, 0] S512x512.size inb', w⟩ :: L) (Rect.unit (s := S512x512) ![0, 0] S512x512.size inb).toLoadRect = w := cov_S512x512 (F := F) _
  have q1 : ∀ inb, arg5.view.readAt (Elt F) (Rect.unit (s := S8192x256) (k0_off1 i) S512x256.size inb).toLoadRect (arg5.view.rep I.q) = t256 I.q ((i 1).val) := fun _ => View.readAt_rep_unit _ _ _ (o1 i) _
  have q3 : ∀ inb, arg5.view.readAt (Elt F) (Rect.unit (s := S8192x256) (k0_off3 i) S512x256.size inb).toLoadRect (arg5.view.rep I.q) = t256 I.q ((i 1).val + 1) := fun _ => View.readAt_rep_unit _ _ _ (k0_off3_eq i) _
  have q7 : ∀ inb, arg5.view.readAt (Elt F) (Rect.unit (s := S8192x256) (k0_off7 i) S512x256.size inb).toLoadRect (arg5.view.rep I.q) = t256 I.q ((i 1).val) := fun _ => View.readAt_rep_unit _ _ _ (o7 i) _
  have c2 : ∀ inb, arg6.view.readAt (Elt F) (Rect.unit (s := S8192x128) (k0_off2 i) S512x128.size inb).toLoadRect (arg6.view.rep I.ct) = t128 I.ct ((i 1).val) := fun _ => View.readAt_rep_unit _ _ _ (o2 i) _
  have c4 : ∀ inb, arg6.view.readAt (Elt F) (Rect.unit (s := S8192x128) (k0_off4 i) S512x128.size inb).toLoadRect (arg6.view.rep I.ct) = t128 I.ct ((i 1).val + 1) := fun _ => View.readAt_rep_unit _ _ _ (k0_off4_eq i) _
  have c6 : ∀ inb, arg6.view.readAt (Elt F) (Rect.unit (s := S8192x128) (k0_off6 i) S512x128.size inb).toLoadRect (arg6.view.rep I.ct) = t128 I.ct ((i 1).val) := fun _ => View.readAt_rep_unit _ _ _ (o6 i) _
  have l5 : ∀ inb, arg7.view.readAt (Elt F) (Rect.unit (s := S1x1x8192) (k0_off5 i) S1x1x512.size inb).toLoadRect (arg7.view.rep I.lse) = tRow I.lse ((i 1).val) := fun _ => View.readAt_rep_unit _ _ _ (o5 i) _
  have d5 : ∀ inb, arg8.view.readAt (Elt F) (Rect.unit (s := S1x1x8192) (k0_off5 i) S1x1x512.size inb).toLoadRect (arg8.view.rep I.dl) = tRow I.dl ((i 1).val) := fun _ => View.readAt_rep_unit _ _ _ (o5 i) _
  have g9 : ∀ f, arg9.view.read (Elt F) f = start9 i x9 → ∀ inb, arg9.view.readAt (Elt F) (Rect.unit (s := S8192x256) (k0_off7 i) S512x256.size inb).toLoadRect f = t256 (start9 i x9) (i 1).val := fun f hf _ => by
    rw [View.readAt_unit _ _ _ (o7 i) (inb256 _), hf]; rfl
  have f9 : ∀ f, arg9.view.read (Elt F) f = start9 i x9 → ∀ inb w, arg9.view.read (Elt F) (arg9.view.writes (Elt F) f [⟨Rect.unit (s := S8192x256) (k0_off7 i) S512x256.size inb, w⟩]) = put256 (start9 i x9) (i 1).val w := fun f hf _ _ => by
    rw [View.read_writes_cons_put _ _ _ _ _ (o7 i), View.writes_nil, hf]; rfl
  dsimp only
  rw [wp_bind]
  iapply (wp_wand_r _ _ _)
  isplitl [H2 H3 H4 H5 H6 H7 H8 H9 H12 H13 H14 H15 H16 H17]
  · iapply (rest c I (start9 i x9) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _)
    unfold inv
    rw [show acc I (i 1).val (start9 i x9) (2 * 0) = step0 I (i 1).val (start (start9 i x9)) from rfl,
      show (i 1).val + (2 * 0 + 1) = (i 1).val + 1 from rfl]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iapply (at'_of_read c arg9 _ _ ?e9) $$ H9
      case e9 =>
        refine (f9 _ (start_read i x9 arg9 _) _ _).trans ?_
        delta point.sl.H12_1 point.sl.H13_1 point.sl.H14_1 point.sl.H16_1 point.sl.cst point.sl.cst_10 point.sl.cst_72 point.sl.cst_80 point.sl.r point.sl.v0 point.sl.v10 point.sl.v101 point.sl.v104 point.sl.v105 point.sl.v11 point.sl.v110 point.sl.v113 point.sl.v121 point.sl.v125 point.sl.v128 point.sl.v129 point.sl.v13 point.sl.v131 point.sl.v132 point.sl.v133 point.sl.v139 point.sl.v140 point.sl.v141 point.sl.v142 point.sl.v143 point.sl.v144 point.sl.v145 point.sl.v15 point.sl.v151 point.sl.v152 point.sl.v153 point.sl.v155 point.sl.v156 point.sl.v157 point.sl.v16 point.sl.v163 point.sl.v164 point.sl.v165 point.sl.v167 point.sl.v168 point.sl.v17 point.sl.v173 point.sl.v174 point.sl.v18 point.sl.v180 point.sl.v181 point.sl.v184 point.sl.v185 point.sl.v2 point.sl.v20 point.sl.v22 point.sl.v23 point.sl.v234 point.sl.v25 point.sl.v26 point.sl.v28 point.sl.v3 point.sl.v34 point.sl.v35 point.sl.v37 point.sl.v38 point.sl.v39 point.sl.v4 point.sl.v40 point.sl.v46 point.sl.v47 point.sl.v49 point.sl.v51 point.sl.v52 point.sl.v54 point.sl.v55 point.sl.v6 point.sl.v63 point.sl.v64 point.sl.v66 point.sl.v67 point.sl.v68 point.sl.v69 point.sl.v7 point.sl.v70 point.sl.v72 point.sl.v74 point.sl.v75 point.sl.v76 point.sl.v77 point.sl.v78 point.sl.v79 point.sl.v8 point.sl.v81 point.sl.v82 point.sl.v84 point.sl.v85 point.sl.v87 point.sl.v88 point.sl.v9 point.sl.v95 point.sl.v96 point.sl.v98
        rw [g9, r14, r16, a2, a3, a4, q1, c2, l5, d5]
        rfl
        exact start_read i x9 arg9 _
    isplitl [H12]
    · iapply (at'_of_read c arg12 _ _ ?e12) $$ H12
      case e12 =>
        refine (sto_S512x256 _ _ _ _ _).trans ?_
        delta point.sl.H12_1 point.sl.H13_1 point.sl.H14_1 point.sl.H16_1 point.sl.cst point.sl.cst_10 point.sl.cst_72 point.sl.cst_80 point.sl.r point.sl.v0 point.sl.v10 point.sl.v101 point.sl.v104 point.sl.v105 point.sl.v11 point.sl.v110 point.sl.v113 point.sl.v121 point.sl.v125 point.sl.v128 point.sl.v129 point.sl.v13 point.sl.v131 point.sl.v132 point.sl.v133 point.sl.v139 point.sl.v140 point.sl.v141 point.sl.v142 point.sl.v143 point.sl.v144 point.sl.v145 point.sl.v15 point.sl.v151 point.sl.v152 point.sl.v153 point.sl.v155 point.sl.v156 point.sl.v157 point.sl.v16 point.sl.v163 point.sl.v164 point.sl.v165 point.sl.v167 point.sl.v168 point.sl.v17 point.sl.v173 point.sl.v174 point.sl.v18 point.sl.v180 point.sl.v181 point.sl.v184 point.sl.v185 point.sl.v2 point.sl.v20 point.sl.v22 point.sl.v23 point.sl.v234 point.sl.v25 point.sl.v26 point.sl.v28 point.sl.v3 point.sl.v34 point.sl.v35 point.sl.v37 point.sl.v38 point.sl.v39 point.sl.v4 point.sl.v40 point.sl.v46 point.sl.v47 point.sl.v49 point.sl.v51 point.sl.v52 point.sl.v54 point.sl.v55 point.sl.v6 point.sl.v63 point.sl.v64 point.sl.v66 point.sl.v67 point.sl.v68 point.sl.v69 point.sl.v7 point.sl.v70 point.sl.v72 point.sl.v74 point.sl.v75 point.sl.v76 point.sl.v77 point.sl.v78 point.sl.v79 point.sl.v8 point.sl.v81 point.sl.v82 point.sl.v84 point.sl.v85 point.sl.v87 point.sl.v88 point.sl.v9 point.sl.v95 point.sl.v96 point.sl.v98
        rw [r12, r14, r16, a2, a3, a4, q1, q7, c2, l5, d5]
        rfl
    isplitl [H13]
    · iapply (at'_of_read c arg13 _ _ ?e13) $$ H13
      case e13 =>
        refine (sto_S512x128 _ _ _ _ _).trans ?_
        delta point.sl.H12_1 point.sl.H13_1 point.sl.H14_1 point.sl.H16_1 point.sl.cst point.sl.cst_10 point.sl.cst_72 point.sl.cst_80 point.sl.r point.sl.v0 point.sl.v10 point.sl.v101 point.sl.v104 point.sl.v105 point.sl.v11 point.sl.v110 point.sl.v113 point.sl.v121 point.sl.v125 point.sl.v128 point.sl.v129 point.sl.v13 point.sl.v131 point.sl.v132 point.sl.v133 point.sl.v139 point.sl.v140 point.sl.v141 point.sl.v142 point.sl.v143 point.sl.v144 point.sl.v145 point.sl.v15 point.sl.v151 point.sl.v152 point.sl.v153 point.sl.v155 point.sl.v156 point.sl.v157 point.sl.v16 point.sl.v163 point.sl.v164 point.sl.v165 point.sl.v167 point.sl.v168 point.sl.v17 point.sl.v173 point.sl.v174 point.sl.v18 point.sl.v180 point.sl.v181 point.sl.v184 point.sl.v185 point.sl.v2 point.sl.v20 point.sl.v22 point.sl.v23 point.sl.v234 point.sl.v25 point.sl.v26 point.sl.v28 point.sl.v3 point.sl.v34 point.sl.v35 point.sl.v37 point.sl.v38 point.sl.v39 point.sl.v4 point.sl.v40 point.sl.v46 point.sl.v47 point.sl.v49 point.sl.v51 point.sl.v52 point.sl.v54 point.sl.v55 point.sl.v6 point.sl.v63 point.sl.v64 point.sl.v66 point.sl.v67 point.sl.v68 point.sl.v69 point.sl.v7 point.sl.v70 point.sl.v72 point.sl.v74 point.sl.v75 point.sl.v76 point.sl.v77 point.sl.v78 point.sl.v79 point.sl.v8 point.sl.v81 point.sl.v82 point.sl.v84 point.sl.v85 point.sl.v87 point.sl.v88 point.sl.v9 point.sl.v95 point.sl.v96 point.sl.v98
        rw [r13, r14, a2, a4, q1, c6, l5]
        rfl
    isplitl [H14]; · iexists _; iapply (at'_of_read c arg14 _ _ rfl) $$ H14
    isplitl [H15]
    · iapply (at'_of_read c arg15 _ _ ?e15) $$ H15
      case e15 =>
        refine (sto_S512x512 _ _ _ _ _).trans ?_
        delta point.sl.H12_1 point.sl.H13_1 point.sl.H14_1 point.sl.H16_1 point.sl.cst point.sl.cst_10 point.sl.cst_72 point.sl.cst_80 point.sl.r point.sl.v0 point.sl.v10 point.sl.v101 point.sl.v104 point.sl.v105 point.sl.v11 point.sl.v110 point.sl.v113 point.sl.v121 point.sl.v125 point.sl.v128 point.sl.v129 point.sl.v13 point.sl.v131 point.sl.v132 point.sl.v133 point.sl.v139 point.sl.v140 point.sl.v141 point.sl.v142 point.sl.v143 point.sl.v144 point.sl.v145 point.sl.v15 point.sl.v151 point.sl.v152 point.sl.v153 point.sl.v155 point.sl.v156 point.sl.v157 point.sl.v16 point.sl.v163 point.sl.v164 point.sl.v165 point.sl.v167 point.sl.v168 point.sl.v17 point.sl.v173 point.sl.v174 point.sl.v18 point.sl.v180 point.sl.v181 point.sl.v184 point.sl.v185 point.sl.v2 point.sl.v20 point.sl.v22 point.sl.v23 point.sl.v234 point.sl.v25 point.sl.v26 point.sl.v28 point.sl.v3 point.sl.v34 point.sl.v35 point.sl.v37 point.sl.v38 point.sl.v39 point.sl.v4 point.sl.v40 point.sl.v46 point.sl.v47 point.sl.v49 point.sl.v51 point.sl.v52 point.sl.v54 point.sl.v55 point.sl.v6 point.sl.v63 point.sl.v64 point.sl.v66 point.sl.v67 point.sl.v68 point.sl.v69 point.sl.v7 point.sl.v70 point.sl.v72 point.sl.v74 point.sl.v75 point.sl.v76 point.sl.v77 point.sl.v78 point.sl.v79 point.sl.v8 point.sl.v81 point.sl.v82 point.sl.v84 point.sl.v85 point.sl.v87 point.sl.v88 point.sl.v9 point.sl.v95 point.sl.v96 point.sl.v98
        rw [a2, a4, q3]
        rfl
    isplitl [H16]; · iexists _; iapply (at'_of_read c arg16 _ _ rfl) $$ H16
    · iapply (at'_of_read c arg17 _ _ ?e17) $$ H17
      case e17 =>
        refine (sto_S512x512 _ _ _ _ _).trans ?_
        delta point.sl.H12_1 point.sl.H13_1 point.sl.H14_1 point.sl.H16_1 point.sl.cst point.sl.cst_10 point.sl.cst_72 point.sl.cst_80 point.sl.r point.sl.v0 point.sl.v10 point.sl.v101 point.sl.v104 point.sl.v105 point.sl.v11 point.sl.v110 point.sl.v113 point.sl.v121 point.sl.v125 point.sl.v128 point.sl.v129 point.sl.v13 point.sl.v131 point.sl.v132 point.sl.v133 point.sl.v139 point.sl.v140 point.sl.v141 point.sl.v142 point.sl.v143 point.sl.v144 point.sl.v145 point.sl.v15 point.sl.v151 point.sl.v152 point.sl.v153 point.sl.v155 point.sl.v156 point.sl.v157 point.sl.v16 point.sl.v163 point.sl.v164 point.sl.v165 point.sl.v167 point.sl.v168 point.sl.v17 point.sl.v173 point.sl.v174 point.sl.v18 point.sl.v180 point.sl.v181 point.sl.v184 point.sl.v185 point.sl.v2 point.sl.v20 point.sl.v22 point.sl.v23 point.sl.v234 point.sl.v25 point.sl.v26 point.sl.v28 point.sl.v3 point.sl.v34 point.sl.v35 point.sl.v37 point.sl.v38 point.sl.v39 point.sl.v4 point.sl.v40 point.sl.v46 point.sl.v47 point.sl.v49 point.sl.v51 point.sl.v52 point.sl.v54 point.sl.v55 point.sl.v6 point.sl.v63 point.sl.v64 point.sl.v66 point.sl.v67 point.sl.v68 point.sl.v69 point.sl.v7 point.sl.v70 point.sl.v72 point.sl.v74 point.sl.v75 point.sl.v76 point.sl.v77 point.sl.v78 point.sl.v79 point.sl.v8 point.sl.v81 point.sl.v82 point.sl.v84 point.sl.v85 point.sl.v87 point.sl.v88 point.sl.v9 point.sl.v95 point.sl.v96 point.sl.v98
        rw [a3, c4]
        rfl
  iintro %u ⟨H2, H3, H4, H5, H6, H7, H8, H9, H12, H13, H14, H15, H16, H17⟩
  generalize fin I (i 1).val (start9 i x9) = A
  sl_exec
  sl_step
  have b12 : ∀ inb, arg12.view.readAt (Elt F) (Rect.unit (s := S512x256) ![0, 0] S512x256.size inb).toLoadRect (arg12.view.rep A.dk) = A.dk := ld_S512x256 _ _
  have b13 : ∀ inb, arg13.view.readAt (Elt F) (Rect.unit (s := S512x128) ![0, 0] S512x128.size inb).toLoadRect (arg13.view.rep A.dv) = A.dv := ld_S512x128 _ _
  have f10 : ∀ inb inb' w w', arg10.view.read (Elt F) (arg10.view.writes (Elt F) (arg10.view.rep x10) [⟨Rect.unit (s := S512x256) ![0, 128] S512x128.size inb, w'⟩, ⟨Rect.unit (s := S512x256) ![0, 0] S512x128.size inb', w⟩])
      = VecWindow.put (VecWindow.put x10 ![0, 0] S512x128.size w) ![0, 128] S512x128.size w' := fun _ _ _ _ => by
    rw [View.read_writes_cons_put _ _ _ _ _ rfl, View.read_writes_rep_unit _ _ _ _ rfl]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (at'_of_read c arg10 _ _ ?e10) $$ H10
    case e10 =>
      refine (f10 _ _ _ _).trans ?_
      refine Eq.trans ?_ (put_outKV A x10)
      rw [b12, b13]
  isplitl [H11]
  · iapply (at'_of_read c arg11 _ _ ?e11) $$ H11
    case e11 =>
      refine (View.read_writes_full _ _ _ _ _).trans ?_
      rw [b12]
      rfl
  isplitl [H12]; · iexists _; iexact H12
  isplitl [H13]; · iexists _; iexact H13
  iframe H14 H15 H16 H17

end Cert.KernelIdeal.Bwd
-- ==== Proof.Bwd.Run.lean ====
/-
  The whole call, run: what every staging buffer holds after every grid point, the body at every point, and the two facts the
  run gives: the arguments are unchanged with no signal left over, and each result array is what the points left in its blocks.
-/
module

public import proofs.«01_k».proof.Proof.Bwd.Body
public import proofs.«01_k».proof.Proof.Gen.KernelIdeal.Frame

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### What the points leave -/

/-- The blocks point `t` reads. -/
def inp (c : Dev nD) (t : Fin cfg0.N) : Inp F :=
  ⟨iblk m c 0 t, iblk m c 1 t, iblk m c 2 t, iblk m c 3 t, iblk m c 4 t, iblk m c 5 t, iblk m c 6 t⟩

/-- The head's query gradient before point `n`, where that point is not the first of its head. -/
def dqB (c : Dev nD) : ℕ → Vec F S8192x256 .f32
  | 0 => k0_pay47
  | n + 1 => if h : n < cfg0.N then
      (fin (inp m c ⟨n, h⟩) (grid0.coords ⟨n, h⟩ 1).val (start9 (grid0.coords ⟨n, h⟩) (dqB c n))).dq else k0_pay47

/-- The accumulators after point `t`. -/
def accAt (c : Dev nD) (t : Fin cfg0.N) : Acc F := fin (inp m c t) (grid0.coords t 1).val (start9 (grid0.coords t) (dqB m c t.val))

theorem dqB_succ (c : Dev nD) (t : Fin cfg0.N) : dqB m c (t.val + 1) = (accAt m c t).dq := by
  rw [dqB, dif_pos t.isLt]; rfl

/-- The proof data: the arrays as the call finds them, inputs left in place, the results' blocks as the points leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (accAt m c t).dq
    | ⟨8, _⟩ => outKV (accAt m c t)
    | ⟨9, _⟩ => outKR (accAt m c t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (accAt m c t).dq := by dsimp only [dats]
theorem after8 (c : Dev nD) (t : Fin cfg0.N) : (dats m 0 c).after 8 t = outKV (accAt m c t) := by dsimp only [dats]
theorem after9 (c : Dev nD) (t : Fin cfg0.N) : (dats m 0 c).after 9 t = outKR (accAt m c t) := by dsimp only [dats]
theorem before0 (c : Dev nD) (t : Fin cfg0.N) (d) : (dats m 0 c).before 0 t d = (inp m c t).kn := before0_0_of m (dats m 0 c) (A_eq m c 0) (after0 m c) t d
theorem before1 (c : Dev nD) (t : Fin cfg0.N) (d) : (dats m 0 c).before 1 t d = (inp m c t).v := before0_1_of m (dats m 0 c) (A_eq m c 1) (after1 m c) t d
theorem before2 (c : Dev nD) (t : Fin cfg0.N) (d) : (dats m 0 c).before 2 t d = (inp m c t).kr := before0_2_of m (dats m 0 c) (A_eq m c 2) (after2 m c) t d
theorem before3 (c : Dev nD) (t : Fin cfg0.N) (d) : (dats m 0 c).before 3 t d = (inp m c t).q := before0_3_of m (dats m 0 c) (A_eq m c 3) (after3 m c) t d
theorem before4 (c : Dev nD) (t : Fin cfg0.N) (d) : (dats m 0 c).before 4 t d = (inp m c t).ct := before0_4_of m (dats m 0 c) (A_eq m c 4) (after4 m c) t d
theorem before5 (c : Dev nD) (t : Fin cfg0.N) (d) : (dats m 0 c).before 5 t d = (inp m c t).lse := before0_5_of m (dats m 0 c) (A_eq m c 5) (after5 m c) t d
theorem before6 (c : Dev nD) (t : Fin cfg0.N) (d) : (dats m 0 c).before 6 t d = (inp m c t).dl := before0_6_of m (dats m 0 c) (A_eq m c 6) (after6 m c) t d

/-- A point's key tile: the points of a head follow one another. -/
theorem coords1 : ∀ t : Fin cfg0.N, (grid0.coords t 1).val = t.val % 16 :=
  (by decide +kernel : ∀ t : Fin grid0.N, (grid0.coords t 1).val = t.val % 16)

/-- The head's query gradient as a point takes it up: zero at the head's first point, what the point before left elsewhere. -/
theorem before7 (c : Dev nD) (t : Fin cfg0.N) (d) : start9 (grid0.coords t) ((dats m 0 c).before 7 t d) = start9 (grid0.coords t) (dqB m c t.val) := by
  unfold start9
  by_cases h : (grid0.coords t 1).val = 0
  · rw [if_pos h, if_pos h]
  · rw [if_neg h, if_neg h]
    have h16 : t.val % 16 ≠ 0 := by rw [← coords1]; exact h
    have ht : t.val ≠ 0 := fun h0 => h16 (by rw [h0])
    have hfl : (cfg0.win 7).flush ⟨t.val - 1, Nat.lt_of_le_of_lt (Nat.sub_le _ _) t.isLt⟩ = false := by
      rw [Bool.eq_false_iff]
      intro hf
      have := (flush0_7 _).mp hf
      dsimp only at this
      omega
    rw [(dats m 0 c).before_out_kept 7 rfl t ht hfl (fun _ => rfl) (fun _ _ => rfl), after7, ← dqB_succ]
    congr 1
    show t.val - 1 + 1 = t.val
    omega

/-! ### The body at a point -/

/-- A memref owned with contents `x` is held with them, -/
theorem at'_of_owns (c : Dev nD) {sp : Space} {s : Shape} {e : EltTy} (a : Memref sig .tc sp s e) (x y : s.Idx → Elt F e) (h : x = y) :
    (owns (c : Thread nD τ) a fullShare x : sProp 𝕄) ⊢ at' c a y := by
  subst h
  unfold owns
  iintro ⟨%f, %hf, H⟩
  iapply (at'_of_read c a f x hf)
  iexact H

/-- and back. -/
theorem owns_of_at' (c : Dev nD) {sp : Space} {s : Shape} {e : EltTy} (a : Memref sig .tc sp s e) (x : s.Idx → Elt F e) :
    (at' c a x : sProp 𝕄) ⊢ owns (c : Thread nD τ) a fullShare x := by
  unfold owns
  iintro H
  iexists _
  isplitr
  swap; · iexact H
  ipureintro; exact View.read_rep _ _

/-- A scratch buffer held at some contents, -/
theorem at'_of_buf (c : Dev nD) (b : Ref sig .tc) :
    (iprop(∃ f : Buf (Elt F) ((c : Thread nD τ).loc b), ((c : Thread nD τ).loc b) ↦{fullShare} f) : sProp 𝕄) ⊢ iprop(∃ x, at' c (Memref.whole b) x) := by
  iintro ⟨%f, H⟩
  iexists ((Memref.whole b).view.read (Elt F) f)
  iapply (at'_of_read c (Memref.whole b) f _ rfl)
  rw [show (Memref.whole b : Memref sig .tc _ _ _).view.set = Finset.univ from View.set_whole b]
  iexact H

/-- and back. -/
theorem buf_of_at' (c : Dev nD) (b : Ref sig .tc) :
    (iprop(∃ x, at' c (Memref.whole b) x) : sProp 𝕄) ⊢ iprop(∃ f : Buf (Elt F) ((c : Thread nD τ).loc b), ((c : Thread nD τ).loc b) ↦{fullShare} f) := by
  unfold at'
  rw [show (Memref.whole b : Memref sig .tc _ _ _).view.set = Finset.univ from View.set_whole b]
  iintro ⟨%x, H⟩
  iexists ((Memref.whole b).view.rep x)
  iexact H

/-- What the body takes at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
/-- The body at point `t`. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl, show (dats m 0 c).Φ t.castSucc = Pipeline.ΦA spec0 c from rfl,
    after0, after1, after2, after3, after4, after5, after6, after7, after8, after9]
  unfold Pipeline.ΦA
  rw [scopedRest0_eq]
  unfold Dat.owesAt Pipeline.owesWithin
  rw [show (dats m 0 c).owed t.castSucc = 0 from rfl, show (dats m 0 c).owed t.succ = 0 from rfl]
  iintro ⟨⟨⟨S0, S1, S2, S3, S4, S5⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave ⟨%y0, S0⟩ := (at'_of_buf c cc0_scratch0) $$ S0
  ihave ⟨%y1, S1⟩ := (at'_of_buf c cc0_scratch1) $$ S1
  ihave ⟨%y2, S2⟩ := (at'_of_buf c cc0_scratch2) $$ S2
  ihave ⟨%y3, S3⟩ := (at'_of_buf c cc0_scratch3) $$ S3
  ihave ⟨%y4, S4⟩ := (at'_of_buf c cc0_scratch4) $$ S4
  ihave ⟨%y5, S5⟩ := (at'_of_buf c cc0_scratch5) $$ S5
  iapply (wp_wand_r _ _ _)
  isplitl [H0 H1 H2 H3 H4 H5 H6 H7 H8 H9 S0 S1 S2 S3 S4 S5]
  · iapply (point c (inp m c t) ((dats m 0 c).before 7 t d7) (grid0.coords t) _ _ _ _ _ _ _ _ _ _ _ _ _ _ _ _ _ _ _ _ _ _ _ _ _ _ _ _ _ _ _ _ ((dats m 0 c).before 8 t d8) ((dats m 0 c).before 9 t d9) y0 y1 y2 y3 y4 y5)
    isplitl [H0]; · iapply (at'_of_owns c _ _ _ (before0 m c t d0)); iexact H0
    isplitl [H1]; · iapply (at'_of_owns c _ _ _ (before1 m c t d1)); iexact H1
    isplitl [H2]; · iapply (at'_of_owns c _ _ _ (before2 m c t d2)); iexact H2
    isplitl [H3]; · iapply (at'_of_owns c _ _ _ (before3 m c t d3)); iexact H3
    isplitl [H4]; · iapply (at'_of_owns c _ _ _ (before4 m c t d4)); iexact H4
    isplitl [H5]; · iapply (at'_of_owns c _ _ _ (before5 m c t d5)); iexact H5
    isplitl [H6]; · iapply (at'_of_owns c _ _ _ (before6 m c t d6)); iexact H6
    isplitl [H7]; · iapply (at'_of_owns c _ _ _ rfl); iexact H7
    isplitl [H8]; · iapply (at'_of_owns c _ _ _ rfl); iexact H8
    isplitl [H9]; · iapply (at'_of_owns c _ _ _ rfl); iexact H9
    isplitl [S0]; · iexact S0
    isplitl [S1]; · iexact S1
    isplitl [S2]; · iexact S2
    isplitl [S3]; · iexact S3
    isplitl [S4]; · iexact S4
    iexact S5
  rw [before7]
  iintro %u ⟨H0, H1, H2, H3, H4, H5, H6, H7, H8, H9, S0, S1, S2, S3, S4, S5⟩
  isplitl [S0 S1 S2 S3 S4 S5 Hg]
  · isplitl [S0 S1 S2 S3 S4 S5]
    · isplitl [S0]; · iapply (buf_of_at' c cc0_scratch0); iexact S0
      isplitl [S1]; · iapply (buf_of_at' c cc0_scratch1); iexact S1
      isplitl [S2]; · iapply (buf_of_at' c cc0_scratch2); iexact S2
      isplitl [S3]; · iapply (buf_of_at' c cc0_scratch3); iexact S3
      isplitl [S4]; · iapply (buf_of_at' c cc0_scratch4); iexact S4
      iapply (buf_of_at' c cc0_scratch5); iexact S5
    iexact Hg
  isplitl [HW]
  · iexists W; isplitr; · ipureintro; exact fun _ _ => Or.inl trivial
    iexact HW
  isplitl [H0]; · iapply (owns_of_at' c _ _); iexact H0
  isplitl [H1]; · iapply (owns_of_at' c _ _); iexact H1
  isplitl [H2]; · iapply (owns_of_at' c _ _); iexact H2
  isplitl [H3]; · iapply (owns_of_at' c _ _); iexact H3
  isplitl [H4]; · iapply (owns_of_at' c _ _); iexact H4
  isplitl [H5]; · iapply (owns_of_at' c _ _); iexact H5
  isplitl [H6]; · iapply (owns_of_at' c _ _); iexact H6
  isplitl [H7]; · iapply (owns_of_at' c _ _); iexact H7
  isplitl [H8]; · iapply (owns_of_at' c _ _); iexact H8
  iapply (owns_of_at' c _ _); iexact H9

/-- The kernel's body is what the pipeline calls. -/
theorem defs₀_row (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

set_option backward.isDefEq.respectTransparency.types false in
/-- The program runs to its end: every array holds what the points left in it and no signal is left over. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)
    (hQ' := fun _ h => h)

/-- The frame: the program runs to its end, leaves its arguments unchanged and no signal over. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_with_sems (frame_of m ρ (dats m) (A_eq m)) (run_main m ρ)

end Cert.KernelIdeal.Bwd
-- ==== Proof.Claims.Frames.lean ====
/-
  The frames of the three programs and the named constant's statement.
-/
module

public import proofs.«01_k».proof.Defs
public import proofs.«01_k».proof.Proof.Bwd.Run
public import proofs.«01_k».proof.Proof.BwdBits.Run
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The launched program runs to its end, leaves its arguments unchanged and no signal over. -/
theorem frame_p : Cert.quiescent_Kernel := fun m ρ _ => Cert.Kernel.Bwd.frame_main (F := Bits) m ρ

/-- The idealized program likewise. -/
theorem frame_pi : Cert.quiescent_KernelIdeal := fun m ρ _ => Cert.KernelIdeal.Bwd.frame_main (F := Ideal) m ρ

/-- The reference likewise. -/
theorem frame_ri : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The constant named in the idealized program is the logarithm of 2. -/
theorem preserves : Cert.preserves_Kernel_KernelIdeal :=
  IdealRules.named_const.statement Cert.KernelIdeal.κ "ln2" .f32 0x3F317218#32 ((Real.log 2 : ℝ) : EReal) rfl

end Cert.Proof
-- ==== Proof.Products.Sq.lean ====
/-
  The program of a 2048 by 2048 projection: the call takes its whole contraction in one step. Its result is the reference's product at every
  argument, the infinite ones included; the frames of the three programs; and the equality of the results.
-/
module

public import proofs.«01_k».proof.Defs
public import proofs.«01_k».proof.Proof.Gen.Sq.Value
public import proofs.«01_k».proof.Proof.Gen.SqIdeal.Value
public import proofs.«01_k».proof.Proof.Gen.SqRefIdeal.Read
public import Idealize.ShloMosaic.Lib.Pipeline.ValueKit
public import Idealize.ShloMosaic.Lib.Claim
public import Idealize.ShloMosaic.Lib.Pointwise
public import Idealize.ShloMosaic.Lib.Quiescent

@[expose] public section

set_option maxRecDepth 16384

noncomputable section

namespace Cert.SqIdeal.Product

open Cert.SqIdeal Cert.SqIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the two operands and of the result that a grid point takes. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The left operand the call reads is argument 0: the cast before the call changes no value. -/
theorem lhs (c : Dev nD) (i : S8192x2048.Idx) : V m c main_v0 i = m ((c : Thread nD τ).loc main_arg0) i := by
  have h : V m c main_v0 = (truncf .bf16 (m ((c : Thread nD τ).loc main_arg0) : FVec Ideal S8192x2048 .f32) bitsLt_bf16_f32 : FVec Ideal S8192x2048 .bf16) := by
    show StableHlo.after hostOps0 _ _ = _
    simp only [hostOps0]
    after_results
  rw [h]
  rfl

/-- The right operand is argument 1. -/
theorem rhs (c : Dev nD) (i : S2048x2048.Idx) : V m c main_v1 i = m ((c : Thread nD τ).loc main_arg1) i := by
  have h : V m c main_v1 = (truncf .bf16 (m ((c : Thread nD τ).loc main_arg1) : FVec Ideal S2048x2048 .f32) bitsLt_bf16_f32 : FVec Ideal S2048x2048 .bf16) := by
    show StableHlo.after hostOps0 _ _ = _
    simp only [hostOps0]
    after_results
  rw [h]
  rfl

/-- The call's result is the reference's product. -/
theorem final (c : Dev nD) : (dats m 0 c).arrAt 2 (cfgs 0).N
    = Cert.SqRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [Cert.SqRefIdeal.Read.val_main_v0_apply]
  pointwise [k0_pay1]
  show (_ : EReal) = _
  refine Finset.sum_congr rfl fun k _ => ?_
  blk_point [iblk, lhs, rhs, idx t]

end

end Cert.SqIdeal.Product

namespace Cert.Sq.Claims

open Idealize.ShloMosaic Idealize.ShloMosaic.TcCoe Idealize.SL Idealize.SL.Sem

/-- The launched program runs, leaves its arguments as they were and ends with every semaphore at zero. -/
theorem frame_p : Cert.quiescent_Sq := fun m ρ _ => Cert.Sq.Gen.frame m ρ

/-- So does the idealized program. -/
theorem frame_pi : Cert.quiescent_SqIdeal := fun m ρ _ => Cert.SqIdeal.Gen.frame m ρ

/-- So does the reference. -/
theorem frame_ri : Cert.quiescent_SqRefIdeal := fun m ρ _ =>
  (θ_run Cert.SqRefIdeal.defs _ _).mono (fun r h => ⟨fun c => (h c).2, sem_eq_zero_of_no_sems (by decide) r.2⟩)
    (Cert.SqRefIdeal.Value.run (F := Ideal) m ρ)

/-- No operation is replaced in the idealized program. -/
theorem preserves : Cert.preserves_Sq_SqIdeal := trivial

/-- The two programs end with equal results. -/
theorem algebraic : Cert.algebraic_SqIdeal_SqRefIdeal := by
  intro m g m' g' _ hagree
  refine ⟨fun c => _, (θ_run Cert.SqIdeal.defs _ _).mono (fun r h c => ⟨((h.1 c).1 2).trans (Cert.SqIdeal.Product.final m c), h.2.1 c⟩)
    (θ_run_and (Cert.SqIdeal.Gen.run_main m g) (Cert.SqIdeal.Gen.frame m g)), ?_⟩
  refine (θ_run Cert.SqRefIdeal.defs _ _).mono (fun r h c => ⟨(h c).1.trans ?_, (h c).2⟩) (Cert.SqRefIdeal.Value.run (F := Ideal) m' g')
  obtain ⟨a0, a1⟩ := hagree c
  rw [a0, a1]
  rfl

end Cert.Sq.Claims

end
-- ==== Proof.Products.Big.lean ====
/-
  The program of the wide input projection: the call takes its whole contraction in one step. Its result is the reference's product at every
  argument, the infinite ones included; the frames of the three programs; and the equality of the results.
-/
module

public import proofs.«01_k».proof.Defs
public import proofs.«01_k».proof.Proof.Gen.Big.Value
public import proofs.«01_k».proof.Proof.Gen.BigIdeal.Value
public import proofs.«01_k».proof.Proof.Gen.BigRefIdeal.Read
public import Idealize.ShloMosaic.Lib.Pipeline.ValueKit
public import Idealize.ShloMosaic.Lib.Claim
public import Idealize.ShloMosaic.Lib.Pointwise
public import Idealize.ShloMosaic.Lib.Quiescent

@[expose] public section

set_option maxRecDepth 16384

noncomputable section

namespace Cert.BigIdeal.Product

open Cert.BigIdeal Cert.BigIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the two operands and of the result that a grid point takes. -/
theorem idx : ∀ t : Fin cfg0.N, win0_0.index t = ![t.val / 10, 0] ∧ win0_1.index t = ![0, t.val % 10] ∧ win0_2.index t = ![t.val / 10, t.val % 10] :=
  (by decide +kernel : ∀ t : Fin grid0.N, _)

/-- The left operand the call reads is argument 0: the cast before the call changes no value. -/
theorem lhs (c : Dev nD) (i : S8192x2048.Idx) : V m c main_v0 i = m ((c : Thread nD τ).loc main_arg0) i := by
  have h : V m c main_v0 = (truncf .bf16 (m ((c : Thread nD τ).loc main_arg0) : FVec Ideal S8192x2048 .f32) bitsLt_bf16_f32 : FVec Ideal S8192x2048 .bf16) := by
    show StableHlo.after hostOps0 _ _ = _
    simp only [hostOps0]
    after_results
  rw [h]
  rfl

/-- The right operand is argument 1. -/
theorem rhs (c : Dev nD) (i : S2048x10240.Idx) : V m c main_v1 i = m ((c : Thread nD τ).loc main_arg1) i := by
  have h : V m c main_v1 = (truncf .bf16 (m ((c : Thread nD τ).loc main_arg1) : FVec Ideal S2048x10240 .f32) bitsLt_bf16_f32 : FVec Ideal S2048x10240 .bf16) := by
    show StableHlo.after hostOps0 _ _ = _
    simp only [hostOps0]
    after_results
  rw [h]
  rfl

/-- The call's result is the reference's product. -/
theorem final (c : Dev nD) : (dats m 0 c).arrAt 2 (cfgs 0).N
    = Cert.BigRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [Cert.BigRefIdeal.Read.val_main_v0_apply]
  pointwise [k0_pay1]
  show (_ : EReal) = _
  refine Finset.sum_congr rfl fun k _ => ?_
  blk_point [iblk, lhs, rhs, idx t]

end

end Cert.BigIdeal.Product

namespace Cert.Big.Claims

open Idealize.ShloMosaic Idealize.ShloMosaic.TcCoe Idealize.SL Idealize.SL.Sem

/-- The launched program runs, leaves its arguments as they were and ends with every semaphore at zero. -/
theorem frame_p : Cert.quiescent_Big := fun m ρ _ => Cert.Big.Gen.frame m ρ

/-- So does the idealized program. -/
theorem frame_pi : Cert.quiescent_BigIdeal := fun m ρ _ => Cert.BigIdeal.Gen.frame m ρ

/-- So does the reference. -/
theorem frame_ri : Cert.quiescent_BigRefIdeal := fun m ρ _ =>
  (θ_run Cert.BigRefIdeal.defs _ _).mono (fun r h => ⟨fun c => (h c).2, sem_eq_zero_of_no_sems (by decide) r.2⟩)
    (Cert.BigRefIdeal.Value.run (F := Ideal) m ρ)

/-- No operation is replaced in the idealized program. -/
theorem preserves : Cert.preserves_Big_BigIdeal := trivial

/-- The two programs end with equal results. -/
theorem algebraic : Cert.algebraic_BigIdeal_BigRefIdeal := by
  intro m g m' g' _ hagree
  refine ⟨fun c => _, (θ_run Cert.BigIdeal.defs _ _).mono (fun r h c => ⟨((h.1 c).1 2).trans (Cert.BigIdeal.Product.final m c), h.2.1 c⟩)
    (θ_run_and (Cert.BigIdeal.Gen.run_main m g) (Cert.BigIdeal.Gen.frame m g)), ?_⟩
  refine (θ_run Cert.BigRefIdeal.defs _ _).mono (fun r h c => ⟨(h c).1.trans ?_, (h c).2⟩) (Cert.BigRefIdeal.Value.run (F := Ideal) m' g')
  obtain ⟨a0, a1⟩ := hagree c
  rw [a0, a1]
  rfl

end Cert.Big.Claims

end
-- ==== Proof.Products.SqDw.lean ====
/-
  The program of the gradient of a 2048 by 2048 projection in its weight: the call sums its contraction in 4 steps in a scratch that the first step resets. Its result is the reference's product at every
  argument, the infinite ones included; the frames of the three programs; and the equality of the results.
-/
module

public import proofs.«01_k».proof.Defs
public import proofs.«01_k».proof.Proof.Gen.SqDw.Value
public import proofs.«01_k».proof.Proof.Gen.SqDwIdeal.Value
public import proofs.«01_k».proof.Proof.Gen.SqDwRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.SqDwIdeal.Product

open Cert.SqDwIdeal Cert.SqDwIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the two operands and of the result that a grid point takes. -/
theorem idx : ∀ t : Fin cfg0.N, win0_0.index t = ![t.val % 4, t.val / 8] ∧ win0_1.index t = ![t.val % 4, t.val / 4 % 2] ∧ win0_2.index t = ![t.val / 8, t.val / 4 % 2] :=
  (by decide +kernel : ∀ t : Fin grid0.N, _)

/-- The left operand the call reads is argument 0: the cast before the call changes no value. -/
theorem lhs (c : Dev nD) (i : S8192x2048.Idx) : V m c main_v0 i = m ((c : Thread nD τ).loc main_arg0) i := by
  have h : V m c main_v0 = (truncf .bf16 (m ((c : Thread nD τ).loc main_arg0) : FVec Ideal S8192x2048 .f32) bitsLt_bf16_f32 : FVec Ideal S8192x2048 .bf16) := by
    show StableHlo.after hostOps0 _ _ = _
    simp only [hostOps0]
    after_results
  rw [h]
  rfl

/-- The right operand is argument 1. -/
theorem rhs (c : Dev nD) (i : S8192x2048.Idx) : V m c main_v1 i = m ((c : Thread nD τ).loc main_arg1) i := by
  have h : V m c main_v1 = (truncf .bf16 (m ((c : Thread nD τ).loc main_arg1) : FVec Ideal S8192x2048 .f32) bitsLt_bf16_f32 : FVec Ideal S8192x2048 .bf16) := by
    show StableHlo.after hostOps0 _ _ = _
    simp only [hostOps0]
    after_results
  rw [h]
  rfl

/-- The partial product of two blocks at an element. -/
def part (x0 : Vec Ideal S2048x1024 .bf16) (x1 : Vec Ideal S2048x1024 .bf16) (i : S1024x1024.Idx) : EReal := ∑ k : Fin 2048, x0 (ix2 k (i 0)) * x1 (ix2 k (i 1))

/-- The first step's scratch is the partial product. -/
theorem pay2 (x0 : Vec Ideal S2048x1024 .bf16) (x1 : Vec Ideal S2048x1024 .bf16) (i : S1024x1024.Idx) : k0_pay2 (F := Ideal) x0 x1 i = part x0 x1 i := by
  pointwise [k0_pay2, k0_pay1, part]

/-- A further step adds the partial product to the scratch. -/
theorem pay3 (x0 : Vec Ideal S2048x1024 .bf16) (x1 : Vec Ideal S2048x1024 .bf16) (a : Vec Ideal S1024x1024 .f32) (i : S1024x1024.Idx) :
    k0_pay3 (F := Ideal) x0 x1 a i = ((a i : EReal) + part x0 x1 i : EReal) := by
  pointwise [k0_pay3, k0_pay1, part]

/-- The scratch after a group's first step. -/
theorem reset (c : Dev nD) (t : Fin cfg0.N) (h : t.val % 4 = 0) (j : S1024x1024.Idx) :
    (outsAt0 m c t.val t.isLt).2 j = part (iblk m c 0 t) (iblk m c 1 t) j := by
  rw [outsAt0_A m c t h (by omega) (by omega)]
  frame_out
  exact pay2 _ _ j

/-- The scratch after a further step. -/
theorem step (c : Dev nD) (t : Fin cfg0.N) (h : ¬t.val % 4 = 0) (j : S1024x1024.Idx) :
    (outsAt0 m c t.val t.isLt).2 j
      = (((outsAt0 m c (t.val - 1) (Nat.lt_of_le_of_lt (Nat.sub_le _ _) t.isLt)).2 j : EReal) + part (iblk m c 0 t) (iblk m c 1 t) j : EReal) := by
  by_cases hl : t.val % 4 = 3
  · rw [outsAt0_C m c t h (by omega) hl]
    frame_out
    rw [pay3, read_unread_whole]
  · rw [outsAt0_B m c t h (by omega) hl]
    frame_out
    rw [pay3, read_unread_whole]

/-- At a group's last step the result's block is the scratch. -/
theorem flushed (c : Dev nD) (t : Fin cfg0.N) (h : t.val % 4 = 3) (j : S1024x1024.Idx) :
    ((outsAt0 m c t.val t.isLt).1 j : EReal) = (outsAt0 m c t.val t.isLt).2 j := by
  rw [outsAt0_C m c t (by omega) (by omega) h]
  frame_out
  rfl

/-- The call's result is the reference's product: the steps of a group run through the contraction's blocks in order. -/
theorem final (c : Dev nD) : (dats m 0 c).arrAt 2 (cfgs 0).N
    = Cert.SqDwRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (flushed m c t ((flush0_2 t).mp hf) _).trans ?_
  rw [Pipeline.eq_sum_fin_of_reset_step_apply_of_flush (fun n h => (outsAt0 m c n h).2) 4 (fun _ => 0) _
    (fun t h j => by rw [reset m c t h, zero_add]) (fun t h j => by rw [step m c t h]) t ((flush0_2 t).mp hf) _, zero_add]
  rw [Cert.SqDwRefIdeal.Read.val_main_v4_apply]
  show (_ : EReal) = Cert.SqDwRefIdeal.Read.val_main_v3 (F := Ideal) _ _ _
  rw [Cert.SqDwRefIdeal.Read.val_main_v3_apply, Cert.SqDwRefIdeal.Read.val_main_v2_apply]
  refine Fin.sum_mul_add_congr fun s k hl => ?_
  refine Eq.trans (?_ : _ = (_ : EReal)) (mul_comm (G := EReal) _ _)
  blk_point [iblk, lhs, rhs, idx t, idx ⟨_, Pipeline.run_point_lt_of_flush t ((flush0_2 t).mp hf) s⟩]

end

end Cert.SqDwIdeal.Product

namespace Cert.SqDw.Claims

open Idealize.ShloMosaic Idealize.ShloMosaic.TcCoe Idealize.SL Idealize.SL.Sem

/-- The launched program runs, leaves its arguments as they were and ends with every semaphore at zero. -/
theorem frame_p : Cert.quiescent_SqDw := fun m ρ _ => Cert.SqDw.Gen.frame m ρ

/-- So does the idealized program. -/
theorem frame_pi : Cert.quiescent_SqDwIdeal := fun m ρ _ => Cert.SqDwIdeal.Gen.frame m ρ

/-- So does the reference. -/
theorem frame_ri : Cert.quiescent_SqDwRefIdeal := fun m ρ _ =>
  (θ_run Cert.SqDwRefIdeal.defs _ _).mono (fun r h => ⟨fun c => (h c).2, sem_eq_zero_of_no_sems (by decide) r.2⟩)
    (Cert.SqDwRefIdeal.Value.run (F := Ideal) m ρ)

/-- No operation is replaced in the idealized program. -/
theorem preserves : Cert.preserves_SqDw_SqDwIdeal := trivial

/-- The two programs end with equal results. -/
theorem algebraic : Cert.algebraic_SqDwIdeal_SqDwRefIdeal := by
  intro m g m' g' _ hagree
  refine ⟨fun c => _, (θ_run Cert.SqDwIdeal.defs _ _).mono (fun r h c => ⟨((h.1 c).1 2).trans (Cert.SqDwIdeal.Product.final m c), h.2.1 c⟩)
    (θ_run_and (Cert.SqDwIdeal.Gen.run_main m g) (Cert.SqDwIdeal.Gen.frame m g)), ?_⟩
  refine (θ_run Cert.SqDwRefIdeal.defs _ _).mono (fun r h c => ⟨(h c).1.trans ?_, (h c).2⟩) (Cert.SqDwRefIdeal.Value.run (F := Ideal) m' g')
  obtain ⟨a0, a1⟩ := hagree c
  rw [a0, a1]
  rfl

end Cert.SqDw.Claims

end
-- ==== Proof.Products.SqDx.lean ====
/-
  The program of the gradient of a 2048 by 2048 projection in its rows: the call takes its whole contraction in one step. Its result is the reference's product at every
  argument, the infinite ones included; the frames of the three programs; and the equality of the results.
-/
module

public import proofs.«01_k».proof.Defs
public import proofs.«01_k».proof.Proof.Gen.SqDx.Value
public import proofs.«01_k».proof.Proof.Gen.SqDxIdeal.Value
public import proofs.«01_k».proof.Proof.Gen.SqDxRefIdeal.Read
public import Idealize.ShloMosaic.Lib.Pipeline.ValueKit
public import Idealize.ShloMosaic.Lib.Claim
public import Idealize.ShloMosaic.Lib.Pointwise
public import Idealize.ShloMosaic.Lib.Quiescent

@[expose] public section

set_option maxRecDepth 16384

noncomputable section

namespace Cert.SqDxIdeal.Product

open Cert.SqDxIdeal Cert.SqDxIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the two operands and of the result that a grid point takes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The left operand the call reads is argument 1: the cast before the call changes no value. -/
theorem lhs (c : Dev nD) (i : S8192x2048.Idx) : V m c main_v0 i = m ((c : Thread nD τ).loc main_arg1) i := by
  have h : V m c main_v0 = (truncf .bf16 (m ((c : Thread nD τ).loc main_arg1) : FVec Ideal S8192x2048 .f32) bitsLt_bf16_f32 : FVec Ideal S8192x2048 .bf16) := by
    show StableHlo.after hostOps0 _ _ = _
    simp only [hostOps0]
    after_results
  rw [h]
  rfl

/-- The right operand is argument 0. -/
theorem rhs (c : Dev nD) (i : S2048x2048.Idx) : V m c main_v1 i = m ((c : Thread nD τ).loc main_arg0) i := by
  have h : V m c main_v1 = (truncf .bf16 (m ((c : Thread nD τ).loc main_arg0) : FVec Ideal S2048x2048 .f32) bitsLt_bf16_f32 : FVec Ideal S2048x2048 .bf16) := by
    show StableHlo.after hostOps0 _ _ = _
    simp only [hostOps0]
    after_results
  rw [h]
  rfl

/-- The call's result is the reference's product. -/
theorem final (c : Dev nD) : (dats m 0 c).arrAt 2 (cfgs 0).N
    = Cert.SqDxRefIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [Cert.SqDxRefIdeal.Read.val_main_v2_apply]
  pointwise [k0_pay1]
  show (_ : EReal) = _
  refine Finset.sum_congr rfl fun k _ => ?_
  blk_point [iblk, lhs, rhs, idx t]

end

end Cert.SqDxIdeal.Product

namespace Cert.SqDx.Claims

open Idealize.ShloMosaic Idealize.ShloMosaic.TcCoe Idealize.SL Idealize.SL.Sem

/-- The launched program runs, leaves its arguments as they were and ends with every semaphore at zero. -/
theorem frame_p : Cert.quiescent_SqDx := fun m ρ _ => Cert.SqDx.Gen.frame m ρ

/-- So does the idealized program. -/
theorem frame_pi : Cert.quiescent_SqDxIdeal := fun m ρ _ => Cert.SqDxIdeal.Gen.frame m ρ

/-- So does the reference. -/
theorem frame_ri : Cert.quiescent_SqDxRefIdeal := fun m ρ _ =>
  (θ_run Cert.SqDxRefIdeal.defs _ _).mono (fun r h => ⟨fun c => (h c).2, sem_eq_zero_of_no_sems (by decide) r.2⟩)
    (Cert.SqDxRefIdeal.Value.run (F := Ideal) m ρ)

/-- No operation is replaced in the idealized program. -/
theorem preserves : Cert.preserves_SqDx_SqDxIdeal := trivial

/-- The two programs end with equal results. -/
theorem algebraic : Cert.algebraic_SqDxIdeal_SqDxRefIdeal := by
  intro m g m' g' _ hagree
  refine ⟨fun c => _, (θ_run Cert.SqDxIdeal.defs _ _).mono (fun r h c => ⟨((h.1 c).1 2).trans (Cert.SqDxIdeal.Product.final m c), h.2.1 c⟩)
    (θ_run_and (Cert.SqDxIdeal.Gen.run_main m g) (Cert.SqDxIdeal.Gen.frame m g)), ?_⟩
  refine (θ_run Cert.SqDxRefIdeal.defs _ _).mono (fun r h c => ⟨(h c).1.trans ?_, (h c).2⟩) (Cert.SqDxRefIdeal.Value.run (F := Ideal) m' g')
  obtain ⟨a0, a1⟩ := hagree c
  rw [a0, a1]
  rfl

end Cert.SqDx.Claims

end
-- ==== Proof.Products.BigDw.lean ====
/-
  The program of the gradient of the wide input projection in its weight: the call sums its contraction in 4 steps in a scratch that the first step resets. Its result is the reference's product at every
  argument, the infinite ones included; the frames of the three programs; and the equality of the results.
-/
module

public import proofs.«01_k».proof.Defs
public import proofs.«01_k».proof.Proof.Gen.BigDw.Value
public import proofs.«01_k».proof.Proof.Gen.BigDwIdeal.Value
public import proofs.«01_k».proof.Proof.Gen.BigDwRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.BigDwIdeal.Product

open Cert.BigDwIdeal Cert.BigDwIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the two operands and of the result that a grid point takes. -/
theorem idx : ∀ t : Fin cfg0.N, win0_0.index t = ![t.val % 4, t.val / 40] ∧ win0_1.index t = ![t.val % 4, t.val / 4 % 10] ∧ win0_2.index t = ![t.val / 40, t.val / 4 % 10] :=
  (by decide +kernel : ∀ t : Fin grid0.N, _)

/-- The left operand the call reads is argument 0: the cast before the call changes no value. -/
theorem lhs (c : Dev nD) (i : S8192x2048.Idx) : V m c main_v0 i = m ((c : Thread nD τ).loc main_arg0) i := by
  have h : V m c main_v0 = (truncf .bf16 (m ((c : Thread nD τ).loc main_arg0) : FVec Ideal S8192x2048 .f32) bitsLt_bf16_f32 : FVec Ideal S8192x2048 .bf16) := by
    show StableHlo.after hostOps0 _ _ = _
    simp only [hostOps0]
    after_results
  rw [h]
  rfl

/-- The right operand is argument 1. -/
theorem rhs (c : Dev nD) (i : S8192x10240.Idx) : V m c main_v1 i = m ((c : Thread nD τ).loc main_arg1) i := by
  have h : V m c main_v1 = (truncf .bf16 (m ((c : Thread nD τ).loc main_arg1) : FVec Ideal S8192x10240 .f32) bitsLt_bf16_f32 : FVec Ideal S8192x10240 .bf16) := by
    show StableHlo.after hostOps0 _ _ = _
    simp only [hostOps0]
    after_results
  rw [h]
  rfl

/-- The partial product of two blocks at an element. -/
def part (x0 : Vec Ideal S2048x1024 .bf16) (x1 : Vec Ideal S2048x1024 .bf16) (i : S1024x1024.Idx) : EReal := ∑ k : Fin 2048, x0 (ix2 k (i 0)) * x1 (ix2 k (i 1))

/-- The first step's scratch is the partial product. -/
theorem pay2 (x0 : Vec Ideal S2048x1024 .bf16) (x1 : Vec Ideal S2048x1024 .bf16) (i : S1024x1024.Idx) : k0_pay2 (F := Ideal) x0 x1 i = part x0 x1 i := by
  pointwise [k0_pay2, k0_pay1, part]

/-- A further step adds the partial product to the scratch. -/
theorem pay3 (x0 : Vec Ideal S2048x1024 .bf16) (x1 : Vec Ideal S2048x1024 .bf16) (a : Vec Ideal S1024x1024 .f32) (i : S1024x1024.Idx) :
    k0_pay3 (F := Ideal) x0 x1 a i = ((a i : EReal) + part x0 x1 i : EReal) := by
  pointwise [k0_pay3, k0_pay1, part]

/-- The scratch after a group's first step. -/
theorem reset (c : Dev nD) (t : Fin cfg0.N) (h : t.val % 4 = 0) (j : S1024x1024.Idx) :
    (outsAt0 m c t.val t.isLt).2 j = part (iblk m c 0 t) (iblk m c 1 t) j := by
  rw [outsAt0_A m c t h (by omega) (by omega)]
  frame_out
  exact pay2 _ _ j

/-- The scratch after a further step. -/
theorem step (c : Dev nD) (t : Fin cfg0.N) (h : ¬t.val % 4 = 0) (j : S1024x1024.Idx) :
    (outsAt0 m c t.val t.isLt).2 j
      = (((outsAt0 m c (t.val - 1) (Nat.lt_of_le_of_lt (Nat.sub_le _ _) t.isLt)).2 j : EReal) + part (iblk m c 0 t) (iblk m c 1 t) j : EReal) := by
  by_cases hl : t.val % 4 = 3
  · rw [outsAt0_C m c t h (by omega) hl]
    frame_out
    rw [pay3, read_unread_whole]
  · rw [outsAt0_B m c t h (by omega) hl]
    frame_out
    rw [pay3, read_unread_whole]

/-- At a group's last step the result's block is the scratch. -/
theorem flushed (c : Dev nD) (t : Fin cfg0.N) (h : t.val % 4 = 3) (j : S1024x1024.Idx) :
    ((outsAt0 m c t.val t.isLt).1 j : EReal) = (outsAt0 m c t.val t.isLt).2 j := by
  rw [outsAt0_C m c t (by omega) (by omega) h]
  frame_out
  rfl

/-- The call's result is the reference's product: the steps of a group run through the contraction's blocks in order. -/
theorem final (c : Dev nD) : (dats m 0 c).arrAt 2 (cfgs 0).N
    = Cert.BigDwRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (flushed m c t ((flush0_2 t).mp hf) _).trans ?_
  rw [Pipeline.eq_sum_fin_of_reset_step_apply_of_flush (fun n h => (outsAt0 m c n h).2) 4 (fun _ => 0) _
    (fun t h j => by rw [reset m c t h, zero_add]) (fun t h j => by rw [step m c t h]) t ((flush0_2 t).mp hf) _, zero_add]
  rw [Cert.BigDwRefIdeal.Read.val_main_v4_apply]
  show (_ : EReal) = Cert.BigDwRefIdeal.Read.val_main_v3 (F := Ideal) _ _ _
  rw [Cert.BigDwRefIdeal.Read.val_main_v3_apply, Cert.BigDwRefIdeal.Read.val_main_v2_apply]
  refine Fin.sum_mul_add_congr fun s k hl => ?_
  refine Eq.trans (?_ : _ = (_ : EReal)) (mul_comm (G := EReal) _ _)
  blk_point [iblk, lhs, rhs, idx t, idx ⟨_, Pipeline.run_point_lt_of_flush t ((flush0_2 t).mp hf) s⟩]

end

end Cert.BigDwIdeal.Product

namespace Cert.BigDw.Claims

open Idealize.ShloMosaic Idealize.ShloMosaic.TcCoe Idealize.SL Idealize.SL.Sem

/-- The launched program runs, leaves its arguments as they were and ends with every semaphore at zero. -/
theorem frame_p : Cert.quiescent_BigDw := fun m ρ _ => Cert.BigDw.Gen.frame m ρ

/-- So does the idealized program. -/
theorem frame_pi : Cert.quiescent_BigDwIdeal := fun m ρ _ => Cert.BigDwIdeal.Gen.frame m ρ

/-- So does the reference. -/
theorem frame_ri : Cert.quiescent_BigDwRefIdeal := fun m ρ _ =>
  (θ_run Cert.BigDwRefIdeal.defs _ _).mono (fun r h => ⟨fun c => (h c).2, sem_eq_zero_of_no_sems (by decide) r.2⟩)
    (Cert.BigDwRefIdeal.Value.run (F := Ideal) m ρ)

/-- No operation is replaced in the idealized program. -/
theorem preserves : Cert.preserves_BigDw_BigDwIdeal := trivial

/-- The two programs end with equal results. -/
theorem algebraic : Cert.algebraic_BigDwIdeal_BigDwRefIdeal := by
  intro m g m' g' _ hagree
  refine ⟨fun c => _, (θ_run Cert.BigDwIdeal.defs _ _).mono (fun r h c => ⟨((h.1 c).1 2).trans (Cert.BigDwIdeal.Product.final m c), h.2.1 c⟩)
    (θ_run_and (Cert.BigDwIdeal.Gen.run_main m g) (Cert.BigDwIdeal.Gen.frame m g)), ?_⟩
  refine (θ_run Cert.BigDwRefIdeal.defs _ _).mono (fun r h c => ⟨(h c).1.trans ?_, (h c).2⟩) (Cert.BigDwRefIdeal.Value.run (F := Ideal) m' g')
  obtain ⟨a0, a1⟩ := hagree c
  rw [a0, a1]
  rfl

end Cert.BigDw.Claims

end
-- ==== Proof.Products.BigDx.lean ====
/-
  The program of the gradient of the wide input projection in its rows: the call sums its contraction in 5 steps in a scratch that the first step resets. Its result is the reference's product at every
  argument, the infinite ones included; the frames of the three programs; and the equality of the results.
-/
module

public import proofs.«01_k».proof.Defs
public import proofs.«01_k».proof.Proof.Gen.BigDx.Value
public import proofs.«01_k».proof.Proof.Gen.BigDxIdeal.Value
public import proofs.«01_k».proof.Proof.Gen.BigDxRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.BigDxIdeal.Product

open Cert.BigDxIdeal Cert.BigDxIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the two operands and of the result that a grid point takes. -/
theorem idx : ∀ t : Fin cfg0.N, win0_0.index t = ![t.val / 10, t.val % 5] ∧ win0_1.index t = ![t.val / 5 % 2, t.val % 5] ∧ win0_2.index t = ![t.val / 10, t.val / 5 % 2] :=
  (by decide +kernel : ∀ t : Fin grid0.N, _)

/-- The left operand the call reads is argument 1: the cast before the call changes no value. -/
theorem lhs (c : Dev nD) (i : S8192x10240.Idx) : V m c main_v0 i = m ((c : Thread nD τ).loc main_arg1) i := by
  have h : V m c main_v0 = (truncf .bf16 (m ((c : Thread nD τ).loc main_arg1) : FVec Ideal S8192x10240 .f32) bitsLt_bf16_f32 : FVec Ideal S8192x10240 .bf16) := by
    show StableHlo.after hostOps0 _ _ = _
    simp only [hostOps0]
    after_results
  rw [h]
  rfl

/-- The right operand is argument 0. -/
theorem rhs (c : Dev nD) (i : S2048x10240.Idx) : V m c main_v1 i = m ((c : Thread nD τ).loc main_arg0) i := by
  have h : V m c main_v1 = (truncf .bf16 (m ((c : Thread nD τ).loc main_arg0) : FVec Ideal S2048x10240 .f32) bitsLt_bf16_f32 : FVec Ideal S2048x10240 .bf16) := by
    show StableHlo.after hostOps0 _ _ = _
    simp only [hostOps0]
    after_results
  rw [h]
  rfl

/-- The partial product of two blocks at an element. -/
def part (x0 : Vec Ideal S1024x2048 .bf16) (x1 : Vec Ideal S1024x2048 .bf16) (i : S1024x1024.Idx) : EReal := ∑ k : Fin 2048, x0 (ix2 (i 0) k) * x1 (ix2 (i 1) k)

/-- The first step's scratch is the partial product. -/
theorem pay2 (x0 : Vec Ideal S1024x2048 .bf16) (x1 : Vec Ideal S1024x2048 .bf16) (i : S1024x1024.Idx) : k0_pay2 (F := Ideal) x0 x1 i = part x0 x1 i := by
  pointwise [k0_pay2, k0_pay1, part]

/-- A further step adds the partial product to the scratch. -/
theorem pay3 (x0 : Vec Ideal S1024x2048 .bf16) (x1 : Vec Ideal S1024x2048 .bf16) (a : Vec Ideal S1024x1024 .f32) (i : S1024x1024.Idx) :
    k0_pay3 (F := Ideal) x0 x1 a i = ((a i : EReal) + part x0 x1 i : EReal) := by
  pointwise [k0_pay3, k0_pay1, part]

/-- The scratch after a group's first step. -/
theorem reset (c : Dev nD) (t : Fin cfg0.N) (h : t.val % 5 = 0) (j : S1024x1024.Idx) :
    (outsAt0 m c t.val t.isLt).2 j = part (iblk m c 0 t) (iblk m c 1 t) j := by
  rw [outsAt0_A m c t h (by omega) (by omega)]
  frame_out
  exact pay2 _ _ j

/-- The scratch after a further step. -/
theorem step (c : Dev nD) (t : Fin cfg0.N) (h : ¬t.val % 5 = 0) (j : S1024x1024.Idx) :
    (outsAt0 m c t.val t.isLt).2 j
      = (((outsAt0 m c (t.val - 1) (Nat.lt_of_le_of_lt (Nat.sub_le _ _) t.isLt)).2 j : EReal) + part (iblk m c 0 t) (iblk m c 1 t) j : EReal) := by
  by_cases hl : t.val % 5 = 4
  · rw [outsAt0_C m c t h (by omega) hl]
    frame_out
    rw [pay3, read_unread_whole]
  · rw [outsAt0_B m c t h (by omega) hl]
    frame_out
    rw [pay3, read_unread_whole]

/-- At a group's last step the result's block is the scratch. -/
theorem flushed (c : Dev nD) (t : Fin cfg0.N) (h : t.val % 5 = 4) (j : S1024x1024.Idx) :
    ((outsAt0 m c t.val t.isLt).1 j : EReal) = (outsAt0 m c t.val t.isLt).2 j := by
  rw [outsAt0_C m c t (by omega) (by omega) h]
  frame_out

/-- The call's result is the reference's product: the steps of a group run through the contraction's blocks in order. -/
theorem final (c : Dev nD) : (dats m 0 c).arrAt 2 (cfgs 0).N
    = Cert.BigDxRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (flushed m c t ((flush0_2 t).mp hf) _).trans ?_
  rw [Pipeline.eq_sum_fin_of_reset_step_apply_of_flush (fun n h => (outsAt0 m c n h).2) 5 (fun _ => 0) _
    (fun t h j => by rw [reset m c t h, zero_add]) (fun t h j => by rw [step m c t h]) t ((flush0_2 t).mp hf) _, zero_add]
  rw [Cert.BigDxRefIdeal.Read.val_main_v2_apply]
  refine Fin.sum_mul_add_congr fun s k hl => ?_
  blk_point [iblk, lhs, rhs, idx t, idx ⟨_, Pipeline.run_point_lt_of_flush t ((flush0_2 t).mp hf) s⟩]

end

end Cert.BigDxIdeal.Product

namespace Cert.BigDx.Claims

open Idealize.ShloMosaic Idealize.ShloMosaic.TcCoe Idealize.SL Idealize.SL.Sem

/-- The launched program runs, leaves its arguments as they were and ends with every semaphore at zero. -/
theorem frame_p : Cert.quiescent_BigDx := fun m ρ _ => Cert.BigDx.Gen.frame m ρ

/-- So does the idealized program. -/
theorem frame_pi : Cert.quiescent_BigDxIdeal := fun m ρ _ => Cert.BigDxIdeal.Gen.frame m ρ

/-- So does the reference. -/
theorem frame_ri : Cert.quiescent_BigDxRefIdeal := fun m ρ _ =>
  (θ_run Cert.BigDxRefIdeal.defs _ _).mono (fun r h => ⟨fun c => (h c).2, sem_eq_zero_of_no_sems (by decide) r.2⟩)
    (Cert.BigDxRefIdeal.Value.run (F := Ideal) m ρ)

/-- No operation is replaced in the idealized program. -/
theorem preserves : Cert.preserves_BigDx_BigDxIdeal := trivial

/-- The two programs end with equal results. -/
theorem algebraic : Cert.algebraic_BigDxIdeal_BigDxRefIdeal := by
  intro m g m' g' _ hagree
  refine ⟨fun c => _, (θ_run Cert.BigDxIdeal.defs _ _).mono (fun r h c => ⟨((h.1 c).1 2).trans (Cert.BigDxIdeal.Product.final m c), h.2.1 c⟩)
    (θ_run_and (Cert.BigDxIdeal.Gen.run_main m g) (Cert.BigDxIdeal.Gen.frame m g)), ?_⟩
  refine (θ_run Cert.BigDxRefIdeal.defs _ _).mono (fun r h c => ⟨(h c).1.trans ?_, (h c).2⟩) (Cert.BigDxRefIdeal.Value.run (F := Ideal) m' g')
  obtain ⟨a0, a1⟩ := hagree c
  rw [a0, a1]
  rfl

end Cert.BigDx.Claims

end
-- ==== Proof.Products.LatDx.lean ====
/-
  The program of the gradient of a projection of the latent queries, or of the latent keys and values, in its rows: the call
  sums its contraction in 2 steps in a scratch that the first step resets. Its result is the reference's at every argument, the
  infinite ones included; the frames of the three programs; and the equality of the results.
-/
module

public import proofs.«01_k».proof.Defs
public import proofs.«01_k».proof.Proof.Gen.LatDx.Value
public import proofs.«01_k».proof.Proof.Gen.LatDxIdeal.Value
public import proofs.«01_k».proof.Proof.Gen.LatDxRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.LatDxIdeal.Product

open Cert.LatDxIdeal Cert.LatDxIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the operands and of the result that a grid point takes. -/
theorem idx : ∀ t : Fin cfg0.N, win0_0.index t = ![t.val / 2, t.val % 2] ∧ win0_1.index t = ![0, t.val % 2] ∧ win0_2.index t = ![t.val / 2, 0] :=
  (by decide +kernel : ∀ t : Fin grid0.N, _)

/-- The left operand the call reads is argument 1: the cast before the call changes no value. -/
theorem lhs (c : Dev nD) (i : S8192x4096.Idx) : V m c main_v0 i = m ((c : Thread nD τ).loc main_arg1) i := by
  have h : V m c main_v0 = (truncf .bf16 (m ((c : Thread nD τ).loc main_arg1) : FVec Ideal S8192x4096 .f32) bitsLt_bf16_f32 : FVec Ideal S8192x4096 .bf16) := by
    show StableHlo.after hostOps0 _ _ = _
    simp only [hostOps0]
    after_results
  rw [h]
  rfl

/-- The right operand is argument 0: the cast before the call changes no value. -/
theorem rhs (c : Dev nD) (i : S512x4096.Idx) : V m c main_v1 i = m ((c : Thread nD τ).loc main_arg0) i := by
  have h : V m c main_v1 = (truncf .bf16 (m ((c : Thread nD τ).loc main_arg0) : FVec Ideal S512x4096 .f32) bitsLt_bf16_f32 : FVec Ideal S512x4096 .bf16) := by
    show StableHlo.after hostOps0 _ _ = _
    simp only [hostOps0]
    after_results
  rw [h]
  rfl

/-- The partial product of two blocks at an element. -/
def part (x0 : Vec Ideal S1024x2048 .bf16) (x1 : Vec Ideal S512x2048 .bf16) (i : S1024x512.Idx) : EReal := ∑ k : Fin 2048, x0 (ix2 (i 0) k) * x1 (ix2 (i 1) k)

/-- The first step's scratch is the partial product. -/
theorem pay2 (x0 : Vec Ideal S1024x2048 .bf16) (x1 : Vec Ideal S512x2048 .bf16) (i : S1024x512.Idx) : k0_pay2 (F := Ideal) x0 x1 i = part x0 x1 i := by
  pointwise [k0_pay2, k0_pay1, part]

/-- A further step adds the partial product to the scratch. -/
theorem pay3 (x0 : Vec Ideal S1024x2048 .bf16) (x1 : Vec Ideal S512x2048 .bf16) (a : Vec Ideal S1024x512 .f32) (i : S1024x512.Idx) :
    k0_pay3 (F := Ideal) x0 x1 a i = ((a i : EReal) + part x0 x1 i : EReal) := by
  pointwise [k0_pay3, k0_pay1, part]

/-- The scratch after a group's first step. -/
theorem reset (c : Dev nD) (t : Fin cfg0.N) (h : t.val % 2 = 0) (j : S1024x512.Idx) :
    (outsAt0 m c t.val t.isLt).2 j = part (iblk m c 0 t) (iblk m c 1 t) j := by
  rw [outsAt0_A m c t h (by omega) (by omega)]
  frame_out
  exact pay2 _ _ j

/-- The scratch after a further step. -/
theorem step (c : Dev nD) (t : Fin cfg0.N) (h : ¬t.val % 2 = 0) (j : S1024x512.Idx) :
    (outsAt0 m c t.val t.isLt).2 j
      = (((outsAt0 m c (t.val - 1) (Nat.lt_of_le_of_lt (Nat.sub_le _ _) t.isLt)).2 j : EReal) + part (iblk m c 0 t) (iblk m c 1 t) j : EReal) := by
  rw [outsAt0_B m c t h (by omega) (by omega)]
  frame_out
  rw [pay3, read_unread_whole]

/-- At a group's last step the result's block is the scratch. -/
theorem flushed (c : Dev nD) (t : Fin cfg0.N) (h : t.val % 2 = 1) (j : S1024x512.Idx) :
    ((outsAt0 m c t.val t.isLt).1 j : EReal) = (outsAt0 m c t.val t.isLt).2 j := by
  rw [outsAt0_B m c t (by omega) h h]
  frame_out

/-- The call's result is the reference's product: the steps of a group run through the contraction's blocks in order. -/
theorem final (c : Dev nD) : (dats m 0 c).arrAt 2 (cfgs 0).N
    = Cert.LatDxRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (flushed m c t ((flush0_2 t).mp hf) _).trans ?_
  rw [Pipeline.eq_sum_fin_of_reset_step_apply_of_flush (fun n h => (outsAt0 m c n h).2) 2 (fun _ => 0) _
    (fun t h j => by rw [reset m c t h, zero_add]) (fun t h j => by rw [step m c t h]) t ((flush0_2 t).mp hf) _, zero_add]
  rw [Cert.LatDxRefIdeal.Read.val_main_v2_apply]
  refine Fin.sum_mul_add_congr fun s k hl => ?_
  blk_point [iblk, lhs, rhs, idx t, idx ⟨_, Pipeline.run_point_lt_of_flush t ((flush0_2 t).mp hf) s⟩]

end

end Cert.LatDxIdeal.Product

namespace Cert.LatDx.Claims

open Idealize.ShloMosaic Idealize.ShloMosaic.TcCoe Idealize.SL Idealize.SL.Sem

/-- The launched program runs, leaves its arguments as they were and ends with every semaphore at zero. -/
theorem frame_p : Cert.quiescent_LatDx := fun m ρ _ => Cert.LatDx.Gen.frame m ρ

/-- So does the idealized program. -/
theorem frame_pi : Cert.quiescent_LatDxIdeal := fun m ρ _ => Cert.LatDxIdeal.Gen.frame m ρ

/-- So does the reference. -/
theorem frame_ri : Cert.quiescent_LatDxRefIdeal := fun m ρ _ =>
  (θ_run Cert.LatDxRefIdeal.defs _ _).mono (fun r h => ⟨fun c => (h c).2, sem_eq_zero_of_no_sems (by decide) r.2⟩)
    (Cert.LatDxRefIdeal.Value.run (F := Ideal) m ρ)

/-- No operation is replaced in the idealized program. -/
theorem preserves : Cert.preserves_LatDx_LatDxIdeal := trivial

/-- The two programs end with equal results. -/
theorem algebraic : Cert.algebraic_LatDxIdeal_LatDxRefIdeal := by
  intro m g m' g' _ hagree
  refine ⟨fun c => _, (θ_run Cert.LatDxIdeal.defs _ _).mono (fun r h c => ⟨((h.1 c).1 2).trans (Cert.LatDxIdeal.Product.final m c), h.2.1 c⟩)
    (θ_run_and (Cert.LatDxIdeal.Gen.run_main m g) (Cert.LatDxIdeal.Gen.frame m g)), ?_⟩
  refine (θ_run Cert.LatDxRefIdeal.defs _ _).mono (fun r h c => ⟨(h c).1.trans ?_, (h c).2⟩) (Cert.LatDxRefIdeal.Value.run (F := Ideal) m' g')
  obtain ⟨a0, a1⟩ := hagree c
  rw [a0, a1]
  rfl

end Cert.LatDx.Claims

end
-- ==== Proof.Products.LatDw.lean ====
/-
  The program of the gradient of a projection of the latent queries, or of the latent keys and values, in its weight: the call
  sums its contraction in 4 steps in a scratch that the first step resets. Its result is the reference's at every argument, the
  infinite ones included; the frames of the three programs; and the equality of the results.
-/
module

public import proofs.«01_k».proof.Defs
public import proofs.«01_k».proof.Proof.Gen.LatDw.Value
public import proofs.«01_k».proof.Proof.Gen.LatDwIdeal.Value
public import proofs.«01_k».proof.Proof.Gen.LatDwRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.LatDwIdeal.Product

open Cert.LatDwIdeal Cert.LatDwIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the operands and of the result that a grid point takes. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The left operand the call reads is argument 0: the cast before the call changes no value. -/
theorem lhs (c : Dev nD) (i : S8192x512.Idx) : V m c main_v0 i = m ((c : Thread nD τ).loc main_arg0) i := by
  have h : V m c main_v0 = (truncf .bf16 (m ((c : Thread nD τ).loc main_arg0) : FVec Ideal S8192x512 .f32) bitsLt_bf16_f32 : FVec Ideal S8192x512 .bf16) := by
    show StableHlo.after hostOps0 _ _ = _
    simp only [hostOps0]
    after_results
  rw [h]
  rfl

/-- The right operand is argument 1: the cast before the call changes no value. -/
theorem rhs (c : Dev nD) (i : S8192x4096.Idx) : V m c main_v1 i = m ((c : Thread nD τ).loc main_arg1) i := by
  have h : V m c main_v1 = (truncf .bf16 (m ((c : Thread nD τ).loc main_arg1) : FVec Ideal S8192x4096 .f32) bitsLt_bf16_f32 : FVec Ideal S8192x4096 .bf16) := by
    show StableHlo.after hostOps0 _ _ = _
    simp only [hostOps0]
    after_results
  rw [h]
  rfl

/-- The partial product of two blocks at an element. -/
def part (x0 : Vec Ideal S2048x512 .bf16) (x1 : Vec Ideal S2048x1024 .bf16) (i : S512x1024.Idx) : EReal := ∑ k : Fin 2048, x0 (ix2 k (i 0)) * x1 (ix2 k (i 1))

/-- The first step's scratch is the partial product. -/
theorem pay2 (x0 : Vec Ideal S2048x512 .bf16) (x1 : Vec Ideal S2048x1024 .bf16) (i : S512x1024.Idx) : k0_pay2 (F := Ideal) x0 x1 i = part x0 x1 i := by
  pointwise [k0_pay2, k0_pay1, part]

/-- A further step adds the partial product to the scratch. -/
theorem pay3 (x0 : Vec Ideal S2048x512 .bf16) (x1 : Vec Ideal S2048x1024 .bf16) (a : Vec Ideal S512x1024 .f32) (i : S512x1024.Idx) :
    k0_pay3 (F := Ideal) x0 x1 a i = ((a i : EReal) + part x0 x1 i : EReal) := by
  pointwise [k0_pay3, k0_pay1, part]

/-- The scratch after a group's first step. -/
theorem reset (c : Dev nD) (t : Fin cfg0.N) (h : t.val % 4 = 0) (j : S512x1024.Idx) :
    (outsAt0 m c t.val t.isLt).2 j = part (iblk m c 0 t) (iblk m c 1 t) j := by
  rw [outsAt0_A m c t h (by omega) (by omega)]
  frame_out
  exact pay2 _ _ j

/-- The scratch after a further step. -/
theorem step (c : Dev nD) (t : Fin cfg0.N) (h : ¬t.val % 4 = 0) (j : S512x1024.Idx) :
    (outsAt0 m c t.val t.isLt).2 j
      = (((outsAt0 m c (t.val - 1) (Nat.lt_of_le_of_lt (Nat.sub_le _ _) t.isLt)).2 j : EReal) + part (iblk m c 0 t) (iblk m c 1 t) j : EReal) := by
  by_cases hl : t.val % 4 = 3
  · rw [outsAt0_C m c t h (by omega) hl]
    frame_out
    rw [pay3, read_unread_whole]
  · rw [outsAt0_B m c t h (by omega) hl]
    frame_out
    rw [pay3, read_unread_whole]

/-- At a group's last step the result's block is the scratch. -/
theorem flushed (c : Dev nD) (t : Fin cfg0.N) (h : t.val % 4 = 3) (j : S512x1024.Idx) :
    ((outsAt0 m c t.val t.isLt).1 j : EReal) = (outsAt0 m c t.val t.isLt).2 j := by
  rw [outsAt0_C m c t (by omega) (by omega) h]
  frame_out
  rfl

/-- The call's result is the reference's product: the steps of a group run through the contraction's blocks in order. -/
theorem final (c : Dev nD) : (dats m 0 c).arrAt 2 (cfgs 0).N
    = Cert.LatDwRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (flushed m c t ((flush0_2 t).mp hf) _).trans ?_
  rw [Pipeline.eq_sum_fin_of_reset_step_apply_of_flush (fun n h => (outsAt0 m c n h).2) 4 (fun _ => 0) _
    (fun t h j => by rw [reset m c t h, zero_add]) (fun t h j => by rw [step m c t h]) t ((flush0_2 t).mp hf) _, zero_add]
  rw [Cert.LatDwRefIdeal.Read.val_main_v4_apply]
  show (_ : EReal) = Cert.LatDwRefIdeal.Read.val_main_v3 (F := Ideal) _ _ _
  rw [Cert.LatDwRefIdeal.Read.val_main_v3_apply, Cert.LatDwRefIdeal.Read.val_main_v2_apply]
  refine Fin.sum_mul_add_congr fun s k hl => ?_
  refine Eq.trans (?_ : _ = (_ : EReal)) (mul_comm (G := EReal) _ _)
  blk_point [iblk, lhs, rhs, idx t, idx ⟨_, Pipeline.run_point_lt_of_flush t ((flush0_2 t).mp hf) s⟩]

end

end Cert.LatDwIdeal.Product

namespace Cert.LatDw.Claims

open Idealize.ShloMosaic Idealize.ShloMosaic.TcCoe Idealize.SL Idealize.SL.Sem

/-- The launched program runs, leaves its arguments as they were and ends with every semaphore at zero. -/
theorem frame_p : Cert.quiescent_LatDw := fun m ρ _ => Cert.LatDw.Gen.frame m ρ

/-- So does the idealized program. -/
theorem frame_pi : Cert.quiescent_LatDwIdeal := fun m ρ _ => Cert.LatDwIdeal.Gen.frame m ρ

/-- So does the reference. -/
theorem frame_ri : Cert.quiescent_LatDwRefIdeal := fun m ρ _ =>
  (θ_run Cert.LatDwRefIdeal.defs _ _).mono (fun r h => ⟨fun c => (h c).2, sem_eq_zero_of_no_sems (by decide) r.2⟩)
    (Cert.LatDwRefIdeal.Value.run (F := Ideal) m ρ)

/-- No operation is replaced in the idealized program. -/
theorem preserves : Cert.preserves_LatDw_LatDwIdeal := trivial

/-- The two programs end with equal results. -/
theorem algebraic : Cert.algebraic_LatDwIdeal_LatDwRefIdeal := by
  intro m g m' g' _ hagree
  refine ⟨fun c => _, (θ_run Cert.LatDwIdeal.defs _ _).mono (fun r h c => ⟨((h.1 c).1 2).trans (Cert.LatDwIdeal.Product.final m c), h.2.1 c⟩)
    (θ_run_and (Cert.LatDwIdeal.Gen.run_main m g) (Cert.LatDwIdeal.Gen.frame m g)), ?_⟩
  refine (θ_run Cert.LatDwRefIdeal.defs _ _).mono (fun r h c => ⟨(h c).1.trans ?_, (h c).2⟩) (Cert.LatDwRefIdeal.Value.run (F := Ideal) m' g')
  obtain ⟨a0, a1⟩ := hagree c
  rw [a0, a1]
  rfl

end Cert.LatDw.Claims

end
-- ==== Proof.Products.SmallDx.lean ====
/-
  The program of the gradient of the small input projection in its rows, added to the gradient the rows already have: the call
  takes its whole contraction in one step. Its result is the reference's at every argument, the infinite ones included; the
  frames of the three programs; and the equality of the results.
-/
module

public import proofs.«01_k».proof.Defs
public import proofs.«01_k».proof.Proof.Gen.SmallDx.Value
public import proofs.«01_k».proof.Proof.Gen.SmallDxIdeal.Value
public import proofs.«01_k».proof.Proof.Gen.SmallDxRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.SmallDxIdeal.Product

open Cert.SmallDxIdeal Cert.SmallDxIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the operands and of the result that a grid point takes. -/
theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

/-- The left operand the call reads is argument 1: the cast before the call changes no value. -/
theorem lhs (c : Dev nD) (i : S8192x1152.Idx) : V m c main_v0 i = m ((c : Thread nD τ).loc main_arg1) i := by
  have h : V m c main_v0 = (truncf .bf16 (m ((c : Thread nD τ).loc main_arg1) : FVec Ideal S8192x1152 .f32) bitsLt_bf16_f32 : FVec Ideal S8192x1152 .bf16) := by
    show StableHlo.after hostOps0 _ _ = _
    simp only [hostOps0]
    after_results
  rw [h]
  rfl

/-- The right operand is argument 0: the cast before the call changes no value. -/
theorem rhs (c : Dev nD) (i : S2048x1152.Idx) : V m c main_v1 i = m ((c : Thread nD τ).loc main_arg0) i := by
  have h : V m c main_v1 = (truncf .bf16 (m ((c : Thread nD τ).loc main_arg0) : FVec Ideal S2048x1152 .f32) bitsLt_bf16_f32 : FVec Ideal S2048x1152 .bf16) := by
    show StableHlo.after hostOps0 _ _ = _
    simp only [hostOps0]
    after_results
  rw [h]
  rfl

/-- The array the call adds is argument 2 as it stands. -/
theorem addend (c : Dev nD) (i : S8192x2048.Idx) : V m c main_arg2 i = m ((c : Thread nD τ).loc main_arg2) i := by
  have h : V m c main_arg2 = m ((c : Thread nD τ).loc main_arg2) := by
    show StableHlo.after hostOps0 _ _ = _
    simp only [hostOps0]
    after_results
  rw [h]

/-- The call's result is the reference's. -/
theorem final (c : Dev nD) : (dats m 0 c).arrAt 3 (cfgs 0).N
    = Cert.SmallDxRefIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [Cert.SmallDxRefIdeal.Read.val_main_v3_apply]
  show (_ : EReal) = (_ : EReal) + Cert.SmallDxRefIdeal.Read.val_main_v2 (F := Ideal) _ _ _
  rw [Cert.SmallDxRefIdeal.Read.val_main_v2_apply, add_comm]
  pointwise [k0_pay1]
  show (_ : EReal) = _
  refine congrArg₂ (fun a b : EReal => a + b) (Finset.sum_congr rfl fun k _ => ?_) ?_
  · blk_point [iblk, lhs, rhs, addend, idx t]
  · blk_point [iblk, lhs, rhs, addend, idx t]

end

end Cert.SmallDxIdeal.Product

namespace Cert.SmallDx.Claims

open Idealize.ShloMosaic Idealize.ShloMosaic.TcCoe Idealize.SL Idealize.SL.Sem

/-- The launched program runs, leaves its arguments as they were and ends with every semaphore at zero. -/
theorem frame_p : Cert.quiescent_SmallDx := fun m ρ _ => Cert.SmallDx.Gen.frame m ρ

/-- So does the idealized program. -/
theorem frame_pi : Cert.quiescent_SmallDxIdeal := fun m ρ _ => Cert.SmallDxIdeal.Gen.frame m ρ

/-- So does the reference. -/
theorem frame_ri : Cert.quiescent_SmallDxRefIdeal := fun m ρ _ =>
  (θ_run Cert.SmallDxRefIdeal.defs _ _).mono (fun r h => ⟨fun c => (h c).2, sem_eq_zero_of_no_sems (by decide) r.2⟩)
    (Cert.SmallDxRefIdeal.Value.run (F := Ideal) m ρ)

/-- No operation is replaced in the idealized program. -/
theorem preserves : Cert.preserves_SmallDx_SmallDxIdeal := trivial

/-- The two programs end with equal results. -/
theorem algebraic : Cert.algebraic_SmallDxIdeal_SmallDxRefIdeal := by
  intro m g m' g' _ hagree
  refine ⟨fun c => _, (θ_run Cert.SmallDxIdeal.defs _ _).mono (fun r h c => ⟨((h.1 c).1 3).trans (Cert.SmallDxIdeal.Product.final m c), h.2.1 c⟩)
    (θ_run_and (Cert.SmallDxIdeal.Gen.run_main m g) (Cert.SmallDxIdeal.Gen.frame m g)), ?_⟩
  refine (θ_run Cert.SmallDxRefIdeal.defs _ _).mono (fun r h c => ⟨(h c).1.trans ?_, (h c).2⟩) (Cert.SmallDxRefIdeal.Value.run (F := Ideal) m' g')
  obtain ⟨a0, a1, a2⟩ := hagree c
  rw [a0, a1, a2]
  rfl

end Cert.SmallDx.Claims

end
-- ==== Proof.Products.SmallDw.lean ====
/-
  The program of the gradient of the small input projection in its weight: the call sums its contraction in 4 steps in a
  scratch that the first step resets. Its result is the reference's at every argument, the infinite ones included; the frames
  of the three programs; and the equality of the results.
-/
module

public import proofs.«01_k».proof.Defs
public import proofs.«01_k».proof.Proof.Gen.SmallDw.Value
public import proofs.«01_k».proof.Proof.Gen.SmallDwIdeal.Value
public import proofs.«01_k».proof.Proof.Gen.SmallDwRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.SmallDwIdeal.Product

open Cert.SmallDwIdeal Cert.SmallDwIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the operands and of the result that a grid point takes. -/
theorem idx : ∀ t : Fin cfg0.N, win0_0.index t = ![t.val % 4, t.val / 12] ∧ win0_1.index t = ![t.val % 4, t.val / 4 % 3] ∧ win0_2.index t = ![t.val / 12, t.val / 4 % 3] :=
  (by decide +kernel : ∀ t : Fin grid0.N, _)

/-- The left operand the call reads is argument 0: the cast before the call changes no value. -/
theorem lhs (c : Dev nD) (i : S8192x2048.Idx) : V m c main_v0 i = m ((c : Thread nD τ).loc main_arg0) i := by
  have h : V m c main_v0 = (truncf .bf16 (m ((c : Thread nD τ).loc main_arg0) : FVec Ideal S8192x2048 .f32) bitsLt_bf16_f32 : FVec Ideal S8192x2048 .bf16) := by
    show StableHlo.after hostOps0 _ _ = _
    simp only [hostOps0]
    after_results
  rw [h]
  rfl

/-- The right operand is argument 1: the cast before the call changes no value. -/
theorem rhs (c : Dev nD) (i : S8192x1152.Idx) : V m c main_v1 i = m ((c : Thread nD τ).loc main_arg1) i := by
  have h : V m c main_v1 = (truncf .bf16 (m ((c : Thread nD τ).loc main_arg1) : FVec Ideal S8192x1152 .f32) bitsLt_bf16_f32 : FVec Ideal S8192x1152 .bf16) := by
    show StableHlo.after hostOps0 _ _ = _
    simp only [hostOps0]
    after_results
  rw [h]
  rfl

/-- The partial product of two blocks at an element. -/
def part (x0 : Vec Ideal S2048x1024 .bf16) (x1 : Vec Ideal S2048x384 .bf16) (i : S1024x384.Idx) : EReal := ∑ k : Fin 2048, x0 (ix2 k (i 0)) * x1 (ix2 k (i 1))

/-- The first step's scratch is the partial product. -/
theorem pay2 (x0 : Vec Ideal S2048x1024 .bf16) (x1 : Vec Ideal S2048x384 .bf16) (i : S1024x384.Idx) : k0_pay2 (F := Ideal) x0 x1 i = part x0 x1 i := by
  pointwise [k0_pay2, k0_pay1, part]

/-- A further step adds the partial product to the scratch. -/
theorem pay3 (x0 : Vec Ideal S2048x1024 .bf16) (x1 : Vec Ideal S2048x384 .bf16) (a : Vec Ideal S1024x384 .f32) (i : S1024x384.Idx) :
    k0_pay3 (F := Ideal) x0 x1 a i = ((a i : EReal) + part x0 x1 i : EReal) := by
  pointwise [k0_pay3, k0_pay1, part]

/-- The scratch after a group's first step. -/
theorem reset (c : Dev nD) (t : Fin cfg0.N) (h : t.val % 4 = 0) (j : S1024x384.Idx) :
    (outsAt0 m c t.val t.isLt).2 j = part (iblk m c 0 t) (iblk m c 1 t) j := by
  rw [outsAt0_A m c t h (by omega) (by omega)]
  frame_out
  exact pay2 _ _ j

/-- The scratch after a further step. -/
theorem step (c : Dev nD) (t : Fin cfg0.N) (h : ¬t.val % 4 = 0) (j : S1024x384.Idx) :
    (outsAt0 m c t.val t.isLt).2 j
      = (((outsAt0 m c (t.val - 1) (Nat.lt_of_le_of_lt (Nat.sub_le _ _) t.isLt)).2 j : EReal) + part (iblk m c 0 t) (iblk m c 1 t) j : EReal) := by
  by_cases hl : t.val % 4 = 3
  · rw [outsAt0_C m c t h (by omega) hl]
    frame_out
    rw [pay3, read_unread_whole]
  · rw [outsAt0_B m c t h (by omega) hl]
    frame_out
    rw [pay3, read_unread_whole]

/-- At a group's last step the result's block is the scratch. -/
theorem flushed (c : Dev nD) (t : Fin cfg0.N) (h : t.val % 4 = 3) (j : S1024x384.Idx) :
    ((outsAt0 m c t.val t.isLt).1 j : EReal) = (outsAt0 m c t.val t.isLt).2 j := by
  rw [outsAt0_C m c t (by omega) (by omega) h]
  frame_out
  rfl

/-- The call's result is the reference's product: the steps of a group run through the contraction's blocks in order. -/
theorem final (c : Dev nD) : (dats m 0 c).arrAt 2 (cfgs 0).N
    = Cert.SmallDwRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (flushed m c t ((flush0_2 t).mp hf) _).trans ?_
  rw [Pipeline.eq_sum_fin_of_reset_step_apply_of_flush (fun n h => (outsAt0 m c n h).2) 4 (fun _ => 0) _
    (fun t h j => by rw [reset m c t h, zero_add]) (fun t h j => by rw [step m c t h]) t ((flush0_2 t).mp hf) _, zero_add]
  rw [Cert.SmallDwRefIdeal.Read.val_main_v4_apply]
  show (_ : EReal) = Cert.SmallDwRefIdeal.Read.val_main_v3 (F := Ideal) _ _ _
  rw [Cert.SmallDwRefIdeal.Read.val_main_v3_apply, Cert.SmallDwRefIdeal.Read.val_main_v2_apply]
  refine Fin.sum_mul_add_congr fun s k hl => ?_
  refine Eq.trans (?_ : _ = (_ : EReal)) (mul_comm (G := EReal) _ _)
  blk_point [iblk, lhs, rhs, idx t, idx ⟨_, Pipeline.run_point_lt_of_flush t ((flush0_2 t).mp hf) s⟩]

end

end Cert.SmallDwIdeal.Product

namespace Cert.SmallDw.Claims

open Idealize.ShloMosaic Idealize.ShloMosaic.TcCoe Idealize.SL Idealize.SL.Sem

/-- The launched program runs, leaves its arguments as they were and ends with every semaphore at zero. -/
theorem frame_p : Cert.quiescent_SmallDw := fun m ρ _ => Cert.SmallDw.Gen.frame m ρ

/-- So does the idealized program. -/
theorem frame_pi : Cert.quiescent_SmallDwIdeal := fun m ρ _ => Cert.SmallDwIdeal.Gen.frame m ρ

/-- So does the reference. -/
theorem frame_ri : Cert.quiescent_SmallDwRefIdeal := fun m ρ _ =>
  (θ_run Cert.SmallDwRefIdeal.defs _ _).mono (fun r h => ⟨fun c => (h c).2, sem_eq_zero_of_no_sems (by decide) r.2⟩)
    (Cert.SmallDwRefIdeal.Value.run (F := Ideal) m ρ)

/-- No operation is replaced in the idealized program. -/
theorem preserves : Cert.preserves_SmallDw_SmallDwIdeal := trivial

/-- The two programs end with equal results. -/
theorem algebraic : Cert.algebraic_SmallDwIdeal_SmallDwRefIdeal := by
  intro m g m' g' _ hagree
  refine ⟨fun c => _, (θ_run Cert.SmallDwIdeal.defs _ _).mono (fun r h c => ⟨((h.1 c).1 2).trans (Cert.SmallDwIdeal.Product.final m c), h.2.1 c⟩)
    (θ_run_and (Cert.SmallDwIdeal.Gen.run_main m g) (Cert.SmallDwIdeal.Gen.frame m g)), ?_⟩
  refine (θ_run Cert.SmallDwRefIdeal.defs _ _).mono (fun r h c => ⟨(h c).1.trans ?_, (h c).2⟩) (Cert.SmallDwRefIdeal.Value.run (F := Ideal) m' g')
  obtain ⟨a0, a1⟩ := hagree c
  rw [a0, a1]
  rfl

end Cert.SmallDw.Claims

end
-- ==== Proof.Products.PleDw.lean ====
/-
  The program of the gradient of the projection of the per-layer embeddings in its weight: the call sums its contraction in 4
  steps in a scratch that the first step resets. Its result is the reference's at every argument, the infinite ones included;
  the frames of the three programs; and the equality of the results.
-/
module

public import proofs.«01_k».proof.Defs
public import proofs.«01_k».proof.Proof.Gen.PleDw.Value
public import proofs.«01_k».proof.Proof.Gen.PleDwIdeal.Value
public import proofs.«01_k».proof.Proof.Gen.PleDwRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.PleDwIdeal.Product

open Cert.PleDwIdeal Cert.PleDwIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the operands and of the result that a grid point takes. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The left operand the call reads is argument 0 as it stands. -/
theorem lhs (c : Dev nD) (i : S8192x256.Idx) : V m c main_arg0 i = m ((c : Thread nD τ).loc main_arg0) i := by
  have h : V m c main_arg0 = m ((c : Thread nD τ).loc main_arg0) := by
    show StableHlo.after hostOps0 _ _ = _
    simp only [hostOps0]
    after_results
  rw [h]

/-- The right operand is argument 1: the cast before the call changes no value. -/
theorem rhs (c : Dev nD) (i : S8192x2048.Idx) : V m c main_v0 i = m ((c : Thread nD τ).loc main_arg1) i := by
  have h : V m c main_v0 = (truncf .bf16 (m ((c : Thread nD τ).loc main_arg1) : FVec Ideal S8192x2048 .f32) bitsLt_bf16_f32 : FVec Ideal S8192x2048 .bf16) := by
    show StableHlo.after hostOps0 _ _ = _
    simp only [hostOps0]
    after_results
  rw [h]
  rfl

/-- The partial product of two blocks at an element. -/
def part (x0 : Vec Ideal S2048x256 .f32) (x1 : Vec Ideal S2048x1024 .bf16) (i : S256x1024.Idx) : EReal := ∑ k : Fin 2048, x0 (ix2 k (i 0)) * x1 (ix2 k (i 1))

/-- The first step's scratch is the partial product. -/
theorem pay2 (x0 : Vec Ideal S2048x256 .f32) (x1 : Vec Ideal S2048x1024 .bf16) (i : S256x1024.Idx) : k0_pay2 (F := Ideal) x0 x1 i = part x0 x1 i := by
  pointwise [k0_pay2, k0_pay1, part]

/-- A further step adds the partial product to the scratch. -/
theorem pay3 (x0 : Vec Ideal S2048x256 .f32) (x1 : Vec Ideal S2048x1024 .bf16) (a : Vec Ideal S256x1024 .f32) (i : S256x1024.Idx) :
    k0_pay3 (F := Ideal) x0 x1 a i = ((a i : EReal) + part x0 x1 i : EReal) := by
  pointwise [k0_pay3, k0_pay1, part]

/-- The scratch after a group's first step. -/
theorem reset (c : Dev nD) (t : Fin cfg0.N) (h : t.val % 4 = 0) (j : S256x1024.Idx) :
    (outsAt0 m c t.val t.isLt).2 j = part (iblk m c 0 t) (iblk m c 1 t) j := by
  rw [outsAt0_A m c t h (by omega) (by omega)]
  frame_out
  exact pay2 _ _ j

/-- The scratch after a further step. -/
theorem step (c : Dev nD) (t : Fin cfg0.N) (h : ¬t.val % 4 = 0) (j : S256x1024.Idx) :
    (outsAt0 m c t.val t.isLt).2 j
      = (((outsAt0 m c (t.val - 1) (Nat.lt_of_le_of_lt (Nat.sub_le _ _) t.isLt)).2 j : EReal) + part (iblk m c 0 t) (iblk m c 1 t) j : EReal) := by
  by_cases hl : t.val % 4 = 3
  · rw [outsAt0_C m c t h (by omega) hl]
    frame_out
    rw [pay3, read_unread_whole]
  · rw [outsAt0_B m c t h (by omega) hl]
    frame_out
    rw [pay3, read_unread_whole]

/-- At a group's last step the result's block is the scratch. -/
theorem flushed (c : Dev nD) (t : Fin cfg0.N) (h : t.val % 4 = 3) (j : S256x1024.Idx) :
    ((outsAt0 m c t.val t.isLt).1 j : EReal) = (outsAt0 m c t.val t.isLt).2 j := by
  rw [outsAt0_C m c t (by omega) (by omega) h]
  frame_out
  rfl

/-- The call's result is the reference's product: the steps of a group run through the contraction's blocks in order. -/
theorem final (c : Dev nD) : (dats m 0 c).arrAt 2 (cfgs 0).N
    = Cert.PleDwRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine (flushed m c t ((flush0_2 t).mp hf) _).trans ?_
  rw [Pipeline.eq_sum_fin_of_reset_step_apply_of_flush (fun n h => (outsAt0 m c n h).2) 4 (fun _ => 0) _
    (fun t h j => by rw [reset m c t h, zero_add]) (fun t h j => by rw [step m c t h]) t ((flush0_2 t).mp hf) _, zero_add]
  rw [Cert.PleDwRefIdeal.Read.val_main_v4_apply]
  show (_ : EReal) = Cert.PleDwRefIdeal.Read.val_main_v3 (F := Ideal) _ _ _
  rw [Cert.PleDwRefIdeal.Read.val_main_v3_apply, Cert.PleDwRefIdeal.Read.val_main_v2_apply]
  refine Fin.sum_mul_add_congr fun s k hl => ?_
  refine Eq.trans (?_ : _ = (_ : EReal)) (mul_comm (G := EReal) _ _)
  blk_point [iblk, lhs, rhs, idx t, idx ⟨_, Pipeline.run_point_lt_of_flush t ((flush0_2 t).mp hf) s⟩]

end

end Cert.PleDwIdeal.Product

namespace Cert.PleDw.Claims

open Idealize.ShloMosaic Idealize.ShloMosaic.TcCoe Idealize.SL Idealize.SL.Sem

/-- The launched program runs, leaves its arguments as they were and ends with every semaphore at zero. -/
theorem frame_p : Cert.quiescent_PleDw := fun m ρ _ => Cert.PleDw.Gen.frame m ρ

/-- So does the idealized program. -/
theorem frame_pi : Cert.quiescent_PleDwIdeal := fun m ρ _ => Cert.PleDwIdeal.Gen.frame m ρ

/-- So does the reference. -/
theorem frame_ri : Cert.quiescent_PleDwRefIdeal := fun m ρ _ =>
  (θ_run Cert.PleDwRefIdeal.defs _ _).mono (fun r h => ⟨fun c => (h c).2, sem_eq_zero_of_no_sems (by decide) r.2⟩)
    (Cert.PleDwRefIdeal.Value.run (F := Ideal) m ρ)

/-- No operation is replaced in the idealized program. -/
theorem preserves : Cert.preserves_PleDw_PleDwIdeal := trivial

/-- The two programs end with equal results. -/
theorem algebraic : Cert.algebraic_PleDwIdeal_PleDwRefIdeal := by
  intro m g m' g' _ hagree
  refine ⟨fun c => _, (θ_run Cert.PleDwIdeal.defs _ _).mono (fun r h c => ⟨((h.1 c).1 2).trans (Cert.PleDwIdeal.Product.final m c), h.2.1 c⟩)
    (θ_run_and (Cert.PleDwIdeal.Gen.run_main m g) (Cert.PleDwIdeal.Gen.frame m g)), ?_⟩
  refine (θ_run Cert.PleDwRefIdeal.defs _ _).mono (fun r h c => ⟨(h c).1.trans ?_, (h c).2⟩) (Cert.PleDwRefIdeal.Value.run (F := Ideal) m' g')
  obtain ⟨a0, a1⟩ := hagree c
  rw [a0, a1]
  rfl

end Cert.PleDw.Claims

end
-- ==== Proof.Products.LatQ.lean ====
/-
  The program of the projection of the latent queries: the call takes its whole contraction in one step. Its result is the
  reference's at every argument, the infinite ones included; the frames of the three programs; and the equality of the results.
-/
module

public import proofs.«01_k».proof.Defs
public import proofs.«01_k».proof.Proof.Gen.LatQ.Value
public import proofs.«01_k».proof.Proof.Gen.LatQIdeal.Value
public import proofs.«01_k».proof.Proof.Gen.LatQRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.LatQIdeal.Product

open Cert.LatQIdeal Cert.LatQIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the operands and of the result that a grid point takes. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The left operand the call reads is argument 0: the cast before the call changes no value. -/
theorem lhs (c : Dev nD) (i : S8192x512.Idx) : V m c main_v0 i = m ((c : Thread nD τ).loc main_arg0) i := by
  have h : V m c main_v0 = (truncf .bf16 (m ((c : Thread nD τ).loc main_arg0) : FVec Ideal S8192x512 .f32) bitsLt_bf16_f32 : FVec Ideal S8192x512 .bf16) := by
    show StableHlo.after hostOps0 _ _ = _
    simp only [hostOps0]
    after_results
  rw [h]
  rfl

/-- The right operand is argument 1: the cast before the call changes no value. -/
theorem rhs (c : Dev nD) (i : S512x4096.Idx) : V m c main_v1 i = m ((c : Thread nD τ).loc main_arg1) i := by
  have h : V m c main_v1 = (truncf .bf16 (m ((c : Thread nD τ).loc main_arg1) : FVec Ideal S512x4096 .f32) bitsLt_bf16_f32 : FVec Ideal S512x4096 .bf16) := by
    show StableHlo.after hostOps0 _ _ = _
    simp only [hostOps0]
    after_results
  rw [h]
  rfl

/-- The call's result is the reference's. -/
theorem final (c : Dev nD) : (dats m 0 c).arrAt 2 (cfgs 0).N
    = Cert.LatQRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [Cert.LatQRefIdeal.Read.val_main_v0_apply]
  pointwise [k0_pay1]
  show (_ : EReal) = _
  refine Finset.sum_congr rfl fun k _ => ?_
  blk_point [iblk, lhs, rhs, idx t]

end

end Cert.LatQIdeal.Product

namespace Cert.LatQ.Claims

open Idealize.ShloMosaic Idealize.ShloMosaic.TcCoe Idealize.SL Idealize.SL.Sem

/-- The launched program runs, leaves its arguments as they were and ends with every semaphore at zero. -/
theorem frame_p : Cert.quiescent_LatQ := fun m ρ _ => Cert.LatQ.Gen.frame m ρ

/-- So does the idealized program. -/
theorem frame_pi : Cert.quiescent_LatQIdeal := fun m ρ _ => Cert.LatQIdeal.Gen.frame m ρ

/-- So does the reference. -/
theorem frame_ri : Cert.quiescent_LatQRefIdeal := fun m ρ _ =>
  (θ_run Cert.LatQRefIdeal.defs _ _).mono (fun r h => ⟨fun c => (h c).2, sem_eq_zero_of_no_sems (by decide) r.2⟩)
    (Cert.LatQRefIdeal.Value.run (F := Ideal) m ρ)

/-- No operation is replaced in the idealized program. -/
theorem preserves : Cert.preserves_LatQ_LatQIdeal := trivial

/-- The two programs end with equal results. -/
theorem algebraic : Cert.algebraic_LatQIdeal_LatQRefIdeal := by
  intro m g m' g' _ hagree
  refine ⟨fun c => _, (θ_run Cert.LatQIdeal.defs _ _).mono (fun r h c => ⟨((h.1 c).1 2).trans (Cert.LatQIdeal.Product.final m c), h.2.1 c⟩)
    (θ_run_and (Cert.LatQIdeal.Gen.run_main m g) (Cert.LatQIdeal.Gen.frame m g)), ?_⟩
  refine (θ_run Cert.LatQRefIdeal.defs _ _).mono (fun r h c => ⟨(h c).1.trans ?_, (h c).2⟩) (Cert.LatQRefIdeal.Value.run (F := Ideal) m' g')
  obtain ⟨a0, a1⟩ := hagree c
  rw [a0, a1]
  rfl

end Cert.LatQ.Claims

end
-- ==== Proof.Products.LatKv.lean ====
/-
  The program of the projection of the latent keys and values: the call takes its whole contraction in one step. Its result is
  the reference's at every argument, the infinite ones included; the frames of the three programs; and the equality of the
  results.
-/
module

public import proofs.«01_k».proof.Defs
public import proofs.«01_k».proof.Proof.Gen.LatKv.Value
public import proofs.«01_k».proof.Proof.Gen.LatKvIdeal.Value
public import proofs.«01_k».proof.Proof.Gen.LatKvRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.LatKvIdeal.Product

open Cert.LatKvIdeal Cert.LatKvIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the operands and of the result that a grid point takes. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The left operand the call reads is argument 0: the cast before the call changes no value. -/
theorem lhs (c : Dev nD) (i : S8192x512.Idx) : V m c main_v0 i = m ((c : Thread nD τ).loc main_arg0) i := by
  have h : V m c main_v0 = (truncf .bf16 (m ((c : Thread nD τ).loc main_arg0) : FVec Ideal S8192x512 .f32) bitsLt_bf16_f32 : FVec Ideal S8192x512 .bf16) := by
    show StableHlo.after hostOps0 _ _ = _
    simp only [hostOps0]
    after_results
  rw [h]
  rfl

/-- The right operand is argument 1: the cast before the call changes no value. -/
theorem rhs (c : Dev nD) (i : S512x4096.Idx) : V m c main_v1 i = m ((c : Thread nD τ).loc main_arg1) i := by
  have h : V m c main_v1 = (truncf .bf16 (m ((c : Thread nD τ).loc main_arg1) : FVec Ideal S512x4096 .f32) bitsLt_bf16_f32 : FVec Ideal S512x4096 .bf16) := by
    show StableHlo.after hostOps0 _ _ = _
    simp only [hostOps0]
    after_results
  rw [h]
  rfl

/-- The call's result is the reference's. -/
theorem final (c : Dev nD) : (dats m 0 c).arrAt 2 (cfgs 0).N
    = Cert.LatKvRefIdeal.Read.val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [Cert.LatKvRefIdeal.Read.val_main_v1_apply]
  show (_ : EReal) = Cert.LatKvRefIdeal.Read.val_main_v0 (F := Ideal) _ _ _
  rw [Cert.LatKvRefIdeal.Read.val_main_v0_apply]
  pointwise [k0_pay1]
  show (_ : EReal) = _
  refine Finset.sum_congr rfl fun k _ => ?_
  blk_point [iblk, lhs, rhs, idx t]

end

end Cert.LatKvIdeal.Product

namespace Cert.LatKv.Claims

open Idealize.ShloMosaic Idealize.ShloMosaic.TcCoe Idealize.SL Idealize.SL.Sem

/-- The launched program runs, leaves its arguments as they were and ends with every semaphore at zero. -/
theorem frame_p : Cert.quiescent_LatKv := fun m ρ _ => Cert.LatKv.Gen.frame m ρ

/-- So does the idealized program. -/
theorem frame_pi : Cert.quiescent_LatKvIdeal := fun m ρ _ => Cert.LatKvIdeal.Gen.frame m ρ

/-- So does the reference. -/
theorem frame_ri : Cert.quiescent_LatKvRefIdeal := fun m ρ _ =>
  (θ_run Cert.LatKvRefIdeal.defs _ _).mono (fun r h => ⟨fun c => (h c).2, sem_eq_zero_of_no_sems (by decide) r.2⟩)
    (Cert.LatKvRefIdeal.Value.run (F := Ideal) m ρ)

/-- No operation is replaced in the idealized program. -/
theorem preserves : Cert.preserves_LatKv_LatKvIdeal := trivial

/-- The two programs end with equal results. -/
theorem algebraic : Cert.algebraic_LatKvIdeal_LatKvRefIdeal := by
  intro m g m' g' _ hagree
  refine ⟨fun c => _, (θ_run Cert.LatKvIdeal.defs _ _).mono (fun r h c => ⟨((h.1 c).1 2).trans (Cert.LatKvIdeal.Product.final m c), h.2.1 c⟩)
    (θ_run_and (Cert.LatKvIdeal.Gen.run_main m g) (Cert.LatKvIdeal.Gen.frame m g)), ?_⟩
  refine (θ_run Cert.LatKvRefIdeal.defs _ _).mono (fun r h c => ⟨(h c).1.trans ?_, (h c).2⟩) (Cert.LatKvRefIdeal.Value.run (F := Ideal) m' g')
  obtain ⟨a0, a1⟩ := hagree c
  rw [a0, a1]
  rfl

end Cert.LatKv.Claims

end
-- ==== Proof.Products.Small.lean ====
/-
  The program of the small input projection: the call takes its whole contraction in one step. Its result is the reference's at
  every argument, the infinite ones included; the frames of the three programs; and the equality of the results.
-/
module

public import proofs.«01_k».proof.Defs
public import proofs.«01_k».proof.Proof.Gen.Small.Value
public import proofs.«01_k».proof.Proof.Gen.SmallIdeal.Value
public import proofs.«01_k».proof.Proof.Gen.SmallRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.SmallIdeal.Product

open Cert.SmallIdeal Cert.SmallIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the operands and of the result that a grid point takes. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The left operand the call reads is argument 0: the cast before the call changes no value. -/
theorem lhs (c : Dev nD) (i : S8192x2048.Idx) : V m c main_v0 i = m ((c : Thread nD τ).loc main_arg0) i := by
  have h : V m c main_v0 = (truncf .bf16 (m ((c : Thread nD τ).loc main_arg0) : FVec Ideal S8192x2048 .f32) bitsLt_bf16_f32 : FVec Ideal S8192x2048 .bf16) := by
    show StableHlo.after hostOps0 _ _ = _
    simp only [hostOps0]
    after_results
  rw [h]
  rfl

/-- The right operand is argument 1: the cast before the call changes no value. -/
theorem rhs (c : Dev nD) (i : S2048x1152.Idx) : V m c main_v1 i = m ((c : Thread nD τ).loc main_arg1) i := by
  have h : V m c main_v1 = (truncf .bf16 (m ((c : Thread nD τ).loc main_arg1) : FVec Ideal S2048x1152 .f32) bitsLt_bf16_f32 : FVec Ideal S2048x1152 .bf16) := by
    show StableHlo.after hostOps0 _ _ = _
    simp only [hostOps0]
    after_results
  rw [h]
  rfl

/-- The call's result is the reference's. -/
theorem final (c : Dev nD) : (dats m 0 c).arrAt 2 (cfgs 0).N
    = Cert.SmallRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [Cert.SmallRefIdeal.Read.val_main_v0_apply]
  pointwise [k0_pay1]
  show (_ : EReal) = _
  refine Finset.sum_congr rfl fun k _ => ?_
  blk_point [iblk, lhs, rhs, idx t]

end

end Cert.SmallIdeal.Product

namespace Cert.Small.Claims

open Idealize.ShloMosaic Idealize.ShloMosaic.TcCoe Idealize.SL Idealize.SL.Sem

/-- The launched program runs, leaves its arguments as they were and ends with every semaphore at zero. -/
theorem frame_p : Cert.quiescent_Small := fun m ρ _ => Cert.Small.Gen.frame m ρ

/-- So does the idealized program. -/
theorem frame_pi : Cert.quiescent_SmallIdeal := fun m ρ _ => Cert.SmallIdeal.Gen.frame m ρ

/-- So does the reference. -/
theorem frame_ri : Cert.quiescent_SmallRefIdeal := fun m ρ _ =>
  (θ_run Cert.SmallRefIdeal.defs _ _).mono (fun r h => ⟨fun c => (h c).2, sem_eq_zero_of_no_sems (by decide) r.2⟩)
    (Cert.SmallRefIdeal.Value.run (F := Ideal) m ρ)

/-- No operation is replaced in the idealized program. -/
theorem preserves : Cert.preserves_Small_SmallIdeal := trivial

/-- The two programs end with equal results. -/
theorem algebraic : Cert.algebraic_SmallIdeal_SmallRefIdeal := by
  intro m g m' g' _ hagree
  refine ⟨fun c => _, (θ_run Cert.SmallIdeal.defs _ _).mono (fun r h c => ⟨((h.1 c).1 2).trans (Cert.SmallIdeal.Product.final m c), h.2.1 c⟩)
    (θ_run_and (Cert.SmallIdeal.Gen.run_main m g) (Cert.SmallIdeal.Gen.frame m g)), ?_⟩
  refine (θ_run Cert.SmallRefIdeal.defs _ _).mono (fun r h c => ⟨(h c).1.trans ?_, (h c).2⟩) (Cert.SmallRefIdeal.Value.run (F := Ideal) m' g')
  obtain ⟨a0, a1⟩ := hagree c
  rw [a0, a1]
  rfl

end Cert.Small.Claims

end
-- ==== Proof.Products.Out.lean ====
/-
  The program of the output projection, added to the residual stream: the call takes its whole contraction in one step. Its
  result is the reference's at every argument, the infinite ones included; the frames of the three programs; and the equality
  of the results.
-/
module

public import proofs.«01_k».proof.Defs
public import proofs.«01_k».proof.Proof.Gen.Out.Value
public import proofs.«01_k».proof.Proof.Gen.OutIdeal.Value
public import proofs.«01_k».proof.Proof.Gen.OutRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.OutIdeal.Product

open Cert.OutIdeal Cert.OutIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the operands and of the result that a grid point takes. -/
theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The left operand the call reads is argument 0: the cast before the call changes no value. -/
theorem lhs (c : Dev nD) (i : S8192x2048.Idx) : V m c main_v0 i = m ((c : Thread nD τ).loc main_arg0) i := by
  have h : V m c main_v0 = (truncf .bf16 (m ((c : Thread nD τ).loc main_arg0) : FVec Ideal S8192x2048 .f32) bitsLt_bf16_f32 : FVec Ideal S8192x2048 .bf16) := by
    show StableHlo.after hostOps0 _ _ = _
    simp only [hostOps0]
    after_results
  rw [h]
  rfl

/-- The right operand is argument 1: the cast before the call changes no value. -/
theorem rhs (c : Dev nD) (i : S2048x2048.Idx) : V m c main_v1 i = m ((c : Thread nD τ).loc main_arg1) i := by
  have h : V m c main_v1 = (truncf .bf16 (m ((c : Thread nD τ).loc main_arg1) : FVec Ideal S2048x2048 .f32) bitsLt_bf16_f32 : FVec Ideal S2048x2048 .bf16) := by
    show StableHlo.after hostOps0 _ _ = _
    simp only [hostOps0]
    after_results
  rw [h]
  rfl

/-- The array the call adds is argument 2 as it stands. -/
theorem addend (c : Dev nD) (i : S8192x2048.Idx) : V m c main_arg2 i = m ((c : Thread nD τ).loc main_arg2) i := by
  have h : V m c main_arg2 = m ((c : Thread nD τ).loc main_arg2) := by
    show StableHlo.after hostOps0 _ _ = _
    simp only [hostOps0]
    after_results
  rw [h]

/-- The call's result is the reference's. -/
theorem final (c : Dev nD) : (dats m 0 c).arrAt 3 (cfgs 0).N
    = Cert.OutRefIdeal.Read.val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  rw [Cert.OutRefIdeal.Read.val_main_v1_apply]
  show (_ : EReal) = (_ : EReal) + Cert.OutRefIdeal.Read.val_main_v0 (F := Ideal) _ _ _
  rw [Cert.OutRefIdeal.Read.val_main_v0_apply, add_comm]
  pointwise [k0_pay1]
  show (_ : EReal) = _
  refine congrArg₂ (fun a b : EReal => a + b) (Finset.sum_congr rfl fun k _ => ?_) ?_
  · blk_point [iblk, lhs, rhs, addend, idx t]
  · blk_point [iblk, lhs, rhs, addend, idx t]

end

end Cert.OutIdeal.Product

namespace Cert.Out.Claims

open Idealize.ShloMosaic Idealize.ShloMosaic.TcCoe Idealize.SL Idealize.SL.Sem

/-- The launched program runs, leaves its arguments as they were and ends with every semaphore at zero. -/
theorem frame_p : Cert.quiescent_Out := fun m ρ _ => Cert.Out.Gen.frame m ρ

/-- So does the idealized program. -/
theorem frame_pi : Cert.quiescent_OutIdeal := fun m ρ _ => Cert.OutIdeal.Gen.frame m ρ

/-- So does the reference. -/
theorem frame_ri : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- No operation is replaced in the idealized program. -/
theorem preserves : Cert.preserves_Out_OutIdeal := trivial

/-- The two programs end with equal results. -/
theorem algebraic : Cert.algebraic_OutIdeal_OutRefIdeal := by
  intro m g m' g' _ hagree
  refine ⟨fun c => _, (θ_run Cert.OutIdeal.defs _ _).mono (fun r h c => ⟨((h.1 c).1 3).trans (Cert.OutIdeal.Product.final m c), h.2.1 c⟩)
    (θ_run_and (Cert.OutIdeal.Gen.run_main m g) (Cert.OutIdeal.Gen.frame m g)), ?_⟩
  refine (θ_run Cert.OutRefIdeal.defs _ _).mono (fun r h c => ⟨(h c).1.trans ?_, (h c).2⟩) (Cert.OutRefIdeal.Value.run (F := Ideal) m' g')
  obtain ⟨a0, a1, a2⟩ := hagree c
  rw [a0, a1, a2]
  rfl

end Cert.Out.Claims

end
-- ==== Proof.Products.Ple.lean ====
/-
  The program of the projection of the per-layer embeddings: the call takes its whole contraction in one step. Its result is
  the reference's at every argument, the infinite ones included; the frames of the three programs; and the equality of the
  results.
-/
module

public import proofs.«01_k».proof.Defs
public import proofs.«01_k».proof.Proof.Gen.Ple.Value
public import proofs.«01_k».proof.Proof.Gen.PleIdeal.Value
public import proofs.«01_k».proof.Proof.Gen.PleRefIdeal.Read
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Quiescent

@[expose] public section

set_option maxRecDepth 16384

noncomputable section

namespace Cert.PleIdeal.Product

open Cert.PleIdeal Cert.PleIdeal.Gen Idealize.ShloMosaic Idealize.ShloMosaic.TcCoe Idealize.SL Idealize.SL.Sem
open Idealize.ShloMosaic.Pipeline (Dat)

section
variable (m : (ℓ : Loc nD τ sig) → Buf (Elt Ideal) ℓ)

/-- The blocks of the operands and of the result that a grid point takes. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The left operand the call reads is argument 0 as it stands. -/
theorem lhs (c : Dev nD) (i : S8192x256.Idx) : V m c main_arg0 i = m ((c : Thread nD τ).loc main_arg0) i := by
  have h : V m c main_arg0 = m ((c : Thread nD τ).loc main_arg0) := by
    show StableHlo.after hostOps0 _ _ = _
    simp only [hostOps0]
    after_results
  rw [h]

/-- The right operand is argument 1: the cast before the call changes no value. -/
theorem rhs (c : Dev nD) (i : S256x2048.Idx) : V m c main_v0 i = m ((c : Thread nD τ).loc main_arg1) i := by
  have h : V m c main_v0 = (truncf .bf16 (m ((c : Thread nD τ).loc main_arg1) : FVec Ideal S256x2048 .f32) bitsLt_bf16_f32 : FVec Ideal S256x2048 .bf16) := by
    show StableHlo.after hostOps0 _ _ = _
    simp only [hostOps0]
    after_results
  rw [h]
  rfl

/-- The call's result is the reference's. -/
theorem final (c : Dev nD) : (dats m 0 c).arrAt 2 (cfgs 0).N
    = Cert.PleRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [Cert.PleRefIdeal.Read.val_main_v0_apply]
  pointwise [k0_pay1]
  show (_ : EReal) = _
  refine Finset.sum_congr rfl fun k _ => ?_
  blk_point [iblk, lhs, rhs, idx t]

end

end Cert.PleIdeal.Product

namespace Cert.Ple.Claims

open Idealize.ShloMosaic Idealize.ShloMosaic.TcCoe Idealize.SL Idealize.SL.Sem

/-- The launched program runs, leaves its arguments as they were and ends with every semaphore at zero. -/
theorem frame_p : Cert.quiescent_Ple := fun m ρ _ => Cert.Ple.Gen.frame m ρ

/-- So does the idealized program. -/
theorem frame_pi : Cert.quiescent_PleIdeal := fun m ρ _ => Cert.PleIdeal.Gen.frame m ρ

/-- So does the reference. -/
theorem frame_ri : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

/-- No operation is replaced in the idealized program. -/
theorem preserves : Cert.preserves_Ple_PleIdeal := trivial

/-- The two programs end with equal results. -/
theorem algebraic : Cert.algebraic_PleIdeal_PleRefIdeal := by
  intro m g m' g' _ hagree
  refine ⟨fun c => _, (θ_run Cert.PleIdeal.defs _ _).mono (fun r h c => ⟨((h.1 c).1 2).trans (Cert.PleIdeal.Product.final m c), h.2.1 c⟩)
    (θ_run_and (Cert.PleIdeal.Gen.run_main m g) (Cert.PleIdeal.Gen.frame m g)), ?_⟩
  refine (θ_run Cert.PleRefIdeal.defs _ _).mono (fun r h c => ⟨(h c).1.trans ?_, (h c).2⟩) (Cert.PleRefIdeal.Value.run (F := Ideal) m' g')
  obtain ⟨a0, a1⟩ := hagree c
  rw [a0, a1]
  rfl

end Cert.Ple.Claims

end
-- ==== Proof.Value.Spec.lean ====
/-
  The gradient of chunk-masked attention over the reals, for one head: scores, softmax entries, gradient of the scores. Rows and
  columns are numbered by natural numbers and only those in range are ever summed.
-/
module

public import Idealize.ShloMosaic.Lib.Pointwise
public import Mathlib.Analysis.SpecialFunctions.Pow.Real

@[expose] public section

noncomputable section

namespace Cert.Spec

open Finset

/-- A sum of reals, read among the extended reals. -/
theorem coe_sum (n : ℕ) (f : ℕ → ℝ) : ∑ k : Fin n, ((f k.val : ℝ) : EReal) = ((∑ k ∈ range n, f k : ℝ) : EReal) := by
  induction n with
  | zero => simp
  | succ n ih => rw [Fin.sum_univ_castSucc, sum_range_succ, EReal.coe_add, ← ih]; rfl

/-- A sum of entries that are reals is a real. -/
theorem sum_coe {n : ℕ} {x : Fin n → EReal} (f : ℕ → ℝ) (hx : ∀ k, x k = ((f k.val : ℝ) : EReal)) :
    ∑ k : Fin n, x k = ((∑ k ∈ range n, f k : ℝ) : EReal) := by
  rw [← coe_sum]
  exact sum_congr rfl fun k _ => hx k

/-- A sum of products of entries that are reals is a real. -/
theorem sum_mul_coe {n : ℕ} {x y : Fin n → EReal} (f g : ℕ → ℝ) (hx : ∀ k, x k = ((f k.val : ℝ) : EReal))
    (hy : ∀ k, y k = ((g k.val : ℝ) : EReal)) :
    ∑ k : Fin n, x k * y k = ((∑ k ∈ range n, f k * g k : ℝ) : EReal) :=
  sum_coe (fun k => f k * g k) fun k => by rw [hx, hy, ← EReal.coe_mul]

/-- What one head's gradient is computed from: the queries over the logarithm of two, the keys (nope features, then rope
features), the values, the cotangent, per query the base-two logarithm of the softmax's denominator, and the row sums. -/
structure Head where
  qp : ℕ → ℕ → ℝ
  kc : ℕ → ℕ → ℝ
  v : ℕ → ℕ → ℝ
  ct : ℕ → ℕ → ℝ
  lse : ℕ → ℝ
  dl : ℕ → ℝ

namespace Head

variable (R : Head)

/-- Key `k` against query `i`. -/
def s (k i : ℕ) : ℝ := ∑ d ∈ range 128, R.kc k d * R.qp i d + ∑ d ∈ range 128, R.kc k (128 + d) * R.qp i (128 + d)

/-- The softmax's entry, under the chunk mask. -/
def p (k i : ℕ) : ℝ := if k / 64 ≤ i / 64 then Real.rpow 2 (R.s k i - R.lse i) else 0

/-- Value `k` against row `i` of the cotangent. -/
def dp (k i : ℕ) : ℝ := ∑ d ∈ range 128, R.v k d * R.ct i d

/-- The gradient of the score. -/
def ds (k i : ℕ) : ℝ := R.p k i * (R.dp k i - R.dl i)

theorem p_of_lt {k i : ℕ} (h : i / 64 < k / 64) : R.p k i = 0 := if_neg (by omega)
theorem ds_of_lt {k i : ℕ} (h : i / 64 < k / 64) : R.ds k i = 0 := by rw [ds, p_of_lt R h, zero_mul]

end Head

/-- One head's queries (scaled), keys, values and cotangent. -/
structure Data where
  qs : ℕ → ℕ → ℝ
  kc : ℕ → ℕ → ℝ
  v : ℕ → ℕ → ℝ
  ct : ℕ → ℕ → ℝ

namespace Data

variable (D : Data)

/-- The score of key `k` for query `i`: nope features, then rope features. -/
def sc (i k : ℕ) : ℝ := ∑ d ∈ range 128, D.qs i d * D.kc k d + ∑ d ∈ range 64, D.qs i (128 + d) * D.kc k (128 + d)

/-- The score under the chunk mask, among the extended reals. -/
def msc (i k : ℕ) : EReal := if k / 64 ≤ i / 64 then ((D.sc i k : ℝ) : EReal) else ⊥

/-- The row's greatest score. -/
def mx (i : ℕ) : ℝ := (univ.fold max ⊥ fun k : Fin 8192 => D.msc i k.val).toReal

/-- The exponential of a masked score less the row's greatest; -/
def e (i k : ℕ) : ℝ := if k / 64 ≤ i / 64 then Real.exp (D.sc i k - D.mx i) else 0

/-- the row's sum of these; -/
def l (i : ℕ) : ℝ := ∑ k ∈ range 8192, D.e i k

/-- the softmax; -/
def pr (i k : ℕ) : ℝ := D.e i k / D.l i

/-- the attention's result; -/
def o (i d : ℕ) : ℝ := ∑ k ∈ range 8192, D.pr i k * D.v k d

/-- its product with the cotangent, summed over the features; -/
def dl (i : ℕ) : ℝ := ∑ d ∈ range 128, D.ct i d * D.o i d

/-- a value against a row of the cotangent; -/
def dp (i k : ℕ) : ℝ := ∑ d ∈ range 128, D.ct i d * D.v k d

/-- and the gradient of a score. -/
def ds (i k : ℕ) : ℝ := D.pr i k * (D.dp i k - D.dl i)

/-- The greatest of a row's masked scores is a real number: a query's own key is never masked. -/
theorem fold_msc {i : ℕ} (hi : i < 8192) : (univ.fold max ⊥ fun k : Fin 8192 => D.msc i k.val) = ((D.mx i : ℝ) : EReal) := by
  refine (EReal.coe_toReal ?_ ?_).symm
  · refine ne_of_lt ((fold_max_lt _).mpr ⟨bot_lt_top, fun k _ => ?_⟩)
    unfold msc
    split
    · exact EReal.coe_lt_top _
    · exact bot_lt_top
  · refine (ne_of_gt (lt_of_lt_of_le (EReal.bot_lt_coe (D.sc i i)) ?_))
    refine (le_fold_max _).mpr (Or.inr ⟨⟨i, hi⟩, mem_univ _, ?_⟩)
    show _ ≤ D.msc i i
    rw [msc, if_pos le_rfl]

theorem e_nonneg (i k : ℕ) : 0 ≤ D.e i k := by
  unfold e
  split
  · exact (Real.exp_pos _).le
  · exact le_rfl

theorem l_pos {i : ℕ} (hi : i < 8192) : 0 < D.l i := by
  refine sum_pos' (fun k _ => D.e_nonneg i k) ⟨i, mem_range.mpr hi, ?_⟩
  rw [e, if_pos le_rfl]
  exact Real.exp_pos _

/-- The row sum of cotangent and result is the row sum of softmax and its gradient. -/
theorem dl_eq (i : ℕ) : D.dl i = ∑ k ∈ range 8192, D.pr i k * D.dp i k := by
  simp only [dl, o, dp, mul_sum]
  rw [sum_comm]
  exact sum_congr rfl fun k _ => sum_congr rfl fun d _ => by ring

/-- The score's gradient as differentiating the quotient of exponential and row sum gives it. -/
theorem ds_eq {i : ℕ} (hi : i < 8192) (k : ℕ) :
    D.ds i k = if k / 64 ≤ i / 64 then (D.dp i k / D.l i + -∑ x ∈ range 8192, D.dp i x * (1 / (D.l i * D.l i)) * D.e i x) * D.e i k else 0 := by
  have hl := (D.l_pos hi).ne'
  have h : ∑ x ∈ range 8192, D.dp i x * (1 / (D.l i * D.l i)) * D.e i x = D.dl i / D.l i := by
    rw [dl_eq, sum_div]
    refine sum_congr rfl fun x _ => ?_
    rw [pr]
    field_simp
  rw [h]
  split
  · rw [ds, pr]
    field_simp
    ring
  · rw [ds, pr, e, if_neg (by assumption)]
    simp

/-- What the kernel is given for the head. -/
def head : Head where
  qp i d := D.qs i d / Real.log 2
  kc := D.kc
  v := D.v
  ct := D.ct
  lse i := (D.mx i + Real.log (D.l i)) / Real.log 2
  dl := D.dl

theorem log2_ne : Real.log 2 ≠ 0 := (Real.log_pos one_lt_two).ne'

/-- The kernel's scores are the scores over the logarithm of two, where no feature past the 192nd is in use. -/
theorem head_s (hz : ∀ i d, 192 ≤ d → D.qs i d = 0) (i k : ℕ) : D.head.s k i = D.sc i k / Real.log 2 := by
  have h2 : ∑ d ∈ range 128, D.kc k (128 + d) * (D.qs i (128 + d) / Real.log 2) =
      ∑ d ∈ range 64, D.kc k (128 + d) * (D.qs i (128 + d) / Real.log 2) := by
    rw [show (128 : ℕ) = 64 + 64 from rfl, sum_range_add, show (64 : ℕ) + 64 = 128 from rfl]
    rw [sum_eq_zero (s := range 64) (f := fun x => D.kc k (128 + (64 + x)) * (D.qs i (128 + (64 + x)) / Real.log 2)) fun x _ => by
      rw [hz i _ (by omega), zero_div, mul_zero], add_zero]
  show ∑ d ∈ range 128, D.kc k d * (D.qs i d / Real.log 2) + ∑ d ∈ range 128, D.kc k (128 + d) * (D.qs i (128 + d) / Real.log 2) = _
  rw [h2, sc, add_div, sum_div, sum_div]
  exact congrArg₂ (· + ·) (sum_congr rfl fun d _ => by ring) (sum_congr rfl fun d _ => by ring)

/-- The kernel's softmax entries are the softmax. -/
theorem head_p (hz : ∀ i d, 192 ≤ d → D.qs i d = 0) {i : ℕ} (hi : i < 8192) (k : ℕ) : D.head.p k i = D.pr i k := by
  have hl := D.l_pos hi
  rw [Head.p, head_s D hz, pr, e]
  split
  · show Real.rpow 2 (D.sc i k / Real.log 2 - (D.mx i + Real.log (D.l i)) / Real.log 2) = _
    rw [Real.rpow_eq_pow, Real.rpow_def_of_pos two_pos, ← sub_div, mul_div_cancel₀ _ log2_ne, ← sub_sub, Real.exp_sub, Real.exp_log hl]
  · rw [zero_div]

/-- The kernel's score gradients are the gradients. -/
theorem head_ds (hz : ∀ i d, 192 ≤ d → D.qs i d = 0) {i : ℕ} (hi : i < 8192) (k : ℕ) : D.head.ds k i = D.ds i k := by
  rw [Head.ds, head_p D hz hi, ds]
  refine congrArg (D.pr i k * ·) (congrArg₂ (· - ·) ?_ rfl)
  exact sum_congr rfl fun d _ => mul_comm _ _

/-- The three gradients of the head: of its queries, -/
def dq (i d : ℕ) : ℝ := ∑ k ∈ range 8192, D.ds i k * D.kc k d
/-- of its keys, -/
def dk (k d : ℕ) : ℝ := ∑ i ∈ range 8192, D.ds i k * D.qs i d
/-- of its values. -/
def dv (k d : ℕ) : ℝ := ∑ i ∈ range 8192, D.pr i k * D.ct i d

theorem head_dk (hz : ∀ i d, 192 ≤ d → D.qs i d = 0) (k d : ℕ) :
    (∑ i ∈ range 8192, D.head.ds k i * D.head.qp i d) * Real.log 2 = D.dk k d := by
  rw [dk, sum_mul]
  refine sum_congr rfl fun i hi => ?_
  rw [head_ds D hz (mem_range.mp hi)]
  show D.ds i k * (D.qs i d / Real.log 2) * Real.log 2 = _
  rw [mul_assoc, div_mul_cancel₀ _ log2_ne]

theorem head_dv (hz : ∀ i d, 192 ≤ d → D.qs i d = 0) (k d : ℕ) : ∑ i ∈ range 8192, D.head.p k i * D.head.ct i d = D.dv k d :=
  sum_congr rfl fun i hi => by rw [head_p D hz (mem_range.mp hi)]; rfl

end Data

/-- The arguments as real numbers: queries, keys and values, rope keys, cotangent, and the queries' scale. -/
structure Args where
  q : ℕ → ℕ → ℕ → ℝ
  kv : ℕ → ℕ → ℕ → ℝ
  kr : ℕ → ℕ → ℝ
  ct : ℕ → ℕ → ℕ → ℝ
  sc : ℝ

/-- One head of the arguments. -/
def Args.data (A : Args) (h : ℕ) : Data where
  qs i d := if d < 192 then A.q h i d * A.sc else 0
  kc k d := if d < 128 then A.kv h k d else if d < 192 then A.kr k (d - 128) else 0
  v k d := A.kv h k (128 + d)
  ct := A.ct h

/-- Past the 192nd feature keys and queries are zero. -/
theorem Args.data_kc (A : Args) (h : ℕ) : ∀ k d, 192 ≤ d → (A.data h).kc k d = 0 := fun _ _ hd => (if_neg (by omega)).trans (if_neg (by omega))

theorem Args.data_qs (A : Args) (h : ℕ) : ∀ i d, 192 ≤ d → (A.data h).qs i d = 0 := fun _ _ hd => if_neg (by omega)

/-! ### The results as real numbers -/

/-- The gradient of the queries, head beside head, -/
def Args.gq (A : Args) (i e : ℕ) : ℝ := (A.data (e / 256)).dq i (e % 256)

/-- of the keys and values, head beside head, the keys' 128 features before the values', -/
def Args.gkv (A : Args) (k e : ℕ) : ℝ := if e % 256 < 128 then (A.data (e / 256)).dk k (e % 256) else (A.data (e / 256)).dv k (e % 256 - 128)

/-- and of the rope keys, as each head has it. -/
def Args.gkr (A : Args) (h k d : ℕ) : ℝ := (A.data h).dk k (128 + d)

open Idealize.ShloMosaic in
/-- The arguments' arrays hold the real numbers `A`. -/
structure IsArgs (Q : FVec Ideal ⟨3, ![16, 8192, 192]⟩ .f32) (KV : FVec Ideal ⟨3, ![16, 8192, 256]⟩ .f32) (KR : FVec Ideal ⟨2, ![8192, 64]⟩ .f32)
    (CT : FVec Ideal ⟨3, ![16, 8192, 128]⟩ .f32) (A : Args) : Prop where
  q : ∀ (h : Fin 16) (i : Fin 8192) (d : Fin 192), Q (ix3 h i d) = ((A.q h.val i.val d.val : ℝ) : EReal)
  kv : ∀ (h : Fin 16) (i : Fin 8192) (d : Fin 256), KV (ix3 h i d) = ((A.kv h.val i.val d.val : ℝ) : EReal)
  kr : ∀ (i : Fin 8192) (d : Fin 64), KR (ix2 i d) = ((A.kr i.val d.val : ℝ) : EReal)
  ct : ∀ (h : Fin 16) (i : Fin 8192) (d : Fin 128), CT (ix3 h i d) = ((A.ct h.val i.val d.val : ℝ) : EReal)
  sc : Ideal.ofBits .f32 0x3D93CD3A#32 = ((A.sc : ℝ) : EReal)

end Cert.Spec
-- ==== Proof.Value.Stages.lean ====
/-
  What the call is given: the arrays computed before it from the arguments, stage by stage.
-/
module

public import proofs.«01_k».proof.Proof.Bwd.Run
public import proofs.«01_k».proof.Proof.Value.Spec
public import Idealize.ShloMosaic.Lib.Pipeline.ValueKit
public import Idealize.ShloMosaic.Lib.Claim
public import Idealize.ShloMosaic.Lib.Pointwise
public import Idealize.ShloMosaic.Lib.WordCmp
public import Idealize.ShloMosaic.Lib.IdealHost

@[expose] public section

set_option maxRecDepth 16384

noncomputable section

namespace Cert.KernelIdeal.Value

open Cert.KernelIdeal Cert.KernelIdeal.Gen Cert.Spec
open Idealize.ShloMosaic Idealize.ShloMosaic.TcCoe Idealize.ShloMosaic.Tactic Idealize.ShloMosaic.StableHlo
open Finset

/-! ### The computation before the call, stage by stage -/

/-- The number of the chunk of 64 each row lies in. -/
def chunkV : IVec S8192 32 :=
  select
    (andi
      (cmpi CmpIPredicate.ne (signi (iotaInDim S8192 32 0)) (broadcastInDim S8192 ![] bcast_S_S8192 (signi (id (constantI S_ 32 64#32)))))
      (cmpi CmpIPredicate.ne (Host.remsi (iotaInDim S8192 32 0) (broadcastInDim S8192 ![] bcast_S_S8192 (id (constantI S_ 32 64#32))))
        (broadcastInDim S8192 ![] bcast_S_S8192 (constantI S_ 32 0#32))))
    (subi (Host.divsi (iotaInDim S8192 32 0) (broadcastInDim S8192 ![] bcast_S_S8192 (id (constantI S_ 32 64#32))))
      (broadcastInDim S8192 ![] bcast_S_S8192 (constantI S_ 32 1#32)))
    (Host.divsi (iotaInDim S8192 32 0) (broadcastInDim S8192 ![] bcast_S_S8192 (id (constantI S_ 32 64#32))))

/-- The chunk mask. -/
def keepV : IVec S16x8192x8192 1 :=
  broadcastInDim S16x8192x8192 ![0, 1, 2] bcast_S1x8192x8192_S16x8192x8192_0_1_2
    (broadcastInDim S1x8192x8192 ![1, 2] bcast_S8192x8192_S1x8192x8192_1_2
      (cmpi CmpIPredicate.sle
        (broadcastInDim S8192x8192 ![0, 1] bcast_S1x8192_S8192x8192_0_1 (broadcastInDim S1x8192 ![1] bcast_S8192_S1x8192_1 chunkV))
        (broadcastInDim S8192x8192 ![0, 1] bcast_S8192x1_S8192x8192_0_1 (broadcastInDim S8192x1 ![0] bcast_S8192_S8192x1_0 chunkV))))

variable (Q : FVec Ideal S16x8192x192 .f32) (KV : FVec Ideal S16x8192x256 .f32) (KR : FVec Ideal S8192x64 .f32) (CT : FVec Ideal S16x8192x128 .f32)

/-- The scaled queries. -/
def qsV : FVec Ideal S16x8192x192 .f32 := mulf Q (broadcastInDim S16x8192x192 ![] bcast_S_S16x8192x192 (constant S_ .f32 0x3D93CD3A#32))

/-- The scores. -/
def scV : FVec Ideal S16x8192x8192 .f32 :=
  addf
    (Host.dotGeneral dot_S16x8192x128_S16x8192x128_S16x8192x8192_2_2_1_1_0_0 none
      (extractStridedSlice S16x8192x128 ![0, 0, 0] (qsV Q) slices_S16x8192x192_S16x8192x128_0_0_0)
      (extractStridedSlice S16x8192x128 ![0, 0, 0] KV slices_S16x8192x256_S16x8192x128_0_0_0))
    (Host.dotGeneral dot_S16x8192x64_S8192x64_S16x8192x8192_2_1_01_0_n_n none
      (extractStridedSlice S16x8192x64 ![0, 0, 128] (qsV Q) slices_S16x8192x192_S16x8192x64_0_0_128) KR)

/-- The masked scores. -/
def mscV : FVec Ideal S16x8192x8192 .f32 :=
  select keepV (scV Q KV KR) (broadcastInDim S16x8192x8192 ![] bcast_S_S16x8192x8192 (id (constant S_ .f32 0xFF800000#32)))

/-- The rows' greatest scores. -/
def mxV : FVec Ideal S16x8192x1 .f32 :=
  broadcastInDim S16x8192x1 ![0, 1] bcast_S16x8192_S16x8192x1_0_1
    (Host.reduce FloatOps.maximumf (mscV Q KV KR) (constant S_ .f32 0xFF800000#32) reducesTo_S16x8192x8192_S16x8192_d2 h_S_)

/-- The exponentials. -/
def exV : FVec Ideal S16x8192x8192 .f32 :=
  Host.exp (subf (mscV Q KV KR) (broadcastInDim S16x8192x8192 ![0, 1, 2] bcast_S16x8192x1_S16x8192x8192_0_1_2 (mxV Q KV KR)))

/-- Their row sums. -/
def lV : FVec Ideal S16x8192x1 .f32 :=
  broadcastInDim S16x8192x1 ![0, 1] bcast_S16x8192_S16x8192x1_0_1
    (Host.reduceAdd (exV Q KV KR) (constant S_ .f32 0x00000000#32) reducesTo_S16x8192x8192_S16x8192_d2 h_S_)

/-- The softmax. -/
def prV : FVec Ideal S16x8192x8192 .f32 :=
  Host.divf (exV Q KV KR) (broadcastInDim S16x8192x8192 ![0, 1, 2] bcast_S16x8192x1_S16x8192x8192_0_1_2 (lV Q KV KR))

/-- The attention's result. -/
def oV : FVec Ideal S16x8192x128 .f32 :=
  Host.dotGeneral dot_S16x8192x8192_S16x8192x128_S16x8192x128_2_1_1_2_0_0 none (prV Q KV KR)
    (extractStridedSlice S16x8192x128 ![0, 0, 128] KV slices_S16x8192x256_S16x8192x128_0_0_128)

/-- Its product with the cotangent, summed over the features. -/
def dlV : FVec Ideal S16x8192 .f32 :=
  Host.reduceAdd (mulf CT (oV Q KV KR)) (constant S_ .f32 0x00000000#32) reducesTo_S16x8192x128_S16x8192_d2 h_S_

/-- The base-two logarithm of the softmax's denominator. -/
def lseV : FVec Ideal S16x8192x1 .f32 :=
  Host.divf (addf (mxV Q KV KR) (Host.log (lV Q KV KR)))
    (broadcastInDim S16x8192x1 ![] bcast_S_S16x8192x1 (Host.log (constant S_ .f32 0x40000000#32)))

variable (m : (ℓ : Loc nD τ sig) → Buf (Elt Ideal) ℓ) (c : Dev nD)

set_option maxHeartbeats 4000000 in
theorem V_main_v50 : V m c main_v50 = shapeCast S16x1x8192 (lseV (m ((c : Thread nD τ).loc main_arg0)) (m ((c : Thread nD τ).loc main_arg1)) (m ((c : Thread nD τ).loc main_arg2))) shapeCasts_S16x8192x1_S16x1x8192 := by
  simp only [V, hostOps0, hostOps0_1, hostOps0_2, hostOps0_3, hostOps0_4, hostOps0_5, hostOps0_6, hostOps0_7, hostOps0_8, List.flatten_cons, List.flatten_nil, List.cons_append, List.nil_append, List.append_nil, TRef.binary, TRef.nullary, TRef.ternary, TRef.unary, TRef.toBuf, TRef.ofBuf, cast_eq]
  after_results_simp
  rfl

set_option maxHeartbeats 4000000 in
theorem V_main_v51 : V m c main_v51 = shapeCast S16x1x8192 (dlV (m ((c : Thread nD τ).loc main_arg0)) (m ((c : Thread nD τ).loc main_arg1)) (m ((c : Thread nD τ).loc main_arg2)) (m ((c : Thread nD τ).loc main_arg3))) shapeCasts_S16x8192_S16x1x8192 := by
  simp only [V, hostOps0, hostOps0_1, hostOps0_2, hostOps0_3, hostOps0_4, hostOps0_5, hostOps0_6, hostOps0_7, hostOps0_8, List.flatten_cons, List.flatten_nil, List.cons_append, List.nil_append, List.append_nil, TRef.binary, TRef.nullary, TRef.ternary, TRef.unary, TRef.toBuf, TRef.ofBuf, cast_eq]
  after_results_simp
  rfl

/-- The queries over the logarithm of two, -/
def qlV : FVec Ideal S16x8192x192 .f32 :=
  Host.divf (qsV Q) (broadcastInDim S16x8192x192 ![] bcast_S_S16x8192x192 (Host.log (constant S_ .f32 0x40000000#32)))

/-- padded, -/
def qlP : FVec Ideal S16x8192x256 .f32 :=
  pad S16x8192x256 ![0, 0, 0] ![0, 0, 64] ![0, 0, 0] (qlV Q) (sitofp .f32 (constantI S_ 32 0#32)) pads_S16x8192x192_S16x8192x256_000_000_0640 h_S_

/-- heads side by side. -/
def qpV : FVec Ideal S8192x4096 .bf16 :=
  truncf .bf16 (shapeCast S8192x4096 (transpose S8192x16x256 [1, 0, 2] (qlP Q) transposes_S16x8192x256_S8192x16x256_1_0_2)
    shapeCasts_S8192x16x256_S8192x4096) bitsLt_bf16_f32

/-- The keys and values, heads side by side. -/
def kvV : FVec Ideal S8192x4096 .bf16 :=
  truncf .bf16 (shapeCast S8192x4096 (transpose S8192x16x256 [1, 0, 2] KV transposes_S16x8192x256_S8192x16x256_1_0_2)
    shapeCasts_S8192x16x256_S8192x4096) bitsLt_bf16_f32

/-- The rope keys, padded. -/
def krV : FVec Ideal S8192x128 .bf16 :=
  truncf .bf16 (pad S8192x128 ![0, 0] ![0, 64] ![0, 0] KR (sitofp .f32 (constantI S_ 32 0#32)) pads_S8192x64_S8192x128_000_0640 h_S_) bitsLt_bf16_f32

/-- The cotangent, heads side by side. -/
def ctV : FVec Ideal S8192x2048 .bf16 :=
  truncf .bf16 (shapeCast S8192x2048 (transpose S8192x16x128 [1, 0, 2] CT transposes_S16x8192x128_S8192x16x128_1_0_2)
    shapeCasts_S8192x16x128_S8192x2048) bitsLt_bf16_f32

set_option maxHeartbeats 4000000 in
theorem V_main_v42 : V m c main_v42 = qpV (m ((c : Thread nD τ).loc main_arg0)) := by
  simp only [V, hostOps0, hostOps0_1, hostOps0_2, hostOps0_3, hostOps0_4, hostOps0_5, hostOps0_6, hostOps0_7, hostOps0_8, List.flatten_cons, List.flatten_nil, List.cons_append, List.nil_append, List.append_nil, TRef.binary, TRef.nullary, TRef.ternary, TRef.unary, TRef.toBuf, TRef.ofBuf, cast_eq]
  after_results_simp
  rfl

set_option maxHeartbeats 4000000 in
theorem V_main_v45 : V m c main_v45 = kvV (m ((c : Thread nD τ).loc main_arg1)) := by
  simp only [V, hostOps0, hostOps0_1, hostOps0_2, hostOps0_3, hostOps0_4, hostOps0_5, hostOps0_6, hostOps0_7, hostOps0_8, List.flatten_cons, List.flatten_nil, List.cons_append, List.nil_append, List.append_nil, TRef.binary, TRef.nullary, TRef.ternary, TRef.unary, TRef.toBuf, TRef.ofBuf, cast_eq]
  after_results_simp
  rfl

set_option maxHeartbeats 4000000 in
theorem V_main_v46 : V m c main_v46 = krV (m ((c : Thread nD τ).loc main_arg2)) := by
  simp only [V, hostOps0, hostOps0_1, hostOps0_2, hostOps0_3, hostOps0_4, hostOps0_5, hostOps0_6, hostOps0_7, hostOps0_8, List.flatten_cons, List.flatten_nil, List.cons_append, List.nil_append, List.append_nil, TRef.binary, TRef.nullary, TRef.ternary, TRef.unary, TRef.toBuf, TRef.ofBuf, cast_eq]
  after_results_simp
  rfl

set_option maxHeartbeats 4000000 in
theorem V_main_v49 : V m c main_v49 = ctV (m ((c : Thread nD τ).loc main_arg3)) := by
  simp only [V, hostOps0, hostOps0_1, hostOps0_2, hostOps0_3, hostOps0_4, hostOps0_5, hostOps0_6, hostOps0_7, hostOps0_8, List.flatten_cons, List.flatten_nil, List.cons_append, List.nil_append, List.append_nil, TRef.binary, TRef.nullary, TRef.ternary, TRef.unary, TRef.toBuf, TRef.ofBuf, cast_eq]
  after_results_simp
  rfl

end Cert.KernelIdeal.Value
-- ==== Proof.Value.Operands.lean ====
/-
  What the call is given: the arrays computed before it from the arguments, each at an entry as a real number, the arguments
  being real numbers.
-/
module

public import proofs.«01_k».proof.Proof.Value.Stages
public import proofs.«01_k».proof.Proof.Value.Spec
public import Idealize.ShloMosaic.Lib.Pipeline.ValueKit
public import Idealize.ShloMosaic.Lib.Claim
public import Idealize.ShloMosaic.Lib.Pointwise
public import Idealize.ShloMosaic.Lib.WordCmp
public import Idealize.ShloMosaic.Lib.IdealHost

@[expose] public section

set_option maxRecDepth 16384

noncomputable section

namespace Cert.KernelIdeal.Value

open Cert.KernelIdeal Cert.KernelIdeal.Gen Cert.Spec
open Idealize.ShloMosaic Idealize.ShloMosaic.TcCoe Idealize.ShloMosaic.Tactic Idealize.ShloMosaic.StableHlo
open Finset

variable {Q : FVec Ideal S16x8192x192 .f32} {KV : FVec Ideal S16x8192x256 .f32} {KR : FVec Ideal S8192x64 .f32} {CT : FVec Ideal S16x8192x128 .f32}

/-! ### The stages as real numbers -/

theorem cst_two : Ideal.ofBits .f32 0x40000000#32 = ((2 : ℝ) : EReal) := by
  simp [Ideal.ofBits, Ideal.ieee, -EReal.coe_mul]
  try norm_num

theorem cst_bot : Ideal.ofBits .f32 0xFF800000#32 = ⊥ := by
  simp [Ideal.ofBits, Ideal.ieee]

theorem log_two : Ideal.log (Ideal.ofBits .f32 0x40000000#32) = ((Real.log 2 : ℝ) : EReal) := by
  rw [cst_two, Ideal.log_coe, if_neg (by norm_num)]

/-- A quotient of reals by a real that is not zero. -/
theorem div_real (x : ℝ) {y : ℝ} (h : y ≠ 0) : Ideal.div (x : EReal) (y : EReal) = ((x / y : ℝ) : EReal) := by
  rw [Ideal.div_coe h, ← EReal.coe_mul, mul_one_div]

/-- The logarithm of a row's sum, to base two, at a row. -/
theorem lse_of (x l : FVec Ideal S16x8192x1 .f32) (y : S16x8192x1.Idx) :
    Host.divf (addf x (Host.log l)) (broadcastInDim S16x8192x1 ![] bcast_S_S16x8192x1 (Host.log (constant S_ .f32 0x40000000#32))) y =
      Ideal.div (x y + Ideal.log (l y)) (Ideal.log (Ideal.ofBits .f32 0x40000000#32)) :=
  rfl

/-- The number of the chunk of 64 a row lies in, as it is computed in words. -/
theorem chunk_word : ∀ n : Fin 8192, Scalar.select
    (IntOp.andi
      (IntOp.cmpi CmpIPredicate.ne
        (if BitVec.ofNat 32 n.val = 0 then (0 : BitVec 32) else if (BitVec.ofNat 32 n.val).msb = true then -1 else 1)
        (if (64#32 : BitVec 32) = 0 then (0 : BitVec 32) else if (64#32 : BitVec 32).msb = true then -1 else 1))
      (IntOp.cmpi CmpIPredicate.ne (IntOp.remsi ArithUnit.host (BitVec.ofNat 32 n.val) 64#32) 0#32))
    (IntOp.subi (IntOp.divsi ArithUnit.host (BitVec.ofNat 32 n.val) 64#32) 1#32)
    (IntOp.divsi ArithUnit.host (BitVec.ofNat 32 n.val) 64#32) = BitVec.ofNat 32 (n.val / 64) := by
  decide +kernel

theorem chunkV_at (n : Fin 8192) : chunkV (ix1 n) = BitVec.ofNat 32 (n.val / 64) := by
  pointwise [chunkV]
  exact chunk_word n

theorem keepV_at (h : Fin 16) (i k : Fin 8192) : keepV (ix3 h i k) = BitVec.ofBool (decide (k.val / 64 ≤ i.val / 64)) := by
  pointwise [keepV]
  rw [chunkV_at, chunkV_at]
  have hi := i.isLt
  have hk := k.isLt
  word_cmp

/-- The word zero as a number. -/
theorem zero_word : (FloatOps.sitofp .f32 (0#32 : BitVec 32) : Ideal .f32) = ((0 : ℝ) : EReal) := by
  show (((0#32 : BitVec 32).toInt : ℝ) : EReal) = _
  norm_num

variable {A : Args} (hA : IsArgs Q KV KR CT A)
include hA

theorem qsV_at (h : Fin 16) (i : Fin 8192) (d : Fin 192) : qsV Q (ix3 h i d) = (((A.data h.val).qs i.val d.val : ℝ) : EReal) := by
  pointwise [qsV]
  rw [hA.q, hA.sc, ← EReal.coe_mul]
  exact congrArg _ (if_pos (by omega)).symm

theorem scV_at (h : Fin 16) (i k : Fin 8192) : scV Q KV KR (ix3 h i k) = (((A.data h.val).sc i.val k.val : ℝ) : EReal) := by
  pointwise [scV]
  rw [Data.sc, EReal.coe_add]
  refine congrArg₂ (· + ·) ?_ ?_
  · exact sum_mul_coe (fun d => (A.data h.val).qs i.val d) (fun d => (A.data h.val).kc k.val d) (fun d => qsV_at hA h i ⟨d.val, by omega⟩)
      (fun d => (hA.kv h k ⟨d.val, by omega⟩).trans (congrArg _ (if_pos (by omega)).symm))
  · refine sum_mul_coe (fun d => (A.data h.val).qs i.val (128 + d)) (fun d => (A.data h.val).kc k.val (128 + d)) (fun d => qsV_at hA h i ⟨128 + d.val, by omega⟩)
      (fun d => (hA.kr k d).trans (congrArg _ ?_))
    show _ = if 128 + d.val < 128 then _ else if 128 + d.val < 192 then A.kr k.val (128 + d.val - 128) else 0
    rw [if_neg (by omega), if_pos (by omega), Nat.add_sub_cancel_left]

theorem mscV_at (h : Fin 16) (i k : Fin 8192) : mscV Q KV KR (ix3 h i k) = (A.data h.val).msc i.val k.val := by
  pointwise [mscV]
  rw [keepV_at, scV_at hA, Data.msc]
  show Scalar.select _ _ (Ideal.ofBits .f32 0xFF800000#32) = _
  rw [cst_bot]
  word_cmp

theorem mxV_at (h : Fin 16) (i : Fin 8192) : mxV Q KV KR (ix3 h i 0) = (((A.data h.val).mx i.val : ℝ) : EReal) := by
  pointwise [mxV]
  rw [cst_bot, ← Data.fold_msc _ i.isLt]
  exact congrArg (fun f => Finset.univ.fold max ⊥ f) (funext fun k => mscV_at hA h i k)

theorem exV_at (h : Fin 16) (i k : Fin 8192) : exV Q KV KR (ix3 h i k) = (((A.data h.val).e i.val k.val : ℝ) : EReal) := by
  pointwise [exV]
  rw [mscV_at hA, mxV_at hA, Data.msc, Data.e]
  split
  · rw [← EReal.coe_sub, Ideal.exp_coe]
  · rw [EReal.bot_sub, Ideal.exp_bot]
    rfl

theorem lV_at (h : Fin 16) (i : Fin 8192) : lV Q KV KR (ix3 h i 0) = (((A.data h.val).l i.val : ℝ) : EReal) := by
  pointwise [lV]
  exact sum_coe (fun k => (A.data h.val).e i.val k) fun k => exV_at hA h i k

theorem prV_at (h : Fin 16) (i k : Fin 8192) : prV Q KV KR (ix3 h i k) = (((A.data h.val).pr i.val k.val : ℝ) : EReal) := by
  pointwise [prV]
  rw [exV_at hA, lV_at hA, div_real _ (Data.l_pos _ i.isLt).ne', Data.pr]

theorem oV_at (h : Fin 16) (i : Fin 8192) (d : Fin 128) : oV Q KV KR (ix3 h i d) = (((A.data h.val).o i.val d.val : ℝ) : EReal) := by
  pointwise [oV]
  exact sum_mul_coe (fun k => (A.data h.val).pr i.val k) (fun k => (A.data h.val).v k d.val) (fun k => prV_at hA h i k) (fun k => hA.kv h k ⟨128 + d.val, by omega⟩)

theorem dlV_at (h : Fin 16) (i : Fin 8192) : dlV Q KV KR CT (ix2 h i) = (((A.data h.val).dl i.val : ℝ) : EReal) := by
  pointwise [dlV]
  exact sum_mul_coe (fun d => (A.data h.val).ct i.val d) (fun d => (A.data h.val).o i.val d) (fun d => hA.ct h i d) (fun d => oV_at hA h i d)

theorem lseV_at (h : Fin 16) (i : Fin 8192) : lseV Q KV KR (ix3 h i 0) = (((A.data h.val).head.lse i.val : ℝ) : EReal) := by
  rw [lseV, lse_of]
  rw [mxV_at hA, lV_at hA, log_two, Ideal.log_coe, if_neg (not_le.mpr (Data.l_pos _ i.isLt)), ← EReal.coe_add, div_real _ Data.log2_ne]
  rfl

theorem qlV_at (h : Fin 16) (i : Fin 8192) (d : Fin 192) : qlV Q (ix3 h i d) = (((A.data h.val).head.qp i.val d.val : ℝ) : EReal) := by
  pointwise [qlV]
  rw [qsV_at hA, log_two, div_real _ Data.log2_ne]
  rfl

theorem qlP_at (h : Fin 16) (i : Fin 8192) (d : Fin 256) : qlP Q (ix3 h i d) = (((A.data h.val).head.qp i.val d.val : ℝ) : EReal) := by
  pointwise [qlP]
  by_cases hd : d.val < 192
  · rw [dif_pos hd]
    exact qlV_at hA h i ⟨d.val, hd⟩
  · rw [dif_neg hd]
    rw [zero_word]
    show _ = ((((A.data h.val).qs i.val d.val) / Real.log 2 : ℝ) : EReal)
    rw [A.data_qs _ _ _ (by omega), _root_.zero_div]

theorem qpV_at (i : Fin 8192) (e : Fin 4096) : qpV Q (ix2 i e) = (((A.data (e.val / 256)).head.qp i.val (e.val % 256) : ℝ) : EReal) := by
  pointwise [qpV]
  exact qlP_at hA ⟨e.val / 256, by omega⟩ i ⟨e.val % 256, by omega⟩

theorem kvV_at (i : Fin 8192) (e : Fin 4096) : kvV KV (ix2 i e) = ((A.kv (e.val / 256) i.val (e.val % 256) : ℝ) : EReal) := by
  pointwise [kvV]
  exact hA.kv ⟨e.val / 256, by omega⟩ i ⟨e.val % 256, by omega⟩

theorem krV_at (i : Fin 8192) (d : Fin 128) : krV KR (ix2 i d) = ((if d.val < 64 then A.kr i.val d.val else 0 : ℝ) : EReal) := by
  pointwise [krV]
  by_cases hd : d.val < 64
  · rw [dif_pos hd, if_pos hd]
    exact hA.kr i ⟨d.val, hd⟩
  · rw [dif_neg hd, if_neg hd]
    exact zero_word

theorem ctV_at (i : Fin 8192) (e : Fin 2048) : ctV CT (ix2 i e) = ((A.ct (e.val / 128) i.val (e.val % 128) : ℝ) : EReal) := by
  pointwise [ctV]
  exact hA.ct ⟨e.val / 128, by omega⟩ i ⟨e.val % 128, by omega⟩

end Cert.KernelIdeal.Value
-- ==== Proof.Value.Payloads.lean ====
/-
  What each value a grid point stores is at an entry, over the extended reals, as sums of products of the entries it reads.
-/
module

public import proofs.«01_k».proof.Proof.Gen.KernelIdeal
public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Value

open Cert.KernelIdeal Cert.KernelIdeal.Gen
open Idealize.ShloMosaic Idealize.ShloMosaic.TcCoe Idealize.ShloMosaic.Tactic

theorem pay2_at (x : FVec Ideal S512x256 .f32) (r : Fin 512) (d : Fin 128) :
    k0_pay2 (F := Ideal) x (ix2 r d) = x (ix2 r ⟨d.val, by omega⟩) * ((Real.log 2 : ℝ) : EReal) := by
  pointwise [k0_pay2, k0_pay1]
  rfl

theorem pay4_at (x : FVec Ideal S512x256 .f32) (r : Fin 512) (d : Fin 128) :
    k0_pay4 (F := Ideal) x (ix3 0 r d) = x (ix2 r ⟨128 + d.val, by omega⟩) * ((Real.log 2 : ℝ) : EReal) := by
  pointwise [k0_pay4, k0_pay1]
  rfl

theorem pay5_at (kn kr : FVec Ideal S512x128 .bf16) (q : FVec Ideal S512x256 .bf16) (r c : Fin 512) :
    k0_pay5 (F := Ideal) kn kr q (ix2 r c) =
      ∑ d : Fin 128, kn (ix2 r d) * q (ix2 c ⟨d.val, by omega⟩) + ∑ d : Fin 128, kr (ix2 r d) * q (ix2 c ⟨128 + d.val, by omega⟩) := by
  pointwise [k0_pay5]

theorem pay6_at (v ct : FVec Ideal S512x128 .bf16) (r c : Fin 512) :
    k0_pay6 (F := Ideal) v ct (ix2 r c) = ∑ d : Fin 128, v (ix2 r d) * ct (ix2 c d) := by
  pointwise [k0_pay6]

theorem pay7_at (s : FVec Ideal S512x512 .f32) (l : FVec Ideal S1x1x512 .f32) (r c : Fin 512) :
    k0_pay7 (F := Ideal) s l (ix2 r c) = Ideal.exp2 (s (ix2 r c) - l (ix3 0 0 c)) := by
  pointwise [k0_pay7]
  rfl

theorem pay8_at (s : FVec Ideal S512x512 .f32) (l : FVec Ideal S1x1x512 .f32) (p : FVec Ideal S512x512 .f32)
    (e : FVec Ideal S1x1x512 .f32) (r c : Fin 512) :
    k0_pay8 (F := Ideal) s l p e (ix2 r c) = Ideal.exp2 (s (ix2 r c) - l (ix3 0 0 c)) * (p (ix2 r c) - e (ix3 0 0 c)) := by
  pointwise [k0_pay8, k0_pay7]
  rfl

theorem pay9_at (s : FVec Ideal S512x512 .f32) (l : FVec Ideal S1x1x512 .f32) (a ct : FVec Ideal S512x128 .f32) (r : Fin 512) (d : Fin 128) :
    k0_pay9 (F := Ideal) s l a ct (ix2 r d) =
      a (ix2 r d) + ∑ c : Fin 512, Ideal.exp2 (s (ix2 r c) - l (ix3 0 0 c)) * ct (ix2 c d) := by
  pointwise [k0_pay9, k0_pay7]
  rfl

theorem pay10_at (g : FVec Ideal S512x512 .bf16) (a q : FVec Ideal S512x256 .f32) (r : Fin 512) (d : Fin 256) :
    k0_pay10 (F := Ideal) g a q (ix2 r d) = a (ix2 r d) + ∑ c : Fin 512, g (ix2 r c) * q (ix2 c d) := by
  pointwise [k0_pay10]

theorem pay11_at (g : FVec Ideal S512x512 .bf16) (a : FVec Ideal S512x256 .f32) (kn kr : FVec Ideal S512x128 .bf16) (c : Fin 512) (d : Fin 256) :
    k0_pay11 (F := Ideal) g a kn kr (ix2 c d) =
      a (ix2 c d) + ∑ r : Fin 512, g (ix2 r c) * (if h : d.val < 128 then kn (ix2 r ⟨d.val, h⟩) else kr (ix2 r ⟨d.val - 128, by omega⟩)) := by
  pointwise [k0_pay11]

theorem pay45_at (r : Fin 512) (d : Fin 256) : k0_pay45 (F := Ideal) (ix2 r d) = (0 : EReal) := by
  pointwise [k0_pay45]
theorem pay46_at (r : Fin 512) (d : Fin 128) : k0_pay46 (F := Ideal) (ix2 r d) = (0 : EReal) := by
  pointwise [k0_pay46]
theorem pay47_at (r : Fin 8192) (d : Fin 256) : k0_pay47 (F := Ideal) (ix2 r d) = (0 : EReal) := by
  pointwise [k0_pay47]

theorem pay60_at (a : FVec Ideal S512x128 .f32) (p : FVec Ideal S512x512 .bf16) (ct : FVec Ideal S512x128 .bf16) (r : Fin 512) (d : Fin 128) :
    k0_pay60 (F := Ideal) a p ct (ix2 r d) = a (ix2 r d) + ∑ c : Fin 512, p (ix2 r c) * ct (ix2 c d) := by
  pointwise [k0_pay60]

/-- The number of the chunk of 64 a row of a tile lies in, as the kernel computes it in words, -/
theorem rowChunk : ∀ r : Fin 512, Scalar.select
    (IntOp.andi
      (IntOp.cmpi CmpIPredicate.ne
        (IntOp.subi
          (BitVec.setWidth 32 (IntOp.cmpi CmpIPredicate.sgt (IntOp.addi (BitVec.ofNat 32 r.val) 0#32) 0#32))
          (BitVec.setWidth 32 (IntOp.cmpi CmpIPredicate.slt (IntOp.addi (BitVec.ofNat 32 r.val) 0#32) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (IntOp.addi (BitVec.ofNat 32 r.val) 0#32) 64#32) 0#32))
    (IntOp.subi (IntOp.divsi ArithUnit.vector (IntOp.addi (BitVec.ofNat 32 r.val) 0#32) 64#32) 1#32)
    (IntOp.divsi ArithUnit.vector (IntOp.addi (BitVec.ofNat 32 r.val) 0#32) 64#32) = BitVec.ofNat 32 (r.val / 64) := by
  decide +kernel

/-- and of a column. -/
theorem colChunk : ∀ c : Fin 512, Scalar.select
    (IntOp.andi
      (IntOp.cmpi CmpIPredicate.ne
        (IntOp.subi (BitVec.setWidth 32 (IntOp.cmpi CmpIPredicate.sgt (BitVec.ofNat 32 c.val) 0#32))
          (BitVec.setWidth 32 (IntOp.cmpi CmpIPredicate.slt (BitVec.ofNat 32 c.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 c.val) 64#32) 0#32))
    (IntOp.subi (IntOp.divsi ArithUnit.vector (BitVec.ofNat 32 c.val) 64#32) 1#32)
    (IntOp.divsi ArithUnit.vector (BitVec.ofNat 32 c.val) 64#32) = BitVec.ofNat 32 (c.val / 64) := by
  decide +kernel

/-- The chunk mask on a tile whose rows and columns start at the same number: an entry is kept where its row's chunk is not
past its column's. -/
theorem pay57_at (x : FVec Ideal S512x512 .f32) (r c : Fin 512) :
    k0_pay57 (F := Ideal) x k0_pay55 (iota .tc S512x512 32 [1] iota_S512x512_d1_w32) 64#32 k0_pay56 0#32 (ix2 r c) =
      if r.val / 64 ≤ c.val / 64 then x (ix2 r c) else (0 : EReal) := by
  pointwise [k0_pay57, k0_pay55, k0_pay56]
  rw [rowChunk, colChunk]
  have hr := r.isLt
  have hc := c.isLt
  word_cmp

theorem pay54_at (s : FVec Ideal S512x512 .f32) (l : FVec Ideal S1x1x512 .f32) (r c : Fin 512) :
    k0_pay54 (F := Ideal) s l (ix2 r c) = Ideal.exp2 (s (ix2 r c) - l (ix3 0 0 c)) := by
  pointwise [k0_pay54]
  rfl

theorem pay58_at (x : FVec Ideal S512x512 .f32) (p : FVec Ideal S512x512 .f32) (e : FVec Ideal S1x1x512 .f32) (r c : Fin 512) :
    k0_pay58 (F := Ideal) x k0_pay55 (iota .tc S512x512 32 [1] iota_S512x512_d1_w32) 64#32 k0_pay56 0#32 p e (ix2 r c) =
      (if r.val / 64 ≤ c.val / 64 then x (ix2 r c) else (0 : EReal)) * (p (ix2 r c) - e (ix3 0 0 c)) := by
  rw [← pay57_at]
  pointwise [k0_pay58]

theorem pay59_at (x : FVec Ideal S512x512 .f32) (r c : Fin 512) :
    k0_pay59 (F := Ideal) x k0_pay55 (iota .tc S512x512 32 [1] iota_S512x512_d1_w32) 64#32 k0_pay56 0#32 (ix2 r c) =
      if r.val / 64 ≤ c.val / 64 then x (ix2 r c) else (0 : EReal) := by
  rw [← pay57_at]
  pointwise [k0_pay59]

theorem pay61_at (g : FVec Ideal S512x512 .bf16) (a q : FVec Ideal S512x256 .f32) (r : Fin 512) (d : Fin 256) :
    k0_pay61 (F := Ideal) g a q (ix2 r d) = a (ix2 r d) + ∑ c : Fin 512, g (ix2 r c) * q (ix2 c d) := by
  pointwise [k0_pay61]

theorem pay62_at (g : FVec Ideal S512x512 .bf16) (a : FVec Ideal S512x256 .f32) (kn kr : FVec Ideal S512x128 .bf16) (c : Fin 512) (d : Fin 256) :
    k0_pay62 (F := Ideal) g a kn kr (ix2 c d) =
      a (ix2 c d) + ∑ r : Fin 512, g (ix2 r c) * (if h : d.val < 128 then kn (ix2 r ⟨d.val, h⟩) else kr (ix2 r ⟨d.val - 128, by omega⟩)) := by
  pointwise [k0_pay62]

theorem pay3_at (x : FVec Ideal S512x128 .f32) (r : Fin 512) (d : Fin 128) : k0_pay3 (F := Ideal) x (ix2 r d) = x (ix2 r d) := by
  pointwise [k0_pay3]

end Cert.KernelIdeal.Value
-- ==== Proof.Value.Tiles.lean ====
/-
  What a grid point accumulates, over the reals: after its first `n` query tiles the key and value gradients are the sums over
  those tiles' queries, and the query gradient of every query taken so far has the point's keys added to it.
-/
module

public import proofs.«01_k».proof.Proof.Bwd.Model
public import proofs.«01_k».proof.Proof.Value.Payloads
public import proofs.«01_k».proof.Proof.Value.Spec

@[expose] public section

set_option maxRecDepth 16384

noncomputable section

namespace Cert.KernelIdeal.Value

open Cert.KernelIdeal Cert.KernelIdeal.Gen Cert.KernelIdeal.Bwd Cert.Spec
open Idealize.ShloMosaic Idealize.ShloMosaic.TcCoe Idealize.ShloMosaic.Tactic
open Finset

/-! ### Tiles at an entry -/

theorem t256_at (x : FVec Ideal S8192x256 .f32) {i : ℕ} (hi : i ≤ 15) (r : Fin 512) (d : Fin 256) :
    t256 (F := Ideal) (e := .f32) x i (ix2 r d) = x (ix2 ⟨512 * i + r.val, by omega⟩ d) := by
  refine congrArg x (funext fun a => Fin.ext ?_)
  revert a
  refine Fin.forall_fin_two.mpr ⟨?_, ?_⟩
  · show 512 * min i 15 + 1 * r.val = 512 * i + r.val
    omega
  · show 0 + 1 * d.val = d.val
    omega

theorem t256_at' (x : FVec Ideal S8192x256 .bf16) {i : ℕ} (hi : i ≤ 15) (r : Fin 512) (d : Fin 256) :
    t256 (F := Ideal) (e := .bf16) x i (ix2 r d) = x (ix2 ⟨512 * i + r.val, by omega⟩ d) := t256_at x hi r d

theorem t128_at (x : FVec Ideal S8192x128 .bf16) {i : ℕ} (hi : i ≤ 15) (r : Fin 512) (d : Fin 128) :
    t128 (F := Ideal) (e := .bf16) x i (ix2 r d) = x (ix2 ⟨512 * i + r.val, by omega⟩ d) := by
  refine congrArg x (funext fun a => Fin.ext ?_)
  revert a
  refine Fin.forall_fin_two.mpr ⟨?_, ?_⟩
  · show 512 * min i 15 + 1 * r.val = 512 * i + r.val
    omega
  · show 0 + 1 * d.val = d.val
    omega

theorem tRow_at (x : FVec Ideal S1x1x8192 .f32) {i : ℕ} (hi : i ≤ 15) (c : Fin 512) :
    tRow (F := Ideal) (e := .f32) x i (ix3 0 0 c) = x (ix3 0 0 ⟨512 * i + c.val, by omega⟩) := by
  refine congrArg x (funext fun a => Fin.ext ?_)
  fin_cases a
  · rfl
  · rfl
  · show 512 * min i 15 + 1 * c.val = 512 * i + c.val
    omega

/-- A tile put back, read in it, -/
theorem put256_in (x : FVec Ideal S8192x256 .f32) (w : FVec Ideal S512x256 .f32) {i : ℕ} (hi : i ≤ 15) (y : Fin 8192) (d : Fin 256)
    (h1 : 512 * i ≤ y.val) (h2 : y.val < 512 * i + 512) :
    put256 (F := Ideal) (e := .f32) x i w (ix2 y d) = w (ix2 ⟨y.val - 512 * i, by omega⟩ d) := by
  have hh : ∀ a, (![512 * min i 15, 0] : Fin 2 → ℕ) a ≤ ((ix2 y d : S8192x256.Idx) a).val ∧
      ((ix2 y d : S8192x256.Idx) a).val < (![512 * min i 15, 0] : Fin 2 → ℕ) a + S512x256.size a := by
    refine Fin.forall_fin_two.mpr ⟨?_, ?_⟩
    · show 512 * min i 15 ≤ y.val ∧ y.val < 512 * min i 15 + 512
      omega
    · show 0 ≤ d.val ∧ d.val < 0 + 256
      omega
  refine (dif_pos hh).trans ?_
  refine congrArg w (funext fun a => Fin.ext ?_)
  revert a
  refine Fin.forall_fin_two.mpr ⟨?_, ?_⟩
  · show y.val - 512 * min i 15 = y.val - 512 * i
    omega
  · show d.val - 0 = d.val
    omega

/-- and outside it. -/
theorem put256_out (x : FVec Ideal S8192x256 .f32) (w : FVec Ideal S512x256 .f32) {i : ℕ} (hi : i ≤ 15) (y : Fin 8192) (d : Fin 256)
    (h : y.val < 512 * i ∨ 512 * i + 512 ≤ y.val) :
    put256 (F := Ideal) (e := .f32) x i w (ix2 y d) = x (ix2 y d) := by
  refine dif_neg fun hh => ?_
  have h0 : 512 * min i 15 ≤ y.val ∧ y.val < 512 * min i 15 + 512 := hh 0
  omega

/-! ### The blocks of a point as real numbers -/

/-- The blocks a point reads are those of the head `R`, at key tile `j`. -/
structure Holds (I : Inp Ideal) (R : Head) (j : ℕ) : Prop where
  kn : ∀ (r : Fin 512) (d : Fin 128), (show FVec Ideal S512x128 .bf16 from I.kn) (ix2 r d) = ((R.kc (512 * j + r.val) d.val : ℝ) : EReal)
  kr : ∀ (r : Fin 512) (d : Fin 128), (show FVec Ideal S512x128 .bf16 from I.kr) (ix2 r d) = ((R.kc (512 * j + r.val) (128 + d.val) : ℝ) : EReal)
  v : ∀ (r : Fin 512) (d : Fin 128), (show FVec Ideal S512x128 .bf16 from I.v) (ix2 r d) = ((R.v (512 * j + r.val) d.val : ℝ) : EReal)
  q : ∀ (i : Fin 8192) (d : Fin 256), (show FVec Ideal S8192x256 .bf16 from I.q) (ix2 i d) = ((R.qp i.val d.val : ℝ) : EReal)
  ct : ∀ (i : Fin 8192) (d : Fin 128), (show FVec Ideal S8192x128 .bf16 from I.ct) (ix2 i d) = ((R.ct i.val d.val : ℝ) : EReal)
  lse : ∀ i : Fin 8192, (show FVec Ideal S1x1x8192 .f32 from I.lse) (ix3 0 0 i) = ((R.lse i.val : ℝ) : EReal)
  dl : ∀ i : Fin 8192, (show FVec Ideal S1x1x8192 .f32 from I.dl) (ix3 0 0 i) = ((R.dl i.val : ℝ) : EReal)

variable {I : Inp Ideal} {R : Head} {j : ℕ}

theorem st_at (h : Holds I R j) {i : ℕ} (hi : i ≤ 15) (r c : Fin 512) :
    (show FVec Ideal S512x512 .f32 from st I i) (ix2 r c) = ((R.s (512 * j + r.val) (512 * i + c.val) : ℝ) : EReal) := by
  refine (pay5_at I.kn I.kr (t256 I.q i) r c).trans ?_
  rw [Head.s, EReal.coe_add]
  refine congrArg₂ (· + ·) ?_ ?_
  · exact sum_mul_coe (fun d => R.kc (512 * j + r.val) d) (fun d => R.qp (512 * i + c.val) d) (fun d => h.kn r d)
      (fun d => (t256_at' I.q hi c ⟨d.val, by omega⟩).trans (h.q _ _))
  · exact sum_mul_coe (fun d => R.kc (512 * j + r.val) (128 + d)) (fun d => R.qp (512 * i + c.val) (128 + d)) (fun d => h.kr r d)
      (fun d => (t256_at' I.q hi c ⟨128 + d.val, by omega⟩).trans (h.q _ _))

theorem dp_at (h : Holds I R j) {i : ℕ} (hi : i ≤ 15) (r c : Fin 512) :
    (show FVec Ideal S512x512 .f32 from dp I i) (ix2 r c) = ((R.dp (512 * j + r.val) (512 * i + c.val) : ℝ) : EReal) :=
  (pay6_at I.v (t128 I.ct i) r c).trans (sum_mul_coe (fun d => R.v (512 * j + r.val) d) (fun d => R.ct (512 * i + c.val) d) (fun d => h.v r d)
    (fun d => (t128_at I.ct hi c d).trans (h.ct _ _)))

theorem lrow_at (h : Holds I R j) {i : ℕ} (hi : i ≤ 15) (c : Fin 512) :
    (show FVec Ideal S1x1x512 .f32 from tRow I.lse i) (ix3 0 0 c) = ((R.lse (512 * i + c.val) : ℝ) : EReal) :=
  (tRow_at I.lse hi c).trans (h.lse _)

theorem drow_at (h : Holds I R j) {i : ℕ} (hi : i ≤ 15) (c : Fin 512) :
    (show FVec Ideal S1x1x512 .f32 from tRow I.dl i) (ix3 0 0 c) = ((R.dl (512 * i + c.val) : ℝ) : EReal) :=
  (tRow_at I.dl hi c).trans (h.dl _)

/-- The softmax's entry before the mask. -/
theorem exp2_at (h : Holds I R j) {i : ℕ} (hi : i ≤ 15) (r c : Fin 512) :
    Ideal.exp2 ((show FVec Ideal S512x512 .f32 from st I i) (ix2 r c) - (show FVec Ideal S1x1x512 .f32 from tRow I.lse i) (ix3 0 0 c)) =
      ((Real.rpow 2 (R.s (512 * j + r.val) (512 * i + c.val) - R.lse (512 * i + c.val)) : ℝ) : EReal) := by
  rw [st_at h hi, lrow_at h hi, ← EReal.coe_sub, Ideal.exp2_coe]

theorem dl_at (h : Holds I R j) {i : ℕ} (hi : i ≤ 15) (r c : Fin 512) :
    ((show FVec Ideal S512x512 .f32 from dp I i) (ix2 r c) - (show FVec Ideal S1x1x512 .f32 from tRow I.dl i) (ix3 0 0 c)) =
      ((R.dp (512 * j + r.val) (512 * i + c.val) - R.dl (512 * i + c.val) : ℝ) : EReal) := by
  rw [dp_at h hi, drow_at h hi, ← EReal.coe_sub]

/-- Of a later query tile the mask keeps all. -/
theorem p_at (h : Holds I R j) {i : ℕ} (hi : i ≤ 15) (hj : j < i) (r c : Fin 512) :
    Ideal.exp2 ((show FVec Ideal S512x512 .f32 from st I i) (ix2 r c) - (show FVec Ideal S1x1x512 .f32 from tRow I.lse i) (ix3 0 0 c)) =
      ((R.p (512 * j + r.val) (512 * i + c.val) : ℝ) : EReal) := by
  rw [exp2_at h hi, Head.p, if_pos (by omega)]

theorem ds_at (h : Holds I R j) {i : ℕ} (hi : i ≤ 15) (hj : j < i) (r c : Fin 512) :
    (show FVec Ideal S512x512 .bf16 from ds I i) (ix2 r c) = ((R.ds (512 * j + r.val) (512 * i + c.val) : ℝ) : EReal) := by
  refine (pay8_at (st I i) (tRow I.lse i) (dp I i) (tRow I.dl i) r c).trans ?_
  rw [Head.ds, EReal.coe_mul]
  exact congrArg₂ (· * ·) (p_at h hi hj r c) (dl_at h hi r c)

theorem mask_at (h : Holds I R j) (hj : j ≤ 15) (r c : Fin 512) :
    (if r.val / 64 ≤ c.val / 64 then (show FVec Ideal S512x512 .f32 from k0_pay54 (F := Ideal) (st I j) (tRow I.lse j)) (ix2 r c) else (0 : EReal)) =
      ((R.p (512 * j + r.val) (512 * j + c.val) : ℝ) : EReal) := by
  rw [Head.p]
  by_cases hm : r.val / 64 ≤ c.val / 64
  · rw [if_pos hm, if_pos (by omega)]
    exact (pay54_at (st I j) (tRow I.lse j) r c).trans (exp2_at h hj r c)
  · rw [if_neg hm, if_neg (by omega)]
    rfl

theorem p0_at (h : Holds I R j) (hj : j ≤ 15) (r c : Fin 512) :
    (show FVec Ideal S512x512 .bf16 from p0 I j) (ix2 r c) = ((R.p (512 * j + r.val) (512 * j + c.val) : ℝ) : EReal) :=
  (pay59_at (k0_pay54 (st I j) (tRow I.lse j)) r c).trans (mask_at h hj r c)

theorem ds0_at (h : Holds I R j) (hj : j ≤ 15) (r c : Fin 512) :
    (show FVec Ideal S512x512 .bf16 from ds0 I j) (ix2 r c) = ((R.ds (512 * j + r.val) (512 * j + c.val) : ℝ) : EReal) := by
  refine (pay58_at (k0_pay54 (st I j) (tRow I.lse j)) (dp I j) (tRow I.dl j) r c).trans ?_
  rw [Head.ds, EReal.coe_mul]
  exact congrArg₂ (· * ·) (mask_at h hj r c) (dl_at h hj r c)

/-! ### The accumulators -/

/-- The accumulators after `n` query tiles of key tile `j`, `dq` being the head's query gradient before the point. -/
structure AccIs (A : Acc Ideal) (R : Head) (j : ℕ) (dq : ℕ → ℕ → ℝ) (n : ℕ) : Prop where
  dk : ∀ (r : Fin 512) (d : Fin 256), (show FVec Ideal S512x256 .f32 from A.dk) (ix2 r d) =
    ((∑ x ∈ range (512 * n), R.ds (512 * j + r.val) (512 * j + x) * R.qp (512 * j + x) d.val : ℝ) : EReal)
  dv : ∀ (r : Fin 512) (d : Fin 128), (show FVec Ideal S512x128 .f32 from A.dv) (ix2 r d) =
    ((∑ x ∈ range (512 * n), R.p (512 * j + r.val) (512 * j + x) * R.ct (512 * j + x) d.val : ℝ) : EReal)
  dq : ∀ (i : Fin 8192) (d : Fin 256), (show FVec Ideal S8192x256 .f32 from A.dq) (ix2 i d) =
    ((dq i.val d.val + if i.val < 512 * (j + n) then ∑ x ∈ range 512, R.ds (512 * j + x) i.val * R.kc (512 * j + x) d.val else 0 : ℝ) : EReal)

theorem sum_more (n : ℕ) (f : ℕ → ℝ) : ∑ x ∈ range (512 * (n + 1)), f x = ∑ x ∈ range (512 * n), f x + ∑ x ∈ range 512, f (512 * n + x) := by
  rw [Nat.mul_succ, sum_range_add]

/-- One more query tile, its softmax entries `p` and score gradients `g` being those of the head. -/
theorem more (h : Holds I R j) {dq : ℕ → ℕ → ℝ} {n : ℕ} (hn : j + n ≤ 15) (A : Acc Ideal) (a : AccIs A R j dq n)
    (g p : FVec Ideal S512x512 .bf16)
    (hg : ∀ r c : Fin 512, g (ix2 r c) = ((R.ds (512 * j + r.val) (512 * (j + n) + c.val) : ℝ) : EReal))
    (hp : ∀ r c : Fin 512, p (ix2 r c) = ((R.p (512 * j + r.val) (512 * (j + n) + c.val) : ℝ) : EReal))
    (dk w : FVec Ideal S512x256 .f32) (dv : FVec Ideal S512x128 .f32)
    (hdk : ∀ (r : Fin 512) (d : Fin 256), dk (ix2 r d) = (show FVec Ideal S512x256 .f32 from A.dk) (ix2 r d) + ∑ c : Fin 512, g (ix2 r c) * (show FVec Ideal S512x256 .bf16 from t256 I.q (j + n)) (ix2 c d))
    (hdv : ∀ (r : Fin 512) (d : Fin 128), dv (ix2 r d) = (show FVec Ideal S512x128 .f32 from A.dv) (ix2 r d) + ∑ c : Fin 512, p (ix2 r c) * (show FVec Ideal S512x128 .bf16 from t128 I.ct (j + n)) (ix2 c d))
    (hw : ∀ (c : Fin 512) (d : Fin 256), w (ix2 c d) = (show FVec Ideal S512x256 .f32 from t256 A.dq (j + n)) (ix2 c d) + ∑ r : Fin 512, g (ix2 r c) *
      (if h : d.val < 128 then (show FVec Ideal S512x128 .bf16 from I.kn) (ix2 r ⟨d.val, h⟩) else (show FVec Ideal S512x128 .bf16 from I.kr) (ix2 r ⟨d.val - 128, by omega⟩))) :
    AccIs ⟨put256 A.dq (j + n) w, dk, dv⟩ R j dq (n + 1) := by
  have hx : ∀ x, 512 * (j + n) + x = 512 * j + (512 * n + x) := fun x => by ring
  refine ⟨fun r d => ?_, fun r d => ?_, fun i d => ?_⟩
  · refine (hdk r d).trans ?_
    rw [a.dk, sum_more, EReal.coe_add]
    refine congrArg _ (sum_mul_coe (fun x => R.ds (512 * j + r.val) (512 * j + (512 * n + x))) (fun x => R.qp (512 * j + (512 * n + x)) d.val)
      (fun c => by rw [hg, hx]) (fun c => ?_))
    refine (t256_at' I.q hn c d).trans ((h.q _ _).trans ?_)
    rw [← hx]
  · refine (hdv r d).trans ?_
    rw [a.dv, sum_more, EReal.coe_add]
    refine congrArg _ (sum_mul_coe (fun x => R.p (512 * j + r.val) (512 * j + (512 * n + x))) (fun x => R.ct (512 * j + (512 * n + x)) d.val)
      (fun c => by rw [hp, hx]) (fun c => ?_))
    refine (t128_at I.ct hn c d).trans ((h.ct _ _).trans ?_)
    rw [← hx]
  · by_cases h1 : i.val < 512 * (j + n)
    · refine (put256_out A.dq w hn i d (Or.inl h1)).trans ((a.dq i d).trans ?_)
      rw [if_pos h1, if_pos (by omega)]
    · by_cases h2 : i.val < 512 * (j + n) + 512
      · refine (put256_in A.dq w hn i d (by omega) h2).trans ((hw _ d).trans ?_)
        have hi : (⟨512 * (j + n) + (i.val - 512 * (j + n)), by omega⟩ : Fin 8192) = i := Fin.ext (by show 512 * (j + n) + (i.val - 512 * (j + n)) = i.val; omega)
        rw [if_pos (by omega), EReal.coe_add]
        refine congrArg₂ (· + ·) ?_ ?_
        · refine (t256_at A.dq hn _ d).trans ?_
          refine (congrArg (fun z : Fin 8192 => (show FVec Ideal S8192x256 .f32 from A.dq) (ix2 z d)) hi).trans ((a.dq i d).trans ?_)
          rw [if_neg h1, add_zero]
        · refine sum_mul_coe (fun x => R.ds (512 * j + x) i.val) (fun x => R.kc (512 * j + x) d.val) (fun r => ?_) (fun r => ?_)
          · rw [hg]
            show ((R.ds (512 * j + r.val) (512 * (j + n) + (i.val - 512 * (j + n))) : ℝ) : EReal) = _
            rw [show 512 * (j + n) + (i.val - 512 * (j + n)) = i.val by omega]
          · by_cases hd : d.val < 128
            · rw [dif_pos hd]
              exact h.kn r _
            · rw [dif_neg hd]
              refine (h.kr r _).trans ?_
              show ((R.kc (512 * j + r.val) (128 + (d.val - 128)) : ℝ) : EReal) = _
              rw [show 128 + (d.val - 128) = d.val by omega]
      · refine (put256_out A.dq w hn i d (Or.inr (by omega))).trans ((a.dq i d).trans ?_)
        rw [if_neg h1, if_neg (by omega)]

/-- The point's accumulators at its start; -/
theorem start_is (R : Head) (j : ℕ) (dq : ℕ → ℕ → ℝ) (x : FVec Ideal S8192x256 .f32)
    (hx : ∀ (i : Fin 8192) (d : Fin 256), x (ix2 i d) = ((dq i.val d.val : ℝ) : EReal)) : AccIs (start x) R j dq 0 := by
  refine ⟨fun r d => ?_, fun r d => ?_, fun i d => ?_⟩
  · exact (pay45_at r d).trans (by simp)
  · exact (pay46_at r d).trans (by simp)
  · refine (hx i d).trans ?_
    by_cases h : i.val < 512 * (j + 0)
    · rw [if_pos h, sum_eq_zero fun x _ => by rw [R.ds_of_lt (by omega), zero_mul], add_zero]
    · rw [if_neg h, add_zero]

/-- after each of its query tiles; -/
theorem acc_is (h : Holds I R j) (dq : ℕ → ℕ → ℝ) (x : FVec Ideal S8192x256 .f32)
    (hx : ∀ (i : Fin 8192) (d : Fin 256), x (ix2 i d) = ((dq i.val d.val : ℝ) : EReal)) :
    ∀ n, j + n ≤ 15 → AccIs (acc I j x n) R j dq (n + 1) := by
  intro n
  induction n with
  | zero =>
    intro hn
    refine more h hn (start x) (start_is R j dq x hx) (ds0 I j) (p0 I j) (ds0_at h hn) (p0_at h hn) _ _ _ (fun r d => ?_) (fun r d => ?_) (fun c d => ?_)
    · exact pay61_at _ _ _ r d
    · exact pay60_at _ _ _ r d
    · exact pay62_at _ _ _ _ c d
  | succ n ih =>
    intro hn
    refine more h hn (acc I j x n) (ih (by omega)) (ds I (j + (n + 1)))
      (fun y => Ideal.exp2 ((show FVec Ideal S512x512 .f32 from st I (j + (n + 1))) y - (show FVec Ideal S1x1x512 .f32 from tRow I.lse (j + (n + 1))) (ix3 0 0 (y 1))))
      (ds_at h hn (by omega)) (p_at h hn (by omega)) _ _ _ (fun r d => ?_) (fun r d => ?_) (fun c d => ?_)
    · exact pay10_at _ _ _ r d
    · exact pay9_at _ _ _ _ r d
    · exact pay11_at _ _ _ _ c d

theorem sum_tail (j : ℕ) (hj : j ≤ 16) (f : ℕ → ℝ) (hf : ∀ x, x < 512 * j → f x = 0) :
    ∑ x ∈ range (512 * (16 - j)), f (512 * j + x) = ∑ x ∈ range 8192, f x := by
  rw [show (8192 : ℕ) = 512 * j + 512 * (16 - j) by omega, sum_range_add, sum_eq_zero (s := range (512 * j)) fun x hx => hf x (mem_range.mp hx), zero_add]

/-- and at its end: the key gradient before its factor, -/
theorem fin_dk (h : Holds I R j) (hj : j ≤ 15) (dq : ℕ → ℕ → ℝ) (x : FVec Ideal S8192x256 .f32)
    (hx : ∀ (i : Fin 8192) (d : Fin 256), x (ix2 i d) = ((dq i.val d.val : ℝ) : EReal)) (r : Fin 512) (d : Fin 256) :
    (show FVec Ideal S512x256 .f32 from (fin I j x).dk) (ix2 r d) = ((∑ i ∈ range 8192, R.ds (512 * j + r.val) i * R.qp i d.val : ℝ) : EReal) := by
  refine ((acc_is h dq x hx (15 - j) (by omega)).dk r d).trans ?_
  rw [show 15 - j + 1 = 16 - j by omega, sum_tail j (by omega) (fun i => R.ds (512 * j + r.val) i * R.qp i d.val) fun i hi => by
    show R.ds _ _ * _ = 0
    rw [R.ds_of_lt (by omega), zero_mul]]

/-- the value gradient, -/
theorem fin_dv (h : Holds I R j) (hj : j ≤ 15) (dq : ℕ → ℕ → ℝ) (x : FVec Ideal S8192x256 .f32)
    (hx : ∀ (i : Fin 8192) (d : Fin 256), x (ix2 i d) = ((dq i.val d.val : ℝ) : EReal)) (r : Fin 512) (d : Fin 128) :
    (show FVec Ideal S512x128 .f32 from (fin I j x).dv) (ix2 r d) = ((∑ i ∈ range 8192, R.p (512 * j + r.val) i * R.ct i d.val : ℝ) : EReal) := by
  refine ((acc_is h dq x hx (15 - j) (by omega)).dv r d).trans ?_
  rw [show 15 - j + 1 = 16 - j by omega, sum_tail j (by omega) (fun i => R.p (512 * j + r.val) i * R.ct i d.val) fun i hi => by
    show R.p _ _ * _ = 0
    rw [R.p_of_lt (by omega), zero_mul]]

/-- and the query gradient with the point's keys added. -/
theorem fin_dq (h : Holds I R j) (hj : j ≤ 15) (dq : ℕ → ℕ → ℝ) (x : FVec Ideal S8192x256 .f32)
    (hx : ∀ (i : Fin 8192) (d : Fin 256), x (ix2 i d) = ((dq i.val d.val : ℝ) : EReal)) (i : Fin 8192) (d : Fin 256) :
    (show FVec Ideal S8192x256 .f32 from (fin I j x).dq) (ix2 i d) =
      ((dq i.val d.val + ∑ k ∈ range 512, R.ds (512 * j + k) i.val * R.kc (512 * j + k) d.val : ℝ) : EReal) := by
  refine ((acc_is h dq x hx (15 - j) (by omega)).dq i d).trans ?_
  rw [if_pos (by have := i.isLt; omega)]

end Cert.KernelIdeal.Value
-- ==== Proof.Value.Blocks.lean ====
/-
  The call's blocks over the reals: what every grid point is given, what the query gradient has gathered by then, and from
  these the three result arrays, each at an entry as a real number.
-/
module

public import proofs.«01_k».proof.Proof.Value.Operands
public import proofs.«01_k».proof.Proof.Value.Tiles

@[expose] public section

set_option maxRecDepth 16384

noncomputable section

namespace Cert.KernelIdeal.Value

open Cert.KernelIdeal Cert.KernelIdeal.Gen Cert.KernelIdeal.Bwd Cert.Spec
open Idealize.ShloMosaic Idealize.ShloMosaic.TcCoe Idealize.ShloMosaic.Tactic Idealize.ShloMosaic.StableHlo
open Idealize.ShloMosaic.Pipeline (Dat)
open Finset

variable (m : (ℓ : Loc nD τ sig) → Buf (Elt Ideal) ℓ) (c : Dev nD)

/-- The blocks of every point: point `t` is key tile `t % 16` of head `t / 16`. -/
theorem idx : ∀ t : Fin cfg0.N,
    win0_0.index t = ![t.val % 16, 2 * (t.val / 16)] ∧ win0_1.index t = ![t.val % 16, 2 * (t.val / 16) + 1] ∧ win0_2.index t = ![t.val % 16, 0] ∧
    win0_3.index t = ![0, t.val / 16] ∧ win0_4.index t = ![0, t.val / 16] ∧ win0_5.index t = ![t.val / 16, 0, 0] ∧
    win0_6.index t = ![t.val / 16, 0, 0] ∧ win0_7.index t = ![0, t.val / 16] ∧ win0_8.index t = ![t.val % 16, t.val / 16] ∧
    win0_9.index t = ![t.val / 16, t.val % 16, 0] ∧ t.val / 16 < 16 :=
  (by decide +kernel : ∀ t : Fin grid0.N, _)

theorem head_lt (t : Fin cfg0.N) : t.val / 16 < 16 := (idx t).2.2.2.2.2.2.2.2.2.2

theorem tile_lt (t : Fin cfg0.N) : t.val % 16 < 16 := Nat.mod_lt _ (by norm_num)

/-! ### What a point reads -/

theorem kn_blk (t : Fin cfg0.N) (r : Fin 512) (d : Fin 128) :
    (show FVec Ideal S512x128 .bf16 from iblk m c 0 t) (ix2 r d) =
      (show FVec Ideal S8192x4096 .bf16 from V m c main_v45) (ix2 ⟨512 * (t.val % 16) + r.val, by have := tile_lt t; omega⟩ ⟨256 * (t.val / 16) + d.val, by have := head_lt t; omega⟩) := by
  blk_ext [iblk, idx t]

theorem v_blk (t : Fin cfg0.N) (r : Fin 512) (d : Fin 128) :
    (show FVec Ideal S512x128 .bf16 from iblk m c 1 t) (ix2 r d) =
      (show FVec Ideal S8192x4096 .bf16 from V m c main_v45) (ix2 ⟨512 * (t.val % 16) + r.val, by have := tile_lt t; omega⟩ ⟨256 * (t.val / 16) + (128 + d.val), by have := head_lt t; omega⟩) := by
  blk_ext [iblk, idx t]

theorem kr_blk (t : Fin cfg0.N) (r : Fin 512) (d : Fin 128) :
    (show FVec Ideal S512x128 .bf16 from iblk m c 2 t) (ix2 r d) =
      (show FVec Ideal S8192x128 .bf16 from V m c main_v46) (ix2 ⟨512 * (t.val % 16) + r.val, by have := tile_lt t; omega⟩ d) := by
  blk_ext [iblk, idx t]

theorem q_blk (t : Fin cfg0.N) (i : Fin 8192) (d : Fin 256) :
    (show FVec Ideal S8192x256 .bf16 from iblk m c 3 t) (ix2 i d) =
      (show FVec Ideal S8192x4096 .bf16 from V m c main_v42) (ix2 i ⟨256 * (t.val / 16) + d.val, by have := head_lt t; omega⟩) := by
  blk_ext [iblk, idx t]

theorem ct_blk (t : Fin cfg0.N) (i : Fin 8192) (d : Fin 128) :
    (show FVec Ideal S8192x128 .bf16 from iblk m c 4 t) (ix2 i d) =
      (show FVec Ideal S8192x2048 .bf16 from V m c main_v49) (ix2 i ⟨128 * (t.val / 16) + d.val, by have := head_lt t; omega⟩) := by
  blk_ext [iblk, idx t]

theorem lse_blk (t : Fin cfg0.N) (i : Fin 8192) :
    (show FVec Ideal S1x1x8192 .f32 from iblk m c 5 t) (ix3 0 0 i) =
      (show FVec Ideal S16x1x8192 .f32 from V m c main_v50) (ix3 ⟨t.val / 16, head_lt t⟩ 0 i) := by
  blk_ext [iblk, idx t]

theorem dl_blk (t : Fin cfg0.N) (i : Fin 8192) :
    (show FVec Ideal S1x1x8192 .f32 from iblk m c 6 t) (ix3 0 0 i) =
      (show FVec Ideal S16x1x8192 .f32 from V m c main_v51) (ix3 ⟨t.val / 16, head_lt t⟩ 0 i) := by
  blk_ext [iblk, idx t]

/-- A row array laid out with the unit axis in its middle. -/
theorem cast_lse (x : FVec Ideal S16x8192x1 .f32) (h : Fin 16) (i : Fin 8192) :
    shapeCast S16x1x8192 x shapeCasts_S16x8192x1_S16x1x8192 (ix3 h 0 i) = x (ix3 h i 0) := by
  pointwise

theorem cast_dl (x : FVec Ideal S16x8192 .f32) (h : Fin 16) (i : Fin 8192) :
    shapeCast S16x1x8192 x shapeCasts_S16x8192_S16x1x8192 (ix3 h 0 i) = x (ix2 h i) := by
  pointwise

variable {m c} {A : Args}
  (hA : IsArgs (m ((c : Thread nD τ).loc main_arg0)) (m ((c : Thread nD τ).loc main_arg1)) (m ((c : Thread nD τ).loc main_arg2)) (m ((c : Thread nD τ).loc main_arg3)) A)
include hA

theorem kv_entry (h : ℕ) (k : Fin 8192) (d : ℕ) (hd : d < 256) (e : Fin 4096) (he : e.val = 256 * h + d) :
    kvV (m ((c : Thread nD τ).loc main_arg1)) (ix2 k e) = ((A.kv h k.val d : ℝ) : EReal) := by
  rw [kvV_at hA, he, show (256 * h + d) / 256 = h by omega, show (256 * h + d) % 256 = d by omega]

theorem q_entry (h : ℕ) (i : Fin 8192) (d : ℕ) (hd : d < 256) (e : Fin 4096) (he : e.val = 256 * h + d) :
    qpV (m ((c : Thread nD τ).loc main_arg0)) (ix2 i e) = (((A.data h).head.qp i.val d : ℝ) : EReal) := by
  rw [qpV_at hA, he, show (256 * h + d) / 256 = h by omega, show (256 * h + d) % 256 = d by omega]

theorem ct_entry (h : ℕ) (i : Fin 8192) (d : ℕ) (hd : d < 128) (e : Fin 2048) (he : e.val = 128 * h + d) :
    ctV (m ((c : Thread nD τ).loc main_arg3)) (ix2 i e) = ((A.ct h i.val d : ℝ) : EReal) := by
  rw [ctV_at hA, he, show (128 * h + d) / 128 = h by omega, show (128 * h + d) % 128 = d by omega]

theorem kn_real (t : Fin cfg0.N) (r : Fin 512) (d : Fin 128) :
    (show FVec Ideal S512x128 .bf16 from iblk m c 0 t) (ix2 r d) = (((A.data (t.val / 16)).kc (512 * (t.val % 16) + r.val) d.val : ℝ) : EReal) := by
  refine (kn_blk m c t r d).trans ?_
  rw [V_main_v45]
  refine (kv_entry hA (t.val / 16) _ d.val (by omega) _ rfl).trans (congrArg _ ?_)
  exact (if_pos d.isLt).symm

theorem v_real (t : Fin cfg0.N) (r : Fin 512) (d : Fin 128) :
    (show FVec Ideal S512x128 .bf16 from iblk m c 1 t) (ix2 r d) = (((A.data (t.val / 16)).v (512 * (t.val % 16) + r.val) d.val : ℝ) : EReal) := by
  refine (v_blk m c t r d).trans ?_
  rw [V_main_v45]
  exact kv_entry hA (t.val / 16) _ (128 + d.val) (by omega) _ rfl

theorem kr_real (t : Fin cfg0.N) (r : Fin 512) (d : Fin 128) :
    (show FVec Ideal S512x128 .bf16 from iblk m c 2 t) (ix2 r d) = (((A.data (t.val / 16)).kc (512 * (t.val % 16) + r.val) (128 + d.val) : ℝ) : EReal) := by
  refine (kr_blk m c t r d).trans ?_
  rw [V_main_v46]
  refine (krV_at hA _ _).trans (congrArg _ ?_)
  simp only [Args.data]
  rw [if_neg (by omega : ¬128 + d.val < 128), Nat.add_sub_cancel_left]
  exact if_congr (by omega) rfl rfl

theorem q_real (t : Fin cfg0.N) (i : Fin 8192) (d : Fin 256) :
    (show FVec Ideal S8192x256 .bf16 from iblk m c 3 t) (ix2 i d) = (((A.data (t.val / 16)).head.qp i.val d.val : ℝ) : EReal) := by
  refine (q_blk m c t i d).trans ?_
  rw [V_main_v42]
  exact q_entry hA (t.val / 16) i d.val d.isLt _ rfl

theorem ct_real (t : Fin cfg0.N) (i : Fin 8192) (d : Fin 128) :
    (show FVec Ideal S8192x128 .bf16 from iblk m c 4 t) (ix2 i d) = (((A.data (t.val / 16)).ct i.val d.val : ℝ) : EReal) := by
  refine (ct_blk m c t i d).trans ?_
  rw [V_main_v49]
  exact ct_entry hA (t.val / 16) i d.val d.isLt _ rfl

theorem lse_real (t : Fin cfg0.N) (i : Fin 8192) :
    (show FVec Ideal S1x1x8192 .f32 from iblk m c 5 t) (ix3 0 0 i) = (((A.data (t.val / 16)).head.lse i.val : ℝ) : EReal) := by
  refine (lse_blk m c t i).trans ?_
  rw [V_main_v50]
  exact (cast_lse _ _ _).trans (lseV_at hA ⟨t.val / 16, head_lt t⟩ i)

theorem dl_real (t : Fin cfg0.N) (i : Fin 8192) :
    (show FVec Ideal S1x1x8192 .f32 from iblk m c 6 t) (ix3 0 0 i) = (((A.data (t.val / 16)).dl i.val : ℝ) : EReal) := by
  refine (dl_blk m c t i).trans ?_
  rw [V_main_v51]
  exact (cast_dl _ _ _).trans (dlV_at hA ⟨t.val / 16, head_lt t⟩ i)

omit hA in
/-- Blocks holding a head's arrays, put together. -/
theorem holds_of (D : Data) (j : ℕ) (kn v kr : FVec Ideal S512x128 .bf16) (q : FVec Ideal S8192x256 .bf16) (ct : FVec Ideal S8192x128 .bf16)
    (lse dl : FVec Ideal S1x1x8192 .f32)
    (hkn : ∀ (r : Fin 512) (d : Fin 128), kn (ix2 r d) = ((D.kc (512 * j + r.val) d.val : ℝ) : EReal))
    (hv : ∀ (r : Fin 512) (d : Fin 128), v (ix2 r d) = ((D.v (512 * j + r.val) d.val : ℝ) : EReal))
    (hkr : ∀ (r : Fin 512) (d : Fin 128), kr (ix2 r d) = ((D.kc (512 * j + r.val) (128 + d.val) : ℝ) : EReal))
    (hq : ∀ (i : Fin 8192) (d : Fin 256), q (ix2 i d) = ((D.head.qp i.val d.val : ℝ) : EReal))
    (hct : ∀ (i : Fin 8192) (d : Fin 128), ct (ix2 i d) = ((D.ct i.val d.val : ℝ) : EReal))
    (hlse : ∀ i : Fin 8192, lse (ix3 0 0 i) = ((D.head.lse i.val : ℝ) : EReal))
    (hdl : ∀ i : Fin 8192, dl (ix3 0 0 i) = ((D.dl i.val : ℝ) : EReal)) :
    Holds (⟨kn, v, kr, q, ct, lse, dl⟩ : Inp Ideal) D.head j where
  kn := hkn
  v := hv
  kr := hkr
  q := hq
  ct := hct
  lse := hlse
  dl := hdl

/-- Point `t` is given its head's arrays, of the keys its tile's. -/
theorem holds (t : Fin cfg0.N) : Holds (inp m c t) (A.data (t.val / 16)).head (t.val % 16) :=
  holds_of (A.data (t.val / 16)) (t.val % 16) (iblk m c 0 t) (iblk m c 1 t) (iblk m c 2 t) (iblk m c 3 t) (iblk m c 4 t) (iblk m c 5 t) (iblk m c 6 t)
    (kn_real hA t) (v_real hA t) (kr_real hA t) (q_real hA t) (ct_real hA t) (lse_real hA t) (dl_real hA t)

/-! ### The query gradient, tile by tile -/

/-- The query gradient of a head over its first `n` keys. -/
def dqTo (A : Args) (h n i d : ℕ) : ℝ := ∑ k ∈ range n, (A.data h).head.ds k i * (A.data h).head.kc k d

omit hA in
theorem dqTo_add (h n i d : ℕ) : dqTo A h (n + 512) i d = dqTo A h n i d + ∑ k ∈ range 512, (A.data h).head.ds (n + k) i * (A.data h).head.kc (n + k) d :=
  sum_range_add _ n 512

/-- The query gradient as a point takes it up holds the keys of the tiles before, -/
theorem start_dq : ∀ (n : ℕ) (t : Fin cfg0.N), t.val = n → ∀ (i : Fin 8192) (d : Fin 256),
    (show FVec Ideal S8192x256 .f32 from start9 (grid0.coords t) (dqB m c t.val)) (ix2 i d) = ((dqTo A (t.val / 16) (512 * (t.val % 16)) i.val d.val : ℝ) : EReal) := by
  intro n
  induction n with
  | zero =>
    intro t ht i d
    rw [start9, if_pos (by rw [coords1, ht])]
    refine (pay47_at i d).trans ?_
    rw [ht, dqTo]
    simp
  | succ n ih =>
    intro t ht i d
    by_cases h0 : t.val % 16 = 0
    · rw [start9, if_pos (by rw [coords1, h0])]
      refine (pay47_at i d).trans ?_
      rw [h0, dqTo]
      simp
    · rw [start9, if_neg (by rw [coords1]; exact h0)]
      have hn : n < cfg0.N := by have := t.isLt; omega
      have e : dqB m c t.val = (accAt m c ⟨n, hn⟩).dq := by rw [ht]; exact dqB_succ m c ⟨n, hn⟩
      rw [e, accAt, coords1]
      refine (fin_dq (holds hA ⟨n, hn⟩) (by have := tile_lt ⟨n, hn⟩; omega) (fun i d => dqTo A (n / 16) (512 * (n % 16)) i d) _ (ih ⟨n, hn⟩ rfl) i d).trans (congrArg _ ?_)
      show dqTo A (n / 16) (512 * (n % 16)) i.val d.val + ∑ k ∈ range 512, (A.data (n / 16)).head.ds (512 * (n % 16) + k) i.val * (A.data (n / 16)).head.kc (512 * (n % 16) + k) d.val = _
      rw [← dqTo_add, show t.val / 16 = n / 16 by omega, show 512 * (t.val % 16) = 512 * (n % 16) + 512 by omega]

/-- and as it leaves it those of its own tile as well. -/
theorem acc_dq (t : Fin cfg0.N) (i : Fin 8192) (d : Fin 256) :
    (show FVec Ideal S8192x256 .f32 from (accAt m c t).dq) (ix2 i d) = ((dqTo A (t.val / 16) (512 * (t.val % 16) + 512) i.val d.val : ℝ) : EReal) := by
  rw [accAt, coords1, dqTo_add]
  exact fin_dq (holds hA t) (by have := tile_lt t; omega) (fun i d => dqTo A (t.val / 16) (512 * (t.val % 16)) i d) _ (start_dq hA _ t rfl) i d

/-- What it leaves of its tile's key gradient, -/
theorem acc_dk (t : Fin cfg0.N) (r : Fin 512) (d : Fin 256) :
    (show FVec Ideal S512x256 .f32 from (accAt m c t).dk) (ix2 r d) * ((Real.log 2 : ℝ) : EReal) = (((A.data (t.val / 16)).dk (512 * (t.val % 16) + r.val) d.val : ℝ) : EReal) := by
  rw [accAt, coords1, fin_dk (holds hA t) (by have := tile_lt t; omega) (fun i d => dqTo A (t.val / 16) (512 * (t.val % 16)) i d) _ (start_dq hA _ t rfl) r d, ← EReal.coe_mul,
    Data.head_dk _ (A.data_qs _)]

/-- and of its value gradient. -/
theorem acc_dv (t : Fin cfg0.N) (r : Fin 512) (d : Fin 128) :
    (show FVec Ideal S512x128 .f32 from (accAt m c t).dv) (ix2 r d) = (((A.data (t.val / 16)).dv (512 * (t.val % 16) + r.val) d.val : ℝ) : EReal) := by
  rw [accAt, coords1, fin_dv (holds hA t) (by have := tile_lt t; omega) (fun i d => dqTo A (t.val / 16) (512 * (t.val % 16)) i d) _ (start_dq hA _ t rfl) r d,
    Data.head_dv _ (A.data_qs _)]

omit hA in
theorem dqTo_all (h : ℕ) {i : ℕ} (hi : i < 8192) (d : ℕ) : dqTo A h 8192 i d = (A.data h).dq i d :=
  sum_congr rfl fun k _ => by rw [Data.head_ds _ (A.data_qs _) hi]; rfl

/-! ### The result arrays -/

/-- A table of real numbers as an array. -/
def tab2 {a b : ℕ} {φ : FTy} (f : ℕ → ℕ → ℝ) : FVec Ideal ⟨2, ![a, b]⟩ φ := fun y => ((f (y 0).val (y 1).val : ℝ) : EReal)

/-- A table of real numbers over three indices as an array. -/
def tab3 {a b e : ℕ} {φ : FTy} (f : ℕ → ℕ → ℕ → ℝ) : FVec Ideal ⟨3, ![a, b, e]⟩ φ := fun y => ((f (y 0).val (y 1).val (y 2).val : ℝ) : EReal)

/-- A flushed block of query gradients, -/
theorem point7 (t : Fin cfg0.N) (h15 : t.val % 16 = 15) (i : Fin 8192) (d : Fin 256) (i' : Fin 8192) (e : Fin 4096) (hi : i'.val = i.val) (he : e.val = t.val / 16 * 256 + d.val) :
    (show FVec Ideal S8192x256 .f32 from (accAt m c t).dq) (ix2 i d) = (tab2 A.gq : FVec Ideal S8192x4096 .f32) (ix2 i' e) := by
  rw [acc_dq hA, h15]
  refine congrArg (fun x : ℝ => (x : EReal)) ((dqTo_all _ i.isLt _).trans ?_)
  show _ = A.gq i'.val e.val
  rw [Args.gq, hi, he, show (t.val / 16 * 256 + d.val) / 256 = t.val / 16 by omega, show (t.val / 16 * 256 + d.val) % 256 = d.val by omega]

/-- of key and value gradients, -/
theorem point8 (t : Fin cfg0.N) (r : Fin 512) (d : Fin 256) (k : Fin 8192) (e : Fin 4096) (hk : k.val = t.val % 16 * 512 + r.val) (he : e.val = t.val / 16 * 256 + d.val) :
    (show FVec Ideal S512x256 .bf16 from outKV (accAt m c t)) (ix2 r d) = (tab2 A.gkv : FVec Ideal S8192x4096 .bf16) (ix2 k e) := by
  have hr : (tab2 A.gkv : FVec Ideal S8192x4096 .bf16) (ix2 k e) =
      ((if d.val < 128 then (A.data (t.val / 16)).dk (512 * (t.val % 16) + r.val) d.val else (A.data (t.val / 16)).dv (512 * (t.val % 16) + r.val) (d.val - 128) : ℝ) : EReal) := by
    show ((A.gkv k.val e.val : ℝ) : EReal) = _
    rw [Args.gkv, hk, he, show (t.val / 16 * 256 + d.val) / 256 = t.val / 16 by omega, show (t.val / 16 * 256 + d.val) % 256 = d.val by omega,
      mul_comm (t.val % 16) 512]
  rw [hr]
  by_cases hd : d.val < 128
  · rw [if_pos hd]
    have e1 : (show FVec Ideal S512x256 .bf16 from outKV (accAt m c t)) (ix2 r d) = k0_pay2 (accAt m c t).dk (ix2 r ⟨d.val, hd⟩) := by
      refine (dif_pos (show ((ix2 r d : S512x256.Idx) 1).val < 128 from hd)).trans (congrArg _ ?_)
      funext a; fin_cases a <;> rfl
    exact e1.trans ((pay2_at _ _ _).trans (acc_dk hA t r ⟨d.val, by omega⟩))
  · rw [if_neg hd]
    have e1 : (show FVec Ideal S512x256 .bf16 from outKV (accAt m c t)) (ix2 r d) = k0_pay3 (accAt m c t).dv (ix2 r ⟨d.val - 128, by omega⟩) := by
      refine (dif_neg (show ¬((ix2 r d : S512x256.Idx) 1).val < 128 from hd)).trans (congrArg _ ?_)
      funext a; fin_cases a <;> rfl
    exact e1.trans ((pay3_at _ _ _).trans (acc_dv hA t r ⟨d.val - 128, by omega⟩))

/-- and of rope-key gradients. -/
theorem point9 (t : Fin cfg0.N) (r : Fin 512) (d : Fin 128) (h : Fin 16) (k : Fin 8192) (d' : Fin 128) (hh : h.val = t.val / 16) (hk : k.val = t.val % 16 * 512 + r.val) (hd : d'.val = d.val) :
    (show FVec Ideal S1x512x128 .f32 from outKR (accAt m c t)) (ix3 0 r d) = (tab3 A.gkr : FVec Ideal S16x8192x128 .f32) (ix3 h k d') := by
  refine (pay4_at _ _ _).trans ((acc_dk hA t r ⟨128 + d.val, by omega⟩).trans ?_)
  show _ = ((A.gkr h.val k.val d'.val : ℝ) : EReal)
  rw [Args.gkr, hh, hk, hd, mul_comm (t.val % 16) 512]

/-- The query gradients after the run. -/
theorem final7 : (dats m 0 c).arrAt 7 (cfgs 0).N = (tab2 A.gq : FVec Ideal S8192x4096 .f32) := by
  refine (dats m 0 c).arrAt_eq_of_covers 7 _ (by decide +kernel) fun t hf y => ?_
  have h15 := (flush0_7 t).mp hf
  blk_simp
  rw [after7]
  idx_vars y
  have hh := head_lt t
  refine (point7 hA t h15 y0 y1 y0 ⟨t.val / 16 * 256 + y1.val, by omega⟩ rfl rfl).trans (congrArg (tab2 A.gq : FVec Ideal S8192x4096 .f32) ?_)
  blk_ext [idx t]

/-- The gradients of keys and values after the run. -/
theorem final8 : (dats m 0 c).arrAt 8 (cfgs 0).N = (tab2 A.gkv : FVec Ideal S8192x4096 .bf16) := by
  refine (dats m 0 c).arrAt_eq_of_covers 8 _ (by decide +kernel) fun t hf y => ?_
  blk_simp
  rw [after8]
  idx_vars y
  have hh := head_lt t
  have ht := tile_lt t
  refine (point8 hA t y0 y1 ⟨t.val % 16 * 512 + y0.val, by omega⟩ ⟨t.val / 16 * 256 + y1.val, by omega⟩ rfl rfl).trans (congrArg (tab2 A.gkv : FVec Ideal S8192x4096 .bf16) ?_)
  blk_ext [idx t]

/-- The gradients of the rope keys after the run. -/
theorem final9 : (dats m 0 c).arrAt 9 (cfgs 0).N = (tab3 A.gkr : FVec Ideal S16x8192x128 .f32) := by
  refine (dats m 0 c).arrAt_eq_of_covers 9 _ (by decide +kernel) fun t hf y => ?_
  blk_simp
  rw [after9]
  idx_vars y
  have ht := tile_lt t
  obtain rfl : y0 = 0 := Subsingleton.elim _ _
  refine (point9 hA t y1 y2 ⟨t.val / 16, head_lt t⟩ ⟨t.val % 16 * 512 + y1.val, by omega⟩ y2 rfl rfl rfl).trans (congrArg (tab3 A.gkr : FVec Ideal S16x8192x128 .f32) ?_)
  blk_ext [idx t]

end Cert.KernelIdeal.Value
-- ==== Proof.Value.RefStages.lean ====
/-
  What the reference computes, stage by stage: the attention's forward pass and its gradient by the chain rule.
-/
module

public import proofs.«01_k».proof.Proof.Gen.ReferenceIdeal.Run
public import proofs.«01_k».proof.Proof.Value.Spec
public import Idealize.ShloMosaic.Lib.Pipeline.ValueKit
public import Idealize.ShloMosaic.Lib.Claim
public import Idealize.ShloMosaic.Lib.Pointwise
public import Idealize.ShloMosaic.Lib.WordCmp
public import Idealize.ShloMosaic.Lib.IdealHost

@[expose] public section

set_option maxRecDepth 16384

noncomputable section

namespace Cert.ReferenceIdeal.Grad

open Cert.ReferenceIdeal Cert.ReferenceIdeal.Gen Cert.ReferenceIdeal.Value Cert.Spec
open Idealize.ShloMosaic Idealize.ShloMosaic.TcCoe Idealize.ShloMosaic.Tactic Idealize.ShloMosaic.StableHlo
open Finset

/-- The number of the chunk of 64 each row lies in. -/
def chunk : IVec S8192 32 :=
  select
    (andi
      (cmpi CmpIPredicate.ne (signi (iotaInDim S8192 32 0)) (broadcastInDim S8192 ![] bcast_S_S8192 (signi (id (constantI S_ 32 64#32)))))
      (cmpi CmpIPredicate.ne (Host.remsi (iotaInDim S8192 32 0) (broadcastInDim S8192 ![] bcast_S_S8192 (id (constantI S_ 32 64#32))))
        (broadcastInDim S8192 ![] bcast_S_S8192 (constantI S_ 32 0#32))))
    (subi (Host.divsi (iotaInDim S8192 32 0) (broadcastInDim S8192 ![] bcast_S_S8192 (id (constantI S_ 32 64#32))))
      (broadcastInDim S8192 ![] bcast_S_S8192 (constantI S_ 32 1#32)))
    (Host.divsi (iotaInDim S8192 32 0) (broadcastInDim S8192 ![] bcast_S_S8192 (id (constantI S_ 32 64#32))))

/-- The chunk mask. -/
def keep : IVec S16x8192x8192 1 :=
  broadcastInDim S16x8192x8192 ![0, 1, 2] bcast_S1x8192x8192_S16x8192x8192_0_1_2
    (broadcastInDim S1x8192x8192 ![1, 2] bcast_S8192x8192_S1x8192x8192_1_2
      (cmpi CmpIPredicate.sle
        (broadcastInDim S8192x8192 ![0, 1] bcast_S1x8192_S8192x8192_0_1 (broadcastInDim S1x8192 ![1] bcast_S8192_S1x8192_1 chunk))
        (broadcastInDim S8192x8192 ![0, 1] bcast_S8192x1_S8192x8192_0_1 (broadcastInDim S8192x1 ![0] bcast_S8192_S8192x1_0 chunk))))

variable (Q : FVec Ideal S16x8192x192 .f32) (KV : FVec Ideal S16x8192x256 .f32) (KR : FVec Ideal S8192x64 .f32) (CT : FVec Ideal S16x8192x128 .f32)

/-- The scaled queries, -/
def qs : FVec Ideal S16x8192x192 .f32 := mulf Q (broadcastInDim S16x8192x192 ![] bcast_S_S16x8192x192 (constant S_ .f32 0x3D93CD3A#32))

/-- their first 128 features -/
def qn : FVec Ideal S16x8192x128 .f32 := extractStridedSlice S16x8192x128 ![0, 0, 0] (qs Q) slices_S16x8192x192_S16x8192x128_0_0_0

/-- and their rope features; -/
def qr : FVec Ideal S16x8192x64 .f32 := extractStridedSlice S16x8192x64 ![0, 0, 128] (qs Q) slices_S16x8192x192_S16x8192x64_0_0_128

/-- the keys' first 128 features, -/
def kn : FVec Ideal S16x8192x128 .f32 := extractStridedSlice S16x8192x128 ![0, 0, 0] KV slices_S16x8192x256_S16x8192x128_0_0_0

/-- the values, -/
def vs : FVec Ideal S16x8192x128 .f32 := extractStridedSlice S16x8192x128 ![0, 0, 128] KV slices_S16x8192x256_S16x8192x128_0_0_128

/-- and the rope keys, the same for every head. -/
def krs : FVec Ideal S16x8192x64 .f32 :=
  broadcastInDim S16x8192x64 ![0, 1, 2] bcast_S1x8192x64_S16x8192x64_0_1_2 (broadcastInDim S1x8192x64 ![1, 2] bcast_S8192x64_S1x8192x64_1_2 KR)

/-- The scores, -/
def sc : FVec Ideal S16x8192x8192 .f32 :=
  addf (Host.dotGeneral dot_S16x8192x128_S16x8192x128_S16x8192x8192_2_2_1_1_0_0 none (qn Q) (kn KV))
    (Host.dotGeneral dot_S16x8192x64_S16x8192x64_S16x8192x8192_2_2_1_1_0_0 none (qr Q) (krs KR))

/-- masked, -/
def msc : FVec Ideal S16x8192x8192 .f32 :=
  select keep (sc Q KV KR) (broadcastInDim S16x8192x8192 ![] bcast_S_S16x8192x8192 (id (constant S_ .f32 0xFF800000#32)))

/-- their rows' greatest, -/
def mx0 : FVec Ideal S16x8192 .f32 :=
  Host.reduce FloatOps.maximumf (msc Q KV KR) (constant S_ .f32 0xFF800000#32) reducesTo_S16x8192x8192_S16x8192_d2 h_S_

/-- with the least value of all, -/
def mx : FVec Ideal S16x8192 .f32 := maximumf (broadcastInDim S16x8192 ![] bcast_S_S16x8192 (constant S_ .f32 0xFF800000#32)) (mx0 Q KV KR)

/-- the exponentials, -/
def ex : FVec Ideal S16x8192x8192 .f32 :=
  Host.exp (subf (msc Q KV KR) (broadcastInDim S16x8192x8192 ![0, 1, 2] bcast_S16x8192x1_S16x8192x8192_0_1_2
    (broadcastInDim S16x8192x1 ![0, 1] bcast_S16x8192_S16x8192x1_0_1 (mx Q KV KR))))

/-- their row sums, -/
def l : FVec Ideal S16x8192x1 .f32 :=
  broadcastInDim S16x8192x1 ![0, 1] bcast_S16x8192_S16x8192x1_0_1
    (Host.reduceAdd (ex Q KV KR) (constant S_ .f32 0x00000000#32) reducesTo_S16x8192x8192_S16x8192_d2 h_S_)

/-- and the softmax. -/
def pr : FVec Ideal S16x8192x8192 .f32 :=
  Host.divf (ex Q KV KR) (broadcastInDim S16x8192x8192 ![0, 1, 2] bcast_S16x8192x1_S16x8192x8192_0_1_2 (l Q KV KR))

/-- The gradient of the softmax, -/
def dp : FVec Ideal S16x8192x8192 .f32 := Host.dotGeneral dot_S16x8192x128_S16x8192x128_S16x8192x8192_2_2_1_1_0_0 none CT (vs KV)

/-- one over the squared row sums, -/
def il : FVec Ideal S16x8192x1 .f32 :=
  Host.divf (broadcastInDim S16x8192x1 ![] bcast_S_S16x8192x1 (constant S_ .f32 0x3F800000#32)) (mulf (l Q KV KR) (l Q KV KR))

/-- the gradient of the row sums, -/
def dl : FVec Ideal S16x8192x1 .f32 :=
  Host.negf (shapeCast S16x8192x1
    (Host.reduceAdd (mulf (mulf (dp KV CT) (broadcastInDim S16x8192x8192 ![0, 1, 2] bcast_S16x8192x1_S16x8192x8192_0_1_2 (il Q KV KR))) (ex Q KV KR))
      (constant S_ .f32 0x00000000#32) reducesTo_S16x8192x8192_S16x8192_d2 h_S_) shapeCasts_S16x8192_S16x8192x1)

/-- and the gradient of the scores. -/
def ds : FVec Ideal S16x8192x8192 .f32 :=
  select keep
    (mulf
      (addf (Host.divf (dp KV CT) (broadcastInDim S16x8192x8192 ![0, 1, 2] bcast_S16x8192x1_S16x8192x8192_0_1_2 (l Q KV KR)))
        (broadcastInDim S16x8192x8192 ![0, 1] bcast_S16x8192_S16x8192x8192_0_1
          (Host.reduceAdd (dl Q KV KR CT) (constant S_ .f32 0x00000000#32) reducesTo_S16x8192x1_S16x8192_d2 h_S_)))
      (ex Q KV KR))
    (broadcastInDim S16x8192x8192 ![] bcast_S_S16x8192x8192 (constant S_ .f32 0x00000000#32))

/-- The gradient of the values, -/
def dv : FVec Ideal S16x8192x128 .f32 :=
  transpose S16x8192x128 [0, 2, 1] (Host.dotGeneral dot_S16x8192x128_S16x8192x8192_S16x128x8192_1_1_2_2_0_0 none CT (pr Q KV KR)) transposes_S16x128x8192_S16x8192x128_0_2_1

/-- of the rope keys, head by head, -/
def dkr : FVec Ideal S16x8192x64 .f32 := Host.dotGeneral dot_S16x8192x8192_S16x8192x64_S16x8192x64_1_1_2_2_0_0 none (ds Q KV KR CT) (qr Q)

/-- of the queries' rope features, -/
def dqr : FVec Ideal S16x8192x64 .f32 := Host.dotGeneral dot_S16x8192x8192_S16x8192x64_S16x8192x64_2_1_1_2_0_0 none (ds Q KV KR CT) (krs KR)

/-- of the keys' first 128 features -/
def dkn : FVec Ideal S16x8192x128 .f32 := Host.dotGeneral dot_S16x8192x8192_S16x8192x128_S16x8192x128_1_1_2_2_0_0 none (ds Q KV KR CT) (qn Q)

/-- and of the queries'. -/
def dqn : FVec Ideal S16x8192x128 .f32 := Host.dotGeneral dot_S16x8192x8192_S16x8192x128_S16x8192x128_2_1_1_2_0_0 none (ds Q KV KR CT) (kn KV)

/-- The queries' gradient with its features together, -/
def dq : FVec Ideal S16x8192x192 .f32 :=
  addf (pad S16x8192x192 ![0, 0, 128] ![0, 0, 0] ![0, 0, 0] (dqr Q KV KR CT) (constant S_ .f32 0x00000000#32) pads_S16x8192x64_S16x8192x192_000_000_12800 h_S_)
    (pad S16x8192x192 ![0, 0, 0] ![0, 0, 64] ![0, 0, 0] (dqn Q KV KR CT) (constant S_ .f32 0x00000000#32) pads_S16x8192x128_S16x8192x192_000_000_0640 h_S_)

/-- and the keys' and values' gradients together. -/
def dkv : FVec Ideal S16x8192x256 .f32 :=
  addf (pad S16x8192x256 ![0, 0, 128] ![0, 0, 0] ![0, 0, 0] (dv Q KV KR CT) (constant S_ .f32 0x00000000#32) pads_S16x8192x128_S16x8192x256_000_000_12800 h_S_)
    (pad S16x8192x256 ![0, 0, 0] ![0, 0, 128] ![0, 0, 0] (dkn Q KV KR CT) (constant S_ .f32 0x00000000#32) pads_S16x8192x128_S16x8192x256_000_000_01280 h_S_)

/-- The first result: the queries' gradient, head beside head, each head's features followed by 64 zeros. -/
def out0 : FVec Ideal S8192x4096 .f32 :=
  shapeCast S8192x4096 (transpose S8192x16x256 [1, 0, 2]
    (pad S16x8192x256 ![0, 0, 0] ![0, 0, 64] ![0, 0, 0] (dq Q KV KR CT) (sitofp .f32 (constantI S_ 32 0#32)) pads_S16x8192x192_S16x8192x256_000_000_0640 h_S_)
    transposes_S16x8192x256_S8192x16x256_1_0_2) shapeCasts_S8192x16x256_S8192x4096

/-- The second: the keys' and values' gradients, head beside head. -/
def out1 : FVec Ideal S8192x4096 .bf16 :=
  truncf .bf16 (shapeCast S8192x4096 (transpose S8192x16x256 [1, 0, 2] (dkv Q KV KR CT) transposes_S16x8192x256_S8192x16x256_1_0_2)
    shapeCasts_S8192x16x256_S8192x4096) bitsLt_bf16_f32

/-- The third: the rope keys' gradient, head by head, followed by 64 zeros. -/
def out2 : FVec Ideal S16x8192x128 .f32 :=
  pad S16x8192x128 ![0, 0, 0] ![0, 0, 64] ![0, 0, 0] (dkr Q KV KR CT) (sitofp .f32 (constantI S_ 32 0#32)) pads_S16x8192x64_S16x8192x128_000_000_0640 h_S_

variable (m : (ℓ : Loc nD τ sig) → Buf (Elt Ideal) ℓ) (c : Dev nD)

/-- The results of the reference's run are these stages of the arguments. -/
theorem res0 : res_out0 m c = out0 (m ((c.tc : Thread nD τ).loc main_arg0)) (m ((c.tc : Thread nD τ).loc main_arg1)) (m ((c.tc : Thread nD τ).loc main_arg2)) (m ((c.tc : Thread nD τ).loc main_arg3)) := by
  unfold res_out0 res_main_v78
  rfl

theorem res1 : res_out1 m c = out1 (m ((c.tc : Thread nD τ).loc main_arg0)) (m ((c.tc : Thread nD τ).loc main_arg1)) (m ((c.tc : Thread nD τ).loc main_arg2)) (m ((c.tc : Thread nD τ).loc main_arg3)) := by
  unfold res_out1 res_main_v81
  rfl

theorem res2 : res_out2 m c = out2 (m ((c.tc : Thread nD τ).loc main_arg0)) (m ((c.tc : Thread nD τ).loc main_arg1)) (m ((c.tc : Thread nD τ).loc main_arg2)) (m ((c.tc : Thread nD τ).loc main_arg3)) := by
  unfold res_out2 res_main_v76
  rfl

end Cert.ReferenceIdeal.Grad
-- ==== Proof.Value.RefValue.lean ====
/-
  The reference's stages, each at an entry as a real number, the arguments being real numbers; and its results.
-/
module

public import proofs.«01_k».proof.Proof.Value.RefStages
public import proofs.«01_k».proof.Proof.Value.Operands

@[expose] public section

set_option maxRecDepth 16384

noncomputable section

namespace Cert.ReferenceIdeal.Grad

open Cert.ReferenceIdeal Cert.ReferenceIdeal.Gen Cert.ReferenceIdeal.Value Cert.Spec
open Cert.KernelIdeal.Value (cst_bot div_real chunk_word zero_word)
open Idealize.ShloMosaic Idealize.ShloMosaic.TcCoe Idealize.ShloMosaic.Tactic Idealize.ShloMosaic.StableHlo
open Finset

variable {Q : FVec Ideal S16x8192x192 .f32} {KV : FVec Ideal S16x8192x256 .f32} {KR : FVec Ideal S8192x64 .f32} {CT : FVec Ideal S16x8192x128 .f32}

/-- The greater of an array and the least value of all. -/
theorem max_of (x : FVec Ideal S16x8192 .f32) (y : S16x8192.Idx) :
    maximumf (broadcastInDim S16x8192 ![] bcast_S_S16x8192 (constant S_ .f32 0xFF800000#32)) x y = max (Ideal.ofBits .f32 0xFF800000#32) (x y) :=
  rfl

theorem chunk_at (n : Fin 8192) : chunk (ix1 n) = BitVec.ofNat 32 (n.val / 64) := by
  pointwise [chunk]
  exact chunk_word n

theorem keep_at (h : Fin 16) (i k : Fin 8192) : keep (ix3 h i k) = BitVec.ofBool (decide (k.val / 64 ≤ i.val / 64)) := by
  pointwise [keep]
  rw [chunk_at, chunk_at]
  have hi := i.isLt
  have hk := k.isLt
  word_cmp

variable {A : Args} (hA : IsArgs Q KV KR CT A)
include hA

theorem qs_at (h : Fin 16) (i : Fin 8192) (d : Fin 192) : qs Q (ix3 h i d) = (((A.data h.val).qs i.val d.val : ℝ) : EReal) := by
  pointwise [qs]
  rw [hA.q, hA.sc, ← EReal.coe_mul]
  exact congrArg _ (if_pos (by omega)).symm

theorem qn_at (h : Fin 16) (i : Fin 8192) (d : Fin 128) : qn Q (ix3 h i d) = (((A.data h.val).qs i.val d.val : ℝ) : EReal) := by
  pointwise [qn]
  exact qs_at hA h i ⟨d.val, by omega⟩

theorem qr_at (h : Fin 16) (i : Fin 8192) (d : Fin 64) : qr Q (ix3 h i d) = (((A.data h.val).qs i.val (128 + d.val) : ℝ) : EReal) := by
  pointwise [qr]
  exact qs_at hA h i ⟨128 + d.val, by omega⟩

theorem kn_at (h : Fin 16) (k : Fin 8192) (d : Fin 128) : kn KV (ix3 h k d) = (((A.data h.val).kc k.val d.val : ℝ) : EReal) := by
  pointwise [kn]
  exact (hA.kv h k ⟨d.val, by omega⟩).trans (congrArg _ (if_pos (by omega)).symm)

theorem vs_at (h : Fin 16) (k : Fin 8192) (d : Fin 128) : vs KV (ix3 h k d) = (((A.data h.val).v k.val d.val : ℝ) : EReal) := by
  pointwise [vs]
  exact hA.kv h k ⟨128 + d.val, by omega⟩

theorem krs_at (h : Fin 16) (k : Fin 8192) (d : Fin 64) : krs KR (ix3 h k d) = (((A.data h.val).kc k.val (128 + d.val) : ℝ) : EReal) := by
  pointwise [krs]
  refine (hA.kr k d).trans (congrArg _ ?_)
  simp only [Args.data]
  rw [if_neg (by omega), if_pos (by omega), Nat.add_sub_cancel_left]

theorem sc_at (h : Fin 16) (i k : Fin 8192) : sc Q KV KR (ix3 h i k) = (((A.data h.val).sc i.val k.val : ℝ) : EReal) := by
  pointwise [sc]
  rw [Data.sc, EReal.coe_add]
  refine congrArg₂ (· + ·) ?_ ?_
  · exact sum_mul_coe (fun d => (A.data h.val).qs i.val d) (fun d => (A.data h.val).kc k.val d) (fun d => qn_at hA h i d) (fun d => kn_at hA h k d)
  · exact sum_mul_coe (fun d => (A.data h.val).qs i.val (128 + d)) (fun d => (A.data h.val).kc k.val (128 + d)) (fun d => qr_at hA h i d) (fun d => krs_at hA h k d)

theorem msc_at (h : Fin 16) (i k : Fin 8192) : msc Q KV KR (ix3 h i k) = (A.data h.val).msc i.val k.val := by
  pointwise [msc]
  rw [keep_at, sc_at hA, Data.msc]
  show Scalar.select _ _ (Ideal.ofBits .f32 0xFF800000#32) = _
  rw [cst_bot]
  word_cmp

theorem mx0_at (h : Fin 16) (i : Fin 8192) : mx0 Q KV KR (ix2 h i) = (((A.data h.val).mx i.val : ℝ) : EReal) := by
  pointwise [mx0]
  rw [cst_bot, ← Data.fold_msc _ i.isLt]
  exact congrArg (fun f => Finset.univ.fold max ⊥ f) (funext fun k => msc_at hA h i k)

theorem mx_at (h : Fin 16) (i : Fin 8192) : mx Q KV KR (ix2 h i) = (((A.data h.val).mx i.val : ℝ) : EReal) := by
  rw [mx, max_of, mx0_at hA, cst_bot, max_eq_right bot_le]

theorem ex_at (h : Fin 16) (i k : Fin 8192) : ex Q KV KR (ix3 h i k) = (((A.data h.val).e i.val k.val : ℝ) : EReal) := by
  pointwise [ex]
  rw [msc_at hA, mx_at hA, Data.msc, Data.e]
  split
  · rw [← EReal.coe_sub, Ideal.exp_coe]
  · rw [EReal.bot_sub, Ideal.exp_bot]
    rfl

theorem l_at (h : Fin 16) (i : Fin 8192) : l Q KV KR (ix3 h i 0) = (((A.data h.val).l i.val : ℝ) : EReal) := by
  pointwise [l]
  exact sum_coe (fun k => (A.data h.val).e i.val k) fun k => ex_at hA h i k

theorem pr_at (h : Fin 16) (i k : Fin 8192) : pr Q KV KR (ix3 h i k) = (((A.data h.val).pr i.val k.val : ℝ) : EReal) := by
  pointwise [pr]
  rw [ex_at hA, l_at hA, div_real _ (Data.l_pos _ i.isLt).ne', Data.pr]

theorem dp_at (h : Fin 16) (i k : Fin 8192) : dp KV CT (ix3 h i k) = (((A.data h.val).dp i.val k.val : ℝ) : EReal) := by
  pointwise [dp]
  exact sum_mul_coe (fun d => (A.data h.val).ct i.val d) (fun d => (A.data h.val).v k.val d) (fun d => hA.ct h i d) (fun d => vs_at hA h k d)

theorem il_at (h : Fin 16) (i : Fin 8192) : il Q KV KR (ix3 h i 0) = ((1 / ((A.data h.val).l i.val * (A.data h.val).l i.val) : ℝ) : EReal) := by
  pointwise [il]
  rw [l_at hA, ← EReal.coe_mul, ← EReal.coe_one, div_real _ (mul_pos (Data.l_pos _ i.isLt) (Data.l_pos _ i.isLt)).ne']

theorem dl_at (h : Fin 16) (i : Fin 8192) : dl Q KV KR CT (ix3 h i 0) =
    ((-∑ x ∈ range 8192, (A.data h.val).dp i.val x * (1 / ((A.data h.val).l i.val * (A.data h.val).l i.val)) * (A.data h.val).e i.val x : ℝ) : EReal) := by
  pointwise [dl]
  rw [EReal.coe_neg]
  refine congrArg (fun x : EReal => -x) (sum_coe (fun x => (A.data h.val).dp i.val x * (1 / ((A.data h.val).l i.val * (A.data h.val).l i.val)) * (A.data h.val).e i.val x) fun x => ?_)
  rw [dp_at hA, il_at hA, ex_at hA, ← EReal.coe_mul, ← EReal.coe_mul]

theorem ds_at (h : Fin 16) (i k : Fin 8192) : ds Q KV KR CT (ix3 h i k) = (((A.data h.val).ds i.val k.val : ℝ) : EReal) := by
  pointwise [ds]
  have h1 : ∑ x : Fin 1, dl Q KV KR CT (ix3 h i x) = dl Q KV KR CT (ix3 h i 0) := Fin.sum_univ_one _
  rw [h1, keep_at, dp_at hA, l_at hA, dl_at hA, ex_at hA, div_real _ (Data.l_pos _ i.isLt).ne', ← EReal.coe_add, ← EReal.coe_mul, Data.ds_eq _ i.isLt]
  word_cmp
  split <;> rfl

theorem dv_at (h : Fin 16) (k : Fin 8192) (d : Fin 128) : dv Q KV KR CT (ix3 h k d) = (((A.data h.val).dv k.val d.val : ℝ) : EReal) := by
  pointwise [dv]
  refine sum_mul_coe (fun i => (A.data h.val).ct i d.val) (fun i => (A.data h.val).pr i k.val) (fun i => hA.ct h i d) (fun i => pr_at hA h i k) |>.trans (congrArg _ ?_)
  exact sum_congr rfl fun i _ => mul_comm _ _

theorem dkr_at (h : Fin 16) (k : Fin 8192) (d : Fin 64) : dkr Q KV KR CT (ix3 h k d) = (((A.data h.val).dk k.val (128 + d.val) : ℝ) : EReal) := by
  pointwise [dkr]
  exact sum_mul_coe (fun i => (A.data h.val).ds i k.val) (fun i => (A.data h.val).qs i (128 + d.val)) (fun i => ds_at hA h i k) (fun i => qr_at hA h i d)

theorem dqr_at (h : Fin 16) (i : Fin 8192) (d : Fin 64) : dqr Q KV KR CT (ix3 h i d) = (((A.data h.val).dq i.val (128 + d.val) : ℝ) : EReal) := by
  pointwise [dqr]
  exact sum_mul_coe (fun k => (A.data h.val).ds i.val k) (fun k => (A.data h.val).kc k (128 + d.val)) (fun k => ds_at hA h i k) (fun k => krs_at hA h k d)

theorem dkn_at (h : Fin 16) (k : Fin 8192) (d : Fin 128) : dkn Q KV KR CT (ix3 h k d) = (((A.data h.val).dk k.val d.val : ℝ) : EReal) := by
  pointwise [dkn]
  exact sum_mul_coe (fun i => (A.data h.val).ds i k.val) (fun i => (A.data h.val).qs i d.val) (fun i => ds_at hA h i k) (fun i => qn_at hA h i d)

theorem dqn_at (h : Fin 16) (i : Fin 8192) (d : Fin 128) : dqn Q KV KR CT (ix3 h i d) = (((A.data h.val).dq i.val d.val : ℝ) : EReal) := by
  pointwise [dqn]
  exact sum_mul_coe (fun k => (A.data h.val).ds i.val k) (fun k => (A.data h.val).kc k d.val) (fun k => ds_at hA h i k) (fun k => kn_at hA h k d)

theorem dq_at (h : Fin 16) (i : Fin 8192) (d : Fin 192) : dq Q KV KR CT (ix3 h i d) = (((A.data h.val).dq i.val d.val : ℝ) : EReal) := by
  pointwise [dq]
  by_cases hd : d.val < 128
  · rw [dif_neg (by omega), dif_pos hd, zero_add]
    exact dqn_at hA h i ⟨d.val, hd⟩
  · rw [dif_pos ⟨by omega, by omega⟩, dif_neg hd, add_zero]
    refine (dqr_at hA h i ⟨d.val - 128, by omega⟩).trans ?_
    rw [show 128 + (d.val - 128) = d.val by omega]

theorem dkv_at (h : Fin 16) (k : Fin 8192) (d : Fin 256) : dkv Q KV KR CT (ix3 h k d) =
    ((if d.val < 128 then (A.data h.val).dk k.val d.val else (A.data h.val).dv k.val (d.val - 128) : ℝ) : EReal) := by
  pointwise [dkv]
  by_cases hd : d.val < 128
  · rw [dif_neg (by omega), dif_pos hd, zero_add, if_pos hd]
    exact dkn_at hA h k ⟨d.val, hd⟩
  · rw [dif_pos ⟨by omega, by omega⟩, dif_neg hd, add_zero, if_neg hd]
    exact dv_at hA h k ⟨d.val - 128, by omega⟩

theorem out0_at (i : Fin 8192) (e : Fin 4096) : out0 Q KV KR CT (ix2 i e) = ((A.gq i.val e.val : ℝ) : EReal) := by
  pointwise [out0]
  by_cases he : e.val % 256 < 192
  · rw [dif_pos ⟨by omega, he⟩]
    exact dq_at hA ⟨e.val / 256, by omega⟩ i ⟨e.val % 256, he⟩
  · rw [dif_neg (fun h => he h.2), zero_word]
    refine congrArg _ (Eq.symm ?_)
    unfold Args.gq Data.dq
    refine sum_eq_zero fun k _ => ?_
    rw [A.data_kc _ _ _ (by omega), mul_zero]

theorem out1_at (k : Fin 8192) (e : Fin 4096) : out1 Q KV KR CT (ix2 k e) = ((A.gkv k.val e.val : ℝ) : EReal) := by
  pointwise [out1]
  exact dkv_at hA ⟨e.val / 256, by omega⟩ k ⟨e.val % 256, by omega⟩

theorem out2_at (h : Fin 16) (k : Fin 8192) (d : Fin 128) : out2 Q KV KR CT (ix3 h k d) = ((A.gkr h.val k.val d.val : ℝ) : EReal) := by
  pointwise [out2]
  by_cases hd : d.val < 64
  · rw [dif_pos hd]
    exact dkr_at hA h k ⟨d.val, hd⟩
  · rw [dif_neg hd, zero_word]
    refine congrArg _ (Eq.symm ?_)
    unfold Args.gkr Data.dk
    refine sum_eq_zero fun i _ => ?_
    rw [A.data_qs _ _ _ (by omega), mul_zero]

end Cert.ReferenceIdeal.Grad
-- ==== Proof.Claims.Algebraic.lean ====
/-
  The idealized program and the reference have the same results: both are the attention's three gradients, as real numbers, of
  the arguments, which the precondition makes real numbers.
-/
module

public import proofs.«01_k».proof.Defs
public import proofs.«01_k».proof.Proof.Gen.Pre_finite
public import proofs.«01_k».proof.Proof.Claims.Frames
public import proofs.«01_k».proof.Proof.Value.Blocks
public import proofs.«01_k».proof.Proof.Value.RefValue

@[expose] public section

set_option maxRecDepth 16384

noncomputable section

namespace Cert.Proof

open Idealize.ShloMosaic Idealize.ShloMosaic.TcCoe Idealize.ShloMosaic.Tactic Idealize.SL.Sem Cert.Spec

/-- An extended real whose absolute value is below infinity is a real number. -/
theorem real_of_cmp (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  refine (EReal.coe_toReal ?_ ?_).symm
  · rintro rfl
    simp [Ideal.cmp] at h
  · rintro rfl
    simp [Ideal.cmp] at h

/-- The queries' scale is a real number. -/
theorem scale_real : Ideal.ofBits .f32 0x3D93CD3A#32 = ((9686330 / 2 ^ 27 : ℝ) : EReal) := by
  simp [Ideal.ofBits, Ideal.ieee, -EReal.coe_mul]
  norm_num

/-- The real numbers in four arrays. -/
def argsOf (Q : FVec Ideal ⟨3, ![16, 8192, 192]⟩ .f32) (KV : FVec Ideal ⟨3, ![16, 8192, 256]⟩ .f32) (KR : FVec Ideal ⟨2, ![8192, 64]⟩ .f32)
    (CT : FVec Ideal ⟨3, ![16, 8192, 128]⟩ .f32) : Args where
  q h i d := if hh : h < 16 ∧ i < 8192 ∧ d < 192 then EReal.toReal (Q (ix3 ⟨h, hh.1⟩ ⟨i, hh.2.1⟩ ⟨d, hh.2.2⟩)) else 0
  kv h i d := if hh : h < 16 ∧ i < 8192 ∧ d < 256 then EReal.toReal (KV (ix3 ⟨h, hh.1⟩ ⟨i, hh.2.1⟩ ⟨d, hh.2.2⟩)) else 0
  kr i d := if hh : i < 8192 ∧ d < 64 then EReal.toReal (KR (ix2 ⟨i, hh.1⟩ ⟨d, hh.2⟩)) else 0
  ct h i d := if hh : h < 16 ∧ i < 8192 ∧ d < 128 then EReal.toReal (CT (ix3 ⟨h, hh.1⟩ ⟨i, hh.2.1⟩ ⟨d, hh.2.2⟩)) else 0
  sc := 9686330 / 2 ^ 27

/-- Under the precondition the arrays hold them. -/
theorem isArgs (Q : FVec Ideal ⟨3, ![16, 8192, 192]⟩ .f32) (KV : FVec Ideal ⟨3, ![16, 8192, 256]⟩ .f32) (KR : FVec Ideal ⟨2, ![8192, 64]⟩ .f32)
    (CT : FVec Ideal ⟨3, ![16, 8192, 128]⟩ .f32)
    (h1 : (Cert.Pre_finite.fn (F := Ideal) Q KV KR CT).1 = fun _ => 1#1) (h2 : (Cert.Pre_finite.fn (F := Ideal) Q KV KR CT).2.1 = fun _ => 1#1)
    (h3 : (Cert.Pre_finite.fn (F := Ideal) Q KV KR CT).2.2.1 = fun _ => 1#1) (h4 : (Cert.Pre_finite.fn (F := Ideal) Q KV KR CT).2.2.2 = fun _ => 1#1) :
    IsArgs Q KV KR CT (argsOf Q KV KR CT) where
  q h i d := by
    refine (real_of_cmp _ (congrFun h1 (ix3 h i d))).trans (congrArg ((↑) : ℝ → EReal) ?_)
    unfold argsOf
    dsimp only
    rw [dif_pos ⟨h.isLt, i.isLt, d.isLt⟩]
  kv h i d := by
    refine (real_of_cmp _ (congrFun h2 (ix3 h i d))).trans (congrArg ((↑) : ℝ → EReal) ?_)
    unfold argsOf
    dsimp only
    rw [dif_pos ⟨h.isLt, i.isLt, d.isLt⟩]
  kr i d := by
    refine (real_of_cmp _ (congrFun h3 (ix2 i d))).trans (congrArg ((↑) : ℝ → EReal) ?_)
    unfold argsOf
    dsimp only
    rw [dif_pos ⟨i.isLt, d.isLt⟩]
  ct h i d := by
    refine (real_of_cmp _ (congrFun h4 (ix3 h i d))).trans (congrArg ((↑) : ℝ → EReal) ?_)
    unfold argsOf
    dsimp only
    rw [dif_pos ⟨h.isLt, i.isLt, d.isLt⟩]
  sc := scale_real

section
open Cert.ReferenceIdeal Cert.ReferenceIdeal.Grad Cert.KernelIdeal.Value

variable {Q : FVec Ideal S16x8192x192 .f32} {KV : FVec Ideal S16x8192x256 .f32} {KR : FVec Ideal S8192x64 .f32} {CT : FVec Ideal S16x8192x128 .f32}
  {A : Args} (hA : IsArgs Q KV KR CT A)
include hA

/-- The reference's results as whole arrays. -/
theorem ref0 : out0 Q KV KR CT = (tab2 A.gq : FVec Ideal S8192x4096 .f32) := by
  funext y
  idx_vars y
  exact out0_at hA y0 y1

theorem ref1 : out1 Q KV KR CT = (tab2 A.gkv : FVec Ideal S8192x4096 .bf16) := by
  funext y
  idx_vars y
  exact out1_at hA y0 y1

theorem ref2 : out2 Q KV KR CT = (tab3 A.gkr : FVec Ideal S16x8192x128 .f32) := by
  funext y
  idx_vars y
  exact out2_at hA y0 y1 y2

end

section
open Cert.KernelIdeal Cert.KernelIdeal.Gen Cert.KernelIdeal.Value Cert.KernelIdeal.Bwd

/-- The run of the idealized program: it ends with the three gradients in its results, the arguments unchanged. -/
theorem run_pi (m : (ℓ : Loc nD τ sig) → Buf (Elt Ideal) ℓ) (g : Dev nD → PrngReg) (A : Dev nD → Args)
    (hA : ∀ c : Dev nD, IsArgs (m ((c : Thread nD τ).loc main_arg0)) (m ((c : Thread nD τ).loc main_arg1)) (m ((c : Thread nD τ).loc main_arg2))
      (m ((c : Thread nD τ).loc main_arg3)) (A c)) :
    θ_run (defs (F := Ideal)) (onTc (τ := τ) (main (F := Ideal))) ⟨m, fun _ => 0, g⟩ (fun r => ∀ c : Dev nD,
      r.2.mem ((c : Thread nD τ).loc main_v52_0) = (tab2 (A c).gq : FVec Ideal S8192x4096 .f32)
      ∧ r.2.mem ((c : Thread nD τ).loc main_v52_1) = (tab2 (A c).gkv : FVec Ideal S8192x4096 .bf16)
      ∧ r.2.mem ((c : Thread nD τ).loc main_v52_2) = (tab3 (A c).gkr : FVec Ideal S16x8192x128 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨((h.1.1 c).1 7).trans (final7 (hA c)), ((h.1.1 c).1 8).trans (final8 (hA c)),
    ((h.1.1 c).1 9).trans (final9 (hA c)), h.2.1 c⟩) (θ_run_and (run_main m g) (frame_main m g))

end

/-- From arguments that are real numbers the idealized program and the reference end with equal results. -/
theorem algebraic : Cert.algebraic_KernelIdeal_ReferenceIdeal_pre_finite := by
  intro m g m' g' hpre hagree
  have hA := fun c => isArgs _ _ _ _ (hpre c).1 (hpre c).2.1 (hpre c).2.2.1 (hpre c).2.2.2
  refine ⟨fun c => _, fun c => _, fun c => _, run_pi m g _ hA, ?_⟩
  refine (θ_run Cert.ReferenceIdeal.defs _ _).mono (fun r h c => ?_) (Cert.ReferenceIdeal.Value.run (F := Ideal) m' g')
  obtain ⟨a0, a1, a2, a3⟩ := hagree c
  refine ⟨(h c).1.trans ?_, (h c).2.1.trans ?_, (h c).2.2.1.trans ?_, (h c).2.2.2⟩
  · refine (Cert.ReferenceIdeal.Grad.res0 m' c).trans ?_
    rw [a0, a1, a2, a3]
    exact ref0 (hA c)
  · refine (Cert.ReferenceIdeal.Grad.res1 m' c).trans ?_
    rw [a0, a1, a2, a3]
    exact ref1 (hA c)
  · refine (Cert.ReferenceIdeal.Grad.res2 m' c).trans ?_
    rw [a0, a1, a2, a3]
    exact ref2 (hA c)

/-- The frames of the two programs under the precondition. -/
theorem frame_pi_finite : Cert.quiescent_KernelIdeal_pre_finite := fun m ρ _ => Cert.KernelIdeal.Bwd.frame_main (F := Ideal) m ρ

theorem frame_ri_finite : Cert.quiescent_ReferenceIdeal_pre_finite := fun m ρ _ => frame_ri m ρ trivial

end Cert.Proof
-- ==== Proof.Fwd.Model.lean ====
/-
  What one grid point of the attention computes, as plain functions of the blocks it is given. A grid point is a head and a tile
  `i` of 1024 queries; `Inp` holds the blocks it reads (the tile's queries, the head's keys, values and rope keys, the tile's
  gate), `Acc` what it carries from key tile to key tile: per query the maximum of the scores so far, the sum of the softmax's
  weights relative to that maximum, the values weighted by them, and the weights of the last key tile, whose values are added one
  key tile later. The key tiles `0, …, i - 1` are taken unmasked (`step`), key tile `i` under the chunk mask (`fin`).
-/
module

public import proofs.«01_k».proof.Proof.Gen.AttnIdeal
public import proofs.«01_k».proof.Proof.Gen.AttnIdeal.Skeleton
public import Idealize.ShloMosaic.Lib.VecWindow

@[expose] public section

noncomputable section

namespace Cert.AttnIdeal.Fwd

open Cert.AttnIdeal Cert.AttnIdeal.Gen
open Idealize.ShloMosaic Idealize.ShloMosaic.TcCoe

variable {F : FTy → Type} [FloatOps F] [Named F]

/-- The rows of key tile `j` (the last tile where `j` is past it) lie within the 8192 rows. -/
theorem inbTile (j : ℕ) : ∀ a, (![1024 * min j 7, 0] : Fin 2 → ℕ) a + S1024x128.size a ≤ S8192x128.size a :=
  Fin.forall_fin_two.mpr ⟨by show 1024 * min j 7 + 1024 ≤ 8192; omega, by show 0 + 128 ≤ 128; omega⟩

/-- Tile `j` of an array of 8192 rows. -/
def tile {e : EltTy} (x : Vec F S8192x128 e) (j : ℕ) : Vec F S1024x128 e :=
  VecWindow.window x ![1024 * min j 7, 0] S1024x128.size (inbTile j)

variable (F) in
/-- The blocks a grid point reads: the tile's queries, the head's keys, values and rope keys, the tile's gate. -/
structure Inp where
  q : Vec F S1024x256 .bf16
  kn : Vec F S8192x128 .bf16
  v : Vec F S8192x128 .bf16
  kr : Vec F S8192x128 .bf16
  g : Vec F S1024x128 .f32

variable (F) in
/-- What a grid point carries: the maximum, the sum of weights, the weighted values, the last key tile's weights. -/
structure Acc where
  m : Vec F S1024x128 .f32
  l : Vec F S1024x128 .f32
  acc : Vec F S1024x128 .f32
  p : Vec F S1024x1024 .bf16

/-- The queries' scores against key tile `j`. -/
def lg (I : Inp F) (j : ℕ) : Vec F S1024x1024 .f32 := k0_pay2 (tile I.kn j) (tile I.kr j) I.q

/-- The scores of the masked key tile: those of later chunks are the mask's. -/
def masked (s : Vec F S1024x1024 .f32) : Vec F S1024x1024 .f32 := k0_pay34 s k0_pay32 k0_pay33

/-- The last key tile's values, weighted, added. -/
def addv (A : Acc F) (v : Vec F S1024x128 .bf16) : Acc F := { A with acc := k0_pay3 A.acc A.p v }

/-- A key tile's scores taken in: everything so far is rescaled to the new maximum. -/
def absorb (s : Vec F S1024x1024 .f32) (A : Acc F) : Acc F where
  m := k0_pay8 s A.m
  l := k0_pay7 s A.m A.l
  acc := k0_pay9 s A.m A.acc
  p := k0_pay10 s A.m

/-- Key tile `j` taken unmasked, after the values of the one before it. -/
def step (I : Inp F) (j : ℕ) (A : Acc F) : Acc F := absorb (lg I j) (addv A (tile I.v (j - 1)))

/-- What a point starts from. -/
def start : Acc F := ⟨k0_pay58, k0_pay59, k0_pay60, k0_pay62⟩

/-- After the first `n` key tiles, taken unmasked. -/
def run (I : Inp F) : ℕ → Acc F
  | 0 => start
  | n + 1 => step I n (run I n)

/-- Before the last values: key tile `i` taken under the mask after those before it. -/
def fin' (I : Inp F) (i : ℕ) : Acc F := absorb (masked (lg I i)) (addv (run I i) (tile I.v (i - 1)))

/-- After all its key tiles. -/
def fin (I : Inp F) (i : ℕ) : Acc F := addv (fin' I i) (tile I.v i)

/-- The point's block of attention outputs, -/
def outO (A : Acc F) : Vec F S1024x128 .f32 := k0_pay82 A.l A.acc

/-- of gated outputs, -/
def outA (A : Acc F) (g : Vec F S1024x128 .f32) : Vec F S1024x128 .bf16 := k0_pay83 A.l A.acc g

/-- and of logarithms of the softmax's denominators. -/
def outL (A : Acc F) : Vec F S1x1024x128 .f32 := k0_pay1 (k0_pay84 A.l A.m)

end Cert.AttnIdeal.Fwd
-- ==== Proof.Fwd.Offsets.lean ====
/-
  Where the loop over pairs of key tiles reads, and the tests after it, at query tile `i 1`: each in closed form, decided over the
  grid and the trips.
-/
module

public import proofs.«01_k».proof.Proof.Gen.AttnIdeal
public import Idealize.ShloMosaic.Lib.Decide
public import Idealize.ShloMosaic.Lib.Exec

@[expose] public section

set_option maxRecDepth 16384
set_option Elab.async false

namespace Cert.AttnIdeal.Fwd

open Cert.AttnIdeal Cert.AttnIdeal.Gen
open Idealize.ShloMosaic Idealize.ShloMosaic.TcCoe

/-- The loop over pairs of key tiles makes `i / 2` trips, -/
theorem trips1 : ∀ i : grid0.Coords, (k0_t1_loop i).trips = (i 1).val / 2 := by decide +kernel

/-- the loop after it none, -/
theorem trips2 : ∀ i : grid0.Coords, (k0_t2_loop i).trips = 0 := by decide +kernel

/-- where `i` is even the masked key tile follows, -/
theorem cond1 : ∀ i : grid0.Coords, k0_cond1 i = 1#1 ↔ (i 1).val % 2 = 0 := by decide +kernel

/-- and where it is odd one more unmasked key tile comes before it. -/
theorem cond2 : ∀ i : grid0.Coords, k0_cond2 i = 1#1 ↔ (i 1).val % 2 = 1 := by decide +kernel

theorem i_lt (i : grid0.Coords) : (i 1).val < 8 := (i 1).isLt

theorem off1 : ∀ (i : grid0.Coords) (k : Fin (k0_t1_loop i).trips), k0_off1 i k = ![1024 * min (2 * k.val + 1) 7, 0] := by decide +kernel
theorem off2 : ∀ (i : grid0.Coords) (k : Fin (k0_t1_loop i).trips), k0_off2 i k = ![1024 * min (2 * k.val - 1) 7, 0] := by decide +kernel
theorem off3 : ∀ (i : grid0.Coords) (k : Fin (k0_t1_loop i).trips), k0_off3 i k = ![1024 * min (2 * k.val + 2) 7, 0] := by decide +kernel
theorem off4 : ∀ (i : grid0.Coords) (k : Fin (k0_t1_loop i).trips), k0_off4 i k = ![1024 * min (2 * k.val) 7, 0] := by decide +kernel
theorem off9 : ∀ i : grid0.Coords, k0_off9 i = ![1024 * min ((i 1).val - 1) 7, 0] := by decide +kernel
theorem off10 : ∀ i : grid0.Coords, k0_off10 i = ![1024 * min (i 1).val 7, 0] := by decide +kernel
theorem off11 : ∀ i : grid0.Coords, k0_off11 i = ![1024 * min (i 1).val 7, 0] := by decide +kernel
theorem off12 : ∀ i : grid0.Coords, k0_off12 i = ![1024 * min ((i 1).val - 1 - 1) 7, 0] := by decide +kernel
theorem off13 : ∀ i : grid0.Coords, k0_off13 i = ![1024 * min ((i 1).val - 1) 7, 0] := by decide +kernel
theorem off14 : ∀ i : grid0.Coords, k0_off14 i = ![1024 * min (i 1).val 7, 0] := by decide +kernel

instance (i : grid0.Coords) (k : Fin (k0_t1_loop i).trips) : ClosedOff (k0_off1 i k) := ⟨_, off1 i k⟩
instance (i : grid0.Coords) (k : Fin (k0_t1_loop i).trips) : ClosedOff (k0_off2 i k) := ⟨_, off2 i k⟩
instance (i : grid0.Coords) (k : Fin (k0_t1_loop i).trips) : ClosedOff (k0_off3 i k) := ⟨_, off3 i k⟩
instance (i : grid0.Coords) (k : Fin (k0_t1_loop i).trips) : ClosedOff (k0_off4 i k) := ⟨_, off4 i k⟩
instance (i : grid0.Coords) : ClosedOff (k0_off9 i) := ⟨_, off9 i⟩
instance (i : grid0.Coords) : ClosedOff (k0_off12 i) := ⟨_, off12 i⟩
instance (i : grid0.Coords) : ClosedOff (k0_off13 i) := ⟨_, off13 i⟩

end Cert.AttnIdeal.Fwd
-- ==== Proof.Fwd.Loop.lean ====
/-
  The loop over pairs of key tiles: before trip `k` the point has taken in the first `2 k` key tiles, and the scores of the next
  one are ready.
-/
module

public import proofs.«01_k».proof.Proof.Fwd.Model
public import proofs.«01_k».proof.Proof.Fwd.Offsets
public import proofs.«01_k».proof.Proof.Gen.AttnIdeal.Loops

@[expose] public section

set_option maxRecDepth 16384

noncomputable section

namespace Cert.AttnIdeal.Fwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The core holds the memref, with contents `x`. -/
abbrev at' (c : Dev nD) {sp : Space} {s : Shape} {e : EltTy} (m : Memref sig .tc sp s e) (x : s.Idx → Elt F e) : sProp 𝕄 :=
  (m.view.loc (c : Thread nD τ) ↦[m.view.set]{fullShare} m.view.rep x)

/-! ### Whole-buffer loads and stores -/

/-- A load of all of a buffer of shape `S1024x256` reads its contents, -/
theorem ld_S1024x256 {e : EltTy} (m : Memref sig .tc .vmem S1024x256 e) (x : Vec F S1024x256 e) (inb) :
    m.view.readAt (Elt F) (Rect.unit (s := S1024x256) ![0, 0] S1024x256.size inb).toLoadRect (m.view.rep x) = x := View.readAt_rep_full _ _ _

/-- a load of all of it after a store of all of it what was stored, -/
theorem cov_S1024x256 {e : EltTy} (m : Memref sig .tc .vmem S1024x256 e) (inb inb') (w : Vec F S1024x256 e) (L) :
    m.view.readCov (⟨Rect.unit (s := S1024x256) ![0, 0] S1024x256.size inb', w⟩ :: L) (Rect.unit (s := S1024x256) ![0, 0] S1024x256.size inb).toLoadRect = w :=
  View.readCov_full _ _ _ _ _

/-- and after such a store it holds what was stored. -/
theorem sto_S1024x256 {e : EltTy} (m : Memref sig .tc .vmem S1024x256 e) (f) (inb) (w : Vec F S1024x256 e) (L) :
    m.view.read (Elt F) (m.view.writes (Elt F) f (⟨Rect.unit (s := S1024x256) ![0, 0] S1024x256.size inb, w⟩ :: L)) = w := View.read_writes_full _ _ _ _ _

/-- A load of all of a buffer of shape `S1024x128` reads its contents, -/
theorem ld_S1024x128 {e : EltTy} (m : Memref sig .tc .vmem S1024x128 e) (x : Vec F S1024x128 e) (inb) :
    m.view.readAt (Elt F) (Rect.unit (s := S1024x128) ![0, 0] S1024x128.size inb).toLoadRect (m.view.rep x) = x := View.readAt_rep_full _ _ _

/-- a load of all of it after a store of all of it what was stored, -/
theorem cov_S1024x128 {e : EltTy} (m : Memref sig .tc .vmem S1024x128 e) (inb inb') (w : Vec F S1024x128 e) (L) :
    m.view.readCov (⟨Rect.unit (s := S1024x128) ![0, 0] S1024x128.size inb', w⟩ :: L) (Rect.unit (s := S1024x128) ![0, 0] S1024x128.size inb).toLoadRect = w :=
  View.readCov_full _ _ _ _ _

/-- and after such a store it holds what was stored. -/
theorem sto_S1024x128 {e : EltTy} (m : Memref sig .tc .vmem S1024x128 e) (f) (inb) (w : Vec F S1024x128 e) (L) :
    m.view.read (Elt F) (m.view.writes (Elt F) f (⟨Rect.unit (s := S1024x128) ![0, 0] S1024x128.size inb, w⟩ :: L)) = w := View.read_writes_full _ _ _ _ _

/-- A load of all of a buffer of shape `S1024x1024` reads its contents, -/
theorem ld_S1024x1024 {e : EltTy} (m : Memref sig .tc .vmem S1024x1024 e) (x : Vec F S1024x1024 e) (inb) :
    m.view.readAt (Elt F) (Rect.unit (s := S1024x1024) ![0, 0] S1024x1024.size inb).toLoadRect (m.view.rep x) = x := View.readAt_rep_full _ _ _

/-- a load of all of it after a store of all of it what was stored, -/
theorem cov_S1024x1024 {e : EltTy} (m : Memref sig .tc .vmem S1024x1024 e) (inb inb') (w : Vec F S1024x1024 e) (L) :
    m.view.readCov (⟨Rect.unit (s := S1024x1024) ![0, 0] S1024x1024.size inb', w⟩ :: L) (Rect.unit (s := S1024x1024) ![0, 0] S1024x1024.size inb).toLoadRect = w :=
  View.readCov_full _ _ _ _ _

/-- and after such a store it holds what was stored. -/
theorem sto_S1024x1024 {e : EltTy} (m : Memref sig .tc .vmem S1024x1024 e) (f) (inb) (w : Vec F S1024x1024 e) (L) :
    m.view.read (Elt F) (m.view.writes (Elt F) f (⟨Rect.unit (s := S1024x1024) ![0, 0] S1024x1024.size inb, w⟩ :: L)) = w := View.read_writes_full _ _ _ _ _

/-- A memref held at contents that read `x` is held with contents `x`. -/
theorem at'_of_read (c : Dev nD) {sp : Space} {s : Shape} {e : EltTy} (m : Memref sig .tc sp s e) (g : Buf (Elt F) (m.view.loc (c : Thread nD τ)))
    (x : s.Idx → Elt F e) (h : m.view.read (Elt F) g = x) :
    (m.view.loc (c : Thread nD τ) ↦[m.view.set]{fullShare} g : sProp 𝕄) ⊢ at' c m x :=
  pointsTo_rep_of_read (c : Thread nD τ) m g fullShare x h

set_option maxHeartbeats 1600000 in
/-- A trip takes in two key tiles. -/
theorem trip (c : Dev nD) (I : Inp F) (i : grid0.Coords) (arg2 : Memref sig .tc .vmem S1024x256 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .vmem S1x1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x1024 .f32) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x1024 .bf16) (harg16 : arg16.IsWhole) (arg1 c2_i32 v30 c0_i32_17 : BitVec 32)
    (k : Fin (k0_t1_loop i).trips) (u : Unit) (A : Acc F) (x14 : Vec F S1024x1024 .f32) (x15 : Vec F S1024x1024 .bf16) :
    (iprop(at' c arg2 I.q ∗ at' c arg3 I.kn ∗ at' c arg4 I.v ∗ at' c arg5 I.kr
      ∗ at' c arg10 A.m ∗ at' c arg11 A.l ∗ at' c arg12 A.acc ∗ at' c arg13 (lg I (2 * k.val)) ∗ at' c arg14 x14 ∗ at' c arg15 x15
      ∗ at' c arg16 A.p) : sProp 𝕄)
    ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 c2_i32 v30 c0_i32_17 k u)
        (fun _ => iprop(at' c arg2 I.q ∗ at' c arg3 I.kn ∗ at' c arg4 I.v ∗ at' c arg5 I.kr
          ∗ at' c arg10 (step I (2 * k.val + 1) (step I (2 * k.val) A)).m ∗ at' c arg11 (step I (2 * k.val + 1) (step I (2 * k.val) A)).l
          ∗ at' c arg12 (step I (2 * k.val + 1) (step I (2 * k.val) A)).acc ∗ at' c arg13 (lg I (2 * k.val + 2))
          ∗ (∃ x, at' c arg14 x) ∗ (∃ x, at' c arg15 x) ∗ at' c arg16 (step I (2 * k.val + 1) (step I (2 * k.val) A)).p)) := by
  unfold Gen.k0_t1_body
  iintro ⟨H2, H3, H4, H5, H10, H11, H12, H13, H14, H15, H16⟩
  sl_exec
  sl_step
  -- what the loads read
  have a2 : ∀ inb, arg2.view.readAt (Elt F) (Rect.unit (s := S1024x256) ![0, 0] S1024x256.size inb).toLoadRect (arg2.view.rep (I.q)) = I.q := ld_S1024x256 _ _
  have a10 : ∀ inb, arg10.view.readAt (Elt F) (Rect.unit (s := S1024x128) ![0, 0] S1024x128.size inb).toLoadRect (arg10.view.rep (A.m)) = A.m := ld_S1024x128 _ _
  have a11 : ∀ inb, arg11.view.readAt (Elt F) (Rect.unit (s := S1024x128) ![0, 0] S1024x128.size inb).toLoadRect (arg11.view.rep (A.l)) = A.l := ld_S1024x128 _ _
  have a12 : ∀ inb, arg12.view.readAt (Elt F) (Rect.unit (s := S1024x128) ![0, 0] S1024x128.size inb).toLoadRect (arg12.view.rep (A.acc)) = A.acc := ld_S1024x128 _ _
  have a13 : ∀ inb, arg13.view.readAt (Elt F) (Rect.unit (s := S1024x1024) ![0, 0] S1024x1024.size inb).toLoadRect (arg13.view.rep (lg I (2 * k.val))) = lg I (2 * k.val) := ld_S1024x1024 _ _
  have a16 : ∀ inb, arg16.view.readAt (Elt F) (Rect.unit (s := S1024x1024) ![0, 0] S1024x1024.size inb).toLoadRect (arg16.view.rep (A.p)) = A.p := ld_S1024x1024 _ _
  have r10 : ∀ inb inb' w L, arg10.view.readCov (⟨Rect.unit (s := S1024x128) ![0, 0] S1024x128.size inb', w⟩ :: L) (Rect.unit (s := S1024x128) ![0, 0] S1024x128.size inb).toLoadRect = w := cov_S1024x128 (F := F) _
  have r11 : ∀ inb inb' w L, arg11.view.readCov (⟨Rect.unit (s := S1024x128) ![0, 0] S1024x128.size inb', w⟩ :: L) (Rect.unit (s := S1024x128) ![0, 0] S1024x128.size inb).toLoadRect = w := cov_S1024x128 (F := F) _
  have r12 : ∀ inb inb' w L, arg12.view.readCov (⟨Rect.unit (s := S1024x128) ![0, 0] S1024x128.size inb', w⟩ :: L) (Rect.unit (s := S1024x128) ![0, 0] S1024x128.size inb).toLoadRect = w := cov_S1024x128 (F := F) _
  have r13 : ∀ inb inb' w L, arg13.view.readCov (⟨Rect.unit (s := S1024x1024) ![0, 0] S1024x1024.size inb', w⟩ :: L) (Rect.unit (s := S1024x1024) ![0, 0] S1024x1024.size inb).toLoadRect = w := cov_S1024x1024 (F := F) _
  have r14 : ∀ inb inb' w L, arg14.view.readCov (⟨Rect.unit (s := S1024x1024) ![0, 0] S1024x1024.size inb', w⟩ :: L) (Rect.unit (s := S1024x1024) ![0, 0] S1024x1024.size inb).toLoadRect = w := cov_S1024x1024 (F := F) _
  have r15 : ∀ inb inb' w L, arg15.view.readCov (⟨Rect.unit (s := S1024x1024) ![0, 0] S1024x1024.size inb', w⟩ :: L) (Rect.unit (s := S1024x1024) ![0, 0] S1024x1024.size inb).toLoadRect = w := cov_S1024x1024 (F := F) _
  have r16 : ∀ inb inb' w L, arg16.view.readCov (⟨Rect.unit (s := S1024x1024) ![0, 0] S1024x1024.size inb', w⟩ :: L) (Rect.unit (s := S1024x1024) ![0, 0] S1024x1024.size inb).toLoadRect = w := cov_S1024x1024 (F := F) _
  have n1 : ∀ inb, arg3.view.readAt (Elt F) (Rect.unit (s := S8192x128) (k0_off1 i k) S1024x128.size inb).toLoadRect (arg3.view.rep I.kn) = tile I.kn (2 * k.val + 1) := fun _ => View.readAt_rep_unit _ _ _ (off1 i k) _
  have n3 : ∀ inb, arg3.view.readAt (Elt F) (Rect.unit (s := S8192x128) (k0_off3 i k) S1024x128.size inb).toLoadRect (arg3.view.rep I.kn) = tile I.kn (2 * k.val + 2) := fun _ => View.readAt_rep_unit _ _ _ (off3 i k) _
  have k1 : ∀ inb, arg5.view.readAt (Elt F) (Rect.unit (s := S8192x128) (k0_off1 i k) S1024x128.size inb).toLoadRect (arg5.view.rep I.kr) = tile I.kr (2 * k.val + 1) := fun _ => View.readAt_rep_unit _ _ _ (off1 i k) _
  have k3 : ∀ inb, arg5.view.readAt (Elt F) (Rect.unit (s := S8192x128) (k0_off3 i k) S1024x128.size inb).toLoadRect (arg5.view.rep I.kr) = tile I.kr (2 * k.val + 2) := fun _ => View.readAt_rep_unit _ _ _ (off3 i k) _
  have v2 : ∀ inb, arg4.view.readAt (Elt F) (Rect.unit (s := S8192x128) (k0_off2 i k) S1024x128.size inb).toLoadRect (arg4.view.rep I.v) = tile I.v (2 * k.val - 1) := fun _ => View.readAt_rep_unit _ _ _ (off2 i k) _
  have v4 : ∀ inb, arg4.view.readAt (Elt F) (Rect.unit (s := S8192x128) (k0_off4 i k) S1024x128.size inb).toLoadRect (arg4.view.rep I.v) = tile I.v (2 * k.val) := fun _ => View.readAt_rep_unit _ _ _ (off4 i k) _
  isplitl [H2]; · iexact H2
  isplitl [H3]; · iexact H3
  isplitl [H4]; · iexact H4
  isplitl [H5]; · iexact H5
  isplitl [H10]
  · iapply (at'_of_read c arg10 _ _ ?e10) $$ H10
    case e10 =>
      refine (sto_S1024x128 _ _ _ _ _).trans ?_
      delta trip.sl.H10_1 trip.sl.H11_1 trip.sl.H12_1 trip.sl.H12_2 trip.sl.H12_3 trip.sl.H14_1 trip.sl.H15_1 trip.sl.arg17 trip.sl.cst_68 trip.sl.cst_79 trip.sl.cst_86 trip.sl.cst_89 trip.sl.r trip.sl.v102 trip.sl.v103 trip.sl.v104 trip.sl.v106 trip.sl.v108 trip.sl.v111 trip.sl.v112 trip.sl.v114 trip.sl.v115 trip.sl.v117 trip.sl.v118 trip.sl.v119 trip.sl.v120 trip.sl.v121 trip.sl.v125 trip.sl.v127 trip.sl.v128 trip.sl.v129 trip.sl.v131 trip.sl.v132 trip.sl.v135 trip.sl.v136 trip.sl.v137 trip.sl.v138 trip.sl.v139 trip.sl.v140 trip.sl.v141 trip.sl.v142 trip.sl.v143 trip.sl.v145 trip.sl.v146 trip.sl.v147 trip.sl.v148 trip.sl.v149 trip.sl.v151 trip.sl.v152 trip.sl.v154 trip.sl.v155 trip.sl.v156 trip.sl.v157 trip.sl.v159 trip.sl.v160 trip.sl.v161 trip.sl.v163 trip.sl.v164 trip.sl.v167 trip.sl.v168 trip.sl.v170 trip.sl.v172 trip.sl.v175 trip.sl.v176 trip.sl.v179 trip.sl.v181 trip.sl.v182 trip.sl.v183 trip.sl.v184 trip.sl.v185 trip.sl.v187 trip.sl.v188 trip.sl.v189 trip.sl.v191 trip.sl.v192 trip.sl.v193 trip.sl.v195 trip.sl.v196 trip.sl.v197 trip.sl.v198 trip.sl.v199 trip.sl.v200 trip.sl.v201 trip.sl.v202 trip.sl.v203 trip.sl.v204 trip.sl.v205 trip.sl.v206 trip.sl.v208 trip.sl.v220
      rw [r14, r10, n1, k1, a2, a13, a10]
      rfl
  isplitl [H11]
  · iapply (at'_of_read c arg11 _ _ ?e11) $$ H11
    case e11 =>
      refine (sto_S1024x128 _ _ _ _ _).trans ?_
      delta trip.sl.H10_1 trip.sl.H11_1 trip.sl.H12_1 trip.sl.H12_2 trip.sl.H12_3 trip.sl.H14_1 trip.sl.H15_1 trip.sl.arg17 trip.sl.cst_68 trip.sl.cst_79 trip.sl.cst_86 trip.sl.cst_89 trip.sl.r trip.sl.v102 trip.sl.v103 trip.sl.v104 trip.sl.v106 trip.sl.v108 trip.sl.v111 trip.sl.v112 trip.sl.v114 trip.sl.v115 trip.sl.v117 trip.sl.v118 trip.sl.v119 trip.sl.v120 trip.sl.v121 trip.sl.v125 trip.sl.v127 trip.sl.v128 trip.sl.v129 trip.sl.v131 trip.sl.v132 trip.sl.v135 trip.sl.v136 trip.sl.v137 trip.sl.v138 trip.sl.v139 trip.sl.v140 trip.sl.v141 trip.sl.v142 trip.sl.v143 trip.sl.v145 trip.sl.v146 trip.sl.v147 trip.sl.v148 trip.sl.v149 trip.sl.v151 trip.sl.v152 trip.sl.v154 trip.sl.v155 trip.sl.v156 trip.sl.v157 trip.sl.v159 trip.sl.v160 trip.sl.v161 trip.sl.v163 trip.sl.v164 trip.sl.v167 trip.sl.v168 trip.sl.v170 trip.sl.v172 trip.sl.v175 trip.sl.v176 trip.sl.v179 trip.sl.v181 trip.sl.v182 trip.sl.v183 trip.sl.v184 trip.sl.v185 trip.sl.v187 trip.sl.v188 trip.sl.v189 trip.sl.v191 trip.sl.v192 trip.sl.v193 trip.sl.v195 trip.sl.v196 trip.sl.v197 trip.sl.v198 trip.sl.v199 trip.sl.v200 trip.sl.v201 trip.sl.v202 trip.sl.v203 trip.sl.v204 trip.sl.v205 trip.sl.v206 trip.sl.v208 trip.sl.v220
      rw [r14, r10, n1, k1, a2, a13, a10, r11, a11]
      rfl
  isplitl [H12]
  · iapply (at'_of_read c arg12 _ _ ?e12) $$ H12
    case e12 =>
      refine (sto_S1024x128 _ _ _ _ _).trans ?_
      delta trip.sl.H10_1 trip.sl.H11_1 trip.sl.H12_1 trip.sl.H12_2 trip.sl.H12_3 trip.sl.H14_1 trip.sl.H15_1 trip.sl.arg17 trip.sl.cst_68 trip.sl.cst_79 trip.sl.cst_86 trip.sl.cst_89 trip.sl.r trip.sl.v102 trip.sl.v103 trip.sl.v104 trip.sl.v106 trip.sl.v108 trip.sl.v111 trip.sl.v112 trip.sl.v114 trip.sl.v115 trip.sl.v117 trip.sl.v118 trip.sl.v119 trip.sl.v120 trip.sl.v121 trip.sl.v125 trip.sl.v127 trip.sl.v128 trip.sl.v129 trip.sl.v131 trip.sl.v132 trip.sl.v135 trip.sl.v136 trip.sl.v137 trip.sl.v138 trip.sl.v139 trip.sl.v140 trip.sl.v141 trip.sl.v142 trip.sl.v143 trip.sl.v145 trip.sl.v146 trip.sl.v147 trip.sl.v148 trip.sl.v149 trip.sl.v151 trip.sl.v152 trip.sl.v154 trip.sl.v155 trip.sl.v156 trip.sl.v157 trip.sl.v159 trip.sl.v160 trip.sl.v161 trip.sl.v163 trip.sl.v164 trip.sl.v167 trip.sl.v168 trip.sl.v170 trip.sl.v172 trip.sl.v175 trip.sl.v176 trip.sl.v179 trip.sl.v181 trip.sl.v182 trip.sl.v183 trip.sl.v184 trip.sl.v185 trip.sl.v187 trip.sl.v188 trip.sl.v189 trip.sl.v191 trip.sl.v192 trip.sl.v193 trip.sl.v195 trip.sl.v196 trip.sl.v197 trip.sl.v198 trip.sl.v199 trip.sl.v200 trip.sl.v201 trip.sl.v202 trip.sl.v203 trip.sl.v204 trip.sl.v205 trip.sl.v206 trip.sl.v208 trip.sl.v220
      rw [r14, r10, n1, k1, a2, a13, a10, r12, r12, r12, a12, a16, v2, v4, r15]
      rfl
  isplitl [H13]
  · iapply (at'_of_read c arg13 _ _ ?e13) $$ H13
    case e13 =>
      refine (sto_S1024x1024 _ _ _ _ _).trans ?_
      delta trip.sl.H10_1 trip.sl.H11_1 trip.sl.H12_1 trip.sl.H12_2 trip.sl.H12_3 trip.sl.H14_1 trip.sl.H15_1 trip.sl.arg17 trip.sl.cst_68 trip.sl.cst_79 trip.sl.cst_86 trip.sl.cst_89 trip.sl.r trip.sl.v102 trip.sl.v103 trip.sl.v104 trip.sl.v106 trip.sl.v108 trip.sl.v111 trip.sl.v112 trip.sl.v114 trip.sl.v115 trip.sl.v117 trip.sl.v118 trip.sl.v119 trip.sl.v120 trip.sl.v121 trip.sl.v125 trip.sl.v127 trip.sl.v128 trip.sl.v129 trip.sl.v131 trip.sl.v132 trip.sl.v135 trip.sl.v136 trip.sl.v137 trip.sl.v138 trip.sl.v139 trip.sl.v140 trip.sl.v141 trip.sl.v142 trip.sl.v143 trip.sl.v145 trip.sl.v146 trip.sl.v147 trip.sl.v148 trip.sl.v149 trip.sl.v151 trip.sl.v152 trip.sl.v154 trip.sl.v155 trip.sl.v156 trip.sl.v157 trip.sl.v159 trip.sl.v160 trip.sl.v161 trip.sl.v163 trip.sl.v164 trip.sl.v167 trip.sl.v168 trip.sl.v170 trip.sl.v172 trip.sl.v175 trip.sl.v176 trip.sl.v179 trip.sl.v181 trip.sl.v182 trip.sl.v183 trip.sl.v184 trip.sl.v185 trip.sl.v187 trip.sl.v188 trip.sl.v189 trip.sl.v191 trip.sl.v192 trip.sl.v193 trip.sl.v195 trip.sl.v196 trip.sl.v197 trip.sl.v198 trip.sl.v199 trip.sl.v200 trip.sl.v201 trip.sl.v202 trip.sl.v203 trip.sl.v204 trip.sl.v205 trip.sl.v206 trip.sl.v208 trip.sl.v220
      rw [n3, k3, a2]
      rfl
  isplitl [H14]
  · iexists _; iapply (at'_of_read c arg14 _ _ rfl) $$ H14
  isplitl [H15]
  · iexists _; iapply (at'_of_read c arg15 _ _ rfl) $$ H15
  iapply (at'_of_read c arg16 _ _ ?e16) $$ H16
  case e16 =>
    refine (sto_S1024x1024 _ _ _ _ _).trans ?_
    delta trip.sl.H10_1 trip.sl.H11_1 trip.sl.H12_1 trip.sl.H12_2 trip.sl.H12_3 trip.sl.H14_1 trip.sl.H15_1 trip.sl.arg17 trip.sl.cst_68 trip.sl.cst_79 trip.sl.cst_86 trip.sl.cst_89 trip.sl.r trip.sl.v102 trip.sl.v103 trip.sl.v104 trip.sl.v106 trip.sl.v108 trip.sl.v111 trip.sl.v112 trip.sl.v114 trip.sl.v115 trip.sl.v117 trip.sl.v118 trip.sl.v119 trip.sl.v120 trip.sl.v121 trip.sl.v125 trip.sl.v127 trip.sl.v128 trip.sl.v129 trip.sl.v131 trip.sl.v132 trip.sl.v135 trip.sl.v136 trip.sl.v137 trip.sl.v138 trip.sl.v139 trip.sl.v140 trip.sl.v141 trip.sl.v142 trip.sl.v143 trip.sl.v145 trip.sl.v146 trip.sl.v147 trip.sl.v148 trip.sl.v149 trip.sl.v151 trip.sl.v152 trip.sl.v154 trip.sl.v155 trip.sl.v156 trip.sl.v157 trip.sl.v159 trip.sl.v160 trip.sl.v161 trip.sl.v163 trip.sl.v164 trip.sl.v167 trip.sl.v168 trip.sl.v170 trip.sl.v172 trip.sl.v175 trip.sl.v176 trip.sl.v179 trip.sl.v181 trip.sl.v182 trip.sl.v183 trip.sl.v184 trip.sl.v185 trip.sl.v187 trip.sl.v188 trip.sl.v189 trip.sl.v191 trip.sl.v192 trip.sl.v193 trip.sl.v195 trip.sl.v196 trip.sl.v197 trip.sl.v198 trip.sl.v199 trip.sl.v200 trip.sl.v201 trip.sl.v202 trip.sl.v203 trip.sl.v204 trip.sl.v205 trip.sl.v206 trip.sl.v208 trip.sl.v220
    rw [r14, r10, n1, k1, a2, a13, a10]
    rfl

end Cert.AttnIdeal.Fwd
-- ==== Proof.Fwd.Tail.lean ====
/-
  After the first scores: the loop over pairs of key tiles, then the masked key tile where the number of the unmasked ones is even.
  And what follows: where it is odd, the one unmasked key tile left and the masked one; then the results.
-/
module

public import proofs.«01_k».proof.Proof.Fwd.Loop

@[expose] public section

set_option maxRecDepth 16384

noncomputable section

namespace Cert.AttnIdeal.Fwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the loop keeps: before trip `k` the point has taken in `2 k` key tiles, the scores of the next one are ready, and the
other scratch buffers hold anything. -/
def inv (c : Dev nD) (I : Inp F) (arg2 : Memref sig .tc .vmem S1024x256 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .vmem S1x1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x1024 .f32) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x1024 .bf16) (harg16 : arg16.IsWhole) (k : ℕ) (_ : Unit) : sProp 𝕄 :=
  iprop(at' c arg2 I.q ∗ at' c arg3 I.kn ∗ at' c arg4 I.v ∗ at' c arg5 I.kr
    ∗ at' c arg10 (run I (2 * k)).m ∗ at' c arg11 (run I (2 * k)).l ∗ at' c arg12 (run I (2 * k)).acc ∗ at' c arg13 (lg I (2 * k))
    ∗ (∃ x, at' c arg14 x) ∗ (∃ x, at' c arg15 x) ∗ at' c arg16 (run I (2 * k)).p)

/-- What the scratch buffers hold after the part that ends in the even case: everything taken in where the query tile's number is
even, all key tiles but the last two where it is odd. -/
def mid (c : Dev nD) (I : Inp F) (i : ℕ) (arg2 : Memref sig .tc .vmem S1024x256 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .vmem S1x1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x1024 .f32) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x1024 .bf16) (harg16 : arg16.IsWhole) : sProp 𝕄 :=
  if i % 2 = 0 then
    iprop(at' c arg2 I.q ∗ at' c arg3 I.kn ∗ at' c arg4 I.v ∗ at' c arg5 I.kr
      ∗ at' c arg10 (fin I i).m ∗ at' c arg11 (fin I i).l ∗ at' c arg12 (fin I i).acc
      ∗ (∃ x, at' c arg13 x) ∗ (∃ x, at' c arg14 x) ∗ (∃ x, at' c arg15 x) ∗ (∃ x, at' c arg16 x))
  else inv c I arg2 harg2 arg3 harg3 arg4 harg4 arg5 harg5 arg6 harg6 arg7 harg7 arg8 harg8 arg9 harg9 arg10 harg10 arg11 harg11 arg12 harg12 arg13 harg13 arg14 harg14 arg15 harg15 arg16 harg16 (i / 2) ()

set_option maxHeartbeats 1600000 in
/-- The loop over pairs of key tiles, and the masked key tile of an even query tile. -/
theorem evens (c : Dev nD) (I : Inp F) (i : grid0.Coords) (arg2 : Memref sig .tc .vmem S1024x256 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .vmem S1x1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x1024 .f32) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x1024 .bf16) (harg16 : arg16.IsWhole) (arg1 c2_i32 v30 c0_i32_17 : BitVec 32) :
    inv c I arg2 harg2 arg3 harg3 arg4 harg4 arg5 harg5 arg6 harg6 arg7 harg7 arg8 harg8 arg9 harg9 arg10 harg10 arg11 harg11 arg12 harg12 arg13 harg13 arg14 harg14 arg15 harg15 arg16 harg16 0 ()
    ⊢ wp frame (wpE (defs₀ (F := F)) Variants.none (c : Thread nD τ) none) Set.univ
        (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 c2_i32 v30 c0_i32_17)
        (fun _ => mid c I (i 1).val arg2 harg2 arg3 harg3 arg4 harg4 arg5 harg5 arg6 harg6 arg7 harg7 arg8 harg8 arg9 harg9 arg10 harg10 arg11 harg11 arg12 harg12 arg13 harg13 arg14 harg14 arg15 harg15 arg16 harg16) := by
  simp only [k0_part14_eq_skeleton]; unfold k0_part14_skel
  have ht2 := trips2 i
  iintro H
  sl_exec
  sl_for (inv c I arg2 harg2 arg3 harg3 arg4 harg4 arg5 harg5 arg6 harg6 arg7 harg7 arg8 harg8 arg9 harg9 arg10 harg10 arg11 harg11 arg12 harg12 arg13 harg13 arg14 harg14 arg15 harg15 arg16 harg16) $$ [H]
  case region =>
    intro k u
    unfold inv
    iintro ⟨H2, H3, H4, H5, H10, H11, H12, H13, ⟨%x14, H14⟩, ⟨%x15, H15⟩, H16⟩
    have e : run I (2 * (k.val + 1)) = step I (2 * k.val + 1) (step I (2 * k.val) (run I (2 * k.val))) := rfl
    rw [e, show 2 * (k.val + 1) = 2 * k.val + 2 by omega]
    iapply (trip c I i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 c2_i32 v30 c0_i32_17 k u (run I (2 * k.val)) x14 x15)
    iframe H2 H3 H4 H5 H10 H11 H12 H13 H14 H15 H16
  · iexact H
  iintro %u H
  sl_for (fun _ _ => inv c I arg2 harg2 arg3 harg3 arg4 harg4 arg5 harg5 arg6 harg6 arg7 harg7 arg8 harg8 arg9 harg9 arg10 harg10 arg11 harg11 arg12 harg12 arg13 harg13 arg14 harg14 arg15 harg15 arg16 harg16 (k0_t1_loop i).trips ()) $$ [H]
  case region => exact fun k _ => (k.cast ht2).elim0
  · iexact H
  iintro %u' H
  have hj := i_lt i
  have h1 := trips1 i
  unfold mid
  by_cases hc : k0_cond1 i = 1#1
  · have heven := (cond1 i).mp hc
    have hn : 2 * (k0_t1_loop i).trips = (i 1).val := by omega
    rw [if_pos heven]
    unfold inv
    rw [hn]
    icases H with ⟨H2, H3, H4, H5, H10, H11, H12, H13, ⟨%x14, H14⟩, ⟨%x15, H15⟩, H16⟩
    unfold fin fin'
    generalize run I (i 1).val = A
    sl_exec
    sl_step
    have a10 : ∀ inb, arg10.view.readAt (Elt F) (Rect.unit (s := S1024x128) ![0, 0] S1024x128.size inb).toLoadRect (arg10.view.rep (A.m)) = A.m := ld_S1024x128 _ _
    have a11 : ∀ inb, arg11.view.readAt (Elt F) (Rect.unit (s := S1024x128) ![0, 0] S1024x128.size inb).toLoadRect (arg11.view.rep (A.l)) = A.l := ld_S1024x128 _ _
    have a12 : ∀ inb, arg12.view.readAt (Elt F) (Rect.unit (s := S1024x128) ![0, 0] S1024x128.size inb).toLoadRect (arg12.view.rep (A.acc)) = A.acc := ld_S1024x128 _ _
    have a13 : ∀ inb, arg13.view.readAt (Elt F) (Rect.unit (s := S1024x1024) ![0, 0] S1024x1024.size inb).toLoadRect (arg13.view.rep (lg I (i 1).val)) = lg I (i 1).val := ld_S1024x1024 _ _
    have a16 : ∀ inb, arg16.view.readAt (Elt F) (Rect.unit (s := S1024x1024) ![0, 0] S1024x1024.size inb).toLoadRect (arg16.view.rep (A.p)) = A.p := ld_S1024x1024 _ _
    have r10 : ∀ inb inb' w L, arg10.view.readCov (⟨Rect.unit (s := S1024x128) ![0, 0] S1024x128.size inb', w⟩ :: L) (Rect.unit (s := S1024x128) ![0, 0] S1024x128.size inb).toLoadRect = w := cov_S1024x128 (F := F) _
    have r11 : ∀ inb inb' w L, arg11.view.readCov (⟨Rect.unit (s := S1024x128) ![0, 0] S1024x128.size inb', w⟩ :: L) (Rect.unit (s := S1024x128) ![0, 0] S1024x128.size inb).toLoadRect = w := cov_S1024x128 (F := F) _
    have r12 : ∀ inb inb' w L, arg12.view.readCov (⟨Rect.unit (s := S1024x128) ![0, 0] S1024x128.size inb', w⟩ :: L) (Rect.unit (s := S1024x128) ![0, 0] S1024x128.size inb).toLoadRect = w := cov_S1024x128 (F := F) _
    have r13 : ∀ inb inb' w L, arg13.view.readCov (⟨Rect.unit (s := S1024x1024) ![0, 0] S1024x1024.size inb', w⟩ :: L) (Rect.unit (s := S1024x1024) ![0, 0] S1024x1024.size inb).toLoadRect = w := cov_S1024x1024 (F := F) _
    have r15 : ∀ inb inb' w L, arg15.view.readCov (⟨Rect.unit (s := S1024x1024) ![0, 0] S1024x1024.size inb', w⟩ :: L) (Rect.unit (s := S1024x1024) ![0, 0] S1024x1024.size inb).toLoadRect = w := cov_S1024x1024 (F := F) _
    have r16 : ∀ inb inb' w L, arg16.view.readCov (⟨Rect.unit (s := S1024x1024) ![0, 0] S1024x1024.size inb', w⟩ :: L) (Rect.unit (s := S1024x1024) ![0, 0] S1024x1024.size inb).toLoadRect = w := cov_S1024x1024 (F := F) _
    have v9 : ∀ inb, arg4.view.readAt (Elt F) (Rect.unit (s := S8192x128) (k0_off9 i) S1024x128.size inb).toLoadRect (arg4.view.rep I.v) = tile I.v ((i 1).val - 1) := fun _ => View.readAt_rep_unit _ _ _ (off9 i) _
    have v10 : ∀ inb, arg4.view.readAt (Elt F) (Rect.unit (s := S8192x128) (k0_off10 i) S1024x128.size inb).toLoadRect (arg4.view.rep I.v) = tile I.v ((i 1).val) := fun _ => View.readAt_rep_unit _ _ _ (off10 i) _
    isplitl [H2]; · iexact H2
    isplitl [H3]; · iexact H3
    isplitl [H4]; · iexact H4
    isplitl [H5]; · iexact H5
    isplitl [H10]
    · iapply (at'_of_read c arg10 _ _ ?e10) $$ H10
      case e10 =>
        refine (sto_S1024x128 _ _ _ _ _).trans ?_
        delta evens.sl.H12_1 evens.sl.H12_2 evens.sl.H15_1 evens.sl.cst_69 evens.sl.r evens.sl.r_1 evens.sl.r_2 evens.sl.r_3 evens.sl.r_4 evens.sl.r_5 evens.sl.v102 evens.sl.v103 evens.sl.v104 evens.sl.v108 evens.sl.v110 evens.sl.v111 evens.sl.v112 evens.sl.v114 evens.sl.v115 evens.sl.v117 evens.sl.v118 evens.sl.v120 evens.sl.v121 evens.sl.v123 evens.sl.v124 evens.sl.v126 evens.sl.v127 evens.sl.v134 evens.sl.v135 evens.sl.v137 evens.sl.v140 evens.sl.v194 evens.sl.v206 evens.sl.v207 evens.sl.v31 evens.sl.v32 evens.sl.v33 evens.sl.v34 evens.sl.v35 evens.sl.v36 evens.sl.v37 evens.sl.v38 evens.sl.v39 evens.sl.v40 evens.sl.v41 evens.sl.v42 evens.sl.v43 evens.sl.v44 evens.sl.v45 evens.sl.v46 evens.sl.v47 evens.sl.v49 evens.sl.v50 evens.sl.v51
        rw [a13, a10]
        rfl
    isplitl [H11]
    · iapply (at'_of_read c arg11 _ _ ?e11) $$ H11
      case e11 =>
        refine (sto_S1024x128 _ _ _ _ _).trans ?_
        delta evens.sl.H12_1 evens.sl.H12_2 evens.sl.H15_1 evens.sl.cst_69 evens.sl.r evens.sl.r_1 evens.sl.r_2 evens.sl.r_3 evens.sl.r_4 evens.sl.r_5 evens.sl.v102 evens.sl.v103 evens.sl.v104 evens.sl.v108 evens.sl.v110 evens.sl.v111 evens.sl.v112 evens.sl.v114 evens.sl.v115 evens.sl.v117 evens.sl.v118 evens.sl.v120 evens.sl.v121 evens.sl.v123 evens.sl.v124 evens.sl.v126 evens.sl.v127 evens.sl.v134 evens.sl.v135 evens.sl.v137 evens.sl.v140 evens.sl.v194 evens.sl.v206 evens.sl.v207 evens.sl.v31 evens.sl.v32 evens.sl.v33 evens.sl.v34 evens.sl.v35 evens.sl.v36 evens.sl.v37 evens.sl.v38 evens.sl.v39 evens.sl.v40 evens.sl.v41 evens.sl.v42 evens.sl.v43 evens.sl.v44 evens.sl.v45 evens.sl.v46 evens.sl.v47 evens.sl.v49 evens.sl.v50 evens.sl.v51
        rw [a13, a10, a11]
        rfl
    isplitl [H12]
    · iapply (at'_of_read c arg12 _ _ ?e12) $$ H12
      case e12 =>
        refine (sto_S1024x128 _ _ _ _ _).trans ?_
        delta evens.sl.H12_1 evens.sl.H12_2 evens.sl.H15_1 evens.sl.cst_69 evens.sl.r evens.sl.r_1 evens.sl.r_2 evens.sl.r_3 evens.sl.r_4 evens.sl.r_5 evens.sl.v102 evens.sl.v103 evens.sl.v104 evens.sl.v108 evens.sl.v110 evens.sl.v111 evens.sl.v112 evens.sl.v114 evens.sl.v115 evens.sl.v117 evens.sl.v118 evens.sl.v120 evens.sl.v121 evens.sl.v123 evens.sl.v124 evens.sl.v126 evens.sl.v127 evens.sl.v134 evens.sl.v135 evens.sl.v137 evens.sl.v140 evens.sl.v194 evens.sl.v206 evens.sl.v207 evens.sl.v31 evens.sl.v32 evens.sl.v33 evens.sl.v34 evens.sl.v35 evens.sl.v36 evens.sl.v37 evens.sl.v38 evens.sl.v39 evens.sl.v40 evens.sl.v41 evens.sl.v42 evens.sl.v43 evens.sl.v44 evens.sl.v45 evens.sl.v46 evens.sl.v47 evens.sl.v49 evens.sl.v50 evens.sl.v51
        rw [r12, r12, a12, a16, v9, a13, a10, r15, v10]
        rfl
    isplitl [H13]; · iexists _; iexact H13
    isplitl [H14]; · iexists _; iexact H14
    isplitl [H15]; · iexists _; iapply (at'_of_read c arg15 _ _ rfl) $$ H15
    iexists _; iexact H16
  · have hodd : ¬ (i 1).val % 2 = 0 := fun h => hc ((cond1 i).mpr h)
    rw [if_neg hodd, show (i 1).val / 2 = (k0_t1_loop i).trips from h1.symm]
    sl_exec
    sl_step
    iexact H

set_option maxHeartbeats 1600000 in
/-- The last two key tiles of an odd query tile, and the results. -/
theorem odds (c : Dev nD) (I : Inp F) (i : grid0.Coords) (arg2 : Memref sig .tc .vmem S1024x256 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .vmem S1x1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x1024 .f32) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x1024 .bf16) (harg16 : arg16.IsWhole) (arg1 v66 : BitVec 32)
    (x7 : Vec F S1024x128 .f32) (x8 : Vec F S1024x128 .bf16) (x9 : Vec F S1x1024x128 .f32) :
    iprop(mid c I (i 1).val arg2 harg2 arg3 harg3 arg4 harg4 arg5 harg5 arg6 harg6 arg7 harg7 arg8 harg8 arg9 harg9 arg10 harg10 arg11 harg11 arg12 harg12 arg13 harg13 arg14 harg14 arg15 harg15 arg16 harg16 ∗ at' c arg6 I.g ∗ at' c arg7 x7 ∗ at' c arg8 x8 ∗ at' c arg9 x9)
    ⊢ wp frame (wpE (defs₀ (F := F)) Variants.none (c : Thread nD τ) none) Set.univ
        (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v66)
        (fun r => iprop(⌜r.1 = k0_pay84 (fin I (i 1).val).l (fin I (i 1).val).m⌝ ∗ at' c arg2 I.q ∗ at' c arg3 I.kn ∗ at' c arg4 I.v ∗ at' c arg5 I.kr ∗ at' c arg6 I.g
          ∗ at' c arg7 (outO (fin I (i 1).val)) ∗ at' c arg8 (outA (fin I (i 1).val) I.g) ∗ at' c arg9 x9
          ∗ (∃ x, at' c arg10 x) ∗ (∃ x, at' c arg11 x) ∗ (∃ x, at' c arg12 x)
          ∗ (∃ x, at' c arg13 x) ∗ (∃ x, at' c arg14 x) ∗ (∃ x, at' c arg15 x) ∗ (∃ x, at' c arg16 x))) := by
  simp only [k0_part15_eq_skeleton]; unfold k0_part15_skel
  have hj := i_lt i
  unfold mid
  by_cases hc : k0_cond2 i = 1#1
  · have hodd := (cond2 i).mp hc
    have hn : 2 * ((i 1).val / 2) = (i 1).val - 1 := by omega
    rw [if_neg (by omega)]
    unfold inv
    rw [hn]
    have hrun : run I (i 1).val = step I ((i 1).val - 1) (run I ((i 1).val - 1)) := by
      conv_lhs => rw [show (i 1).val = (i 1).val - 1 + 1 by omega]
      rfl
    unfold fin fin'
    rw [hrun]
    generalize run I ((i 1).val - 1) = A
    iintro ⟨⟨H2, H3, H4, H5, H10, H11, H12, H13, ⟨%x14, H14⟩, ⟨%x15, H15⟩, H16⟩, H6, H7, H8, H9⟩
    sl_exec
    sl_step
    have a2 : ∀ inb, arg2.view.readAt (Elt F) (Rect.unit (s := S1024x256) ![0, 0] S1024x256.size inb).toLoadRect (arg2.view.rep (I.q)) = I.q := ld_S1024x256 _ _
    have a6 : ∀ inb, arg6.view.readAt (Elt F) (Rect.unit (s := S1024x128) ![0, 0] S1024x128.size inb).toLoadRect (arg6.view.rep (I.g)) = I.g := ld_S1024x128 _ _
    have a10 : ∀ inb, arg10.view.readAt (Elt F) (Rect.unit (s := S1024x128) ![0, 0] S1024x128.size inb).toLoadRect (arg10.view.rep (A.m)) = A.m := ld_S1024x128 _ _
    have a11 : ∀ inb, arg11.view.readAt (Elt F) (Rect.unit (s := S1024x128) ![0, 0] S1024x128.size inb).toLoadRect (arg11.view.rep (A.l)) = A.l := ld_S1024x128 _ _
    have a12 : ∀ inb, arg12.view.readAt (Elt F) (Rect.unit (s := S1024x128) ![0, 0] S1024x128.size inb).toLoadRect (arg12.view.rep (A.acc)) = A.acc := ld_S1024x128 _ _
    have a13 : ∀ inb, arg13.view.readAt (Elt F) (Rect.unit (s := S1024x1024) ![0, 0] S1024x1024.size inb).toLoadRect (arg13.view.rep (lg I ((i 1).val - 1))) = lg I ((i 1).val - 1) := ld_S1024x1024 _ _
    have a16 : ∀ inb, arg16.view.readAt (Elt F) (Rect.unit (s := S1024x1024) ![0, 0] S1024x1024.size inb).toLoadRect (arg16.view.rep (A.p)) = A.p := ld_S1024x1024 _ _
    have r10 : ∀ inb inb' w L, arg10.view.readCov (⟨Rect.unit (s := S1024x128) ![0, 0] S1024x128.size inb', w⟩ :: L) (Rect.unit (s := S1024x128) ![0, 0] S1024x128.size inb).toLoadRect = w := cov_S1024x128 (F := F) _
    have r11 : ∀ inb inb' w L, arg11.view.readCov (⟨Rect.unit (s := S1024x128) ![0, 0] S1024x128.size inb', w⟩ :: L) (Rect.unit (s := S1024x128) ![0, 0] S1024x128.size inb).toLoadRect = w := cov_S1024x128 (F := F) _
    have r12 : ∀ inb inb' w L, arg12.view.readCov (⟨Rect.unit (s := S1024x128) ![0, 0] S1024x128.size inb', w⟩ :: L) (Rect.unit (s := S1024x128) ![0, 0] S1024x128.size inb).toLoadRect = w := cov_S1024x128 (F := F) _
    have r13 : ∀ inb inb' w L, arg13.view.readCov (⟨Rect.unit (s := S1024x1024) ![0, 0] S1024x1024.size inb', w⟩ :: L) (Rect.unit (s := S1024x1024) ![0, 0] S1024x1024.size inb).toLoadRect = w := cov_S1024x1024 (F := F) _
    have r14 : ∀ inb inb' w L, arg14.view.readCov (⟨Rect.unit (s := S1024x1024) ![0, 0] S1024x1024.size inb', w⟩ :: L) (Rect.unit (s := S1024x1024) ![0, 0] S1024x1024.size inb).toLoadRect = w := cov_S1024x1024 (F := F) _
    have r15 : ∀ inb inb' w L, arg15.view.readCov (⟨Rect.unit (s := S1024x1024) ![0, 0] S1024x1024.size inb', w⟩ :: L) (Rect.unit (s := S1024x1024) ![0, 0] S1024x1024.size inb).toLoadRect = w := cov_S1024x1024 (F := F) _
    have r16 : ∀ inb inb' w L, arg16.view.readCov (⟨Rect.unit (s := S1024x1024) ![0, 0] S1024x1024.size inb', w⟩ :: L) (Rect.unit (s := S1024x1024) ![0, 0] S1024x1024.size inb).toLoadRect = w := cov_S1024x1024 (F := F) _
    have n11 : ∀ inb, arg3.view.readAt (Elt F) (Rect.unit (s := S8192x128) (k0_off11 i) S1024x128.size inb).toLoadRect (arg3.view.rep I.kn) = tile I.kn ((i 1).val) := fun _ => View.readAt_rep_unit _ _ _ (off11 i) _
    have k11 : ∀ inb, arg5.view.readAt (Elt F) (Rect.unit (s := S8192x128) (k0_off11 i) S1024x128.size inb).toLoadRect (arg5.view.rep I.kr) = tile I.kr ((i 1).val) := fun _ => View.readAt_rep_unit _ _ _ (off11 i) _
    have v12 : ∀ inb, arg4.view.readAt (Elt F) (Rect.unit (s := S8192x128) (k0_off12 i) S1024x128.size inb).toLoadRect (arg4.view.rep I.v) = tile I.v ((i 1).val - 1 - 1) := fun _ => View.readAt_rep_unit _ _ _ (off12 i) _
    have v13 : ∀ inb, arg4.view.readAt (Elt F) (Rect.unit (s := S8192x128) (k0_off13 i) S1024x128.size inb).toLoadRect (arg4.view.rep I.v) = tile I.v ((i 1).val - 1) := fun _ => View.readAt_rep_unit _ _ _ (off13 i) _
    have v14 : ∀ inb, arg4.view.readAt (Elt F) (Rect.unit (s := S8192x128) (k0_off14 i) S1024x128.size inb).toLoadRect (arg4.view.rep I.v) = tile I.v ((i 1).val) := fun _ => View.readAt_rep_unit _ _ _ (off14 i) _
    isplitr
    · ipureintro
      delta odds.sl.H10_1 odds.sl.H10_2 odds.sl.H11_1 odds.sl.H11_2 odds.sl.H12_1 odds.sl.H12_2 odds.sl.H12_3 odds.sl.H12_4 odds.sl.H12_5 odds.sl.H14_1 odds.sl.H15_1 odds.sl.H16_1 odds.sl.cst_68 odds.sl.cst_79 odds.sl.cst_86 odds.sl.cst_89 odds.sl.r odds.sl.r_1 odds.sl.r_2 odds.sl.r_3 odds.sl.r_4 odds.sl.v102 odds.sl.v103 odds.sl.v104 odds.sl.v106 odds.sl.v108 odds.sl.v111 odds.sl.v112 odds.sl.v114 odds.sl.v115 odds.sl.v117 odds.sl.v118 odds.sl.v119 odds.sl.v120 odds.sl.v121 odds.sl.v125 odds.sl.v127 odds.sl.v128 odds.sl.v129 odds.sl.v131 odds.sl.v132 odds.sl.v135 odds.sl.v136 odds.sl.v137 odds.sl.v138 odds.sl.v139 odds.sl.v140 odds.sl.v141 odds.sl.v142 odds.sl.v143 odds.sl.v145 odds.sl.v146 odds.sl.v147 odds.sl.v148 odds.sl.v149 odds.sl.v151 odds.sl.v152 odds.sl.v154 odds.sl.v155 odds.sl.v156 odds.sl.v157 odds.sl.v159 odds.sl.v160 odds.sl.v161 odds.sl.v163 odds.sl.v164 odds.sl.v166 odds.sl.v167 odds.sl.v169 odds.sl.v170 odds.sl.v171 odds.sl.v173 odds.sl.v174 odds.sl.v175 odds.sl.v177 odds.sl.v178 odds.sl.v179 odds.sl.v180 odds.sl.v181 odds.sl.v183 odds.sl.v184 odds.sl.v186 odds.sl.v187 odds.sl.v189 odds.sl.v190 odds.sl.v197 odds.sl.v198 odds.sl.v200 odds.sl.v203 odds.sl.v206 odds.sl.v207 odds.sl.v212 odds.sl.v235 odds.sl.v245 odds.sl.v257 odds.sl.v269 odds.sl.v270 odds.sl.v78 odds.sl.v79 odds.sl.v94
      rw [r11, r11, r10, r10, r14, n11, k11, a2, a13, a10, a11]
      rfl
    isplitl [H2]; · iexact H2
    isplitl [H3]; · iexact H3
    isplitl [H4]; · iexact H4
    isplitl [H5]; · iexact H5
    isplitl [H6]; · iexact H6
    isplitl [H7]
    · iapply (at'_of_read c arg7 _ _ ?e7) $$ H7
      case e7 =>
        refine (sto_S1024x128 _ _ _ _ _).trans ?_
        delta odds.sl.H10_1 odds.sl.H10_2 odds.sl.H11_1 odds.sl.H11_2 odds.sl.H12_1 odds.sl.H12_2 odds.sl.H12_3 odds.sl.H12_4 odds.sl.H12_5 odds.sl.H14_1 odds.sl.H15_1 odds.sl.H16_1 odds.sl.cst_68 odds.sl.cst_79 odds.sl.cst_86 odds.sl.cst_89 odds.sl.r odds.sl.r_1 odds.sl.r_2 odds.sl.r_3 odds.sl.r_4 odds.sl.v102 odds.sl.v103 odds.sl.v104 odds.sl.v106 odds.sl.v108 odds.sl.v111 odds.sl.v112 odds.sl.v114 odds.sl.v115 odds.sl.v117 odds.sl.v118 odds.sl.v119 odds.sl.v120 odds.sl.v121 odds.sl.v125 odds.sl.v127 odds.sl.v128 odds.sl.v129 odds.sl.v131 odds.sl.v132 odds.sl.v135 odds.sl.v136 odds.sl.v137 odds.sl.v138 odds.sl.v139 odds.sl.v140 odds.sl.v141 odds.sl.v142 odds.sl.v143 odds.sl.v145 odds.sl.v146 odds.sl.v147 odds.sl.v148 odds.sl.v149 odds.sl.v151 odds.sl.v152 odds.sl.v154 odds.sl.v155 odds.sl.v156 odds.sl.v157 odds.sl.v159 odds.sl.v160 odds.sl.v161 odds.sl.v163 odds.sl.v164 odds.sl.v166 odds.sl.v167 odds.sl.v169 odds.sl.v170 odds.sl.v171 odds.sl.v173 odds.sl.v174 odds.sl.v175 odds.sl.v177 odds.sl.v178 odds.sl.v179 odds.sl.v180 odds.sl.v181 odds.sl.v183 odds.sl.v184 odds.sl.v186 odds.sl.v187 odds.sl.v189 odds.sl.v190 odds.sl.v197 odds.sl.v198 odds.sl.v200 odds.sl.v203 odds.sl.v206 odds.sl.v207 odds.sl.v212 odds.sl.v235 odds.sl.v245 odds.sl.v257 odds.sl.v269 odds.sl.v270 odds.sl.v78 odds.sl.v79 odds.sl.v94
        rw [r11, r11, r12, r12, r12, r12, r12, r10, r14, r15, r16, n11, k11, a2, a13, a10, a11, a12, a16, v12, v13, v14]
        rfl
    isplitl [H8]
    · iapply (at'_of_read c arg8 _ _ ?e8) $$ H8
      case e8 =>
        refine (sto_S1024x128 _ _ _ _ _).trans ?_
        delta odds.sl.H10_1 odds.sl.H10_2 odds.sl.H11_1 odds.sl.H11_2 odds.sl.H12_1 odds.sl.H12_2 odds.sl.H12_3 odds.sl.H12_4 odds.sl.H12_5 odds.sl.H14_1 odds.sl.H15_1 odds.sl.H16_1 odds.sl.cst_68 odds.sl.cst_79 odds.sl.cst_86 odds.sl.cst_89 odds.sl.r odds.sl.r_1 odds.sl.r_2 odds.sl.r_3 odds.sl.r_4 odds.sl.v102 odds.sl.v103 odds.sl.v104 odds.sl.v106 odds.sl.v108 odds.sl.v111 odds.sl.v112 odds.sl.v114 odds.sl.v115 odds.sl.v117 odds.sl.v118 odds.sl.v119 odds.sl.v120 odds.sl.v121 odds.sl.v125 odds.sl.v127 odds.sl.v128 odds.sl.v129 odds.sl.v131 odds.sl.v132 odds.sl.v135 odds.sl.v136 odds.sl.v137 odds.sl.v138 odds.sl.v139 odds.sl.v140 odds.sl.v141 odds.sl.v142 odds.sl.v143 odds.sl.v145 odds.sl.v146 odds.sl.v147 odds.sl.v148 odds.sl.v149 odds.sl.v151 odds.sl.v152 odds.sl.v154 odds.sl.v155 odds.sl.v156 odds.sl.v157 odds.sl.v159 odds.sl.v160 odds.sl.v161 odds.sl.v163 odds.sl.v164 odds.sl.v166 odds.sl.v167 odds.sl.v169 odds.sl.v170 odds.sl.v171 odds.sl.v173 odds.sl.v174 odds.sl.v175 odds.sl.v177 odds.sl.v178 odds.sl.v179 odds.sl.v180 odds.sl.v181 odds.sl.v183 odds.sl.v184 odds.sl.v186 odds.sl.v187 odds.sl.v189 odds.sl.v190 odds.sl.v197 odds.sl.v198 odds.sl.v200 odds.sl.v203 odds.sl.v206 odds.sl.v207 odds.sl.v212 odds.sl.v235 odds.sl.v245 odds.sl.v257 odds.sl.v269 odds.sl.v270 odds.sl.v78 odds.sl.v79 odds.sl.v94
        rw [r11, r11, r12, r12, r12, r12, r12, r10, r14, r15, r16, n11, k11, a2, a13, a10, a11, a12, a16, v12, v13, v14, a6]
        rfl
    isplitl [H9]; · iexact H9
    isplitl [H10]; · iexists _; iapply (at'_of_read c arg10 _ _ rfl) $$ H10
    isplitl [H11]; · iexists _; iapply (at'_of_read c arg11 _ _ rfl) $$ H11
    isplitl [H12]; · iexists _; iapply (at'_of_read c arg12 _ _ rfl) $$ H12
    isplitl [H13]; · iexists _; iexact H13
    isplitl [H14]; · iexists _; iapply (at'_of_read c arg14 _ _ rfl) $$ H14
    isplitl [H15]; · iexists _; iapply (at'_of_read c arg15 _ _ rfl) $$ H15
    iexists _; iapply (at'_of_read c arg16 _ _ rfl) $$ H16
  · have heven : (i 1).val % 2 = 0 := by
      have h : ¬ (i 1).val % 2 = 1 := fun h => hc ((cond2 i).mpr h)
      omega
    rw [if_pos heven]
    generalize fin I (i 1).val = A
    iintro ⟨⟨H2, H3, H4, H5, H10, H11, H12, ⟨%x13, H13⟩, ⟨%x14, H14⟩, ⟨%x15, H15⟩, ⟨%x16, H16⟩⟩, H6, H7, H8, H9⟩
    sl_exec
    sl_step
    have a6 : ∀ inb, arg6.view.readAt (Elt F) (Rect.unit (s := S1024x128) ![0, 0] S1024x128.size inb).toLoadRect (arg6.view.rep (I.g)) = I.g := ld_S1024x128 _ _
    have a10 : ∀ inb, arg10.view.readAt (Elt F) (Rect.unit (s := S1024x128) ![0, 0] S1024x128.size inb).toLoadRect (arg10.view.rep (A.m)) = A.m := ld_S1024x128 _ _
    have a11 : ∀ inb, arg11.view.readAt (Elt F) (Rect.unit (s := S1024x128) ![0, 0] S1024x128.size inb).toLoadRect (arg11.view.rep (A.l)) = A.l := ld_S1024x128 _ _
    have a12 : ∀ inb, arg12.view.readAt (Elt F) (Rect.unit (s := S1024x128) ![0, 0] S1024x128.size inb).toLoadRect (arg12.view.rep (A.acc)) = A.acc := ld_S1024x128 _ _
    isplitr
    · ipureintro
      rw [a11, a10]
    isplitl [H2]; · iexact H2
    isplitl [H3]; · iexact H3
    isplitl [H4]; · iexact H4
    isplitl [H5]; · iexact H5
    isplitl [H6]; · iexact H6
    isplitl [H7]
    · iapply (at'_of_read c arg7 _ _ ?e7) $$ H7
      case e7 =>
        refine (sto_S1024x128 _ _ _ _ _).trans ?_
        rw [a11, a12]
        rfl
    isplitl [H8]
    · iapply (at'_of_read c arg8 _ _ ?e8) $$ H8
      case e8 =>
        refine (sto_S1024x128 _ _ _ _ _).trans ?_
        rw [a11, a12, a6]
        rfl
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.AttnIdeal.Fwd
-- ==== Proof.Fwd.Body.lean ====
/-
  One grid point, run: the first scores, the key tiles, and what the point leaves in its result blocks.
-/
module

public import proofs.«01_k».proof.Proof.Fwd.Tail

@[expose] public section

set_option maxRecDepth 16384

noncomputable section

namespace Cert.AttnIdeal.Fwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first key tile, at the beginning of the keys. -/
theorem off0 : (![0, 0] : Fin 2 → ℕ) = ![1024 * min 0 7, 0] := rfl

/-- After a store of all of the block of logarithms it holds what was stored. -/
theorem sto9 {e : EltTy} (m : Memref sig .tc .vmem S1x1024x128 e) (f) (inb) (w : Vec F S1x1024x128 e) (L) :
    m.view.read (Elt F) (m.view.writes (Elt F) f (⟨Rect.unit (s := S1x1024x128) ![0, 0, 0] S1x1024x128.size inb, w⟩ :: L)) = w := View.read_writes_full _ _ _ _ _

set_option maxHeartbeats 1600000 in
/-- A grid point, run: it writes its three result blocks and leaves anything in the scratch buffers. -/
theorem point (c : Dev nD) (I : Inp F) (i : grid0.Coords) (arg2 : Memref sig .tc .vmem S1024x256 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .vmem S1x1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x1024 .f32) (harg13 : arg13.IsWhole) (arg14 : Memref sig .tc .vmem S1024x1024 .f32) (harg14 : arg14.IsWhole) (arg15 : Memref sig .tc .vmem S1024x1024 .bf16) (harg15 : arg15.IsWhole) (arg16 : Memref sig .tc .vmem S1024x1024 .bf16) (harg16 : arg16.IsWhole)
    (x7 : Vec F S1024x128 .f32) (x8 : Vec F S1024x128 .bf16) (x9 : Vec F S1x1024x128 .f32) (x10 x11 x12 : Vec F S1024x128 .f32)
    (x13 x14 : Vec F S1024x1024 .f32) (x15 x16 : Vec F S1024x1024 .bf16) :
    (iprop(at' c arg2 I.q ∗ at' c arg3 I.kn ∗ at' c arg4 I.v ∗ at' c arg5 I.kr ∗ at' c arg6 I.g
      ∗ at' c arg7 x7 ∗ at' c arg8 x8 ∗ at' c arg9 x9 ∗ at' c arg10 x10 ∗ at' c arg11 x11 ∗ at' c arg12 x12 ∗ at' c arg13 x13
      ∗ at' c arg14 x14 ∗ at' c arg15 x15 ∗ at' c arg16 x16) : sProp 𝕄)
    ⊢ wp frame (wpE (defs₀ (F := F)) Variants.none (c : Thread nD τ) none) Set.univ
        (cc0_attn_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(at' c arg2 I.q ∗ at' c arg3 I.kn ∗ at' c arg4 I.v ∗ at' c arg5 I.kr ∗ at' c arg6 I.g
          ∗ at' c arg7 (outO (fin I (i 1).val)) ∗ at' c arg8 (outA (fin I (i 1).val) I.g) ∗ at' c arg9 (outL (fin I (i 1).val))
          ∗ (∃ x, at' c arg10 x) ∗ (∃ x, at' c arg11 x) ∗ (∃ x, at' c arg12 x)
          ∗ (∃ x, at' c arg13 x) ∗ (∃ x, at' c arg14 x) ∗ (∃ x, at' c arg15 x) ∗ (∃ x, at' c arg16 x))) := by
  simp only [cc0_attn_fwd_eq_skeleton]
  unfold cc0_attn_fwd_skel
  iintro ⟨H2, H3, H4, H5, H6, H7, H8, H9, H10, H11, H12, H13, H14, H15, H16⟩
  set_option sl_exec.stopBefore "k0_part14" in sl_exec
  have a2 : ∀ inb, arg2.view.readAt (Elt F) (Rect.unit (s := S1024x256) ![0, 0] S1024x256.size inb).toLoadRect (arg2.view.rep (I.q)) = I.q := ld_S1024x256 _ _
  have n0 : ∀ inb, arg3.view.readAt (Elt F) (Rect.unit (s := S8192x128) ![0, 0] S1024x128.size inb).toLoadRect (arg3.view.rep I.kn) = tile I.kn 0 := fun _ => View.readAt_rep_unit _ _ _ off0 _
  have k0 : ∀ inb, arg5.view.readAt (Elt F) (Rect.unit (s := S8192x128) ![0, 0] S1024x128.size inb).toLoadRect (arg5.view.rep I.kr) = tile I.kr 0 := fun _ => View.readAt_rep_unit _ _ _ off0 _
  dsimp only
  rw [wp_bind]
  iapply (wp_wand_r _ _ _)
  isplitl [H2 H3 H4 H5 H10 H11 H12 H13 H14 H15 H16]
  · iapply (evens c I i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _)
    unfold inv
    rw [show run I (2 * 0) = start from rfl]
    isplitl [H2]; · iexact H2
    isplitl [H3]; · iexact H3
    isplitl [H4]; · iexact H4
    isplitl [H5]; · iexact H5
    isplitl [H10]; · iapply (at'_of_read c arg10 _ _ (sto_S1024x128 _ _ _ _ _)) $$ H10
    isplitl [H11]; · iapply (at'_of_read c arg11 _ _ (sto_S1024x128 _ _ _ _ _)) $$ H11
    isplitl [H12]; · iapply (at'_of_read c arg12 _ _ (sto_S1024x128 _ _ _ _ _)) $$ H12
    isplitl [H13]
    · iapply (at'_of_read c arg13 _ _ ?e13) $$ H13
      case e13 =>
        refine (sto_S1024x1024 _ _ _ _ _).trans ?_
        rw [a2, n0, k0]
        rfl
    isplitl [H14]; · iexists _; iexact H14
    isplitl [H15]; · iexists _; iexact H15
    iapply (at'_of_read c arg16 _ _ (sto_S1024x1024 _ _ _ _ _)) $$ H16
  iintro %r H
  dsimp only
  rw [wp_bind]
  iapply (wp_wand_r _ _ _)
  isplitl [H H6 H7 H8 H9]
  · iapply (odds c I i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ x7 x8 x9)
    iframe H H6 H7 H8 H9
  iintro %r' ⟨%hr, H2, H3, H4, H5, H6, H7, H8, H9, H⟩
  sl_exec
  sl_step
  iframe H2 H3 H4 H5 H6 H7 H8
  isplitl [H9]
  · iapply (at'_of_read c arg9 _ _ ?e9) $$ H9
    case e9 =>
      refine (sto9 _ _ _ _ _).trans ?_
      rw [hr]
      rfl
  iexact H

end Cert.AttnIdeal.Fwd
-- ==== Proof.Fwd.Run.lean ====
/-
  The whole call, run: what every staging buffer holds after every grid point, the body at every point, and the two facts the
  run gives: the arguments are unchanged with no signal left over, and each result array is what the points left in its blocks.
-/
module

public import proofs.«01_k».proof.Proof.Fwd.Body
public import proofs.«01_k».proof.Proof.Gen.AttnIdeal.Frame

@[expose] public section

set_option maxRecDepth 16384

noncomputable section

namespace Cert.AttnIdeal.Fwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### What the points leave -/

/-- The blocks point `t` reads. -/
def inp (c : Dev nD) (t : Fin cfg0.N) : Inp F := ⟨iblk m c 0 t, iblk m c 1 t, iblk m c 2 t, iblk m c 3 t, iblk m c 4 t⟩

/-- What point `t` ends with. -/
def accAt (c : Dev nD) (t : Fin cfg0.N) : Acc F := fin (inp m c t) (grid0.coords t 1).val

/-- The proof data: the arrays as the call finds them, inputs left in place, the results' blocks as the points leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outO (accAt m c t)
    | ⟨6, _⟩ => outA (accAt m c t) (inp m c t).g
    | ⟨7, _⟩ => outL (accAt m c t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outO (accAt m c t) := by dsimp only [dats]
theorem after6 (c : Dev nD) (t : Fin cfg0.N) : (dats m 0 c).after 6 t = outA (accAt m c t) (inp m c t).g := by dsimp only [dats]
theorem after7 (c : Dev nD) (t : Fin cfg0.N) : (dats m 0 c).after 7 t = outL (accAt m c t) := by dsimp only [dats]
theorem before0 (c : Dev nD) (t : Fin cfg0.N) (d) : (dats m 0 c).before 0 t d = (inp m c t).q := before0_0_of m (dats m 0 c) (A_eq m c 0) (after0 m c) t d
theorem before1 (c : Dev nD) (t : Fin cfg0.N) (d) : (dats m 0 c).before 1 t d = (inp m c t).kn := before0_1_of m (dats m 0 c) (A_eq m c 1) (after1 m c) t d
theorem before2 (c : Dev nD) (t : Fin cfg0.N) (d) : (dats m 0 c).before 2 t d = (inp m c t).v := before0_2_of m (dats m 0 c) (A_eq m c 2) (after2 m c) t d
theorem before3 (c : Dev nD) (t : Fin cfg0.N) (d) : (dats m 0 c).before 3 t d = (inp m c t).kr := before0_3_of m (dats m 0 c) (A_eq m c 3) (after3 m c) t d
theorem before4 (c : Dev nD) (t : Fin cfg0.N) (d) : (dats m 0 c).before 4 t d = (inp m c t).g := before0_4_of m (dats m 0 c) (A_eq m c 4) (after4 m c) t d

/-! ### The body at a point -/

/-- A memref owned with contents `x` is held with them, -/
theorem at'_of_owns (c : Dev nD) {sp : Space} {s : Shape} {e : EltTy} (a : Memref sig .tc sp s e) (x y : s.Idx → Elt F e) (h : x = y) :
    (owns (c : Thread nD τ) a fullShare x : sProp 𝕄) ⊢ at' c a y := by
  subst h
  unfold owns
  iintro ⟨%f, %hf, H⟩
  iapply (at'_of_read c a f x hf)
  iexact H

/-- and back. -/
theorem owns_of_at' (c : Dev nD) {sp : Space} {s : Shape} {e : EltTy} (a : Memref sig .tc sp s e) (x : s.Idx → Elt F e) :
    (at' c a x : sProp 𝕄) ⊢ owns (c : Thread nD τ) a fullShare x := by
  unfold owns
  iintro H
  iexists _
  isplitr
  swap; · iexact H
  ipureintro; exact View.read_rep _ _

/-- A scratch buffer held at some contents, -/
theorem at'_of_buf (c : Dev nD) (b : Ref sig .tc) :
    (iprop(∃ f : Buf (Elt F) ((c : Thread nD τ).loc b), ((c : Thread nD τ).loc b) ↦{fullShare} f) : sProp 𝕄) ⊢ iprop(∃ x, at' c (Memref.whole b) x) := by
  iintro ⟨%f, H⟩
  iexists ((Memref.whole b).view.read (Elt F) f)
  iapply (at'_of_read c (Memref.whole b) f _ rfl)
  rw [show (Memref.whole b : Memref sig .tc _ _ _).view.set = Finset.univ from View.set_whole b]
  iexact H

/-- and back. -/
theorem buf_of_at' (c : Dev nD) (b : Ref sig .tc) :
    (iprop(∃ x, at' c (Memref.whole b) x) : sProp 𝕄) ⊢ iprop(∃ f : Buf (Elt F) ((c : Thread nD τ).loc b), ((c : Thread nD τ).loc b) ↦{fullShare} f) := by
  unfold at'
  rw [show (Memref.whole b : Memref sig .tc _ _ _).view.set = Finset.univ from View.set_whole b]
  iintro ⟨%x, H⟩
  iexists ((Memref.whole b).view.rep x)
  iexact H

/-- What the body takes at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
/-- The body at point `t`. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl, show (dats m 0 c).Φ t.castSucc = Pipeline.ΦA spec0 c from rfl,
    after0, after1, after2, after3, after4, after5, after6, after7]
  unfold Pipeline.ΦA
  rw [scopedRest0_eq]
  unfold Dat.owesAt Pipeline.owesWithin
  rw [show (dats m 0 c).owed t.castSucc = 0 from rfl, show (dats m 0 c).owed t.succ = 0 from rfl]
  iintro ⟨⟨⟨S0, S1, S2, S3, S4, S5, S6⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  ihave ⟨%y0, S0⟩ := (at'_of_buf c cc0_scratch0) $$ S0
  ihave ⟨%y1, S1⟩ := (at'_of_buf c cc0_scratch1) $$ S1
  ihave ⟨%y2, S2⟩ := (at'_of_buf c cc0_scratch2) $$ S2
  ihave ⟨%y3, S3⟩ := (at'_of_buf c cc0_scratch3) $$ S3
  ihave ⟨%y4, S4⟩ := (at'_of_buf c cc0_scratch4) $$ S4
  ihave ⟨%y5, S5⟩ := (at'_of_buf c cc0_scratch5) $$ S5
  ihave ⟨%y6, S6⟩ := (at'_of_buf c cc0_scratch6) $$ S6
  iapply (wp_wand_r _ _ _)
  isplitl [H0 H1 H2 H3 H4 H5 H6 H7 S0 S1 S2 S3 S4 S5 S6]
  · iapply (point c (inp m c t) (grid0.coords t) _ _ _ _ _ _ _ _ _ _ _ _ _ _ _ _ _ _ _ _ _ _ _ _ _ _ _ _ _ _ ((dats m 0 c).before 5 t d5) ((dats m 0 c).before 6 t d6) ((dats m 0 c).before 7 t d7) y0 y1 y2 y3 y4 y5 y6)
    isplitl [H0]; · iapply (at'_of_owns c _ _ _ (before0 m c t d0)); iexact H0
    isplitl [H1]; · iapply (at'_of_owns c _ _ _ (before1 m c t d1)); iexact H1
    isplitl [H2]; · iapply (at'_of_owns c _ _ _ (before2 m c t d2)); iexact H2
    isplitl [H3]; · iapply (at'_of_owns c _ _ _ (before3 m c t d3)); iexact H3
    isplitl [H4]; · iapply (at'_of_owns c _ _ _ (before4 m c t d4)); iexact H4
    isplitl [H5]; · iapply (at'_of_owns c _ _ _ rfl); iexact H5
    isplitl [H6]; · iapply (at'_of_owns c _ _ _ rfl); iexact H6
    isplitl [H7]; · iapply (at'_of_owns c _ _ _ rfl); iexact H7
    isplitl [S0]; · iexact S0
    isplitl [S1]; · iexact S1
    isplitl [S2]; · iexact S2
    isplitl [S3]; · iexact S3
    isplitl [S4]; · iexact S4
    isplitl [S5]; · iexact S5
    iexact S6
  iintro %u ⟨H0, H1, H2, H3, H4, H5, H6, H7, S0, S1, S2, S3, S4, S5, S6⟩
  isplitl [S0 S1 S2 S3 S4 S5 S6 Hg]
  · isplitl [S0 S1 S2 S3 S4 S5 S6]
    · isplitl [S0]; · iapply (buf_of_at' c cc0_scratch0); iexact S0
      isplitl [S1]; · iapply (buf_of_at' c cc0_scratch1); iexact S1
      isplitl [S2]; · iapply (buf_of_at' c cc0_scratch2); iexact S2
      isplitl [S3]; · iapply (buf_of_at' c cc0_scratch3); iexact S3
      isplitl [S4]; · iapply (buf_of_at' c cc0_scratch4); iexact S4
      isplitl [S5]; · iapply (buf_of_at' c cc0_scratch5); iexact S5
      iapply (buf_of_at' c cc0_scratch6); iexact S6
    iexact Hg
  isplitl [HW]
  · iexists W; isplitr; · ipureintro; exact fun _ _ => Or.inl trivial
    iexact HW
  isplitl [H0]; · iapply (owns_of_at' c _ _); iexact H0
  isplitl [H1]; · iapply (owns_of_at' c _ _); iexact H1
  isplitl [H2]; · iapply (owns_of_at' c _ _); iexact H2
  isplitl [H3]; · iapply (owns_of_at' c _ _); iexact H3
  isplitl [H4]; · iapply (owns_of_at' c _ _); iexact H4
  isplitl [H5]; · iapply (owns_of_at' c _ _); iexact H5
  isplitl [H6]; · iapply (owns_of_at' c _ _); iexact H6
  iapply (owns_of_at' c _ _); iexact H7

/-- The kernel's body is what the pipeline calls. -/
theorem defs₀_row (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

set_option backward.isDefEq.respectTransparency.types false in
/-- The program runs to its end: every array holds what the points left in it and no signal is left over. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)
    (hQ' := fun _ h => h)

/-- The frame: the program runs to its end, leaves its arguments unchanged and no signal over. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_with_sems (frame_of m ρ (dats m) (A_eq m)) (run_main m ρ)

end Cert.AttnIdeal.Fwd
-- ==== Proof.FwdValue.Payloads.lean ====
/-
  What each value a grid point of the attention's forward pass stores is at an entry, over the extended reals.
-/
module

public import proofs.«01_k».proof.Proof.Fwd.Model
public import proofs.«01_k».proof.Proof.Value.Payloads
public import proofs.«01_k».proof.Proof.Value.Operands
public import Idealize.ShloMosaic.Lib.Pointwise
public import Idealize.ShloMosaic.Lib.WordCmp

@[expose] public section

set_option maxRecDepth 16384

noncomputable section

namespace Cert.AttnIdeal.FwdValue

open Cert.AttnIdeal Cert.AttnIdeal.Gen Cert.AttnIdeal.Fwd
open Idealize.ShloMosaic Idealize.ShloMosaic.TcCoe Idealize.ShloMosaic.Tactic

theorem pay2_at (kn kr : FVec Ideal S1024x128 .bf16) (q : FVec Ideal S1024x256 .bf16) (r c : Fin 1024) :
    k0_pay2 (F := Ideal) kn kr q (ix2 r c) =
      ∑ d : Fin 256, q (ix2 r d) * (if h : d.val < 128 then kn (ix2 c ⟨d.val, h⟩) else kr (ix2 c ⟨d.val - 128, by omega⟩)) := by
  pointwise [k0_pay2]

theorem pay3_at (a : FVec Ideal S1024x128 .f32) (p : FVec Ideal S1024x1024 .bf16) (v : FVec Ideal S1024x128 .bf16) (r : Fin 1024) (d : Fin 128) :
    k0_pay3 (F := Ideal) a p v (ix2 r d) = a (ix2 r d) + ∑ c : Fin 1024, p (ix2 r c) * v (ix2 c d) := by
  pointwise [k0_pay3]

theorem pay4_at (s : FVec Ideal S1024x1024 .f32) (x : FVec Ideal S1024x128 .f32) (r : Fin 1024) (d : Fin 128) :
    k0_pay4 (F := Ideal) s x (ix2 r d) = max (x (ix2 r d)) (Finset.univ.fold max ⊥ fun c : Fin 1024 => s (ix2 r c)) := by
  pointwise [k0_pay4]
  rw [Cert.KernelIdeal.Value.cst_bot]

/-- A score less its row's maximum, where that is the same in all lanes. -/
theorem pay5_at (s : FVec Ideal S1024x1024 .f32) (x : FVec Ideal S1024x128 .f32) (r c : Fin 1024) (μ : EReal)
    (h : ∀ d : Fin 128, k0_pay4 (F := Ideal) s x (ix2 r d) = μ) :
    k0_pay5 (F := Ideal) s x (ix2 r c) = Ideal.exp2 (s (ix2 r c) - μ) := by
  pointwise [k0_pay5]
  simp only [h, dite_eq_ite, ite_self]
  rfl

theorem pay6_at (s : FVec Ideal S1024x1024 .f32) (x : FVec Ideal S1024x128 .f32) (r : Fin 1024) (d : Fin 128) :
    k0_pay6 (F := Ideal) s x (ix2 r d) = Ideal.exp2 (x (ix2 r d) - k0_pay4 (F := Ideal) s x (ix2 r d)) := by
  pointwise [k0_pay6]
  rfl

theorem pay7_at (s : FVec Ideal S1024x1024 .f32) (x l : FVec Ideal S1024x128 .f32) (r : Fin 1024) (d : Fin 128) :
    k0_pay7 (F := Ideal) s x l (ix2 r d) = k0_pay6 (F := Ideal) s x (ix2 r d) * l (ix2 r d) + ∑ c : Fin 1024, k0_pay5 (F := Ideal) s x (ix2 r c) := by
  pointwise [k0_pay7]

theorem pay8_at (s : FVec Ideal S1024x1024 .f32) (x : FVec Ideal S1024x128 .f32) (r : Fin 1024) (d : Fin 128) :
    k0_pay8 (F := Ideal) s x (ix2 r d) = k0_pay4 (F := Ideal) s x (ix2 r d) := by
  pointwise [k0_pay8]

theorem pay9_at (s : FVec Ideal S1024x1024 .f32) (x a : FVec Ideal S1024x128 .f32) (r : Fin 1024) (d : Fin 128) :
    k0_pay9 (F := Ideal) s x a (ix2 r d) = a (ix2 r d) * k0_pay6 (F := Ideal) s x (ix2 r d) := by
  pointwise [k0_pay9]

theorem pay10_at (s : FVec Ideal S1024x1024 .f32) (x : FVec Ideal S1024x128 .f32) (r c : Fin 1024) :
    k0_pay10 (F := Ideal) s x (ix2 r c) = k0_pay5 (F := Ideal) s x (ix2 r c) := by
  pointwise [k0_pay10]

theorem pay58_at (r : Fin 1024) (d : Fin 128) : k0_pay58 (F := Ideal) (ix2 r d) = (⊥ : EReal) := by
  pointwise [k0_pay58]
  rfl
theorem pay59_at (r : Fin 1024) (d : Fin 128) : k0_pay59 (F := Ideal) (ix2 r d) = (0 : EReal) := by
  pointwise [k0_pay59]
theorem pay60_at (r : Fin 1024) (d : Fin 128) : k0_pay60 (F := Ideal) (ix2 r d) = (0 : EReal) := by
  pointwise [k0_pay60]
theorem pay62_at (r c : Fin 1024) : k0_pay62 (F := Ideal) (ix2 r c) = (0 : EReal) := by
  pointwise [k0_pay62]

theorem pay82_at (l a : FVec Ideal S1024x128 .f32) (r : Fin 1024) (d : Fin 128) :
    k0_pay82 (F := Ideal) l a (ix2 r d) = Ideal.div (a (ix2 r d)) (l (ix2 r d)) := by
  pointwise [k0_pay82]

theorem pay83_at (l a g : FVec Ideal S1024x128 .f32) (r : Fin 1024) (d : Fin 128) :
    k0_pay83 (F := Ideal) l a g (ix2 r d) =
      k0_pay82 (F := Ideal) l a (ix2 r d) * g (ix2 r d) * Ideal.div 1 (1 + Ideal.exp (0 - g (ix2 r d))) := by
  pointwise [k0_pay83]

theorem pay84_at (l x : FVec Ideal S1024x128 .f32) (r : Fin 1024) (d : Fin 128) :
    k0_pay84 (F := Ideal) l x (ix2 r d) = x (ix2 r d) + Ideal.log (l (ix2 r d)) * (((Real.log 2)⁻¹ : ℝ) : EReal) := by
  pointwise [k0_pay84]
  rfl

theorem pay1_at (x : FVec Ideal S1024x128 .f32) (r : Fin 1024) (d : Fin 128) : k0_pay1 (F := Ideal) x (ix3 0 r d) = x (ix2 r d) := by
  pointwise [k0_pay1]

/-- The number of the chunk of 64 a row or column of a tile lies in, as the kernel computes it in words. -/
theorem chunkW : ∀ c : Fin 1024, Scalar.select
    (IntOp.andi
      (IntOp.cmpi CmpIPredicate.ne
        (IntOp.subi (BitVec.setWidth 32 (IntOp.cmpi CmpIPredicate.sgt (BitVec.ofNat 32 c.val) 0#32))
          (BitVec.setWidth 32 (IntOp.cmpi CmpIPredicate.slt (BitVec.ofNat 32 c.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 c.val) 64#32) 0#32))
    (IntOp.subi (IntOp.divsi ArithUnit.vector (BitVec.ofNat 32 c.val) 64#32) 1#32)
    (IntOp.divsi ArithUnit.vector (BitVec.ofNat 32 c.val) 64#32) = BitVec.ofNat 32 (c.val / 64) := by
  decide +kernel

/-- The same with the row's number taken from the tile's first row. -/
theorem chunkR : ∀ r : Fin 1024, Scalar.select
    (IntOp.andi
      (IntOp.cmpi CmpIPredicate.ne
        (IntOp.subi
          (BitVec.setWidth 32 (IntOp.cmpi CmpIPredicate.sgt (IntOp.addi (BitVec.ofNat 32 r.val) 0#32) 0#32))
          (BitVec.setWidth 32 (IntOp.cmpi CmpIPredicate.slt (IntOp.addi (BitVec.ofNat 32 r.val) 0#32) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (IntOp.addi (BitVec.ofNat 32 r.val) 0#32) 64#32) 0#32))
    (IntOp.subi (IntOp.divsi ArithUnit.vector (IntOp.addi (BitVec.ofNat 32 r.val) 0#32) 64#32) 1#32)
    (IntOp.divsi ArithUnit.vector (IntOp.addi (BitVec.ofNat 32 r.val) 0#32) 64#32) = BitVec.ofNat 32 (r.val / 64) := by
  decide +kernel

/-- The chunk mask on a tile whose rows and columns start at the same number. -/
theorem masked_at (s : FVec Ideal S1024x1024 .f32) (r c : Fin 1024) :
    masked (F := Ideal) s (ix2 r c) = if c.val / 64 ≤ r.val / 64 then s (ix2 r c) else (⊥ : EReal) := by
  pointwise [masked, k0_pay34, k0_pay32, k0_pay33, k0_pay31]
  rw [chunkW, chunkR]
  show Scalar.select _ _ (⊥ : EReal) = _
  have hr := r.isLt
  have hc := c.isLt
  word_cmp

/-- A tile at an entry. -/
theorem tile_at (x : FVec Ideal S8192x128 .bf16) {j : ℕ} (hj : j ≤ 7) (r : Fin 1024) (d : Fin 128) :
    tile (F := Ideal) (e := .bf16) x j (ix2 r d) = x (ix2 ⟨1024 * j + r.val, by omega⟩ d) := by
  refine congrArg x (funext fun a => Fin.ext ?_)
  revert a
  refine Fin.forall_fin_two.mpr ⟨?_, ?_⟩
  · show 1024 * min j 7 + 1 * r.val = 1024 * j + r.val
    omega
  · show 0 + 1 * d.val = d.val
    omega

end Cert.AttnIdeal.FwdValue
-- ==== Proof.FwdValue.Online.lean ====
/-
  The softmax a grid point forms tile by tile, over the reals: whatever maximum it has reached, the sum of weights and the
  weighted values are those of the keys taken in, so that after all tiles their quotient is the attention's result.
-/
module

public import proofs.«01_k».proof.Proof.FwdValue.Payloads

@[expose] public section

set_option maxRecDepth 16384

noncomputable section

namespace Cert.Spec

open Finset Idealize.ShloMosaic

namespace Data

variable (D : Data)

/-- The weight of key `k` for query `i`, relative to the base-two exponent `M`. -/
def w (M : ℝ) (i k : ℕ) : ℝ := if k / 64 ≤ i / 64 then Real.rpow 2 (D.sc i k / Real.log 2 - M) else 0

/-- The masked score over the logarithm of two. -/
def ms (i k : ℕ) : EReal := if k / 64 ≤ i / 64 then ((D.sc i k / Real.log 2 : ℝ) : EReal) else ⊥

theorem w_of_lt (M : ℝ) {i k : ℕ} (h : i / 64 < k / 64) : D.w M i k = 0 := if_neg (by omega)

/-- Weights relative to another exponent. -/
theorem w_scale (M M' : ℝ) (i k : ℕ) : D.w M i k * Real.rpow 2 (M - M') = D.w M' i k := by
  unfold w
  split
  · rw [Real.rpow_eq_pow, Real.rpow_eq_pow, Real.rpow_eq_pow, ← Real.rpow_add two_pos]
    exact congrArg _ (by ring)
  · exact zero_mul _

/-- The weights are the softmax's exponentials times a factor of the row. -/
theorem w_eq (M : ℝ) (i k : ℕ) : D.w M i k = D.e i k * Real.exp (D.mx i - M * Real.log 2) := by
  unfold w e
  split
  · rw [Real.rpow_eq_pow, Real.rpow_def_of_pos two_pos, ← Real.exp_add, mul_sub, mul_div_cancel₀ _ log2_ne]
    exact congrArg _ (by ring)
  · exact (zero_mul _).symm

/-- A weight as the kernel forms it. -/
theorem exp2_ms (M : ℝ) (i k : ℕ) : Ideal.exp2 (D.ms i k - (M : EReal)) = ((D.w M i k : ℝ) : EReal) := by
  unfold ms w
  split
  · rw [← EReal.coe_sub, Ideal.exp2_coe]
  · rw [EReal.bot_sub, Ideal.exp2_bot]
    rfl

theorem ms_lt (i k : ℕ) : D.ms i k < ⊤ := by
  unfold ms
  split
  · exact EReal.coe_lt_top _
  · exact bot_lt_top

/-- A row's state once the first `n` keys are taken in: exponent `μ`, sum of weights `L`, weighted values `C`. Relative to any
new exponent, one factor takes sum and values to those of these keys. -/
structure Full (i n : ℕ) (μ : EReal) (L : ℝ) (C : ℕ → ℝ) : Prop where
  lt : μ < ⊤
  scale : ∀ M : ℝ, ∃ a : ℝ, Ideal.exp2 (μ - (M : EReal)) = ((a : ℝ) : EReal) ∧ a * L = ∑ k ∈ range n, D.w M i k ∧
    ∀ d, C d * a = ∑ k ∈ range n, D.w M i k * D.v k d

/-- Before any key. -/
theorem full_zero (i : ℕ) : D.Full i 0 ⊥ 0 (fun _ => 0) where
  lt := bot_lt_top
  scale M := ⟨0, by rw [EReal.bot_sub, Ideal.exp2_bot]; rfl, by simp, fun d => by simp⟩

/-- With the weights relative to a real exponent. -/
theorem full_real (i n : ℕ) (M : ℝ) : D.Full i n (M : EReal) (∑ k ∈ range n, D.w M i k) (fun d => ∑ k ∈ range n, D.w M i k * D.v k d) where
  lt := EReal.coe_lt_top _
  scale M' := by
    refine ⟨Real.rpow 2 (M - M'), ?_, ?_, fun d => ?_⟩
    · rw [← EReal.coe_sub, Ideal.exp2_coe]
    · rw [mul_sum]
      exact sum_congr rfl fun k _ => (mul_comm _ _).trans (D.w_scale M M' i k)
    · rw [sum_mul]
      exact sum_congr rfl fun k _ => by rw [mul_right_comm, D.w_scale]

/-- Keys of later chunks weigh nothing. -/
theorem sum_w {i n : ℕ} (hn : n ≤ 8192) (h : ∀ k, n ≤ k → i / 64 < k / 64) (M : ℝ) (f : ℕ → ℝ) :
    ∑ k ∈ range n, D.w M i k * f k = (∑ k ∈ range 8192, D.e i k * f k) * Real.exp (D.mx i - M * Real.log 2) := by
  rw [sum_mul, sum_subset (range_subset_range.mpr hn) fun k _ hk => by rw [D.w_of_lt M (h k (by simpa using hk)), zero_mul]]
  exact sum_congr rfl fun k _ => by rw [D.w_eq]; ring

end Data

/-- The greatest of some numbers of which none is `⊤` and one is not `⊥` is a real number. -/
theorem max_real {n : ℕ} (μ : EReal) (hμ : μ < ⊤) (s : Fin n → EReal) (hs : ∀ c, s c < ⊤) (c₀ : Fin n) (h₀ : ⊥ < s c₀) :
    ∃ M : ℝ, max μ (univ.fold max ⊥ s) = (M : EReal) := by
  refine ⟨_, (EReal.coe_toReal ?_ ?_).symm⟩
  · exact ne_of_lt (max_lt hμ ((fold_max_lt _).mpr ⟨bot_lt_top, fun k _ => hs k⟩))
  · exact ne_of_gt (lt_of_lt_of_le h₀ (le_max_of_le_right ((le_fold_max _).mpr (Or.inr ⟨c₀, mem_univ _, le_rfl⟩))))

end Cert.Spec

namespace Cert.AttnIdeal.FwdValue

open Cert.AttnIdeal Cert.AttnIdeal.Gen Cert.AttnIdeal.Fwd Cert.Spec
open Cert.KernelIdeal.Value (div_real)
open Idealize.ShloMosaic Idealize.ShloMosaic.TcCoe Idealize.ShloMosaic.Tactic
open Finset

/-- Row `r` holds query `i`'s state after the first `n` keys. -/
def Row (D : Data) (i n : ℕ) (A : Acc Ideal) (r : Fin 1024) : Prop :=
  ∃ (μ : EReal) (L : ℝ) (C : ℕ → ℝ), D.Full i n μ L C ∧ (∀ d : Fin 128, (show FVec Ideal S1024x128 .f32 from A.m) (ix2 r d) = μ) ∧
    (∀ d : Fin 128, (show FVec Ideal S1024x128 .f32 from A.l) (ix2 r d) = ((L : ℝ) : EReal)) ∧
    ∀ d : Fin 128, (show FVec Ideal S1024x128 .f32 from A.acc) (ix2 r d) = ((C d.val : ℝ) : EReal)

/-- It does so with a real exponent. -/
def Done (D : Data) (i n : ℕ) (A : Acc Ideal) (r : Fin 1024) : Prop :=
  ∃ M : ℝ, (∀ d : Fin 128, (show FVec Ideal S1024x128 .f32 from A.m) (ix2 r d) = ((M : ℝ) : EReal)) ∧
    (∀ d : Fin 128, (show FVec Ideal S1024x128 .f32 from A.l) (ix2 r d) = ((∑ k ∈ range n, D.w M i k : ℝ) : EReal)) ∧
    ∀ d : Fin 128, (show FVec Ideal S1024x128 .f32 from A.acc) (ix2 r d) = ((∑ k ∈ range n, D.w M i k * D.v k d.val : ℝ) : EReal)

theorem Done.row {D : Data} {i n : ℕ} {A : Acc Ideal} {r : Fin 1024} (h : Done D i n A r) : Row D i n A r := by
  obtain ⟨M, hm, hl, ha⟩ := h
  exact ⟨_, _, _, D.full_real i n M, hm, hl, ha⟩

/-- A key tile taken in, scores and values. -/
theorem take {D : Data} {i j : ℕ} {A : Acc Ideal} {r : Fin 1024} (s : FVec Ideal S1024x1024 .f32) (v : FVec Ideal S1024x128 .bf16)
    (hs : ∀ c : Fin 1024, s (ix2 r c) = D.ms i (1024 * j + c.val)) (h0 : 1024 * j / 64 ≤ i / 64)
    (hv : ∀ (c : Fin 1024) (d : Fin 128), v (ix2 c d) = ((D.v (1024 * j + c.val) d.val : ℝ) : EReal))
    (h : Row D i (1024 * j) A r) : Done D i (1024 * j + 1024) (addv (absorb s A) v) r := by
  obtain ⟨μ, L, C, hF, hm, hl, ha⟩ := h
  obtain ⟨M, hM⟩ := max_real μ hF.lt (fun c : Fin 1024 => s (ix2 r c)) (fun c => by rw [hs]; exact D.ms_lt _ _) 0 (by
    show ⊥ < s (ix2 r 0)
    rw [hs, Data.ms, if_pos (by simpa using h0)]
    exact EReal.bot_lt_coe _)
  have h4 : ∀ d : Fin 128, k0_pay4 (F := Ideal) s A.m (ix2 r d) = ((M : ℝ) : EReal) := fun d =>
    (pay4_at s A.m r d).trans ((congrArg (fun x => max x _) (hm d)).trans hM)
  obtain ⟨a, ea, eL, eC⟩ := hF.scale M
  have h6 : ∀ d : Fin 128, k0_pay6 (F := Ideal) s A.m (ix2 r d) = ((a : ℝ) : EReal) := fun d => by
    refine (pay6_at s A.m r d).trans ?_
    rw [h4]
    exact (congrArg (fun x : EReal => Ideal.exp2 (x - (M : EReal))) (hm d)).trans ea
  have h5 : ∀ c : Fin 1024, k0_pay5 (F := Ideal) s A.m (ix2 r c) = ((D.w M i (1024 * j + c.val) : ℝ) : EReal) := fun c => by
    rw [pay5_at s A.m r c _ h4, hs, D.exp2_ms]
  refine ⟨M, fun d => (pay8_at s A.m r d).trans (h4 d), fun d => ?_, fun d => ?_⟩
  · refine (pay7_at s A.m A.l r d).trans ?_
    rw [h6, sum_coe (fun c => D.w M i (1024 * j + c)) h5]
    refine (congrArg (fun x : EReal => (a : EReal) * x + _) (hl d)).trans ?_
    rw [← EReal.coe_mul, eL, ← EReal.coe_add]
    exact congrArg _ (sum_range_add _ _ _).symm
  · refine (pay3_at (k0_pay9 s A.m A.acc) (k0_pay10 s A.m) v r d).trans ?_
    rw [pay9_at, h6, sum_mul_coe (fun c => D.w M i (1024 * j + c)) (fun c => D.v (1024 * j + c) d.val) (fun c => (pay10_at s A.m r c).trans (h5 c)) (fun c => hv c d)]
    refine (congrArg (fun x : EReal => x * (a : EReal) + _) (ha d)).trans ?_
    rw [← EReal.coe_mul, eC, ← EReal.coe_add]
    exact congrArg _ (sum_range_add _ _ _).symm

/-- The blocks of a point whose query tile is tile `i` of a head. -/
structure Holds (I : Inp Ideal) (D : Data) (i : ℕ) : Prop where
  qz : ∀ y d, 192 ≤ d → D.qs y d = 0
  q : ∀ (r : Fin 1024) (d : Fin 256), (show FVec Ideal S1024x256 .bf16 from I.q) (ix2 r d) = ((D.head.qp (1024 * i + r.val) d.val : ℝ) : EReal)
  kn : ∀ (k : Fin 8192) (d : Fin 128), (show FVec Ideal S8192x128 .bf16 from I.kn) (ix2 k d) = ((D.kc k.val d.val : ℝ) : EReal)
  v : ∀ (k : Fin 8192) (d : Fin 128), (show FVec Ideal S8192x128 .bf16 from I.v) (ix2 k d) = ((D.v k.val d.val : ℝ) : EReal)
  kr : ∀ (k : Fin 8192) (d : Fin 128), (show FVec Ideal S8192x128 .bf16 from I.kr) (ix2 k d) = ((D.kc k.val (128 + d.val) : ℝ) : EReal)

variable {I : Inp Ideal} {D : Data} {i : ℕ} (H : Holds I D i)
include H

/-- The scores of a tile, over the logarithm of two. -/
theorem lg_at {j : ℕ} (hj : j ≤ 7) (r c : Fin 1024) :
    (show FVec Ideal S1024x1024 .f32 from lg I j) (ix2 r c) = ((D.sc (1024 * i + r.val) (1024 * j + c.val) / Real.log 2 : ℝ) : EReal) := by
  refine (pay2_at (tile I.kn j) (tile I.kr j) I.q r c).trans ?_
  refine (sum_mul_coe (fun d => D.head.qp (1024 * i + r.val) d) (fun d => D.kc (1024 * j + c.val) d) (H.q r) (fun d => ?_)).trans (congrArg _ ?_)
  · split
    · exact (tile_at I.kn hj c _).trans (H.kn _ _)
    · rename_i hd
      refine ((tile_at I.kr hj c _).trans (H.kr _ _)).trans (congrArg (fun x => ((D.kc _ x : ℝ) : EReal)) ?_)
      show 128 + (d.val - 128) = d.val
      omega
  · rw [← D.head_s H.qz, Head.s, show (256 : ℕ) = 128 + 128 from rfl, sum_range_add]
    exact congrArg₂ (· + ·) (sum_congr rfl fun d _ => mul_comm _ _) (sum_congr rfl fun d _ => mul_comm _ _)

theorem v_at {j : ℕ} (hj : j ≤ 7) (c : Fin 1024) (d : Fin 128) :
    tile (F := Ideal) (e := .bf16) I.v j (ix2 c d) = ((D.v (1024 * j + c.val) d.val : ℝ) : EReal) := (tile_at I.v hj c d).trans (H.v _ _)

/-- The tiles before the masked one. -/
theorem run_row (hi : i ≤ 7) (r : Fin 1024) : ∀ n, n ≤ i → Row D (1024 * i + r.val) (1024 * n) (addv (run I n) (tile I.v (n - 1))) r := by
  intro n
  induction n with
  | zero =>
    intro _
    refine ⟨⊥, 0, fun _ => 0, D.full_zero _, pay58_at r, pay59_at r, fun d => ?_⟩
    refine (pay3_at k0_pay60 k0_pay62 (tile I.v 0) r d).trans ?_
    rw [pay60_at]
    refine (congrArg (fun x : EReal => 0 + x) (sum_eq_zero fun c _ => ?_)).trans (add_zero _)
    rw [pay62_at, zero_mul]
  | succ n ih =>
    intro hn
    refine (take (lg I n) (tile I.v n) (fun c => ?_) (by omega) (v_at H (by omega)) (ih (by omega))).row
    rw [Data.ms, if_pos (by omega)]
    exact lg_at H (by omega) r c

/-- All tiles. -/
theorem fin_done (hi : i ≤ 7) (r : Fin 1024) : Done D (1024 * i + r.val) (1024 * i + 1024) (fin I i) r := by
  refine take (masked (lg I i)) (tile I.v i) (fun c => ?_) (by omega) (v_at H hi) (run_row H hi r i le_rfl)
  refine (masked_at _ r c).trans ?_
  rw [Data.ms]
  exact if_congr (by omega) (lg_at H hi r c) rfl

/-- The result. -/
theorem outO_at (hi : i ≤ 7) (r : Fin 1024) (d : Fin 128) :
    (show FVec Ideal S1024x128 .f32 from outO (fin I i)) (ix2 r d) = ((D.o (1024 * i + r.val) d.val : ℝ) : EReal) := by
  obtain ⟨M, -, hl, ha⟩ := fin_done H hi r
  have hs := D.sum_w (i := 1024 * i + r.val) (n := 1024 * i + 1024) (by omega) (fun k hk => by omega) M
  have h1 := hs fun _ => 1
  simp only [mul_one] at h1
  have hp := D.l_pos (i := 1024 * i + r.val) (by omega)
  refine (pay82_at (fin I i).l (fin I i).acc r d).trans ((congrArg₂ Ideal.div (ha d) (hl d)).trans ?_)
  rw [hs, h1]
  refine (div_real _ (mul_pos hp (Real.exp_pos _)).ne').trans (congrArg _ ?_)
  rw [mul_div_mul_right _ _ (Real.exp_pos _).ne', Data.o, sum_div]
  exact sum_congr rfl fun k _ => mul_div_right_comm _ _ _

/-- The base-two logarithm of the softmax's denominator. -/
theorem outL_at (hi : i ≤ 7) (r : Fin 1024) (d : Fin 128) :
    (show FVec Ideal S1x1024x128 .f32 from outL (fin I i)) (ix3 0 r d) = ((D.head.lse (1024 * i + r.val) : ℝ) : EReal) := by
  obtain ⟨M, hm, hl, -⟩ := fin_done H hi r
  have h1 := D.sum_w (i := 1024 * i + r.val) (n := 1024 * i + 1024) (by omega) (fun k hk => by omega) M fun _ => 1
  simp only [mul_one] at h1
  have hp := D.l_pos (i := 1024 * i + r.val) (by omega)
  refine (pay1_at _ r d).trans ((pay84_at (fin I i).l (fin I i).m r d).trans ?_)
  refine (congrArg₂ (fun x y : EReal => x + Ideal.log y * (((Real.log 2)⁻¹ : ℝ) : EReal)) (hm d) (hl d)).trans ?_
  have hq := mul_pos hp (Real.exp_pos (D.mx (1024 * i + r.val) - M * Real.log 2))
  show ((M : ℝ) : EReal) + Ideal.log _ * _ = _
  rw [h1, ← Data.l, Ideal.log_coe, if_neg (not_le.mpr hq), ← EReal.coe_mul, ← EReal.coe_add, Real.log_mul hp.ne' (Real.exp_pos _).ne', Real.log_exp]
  refine congrArg _ ?_
  show _ = (D.mx (1024 * i + r.val) + Real.log (D.l (1024 * i + r.val))) / Real.log 2
  have := Data.log2_ne
  field_simp
  ring

end Cert.AttnIdeal.FwdValue
-- ==== Proof.FwdValue.Stages.lean ====
/-
  What the attention's forward call is given: the arrays computed before it from the arguments; and what it should return.
-/
module

public import proofs.«01_k».proof.Proof.Fwd.Run
public import proofs.«01_k».proof.Proof.Value.Operands

@[expose] public section

set_option maxRecDepth 16384

noncomputable section

namespace Cert.Spec

/-- The attention's result, head beside head, -/
def Args.ao (A : Args) (i e : ℕ) : ℝ := (A.data (e / 128)).o i (e % 128)

/-- and the base-two logarithm of the softmax's denominator, the same in every lane. -/
def Args.alse (A : Args) (h i _d : ℕ) : ℝ := (A.data h).head.lse i

open Idealize.ShloMosaic in
/-- The result times its gate: an entry times `x / (1 + exp (-x))` for the entry `x` of the gate's argument in its place. -/
def Args.aog (A : Args) (Z : FVec Ideal ⟨2, ![8192, 10240]⟩ .f32) : FVec Ideal ⟨2, ![8192, 2048]⟩ .bf16 := fun y =>
  let z : EReal := Z (ix2 (y 0) ⟨(y 1).val, Nat.lt_trans (y 1).isLt (by norm_num)⟩)
  ((A.ao (y 0).val (y 1).val : ℝ) : EReal) * (z * Ideal.div 1 (1 + Ideal.exp (-z)))

end Cert.Spec

namespace Cert.AttnIdeal.FwdValue

open Cert.AttnIdeal Cert.AttnIdeal.Gen Cert.Spec
open Cert.KernelIdeal.Value (qpV kvV krV)
open Idealize.ShloMosaic Idealize.ShloMosaic.TcCoe Idealize.ShloMosaic.Tactic Idealize.ShloMosaic.StableHlo

variable (m : (ℓ : Loc nD τ sig) → Buf (Elt Ideal) ℓ) (c : Dev nD)

set_option maxHeartbeats 4000000 in
theorem V_main_v9 : V m c main_v9 = qpV (m ((c : Thread nD τ).loc main_arg0)) := by
  simp only [V, hostOps0, hostOps0_1, hostOps0_2, hostOps0_3, hostOps0_4, List.flatten_cons, List.flatten_nil, List.cons_append, List.nil_append, List.append_nil, TRef.binary, TRef.nullary, TRef.ternary, TRef.unary, TRef.toBuf, TRef.ofBuf, cast_eq]
  after_results_simp
  rfl

set_option maxHeartbeats 4000000 in
theorem V_main_v12 : V m c main_v12 = kvV (m ((c : Thread nD τ).loc main_arg1)) := by
  simp only [V, hostOps0, hostOps0_1, hostOps0_2, hostOps0_3, hostOps0_4, List.flatten_cons, List.flatten_nil, List.cons_append, List.nil_append, List.append_nil, TRef.binary, TRef.nullary, TRef.ternary, TRef.unary, TRef.toBuf, TRef.ofBuf, cast_eq]
  after_results_simp
  rfl

set_option maxHeartbeats 4000000 in
theorem V_main_v13 : V m c main_v13 = krV (m ((c : Thread nD τ).loc main_arg2)) := by
  simp only [V, hostOps0, hostOps0_1, hostOps0_2, hostOps0_3, hostOps0_4, List.flatten_cons, List.flatten_nil, List.cons_append, List.nil_append, List.append_nil, TRef.binary, TRef.nullary, TRef.ternary, TRef.unary, TRef.toBuf, TRef.ofBuf, cast_eq]
  after_results_simp
  rfl

end Cert.AttnIdeal.FwdValue
-- ==== Proof.FwdValue.Blocks.lean ====
/-
  The forward call's blocks over the reals: what every grid point is given, and from what it leaves the three result arrays,
  each at an entry.
-/
module

public import proofs.«01_k».proof.Proof.FwdValue.Online
public import proofs.«01_k».proof.Proof.FwdValue.Stages
public import proofs.«01_k».proof.Proof.Value.Blocks

@[expose] public section

set_option maxRecDepth 16384

noncomputable section

namespace Cert.AttnIdeal.FwdValue

open Cert.AttnIdeal Cert.AttnIdeal.Gen Cert.AttnIdeal.Fwd Cert.Spec
open Cert.KernelIdeal.Value (qpV kvV krV krV_at tab2 tab3)
open Idealize.ShloMosaic Idealize.ShloMosaic.TcCoe Idealize.ShloMosaic.Tactic Idealize.ShloMosaic.StableHlo
open Idealize.ShloMosaic.Pipeline (Dat)
open Finset

variable (m : (ℓ : Loc nD τ sig) → Buf (Elt Ideal) ℓ) (c : Dev nD)

/-- The blocks of every point: point `t` is query tile `t % 8` of head `t / 8`. -/
theorem idx : ∀ t : Fin cfg0.N,
    win0_0.index t = ![t.val % 8, t.val / 8] ∧ win0_1.index t = ![0, 2 * (t.val / 8)] ∧ win0_2.index t = ![0, 2 * (t.val / 8) + 1] ∧
    win0_3.index t = ![0, 0] ∧ win0_4.index t = ![t.val % 8, t.val / 8] ∧ win0_5.index t = ![t.val % 8, t.val / 8] ∧
    win0_6.index t = ![t.val % 8, t.val / 8] ∧ win0_7.index t = ![t.val / 8, t.val % 8, 0] ∧ (grid0.coords t 1).val = t.val % 8 ∧ t.val / 8 < 16 :=
  (by decide +kernel : ∀ t : Fin grid0.N, _)

theorem coords1 (t : Fin cfg0.N) : (grid0.coords t 1).val = t.val % 8 := (idx t).2.2.2.2.2.2.2.2.1

theorem head_lt (t : Fin cfg0.N) : t.val / 8 < 16 := (idx t).2.2.2.2.2.2.2.2.2

theorem tile_lt (t : Fin cfg0.N) : t.val % 8 < 8 := Nat.mod_lt _ (by norm_num)

/-! ### What a point reads -/

theorem q_blk (t : Fin cfg0.N) (r : Fin 1024) (d : Fin 256) :
    (show FVec Ideal S1024x256 .bf16 from iblk m c 0 t) (ix2 r d) =
      (show FVec Ideal S8192x4096 .bf16 from V m c main_v9) (ix2 ⟨1024 * (t.val % 8) + r.val, by have := tile_lt t; omega⟩ ⟨256 * (t.val / 8) + d.val, by have := head_lt t; omega⟩) := by
  blk_ext [iblk, idx t]

theorem kn_blk (t : Fin cfg0.N) (k : Fin 8192) (d : Fin 128) :
    (show FVec Ideal S8192x128 .bf16 from iblk m c 1 t) (ix2 k d) =
      (show FVec Ideal S8192x4096 .bf16 from V m c main_v12) (ix2 k ⟨256 * (t.val / 8) + d.val, by have := head_lt t; omega⟩) := by
  blk_ext [iblk, idx t]

theorem v_blk (t : Fin cfg0.N) (k : Fin 8192) (d : Fin 128) :
    (show FVec Ideal S8192x128 .bf16 from iblk m c 2 t) (ix2 k d) =
      (show FVec Ideal S8192x4096 .bf16 from V m c main_v12) (ix2 k ⟨256 * (t.val / 8) + (128 + d.val), by have := head_lt t; omega⟩) := by
  blk_ext [iblk, idx t]

theorem kr_blk (t : Fin cfg0.N) (k : Fin 8192) (d : Fin 128) :
    (show FVec Ideal S8192x128 .bf16 from iblk m c 3 t) (ix2 k d) = (show FVec Ideal S8192x128 .bf16 from V m c main_v13) (ix2 k d) := by
  blk_ext [iblk, idx t]

theorem g_blk (t : Fin cfg0.N) (r : Fin 1024) (d : Fin 128) :
    (show FVec Ideal S1024x128 .f32 from iblk m c 4 t) (ix2 r d) =
      (show FVec Ideal S8192x10240 .f32 from V m c main_arg3) (ix2 ⟨1024 * (t.val % 8) + r.val, by have := tile_lt t; omega⟩ ⟨128 * (t.val / 8) + d.val, by have := head_lt t; omega⟩) := by
  blk_ext [iblk, idx t]

variable {m c} {A : Args} {CT : FVec Ideal ⟨3, ![16, 8192, 128]⟩ .f32}
  (hA : IsArgs (m ((c : Thread nD τ).loc main_arg0)) (m ((c : Thread nD τ).loc main_arg1)) (m ((c : Thread nD τ).loc main_arg2)) CT A)
include hA

/-- Point `t` is given its head's keys and values and its tile's queries. -/
theorem holds (t : Fin cfg0.N) : Holds (inp m c t) (A.data (t.val / 8)) (t.val % 8) where
  qz := A.data_qs _
  q r d := by
    refine (q_blk m c t r d).trans ?_
    rw [V_main_v9]
    have hq := Cert.KernelIdeal.Value.qpV_at hA ⟨1024 * (t.val % 8) + r.val, by have := tile_lt t; omega⟩ ⟨256 * (t.val / 8) + d.val, by have := head_lt t; omega⟩
    refine hq.trans ?_
    dsimp only
    rw [show (256 * (t.val / 8) + d.val) / 256 = t.val / 8 by omega, show (256 * (t.val / 8) + d.val) % 256 = d.val by omega]
  kn k d := by
    refine (kn_blk m c t k d).trans ?_
    rw [V_main_v12]
    refine (Cert.KernelIdeal.Value.kvV_at hA k ⟨256 * (t.val / 8) + d.val, by have := head_lt t; omega⟩).trans ?_
    dsimp only
    rw [show (256 * (t.val / 8) + d.val) / 256 = t.val / 8 by omega, show (256 * (t.val / 8) + d.val) % 256 = d.val by omega]
    exact congrArg _ (if_pos d.isLt).symm
  v k d := by
    refine (v_blk m c t k d).trans ?_
    rw [V_main_v12]
    refine (Cert.KernelIdeal.Value.kvV_at hA k ⟨256 * (t.val / 8) + (128 + d.val), by have := head_lt t; omega⟩).trans ?_
    dsimp only
    rw [show (256 * (t.val / 8) + (128 + d.val)) / 256 = t.val / 8 by omega, show (256 * (t.val / 8) + (128 + d.val)) % 256 = 128 + d.val by omega]
    rfl
  kr k d := by
    refine (kr_blk m c t k d).trans ?_
    rw [V_main_v13]
    refine (krV_at hA _ _).trans (congrArg _ ?_)
    simp only [Args.data]
    rw [if_neg (by omega : ¬128 + d.val < 128), Nat.add_sub_cancel_left]
    exact if_congr (by omega) rfl rfl

/-! ### The result arrays -/

theorem point5 (t : Fin cfg0.N) (r : Fin 1024) (d : Fin 128) (i : Fin 8192) (e : Fin 2048) (hi : i.val = t.val % 8 * 1024 + r.val) (he : e.val = t.val / 8 * 128 + d.val) :
    (show FVec Ideal S1024x128 .f32 from outO (accAt m c t)) (ix2 r d) = (tab2 A.ao : FVec Ideal S8192x2048 .f32) (ix2 i e) := by
  rw [accAt, coords1]
  refine (outO_at (holds hA t) (by have := tile_lt t; omega) r d).trans (congrArg (fun x : ℝ => (x : EReal)) ?_)
  show _ = A.ao i.val e.val
  rw [Args.ao, hi, he, show (t.val / 8 * 128 + d.val) / 128 = t.val / 8 by omega, show (t.val / 8 * 128 + d.val) % 128 = d.val by omega, mul_comm (t.val % 8) 1024]

theorem point6 (t : Fin cfg0.N) (r : Fin 1024) (d : Fin 128) (i : Fin 8192) (e : Fin 2048) (hi : i.val = t.val % 8 * 1024 + r.val) (he : e.val = t.val / 8 * 128 + d.val) :
    (show FVec Ideal S1024x128 .bf16 from outA (accAt m c t) (inp m c t).g) (ix2 r d) = A.aog (m ((c : Thread nD τ).loc main_arg3)) (ix2 i e) := by
  refine (pay83_at (accAt m c t).l (accAt m c t).acc (inp m c t).g r d).trans ?_
  have h5 := point5 hA t r d i e hi he
  have hg : (show FVec Ideal S1024x128 .f32 from (inp m c t).g) (ix2 r d) = (show FVec Ideal S8192x10240 .f32 from m ((c : Thread nD τ).loc main_arg3)) (ix2 i ⟨e.val, by omega⟩) := by
    refine (g_blk m c t r d).trans ?_
    rw [V_main_arg3]
    refine congrArg (show FVec Ideal S8192x10240 .f32 from m ((c : Thread nD τ).loc main_arg3)) (congrArg₂ ix2 (Fin.ext ?_) (Fin.ext ?_))
    · show 1024 * (t.val % 8) + r.val = i.val
      omega
    · show 128 * (t.val / 8) + d.val = e.val
      omega
  refine (congrArg₂ (fun x z : EReal => x * z * Ideal.div 1 (1 + Ideal.exp (0 - z))) h5 hg).trans ?_
  rw [mul_assoc, zero_sub]
  rfl

theorem point7 (t : Fin cfg0.N) (r : Fin 1024) (d : Fin 128) (h : Fin 16) (i : Fin 8192) (d' : Fin 128) (hh : h.val = t.val / 8) (hi : i.val = t.val % 8 * 1024 + r.val) :
    (show FVec Ideal S1x1024x128 .f32 from outL (accAt m c t)) (ix3 0 r d) = (tab3 A.alse : FVec Ideal S16x8192x128 .f32) (ix3 h i d') := by
  rw [accAt, coords1]
  refine (outL_at (holds hA t) (by have := tile_lt t; omega) r d).trans (congrArg (fun x : ℝ => (x : EReal)) ?_)
  show _ = A.alse h.val i.val d'.val
  rw [Args.alse, hh, hi, mul_comm (t.val % 8) 1024]

/-- The results after the run, -/
theorem final5 : (dats m 0 c).arrAt 5 (cfgs 0).N = (tab2 A.ao : FVec Ideal S8192x2048 .f32) := by
  refine (dats m 0 c).arrAt_eq_of_covers 5 _ (by decide +kernel) fun t hf y => ?_
  blk_simp
  rw [after5]
  idx_vars y
  have hh := head_lt t
  have ht := tile_lt t
  refine (point5 hA t y0 y1 ⟨t.val % 8 * 1024 + y0.val, by omega⟩ ⟨t.val / 8 * 128 + y1.val, by omega⟩ rfl rfl).trans (congrArg (tab2 A.ao : FVec Ideal S8192x2048 .f32) ?_)
  blk_ext [idx t]

/-- gated, -/
theorem final6 : (dats m 0 c).arrAt 6 (cfgs 0).N = A.aog (m ((c : Thread nD τ).loc main_arg3)) := by
  refine (dats m 0 c).arrAt_eq_of_covers 6 _ (by decide +kernel) fun t hf y => ?_
  blk_simp
  rw [after6]
  idx_vars y
  have hh := head_lt t
  have ht := tile_lt t
  refine (point6 hA t y0 y1 ⟨t.val % 8 * 1024 + y0.val, by omega⟩ ⟨t.val / 8 * 128 + y1.val, by omega⟩ rfl rfl).trans (congrArg (A.aog (m ((c : Thread nD τ).loc main_arg3))) ?_)
  blk_ext [idx t]

/-- and the logarithms of the denominators. -/
theorem final7 : (dats m 0 c).arrAt 7 (cfgs 0).N = (tab3 A.alse : FVec Ideal S16x8192x128 .f32) := by
  refine (dats m 0 c).arrAt_eq_of_covers 7 _ (by decide +kernel) fun t hf y => ?_
  blk_simp
  rw [after7]
  idx_vars y
  have ht := tile_lt t
  obtain rfl : y0 = 0 := Subsingleton.elim _ _
  refine (point7 hA t y1 y2 ⟨t.val / 8, head_lt t⟩ ⟨t.val % 8 * 1024 + y1.val, by omega⟩ y2 rfl rfl).trans (congrArg (tab3 A.alse : FVec Ideal S16x8192x128 .f32) ?_)
  blk_ext [idx t]

end Cert.AttnIdeal.FwdValue
-- ==== Proof.FwdValue.Ref.lean ====
/-
  What the reference of the attention's forward pass computes, stage by stage, and each stage at an entry as a real number, the
  arguments being real numbers. Its scores and the logarithms of the softmax's denominators are those of `Value.Stages`.
-/
module

public import proofs.«01_k».proof.Proof.Gen.AttnRefIdeal.Run
public import proofs.«01_k».proof.Proof.FwdValue.Stages

@[expose] public section

set_option maxRecDepth 16384

noncomputable section

namespace Cert.AttnRefIdeal.Attention

open Cert.AttnRefIdeal Cert.AttnRefIdeal.Gen Cert.AttnRefIdeal.Value Cert.Spec
open Cert.KernelIdeal.Value (mscV mscV_at lseV lseV_at cst_bot div_real)
open Idealize.ShloMosaic Idealize.ShloMosaic.TcCoe Idealize.ShloMosaic.Tactic Idealize.ShloMosaic.StableHlo
open Finset

variable (Q : FVec Ideal S16x8192x192 .f32) (KV : FVec Ideal S16x8192x256 .f32) (KR : FVec Ideal S8192x64 .f32) (Z : FVec Ideal S8192x10240 .f32)

/-- The rows' greatest scores, -/
def mx0 : FVec Ideal S16x8192 .f32 :=
  Host.reduce FloatOps.maximumf (mscV Q KV KR) (constant S_ .f32 0xFF800000#32) reducesTo_S16x8192x8192_S16x8192_d2 h_S_

/-- with the least value of all, -/
def mx : FVec Ideal S16x8192 .f32 := maximumf (broadcastInDim S16x8192 ![] bcast_S_S16x8192 (constant S_ .f32 0xFF800000#32)) (mx0 Q KV KR)

/-- the exponentials, -/
def ex : FVec Ideal S16x8192x8192 .f32 :=
  Host.exp (subf (mscV Q KV KR) (broadcastInDim S16x8192x8192 ![0, 1, 2] bcast_S16x8192x1_S16x8192x8192_0_1_2
    (broadcastInDim S16x8192x1 ![0, 1] bcast_S16x8192_S16x8192x1_0_1 (mx Q KV KR))))

/-- their row sums, -/
def l : FVec Ideal S16x8192x1 .f32 :=
  broadcastInDim S16x8192x1 ![0, 1] bcast_S16x8192_S16x8192x1_0_1
    (Host.reduceAdd (ex Q KV KR) (constant S_ .f32 0x00000000#32) reducesTo_S16x8192x8192_S16x8192_d2 h_S_)

/-- the softmax, -/
def pr : FVec Ideal S16x8192x8192 .f32 :=
  Host.divf (ex Q KV KR) (broadcastInDim S16x8192x8192 ![0, 1, 2] bcast_S16x8192x1_S16x8192x8192_0_1_2 (l Q KV KR))

/-- the attention's result head by head. -/
def o : FVec Ideal S16x8192x128 .f32 :=
  Host.dotGeneral dot_S16x8192x8192_S16x8192x128_S16x8192x128_2_1_1_2_0_0 none (pr Q KV KR)
    (extractStridedSlice S16x8192x128 ![0, 0, 128] KV slices_S16x8192x256_S16x8192x128_0_0_128)

/-- The first result: head beside head. -/
def out0 : FVec Ideal S8192x2048 .f32 :=
  shapeCast S8192x2048 (transpose S8192x16x128 [1, 0, 2] (o Q KV KR) transposes_S16x8192x128_S8192x16x128_1_0_2) shapeCasts_S8192x16x128_S8192x2048

/-- The gate's argument: the first columns of the fourth argument. -/
def gz : FVec Ideal S8192x2048 .f32 := extractStridedSlice S8192x2048 ![0, 0] Z slices_S8192x10240_S8192x2048_0_0

/-- The gate. -/
def gate : FVec Ideal S8192x2048 .f32 :=
  mulf (gz Z) (Host.divf (broadcastInDim S8192x2048 ![] bcast_S_S8192x2048 (constant S_ .f32 0x3F800000#32))
    (addf (broadcastInDim S8192x2048 ![] bcast_S_S8192x2048 (constant S_ .f32 0x3F800000#32)) (Host.exp (Host.negf (gz Z)))))

/-- The second result: the first times the gate. -/
def out1 : FVec Ideal S8192x2048 .bf16 := truncf .bf16 (mulf (out0 Q KV KR) (gate Z)) bitsLt_bf16_f32

/-- The third: the logarithms of the softmax's denominators, repeated over the lanes. -/
def out2 : FVec Ideal S16x8192x128 .f32 :=
  broadcastInDim S16x8192x128 ![0, 1, 2] bcast_S16x8192x1_S16x8192x128_0_1_2 (lseV Q KV KR)

variable (m : (ℓ : Loc nD τ sig) → Buf (Elt Ideal) ℓ) (c : Dev nD)

/-- The results of the reference's run are these stages of the arguments. -/
theorem res0 : res_out0 m c = out0 (m ((c.tc : Thread nD τ).loc main_arg0)) (m ((c.tc : Thread nD τ).loc main_arg1)) (m ((c.tc : Thread nD τ).loc main_arg2)) := by
  unfold res_out0 res_main_v31
  rfl

theorem res1 : res_out1 m c = out1 (m ((c.tc : Thread nD τ).loc main_arg0)) (m ((c.tc : Thread nD τ).loc main_arg1)) (m ((c.tc : Thread nD τ).loc main_arg2)) (m ((c.tc : Thread nD τ).loc main_arg3)) := by
  unfold res_out1 res_main_v47
  rfl

theorem res2 : res_out2 m c = out2 (m ((c.tc : Thread nD τ).loc main_arg0)) (m ((c.tc : Thread nD τ).loc main_arg1)) (m ((c.tc : Thread nD τ).loc main_arg2)) := by
  unfold res_out2 res_main_v48
  rfl

/-! ### At an entry -/

/-- The greater of an array and the least value of all. -/
theorem max_of (x : FVec Ideal S16x8192 .f32) (y : S16x8192.Idx) :
    maximumf (broadcastInDim S16x8192 ![] bcast_S_S16x8192 (constant S_ .f32 0xFF800000#32)) x y = max (Ideal.ofBits .f32 0xFF800000#32) (x y) :=
  rfl

/-- The gate at an entry. -/
theorem gate_at (i : Fin 8192) (e : Fin 2048) : gate Z (ix2 i e) =
    Z (ix2 i ⟨e.val, by omega⟩) * Ideal.div 1 (1 + Ideal.exp (-Z (ix2 i ⟨e.val, by omega⟩))) := by
  pointwise [gate, gz]

variable {Q KV KR} {CT : FVec Ideal S16x8192x128 .f32} {A : Args} (hA : IsArgs Q KV KR CT A)
include hA

theorem mx0_at (h : Fin 16) (i : Fin 8192) : mx0 Q KV KR (ix2 h i) = (((A.data h.val).mx i.val : ℝ) : EReal) := by
  pointwise [mx0]
  rw [cst_bot, ← Data.fold_msc _ i.isLt]
  exact congrArg (fun f => Finset.univ.fold max ⊥ f) (funext fun k => mscV_at hA h i k)

theorem mx_at (h : Fin 16) (i : Fin 8192) : mx Q KV KR (ix2 h i) = (((A.data h.val).mx i.val : ℝ) : EReal) := by
  rw [mx, max_of, mx0_at hA, cst_bot, max_eq_right bot_le]

theorem ex_at (h : Fin 16) (i k : Fin 8192) : ex Q KV KR (ix3 h i k) = (((A.data h.val).e i.val k.val : ℝ) : EReal) := by
  pointwise [ex]
  rw [mscV_at hA, mx_at hA, Data.msc, Data.e]
  split
  · rw [← EReal.coe_sub, Ideal.exp_coe]
  · rw [EReal.bot_sub, Ideal.exp_bot]
    rfl

theorem l_at (h : Fin 16) (i : Fin 8192) : l Q KV KR (ix3 h i 0) = (((A.data h.val).l i.val : ℝ) : EReal) := by
  pointwise [l]
  exact sum_coe (fun k => (A.data h.val).e i.val k) fun k => ex_at hA h i k

theorem pr_at (h : Fin 16) (i k : Fin 8192) : pr Q KV KR (ix3 h i k) = (((A.data h.val).pr i.val k.val : ℝ) : EReal) := by
  pointwise [pr]
  rw [ex_at hA, l_at hA, div_real _ (Data.l_pos _ i.isLt).ne', Data.pr]

theorem o_at (h : Fin 16) (i : Fin 8192) (d : Fin 128) : o Q KV KR (ix3 h i d) = (((A.data h.val).o i.val d.val : ℝ) : EReal) := by
  pointwise [o]
  exact sum_mul_coe (fun k => (A.data h.val).pr i.val k) (fun k => (A.data h.val).v k d.val) (fun k => pr_at hA h i k) (fun k => hA.kv h k ⟨128 + d.val, by omega⟩)

/-- The results at an entry. -/
theorem out0_at (i : Fin 8192) (e : Fin 2048) : out0 Q KV KR (ix2 i e) = ((A.ao i.val e.val : ℝ) : EReal) := by
  pointwise [out0]
  exact o_at hA ⟨e.val / 128, by omega⟩ i ⟨e.val % 128, by omega⟩

theorem out1_at (i : Fin 8192) (e : Fin 2048) : out1 Q KV KR Z (ix2 i e) = A.aog Z (ix2 i e) := by
  pointwise [out1]
  rw [out0_at hA, gate_at]
  rfl

theorem out2_at (h : Fin 16) (i : Fin 8192) (d : Fin 128) : out2 Q KV KR (ix3 h i d) = ((A.alse h.val i.val d.val : ℝ) : EReal) := by
  pointwise [out2]
  exact lseV_at hA h i

end Cert.AttnRefIdeal.Attention
-- ==== Proof.Claims.Attn.lean ====
/-
  The attention's forward call: the frames of the launched and of the idealized program and of the reference, the named
  constants' statements, and the equality of the results, from queries, keys and values that are real numbers.
-/
module

public import proofs.«01_k».proof.Defs
public import proofs.«01_k».proof.Proof.Gen.Pre_finite_attn
public import proofs.«01_k».proof.Proof.Claims.Algebraic
public import proofs.«01_k».proof.Proof.Fwd.Run
public import proofs.«01_k».proof.Proof.FwdBits.Run
public import proofs.«01_k».proof.Proof.FwdValue.Blocks
public import proofs.«01_k».proof.Proof.FwdValue.Ref
public import Idealize.ShloMosaic.Lib.Quiescent

@[expose] public section

set_option maxRecDepth 16384

noncomputable section

namespace Cert.AttnClaims

open Idealize.ShloMosaic Idealize.ShloMosaic.TcCoe Idealize.ShloMosaic.Tactic Idealize.SL.Sem Cert.Spec
open Cert.KernelIdeal.Value (tab2 tab3)
open Cert.Proof (argsOf real_of_cmp scale_real)

/-- The launched program runs to its end, leaves its arguments unchanged and no signal over. -/
theorem frame_p : Cert.quiescent_Attn := fun m ρ _ => Cert.Attn.Fwd.frame_main (F := Bits) m ρ

/-- The idealized program likewise. -/
theorem frame_pi : Cert.quiescent_AttnIdeal := fun m ρ _ => Cert.AttnIdeal.Fwd.frame_main (F := Ideal) m ρ

/-- The reference likewise. -/
theorem frame_ri : Cert.quiescent_AttnRefIdeal := fun m ρ _ =>
  (θ_run Cert.AttnRefIdeal.defs _ _).mono
    (fun r h => ⟨fun c => (h c).2.2.2, Idealize.ShloMosaic.sem_eq_zero_of_no_sems (by decide) r.2⟩)
    (Cert.AttnRefIdeal.Value.run (F := Ideal) m ρ)

/-- The two frames under the precondition. -/
theorem frame_pi_finite : Cert.quiescent_AttnIdeal_pre_finite_attn := fun m ρ _ => frame_pi m ρ trivial

theorem frame_ri_finite : Cert.quiescent_AttnRefIdeal_pre_finite_attn := fun m ρ _ => frame_ri m ρ trivial

/-- The constants named in the idealized program: the masked score, and the reciprocal of the logarithm of 2. -/
theorem preserves : Cert.preserves_Attn_AttnIdeal :=
  ⟨IdealRules.named_const.statement Cert.AttnIdeal.κ "mask" .f32 0xF149F2CA#32 ⊥ rfl,
    IdealRules.named_const.statement Cert.AttnIdeal.κ "log2e" .f32 0x3FB8AA3B#32 (((Real.log 2)⁻¹ : ℝ) : EReal) rfl⟩

/-- An array of zeros. -/
def zeros : FVec Ideal ⟨3, ![16, 8192, 128]⟩ .f32 := fun _ => ((0 : ℝ) : EReal)

/-- Under the precondition queries, keys and values are real numbers. -/
theorem isArgs (Q : FVec Ideal ⟨3, ![16, 8192, 192]⟩ .f32) (KV : FVec Ideal ⟨3, ![16, 8192, 256]⟩ .f32) (KR : FVec Ideal ⟨2, ![8192, 64]⟩ .f32)
    (Z : FVec Ideal ⟨2, ![8192, 10240]⟩ .f32)
    (h1 : (Cert.Pre_finite_attn.fn (F := Ideal) Q KV KR Z).1 = fun _ => 1#1) (h2 : (Cert.Pre_finite_attn.fn (F := Ideal) Q KV KR Z).2.1 = fun _ => 1#1)
    (h3 : (Cert.Pre_finite_attn.fn (F := Ideal) Q KV KR Z).2.2 = fun _ => 1#1) :
    IsArgs Q KV KR zeros (argsOf Q KV KR zeros) where
  q h i d := by
    refine (real_of_cmp _ (congrFun h1 (ix3 h i d))).trans (congrArg ((↑) : ℝ → EReal) ?_)
    unfold argsOf
    dsimp only
    rw [dif_pos ⟨h.isLt, i.isLt, d.isLt⟩]
  kv h i d := by
    refine (real_of_cmp _ (congrFun h2 (ix3 h i d))).trans (congrArg ((↑) : ℝ → EReal) ?_)
    unfold argsOf
    dsimp only
    rw [dif_pos ⟨h.isLt, i.isLt, d.isLt⟩]
  kr i d := by
    refine (real_of_cmp _ (congrFun h3 (ix2 i d))).trans (congrArg ((↑) : ℝ → EReal) ?_)
    unfold argsOf
    dsimp only
    rw [dif_pos ⟨i.isLt, d.isLt⟩]
  ct h i d := by
    unfold argsOf zeros
    dsimp only
    rw [dif_pos ⟨h.isLt, i.isLt, d.isLt⟩, EReal.toReal_coe]
  sc := scale_real

section
open Cert.AttnRefIdeal Cert.AttnRefIdeal.Attention

variable {Q : FVec Ideal S16x8192x192 .f32} {KV : FVec Ideal S16x8192x256 .f32} {KR : FVec Ideal S8192x64 .f32} (Z : FVec Ideal S8192x10240 .f32)
  {CT : FVec Ideal S16x8192x128 .f32} {A : Args} (hA : IsArgs Q KV KR CT A)
include hA

/-- The reference's results as whole arrays. -/
theorem ref0 : out0 Q KV KR = (tab2 A.ao : FVec Ideal S8192x2048 .f32) := by
  funext y
  idx_vars y
  exact out0_at hA y0 y1

theorem ref1 : out1 Q KV KR Z = A.aog Z := by
  funext y
  idx_vars y
  exact out1_at Z hA y0 y1

theorem ref2 : out2 Q KV KR = (tab3 A.alse : FVec Ideal S16x8192x128 .f32) := by
  funext y
  idx_vars y
  exact out2_at hA y0 y1 y2

end

section
open Cert.AttnIdeal Cert.AttnIdeal.Gen Cert.AttnIdeal.FwdValue Cert.AttnIdeal.Fwd

/-- The run of the idealized program: it ends with the attention's result, the gated result and the logarithms of the
softmax's denominators, the arguments unchanged. -/
theorem run_pi (m : (ℓ : Loc nD τ sig) → Buf (Elt Ideal) ℓ) (g : Dev nD → PrngReg) (A : Dev nD → Args)
    (hA : ∀ c : Dev nD, IsArgs (m ((c : Thread nD τ).loc main_arg0)) (m ((c : Thread nD τ).loc main_arg1)) (m ((c : Thread nD τ).loc main_arg2))
      zeros (A c)) :
    θ_run (defs (F := Ideal)) (onTc (τ := τ) (main (F := Ideal))) ⟨m, fun _ => 0, g⟩ (fun r => ∀ c : Dev nD,
      r.2.mem ((c : Thread nD τ).loc main_v14_0) = (tab2 (A c).ao : FVec Ideal S8192x2048 .f32)
      ∧ r.2.mem ((c : Thread nD τ).loc main_v14_1) = (A c).aog (m ((c : Thread nD τ).loc main_arg3))
      ∧ r.2.mem ((c : Thread nD τ).loc main_v14_2) = (tab3 (A c).alse : FVec Ideal S16x8192x128 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨((h.1.1 c).1 5).trans (final5 (hA c)), ((h.1.1 c).1 6).trans (final6 (hA c)),
    ((h.1.1 c).1 7).trans (final7 (hA c)), h.2.1 c⟩) (θ_run_and (run_main m g) (frame_main m g))

end

/-- From queries, keys and values that are real numbers the idealized program and the reference end with equal results. -/
theorem algebraic : Cert.algebraic_AttnIdeal_AttnRefIdeal_pre_finite_attn := by
  intro m g m' g' hpre hagree
  have hA := fun c => isArgs _ _ _ _ (hpre c).1 (hpre c).2.1 (hpre c).2.2
  refine ⟨fun c => _, fun c => _, fun c => _, run_pi m g _ hA, ?_⟩
  refine (θ_run Cert.AttnRefIdeal.defs _ _).mono (fun r h c => ?_) (Cert.AttnRefIdeal.Value.run (F := Ideal) m' g')
  obtain ⟨a0, a1, a2, a3⟩ := hagree c
  refine ⟨(h c).1.trans ?_, (h c).2.1.trans ?_, (h c).2.2.1.trans ?_, (h c).2.2.2⟩
  · refine (Cert.AttnRefIdeal.Attention.res0 m' c).trans ?_
    rw [a0, a1, a2]
    exact ref0 (hA c)
  · refine (Cert.AttnRefIdeal.Attention.res1 m' c).trans ?_
    rw [a0, a1, a2, a3]
    exact ref1 _ (hA c)
  · refine (Cert.AttnRefIdeal.Attention.res2 m' c).trans ?_
    rw [a0, a1, a2]
    exact ref2 (hA c)

end Cert.AttnClaims
-- ==== Proof.lean ====
/-
  The proof of the claims of Defs.lean, put together: the frames of the launched and of the idealized program from the run of
  its one call, the reference's frame from its run, the named constant's own statement, and the equality of the results; and
  the same of each of the sixteen programs of products and of the attention's forward call.
-/
module

public import proofs.«01_k».proof.Defs
public import proofs.«01_k».proof.Proof.Claims.Frames
public import proofs.«01_k».proof.Proof.Products.Sq
public import proofs.«01_k».proof.Proof.Products.Big
public import proofs.«01_k».proof.Proof.Products.SqDw
public import proofs.«01_k».proof.Proof.Products.SqDx
public import proofs.«01_k».proof.Proof.Products.BigDw
public import proofs.«01_k».proof.Proof.Products.BigDx
public import proofs.«01_k».proof.Proof.Products.LatDx
public import proofs.«01_k».proof.Proof.Products.LatDw
public import proofs.«01_k».proof.Proof.Products.SmallDx
public import proofs.«01_k».proof.Proof.Products.SmallDw
public import proofs.«01_k».proof.Proof.Products.PleDw
public import proofs.«01_k».proof.Proof.Products.LatQ
public import proofs.«01_k».proof.Proof.Products.LatKv
public import proofs.«01_k».proof.Proof.Products.Small
public import proofs.«01_k».proof.Proof.Products.Out
public import proofs.«01_k».proof.Proof.Products.Ple
public import proofs.«01_k».proof.Proof.Claims.Algebraic
public import proofs.«01_k».proof.Proof.Claims.Attn
public import Idealize.ShloMosaic.Adequacy
public import Idealize.ShloMosaic.Init

@[expose] public section

noncomputable section

namespace Cert.Proof

/-- Everything claimed. -/
theorem claim : Cert.Claim :=
  ⟨Cert.Kernel.Gen.facts, Cert.KernelIdeal.Gen.facts, Cert.ReferenceIdeal.Gen.facts, Cert.BigDx.Gen.facts,
    Cert.BigDxIdeal.Gen.facts, Cert.BigDxRefIdeal.Gen.facts, Cert.BigDw.Gen.facts, Cert.BigDwIdeal.Gen.facts,
    Cert.BigDwRefIdeal.Gen.facts, Cert.SqDx.Gen.facts, Cert.SqDxIdeal.Gen.facts, Cert.SqDxRefIdeal.Gen.facts,
    Cert.SqDw.Gen.facts, Cert.SqDwIdeal.Gen.facts, Cert.SqDwRefIdeal.Gen.facts, Cert.Big.Gen.facts, Cert.BigIdeal.Gen.facts,
    Cert.BigRefIdeal.Gen.facts, Cert.Sq.Gen.facts, Cert.SqIdeal.Gen.facts, Cert.SqRefIdeal.Gen.facts, Cert.LatDx.Gen.facts,
    Cert.LatDxIdeal.Gen.facts, Cert.LatDxRefIdeal.Gen.facts, Cert.LatDw.Gen.facts, Cert.LatDwIdeal.Gen.facts,
    Cert.LatDwRefIdeal.Gen.facts, Cert.SmallDx.Gen.facts, Cert.SmallDxIdeal.Gen.facts, Cert.SmallDxRefIdeal.Gen.facts,
    Cert.SmallDw.Gen.facts, Cert.SmallDwIdeal.Gen.facts, Cert.SmallDwRefIdeal.Gen.facts, Cert.PleDw.Gen.facts,
    Cert.PleDwIdeal.Gen.facts, Cert.PleDwRefIdeal.Gen.facts, Cert.LatQ.Gen.facts, Cert.LatQIdeal.Gen.facts,
    Cert.LatQRefIdeal.Gen.facts, Cert.LatKv.Gen.facts, Cert.LatKvIdeal.Gen.facts, Cert.LatKvRefIdeal.Gen.facts,
    Cert.Small.Gen.facts, Cert.SmallIdeal.Gen.facts, Cert.SmallRefIdeal.Gen.facts, Cert.Out.Gen.facts,
    Cert.OutIdeal.Gen.facts, Cert.OutRefIdeal.Gen.facts, Cert.Ple.Gen.facts, Cert.PleIdeal.Gen.facts,
    Cert.PleRefIdeal.Gen.facts, Cert.Attn.Gen.facts, Cert.AttnIdeal.Gen.facts, Cert.AttnRefIdeal.Gen.facts,
    Cert.Pre_finite.Gen.facts, Cert.Pre_finite_attn.Gen.facts,
    frame_p, frame_pi, frame_pi_finite, frame_ri, frame_ri_finite,
    Cert.BigDx.Claims.frame_p, Cert.BigDx.Claims.frame_pi, Cert.BigDx.Claims.frame_ri,
    Cert.BigDw.Claims.frame_p, Cert.BigDw.Claims.frame_pi, Cert.BigDw.Claims.frame_ri,
    Cert.SqDx.Claims.frame_p, Cert.SqDx.Claims.frame_pi, Cert.SqDx.Claims.frame_ri,
    Cert.SqDw.Claims.frame_p, Cert.SqDw.Claims.frame_pi, Cert.SqDw.Claims.frame_ri,
    Cert.Big.Claims.frame_p, Cert.Big.Claims.frame_pi, Cert.Big.Claims.frame_ri,
    Cert.Sq.Claims.frame_p, Cert.Sq.Claims.frame_pi, Cert.Sq.Claims.frame_ri,
    Cert.LatDx.Claims.frame_p, Cert.LatDx.Claims.frame_pi, Cert.LatDx.Claims.frame_ri,
    Cert.LatDw.Claims.frame_p, Cert.LatDw.Claims.frame_pi, Cert.LatDw.Claims.frame_ri,
    Cert.SmallDx.Claims.frame_p, Cert.SmallDx.Claims.frame_pi, Cert.SmallDx.Claims.frame_ri,
    Cert.SmallDw.Claims.frame_p, Cert.SmallDw.Claims.frame_pi, Cert.SmallDw.Claims.frame_ri,
    Cert.PleDw.Claims.frame_p, Cert.PleDw.Claims.frame_pi, Cert.PleDw.Claims.frame_ri,
    Cert.LatQ.Claims.frame_p, Cert.LatQ.Claims.frame_pi, Cert.LatQ.Claims.frame_ri,
    Cert.LatKv.Claims.frame_p, Cert.LatKv.Claims.frame_pi, Cert.LatKv.Claims.frame_ri,
    Cert.Small.Claims.frame_p, Cert.Small.Claims.frame_pi, Cert.Small.Claims.frame_ri,
    Cert.Out.Claims.frame_p, Cert.Out.Claims.frame_pi, Cert.Out.Claims.frame_ri,
    Cert.Ple.Claims.frame_p, Cert.Ple.Claims.frame_pi, Cert.Ple.Claims.frame_ri,
    Cert.AttnClaims.frame_p, Cert.AttnClaims.frame_pi, Cert.AttnClaims.frame_pi_finite, Cert.AttnClaims.frame_ri,
    Cert.AttnClaims.frame_ri_finite,
    preserves, algebraic,
    Cert.BigDx.Claims.preserves, Cert.BigDx.Claims.algebraic,
    Cert.BigDw.Claims.preserves, Cert.BigDw.Claims.algebraic,
    Cert.SqDx.Claims.preserves, Cert.SqDx.Claims.algebraic,
    Cert.SqDw.Claims.preserves, Cert.SqDw.Claims.algebraic,
    Cert.Big.Claims.preserves, Cert.Big.Claims.algebraic,
    Cert.Sq.Claims.preserves, Cert.Sq.Claims.algebraic,
    Cert.LatDx.Claims.preserves, Cert.LatDx.Claims.algebraic,
    Cert.LatDw.Claims.preserves, Cert.LatDw.Claims.algebraic,
    Cert.SmallDx.Claims.preserves, Cert.SmallDx.Claims.algebraic,
    Cert.SmallDw.Claims.preserves, Cert.SmallDw.Claims.algebraic,
    Cert.PleDw.Claims.preserves, Cert.PleDw.Claims.algebraic,
    Cert.LatQ.Claims.preserves, Cert.LatQ.Claims.algebraic,
    Cert.LatKv.Claims.preserves, Cert.LatKv.Claims.algebraic,
    Cert.Small.Claims.preserves, Cert.Small.Claims.algebraic,
    Cert.Out.Claims.preserves, Cert.Out.Claims.algebraic,
    Cert.Ple.Claims.preserves, Cert.Ple.Claims.algebraic,
    Cert.AttnClaims.preserves, Cert.AttnClaims.algebraic⟩

end Cert.Proof
